-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scan [hPre_finite_scan : Cert.Pre_finite_scan.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scan.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_scan.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scan [hPre_finite_scan : Cert.Pre_finite_scan.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scan.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_scan.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ctx [hPre_finite_ctx : Cert.Pre_finite_ctx.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ctx.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_ctx.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ctx [hPre_finite_ctx : Cert.Pre_finite_ctx.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ctx.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_ctx.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ada [hPre_finite_ada : Cert.Pre_finite_ada.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ada.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite_ada.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ada [hPre_finite_ada : Cert.Pre_finite_ada.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ada.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite_ada.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_scan [hKernel5Ideal : Cert.Kernel5Ideal.Facts] [hPre_finite_scan : Cert.Pre_finite_scan.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scan m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_scan [hReference5Ideal : Cert.Reference5Ideal.Facts] [hPre_finite_scan : Cert.Pre_finite_scan.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scan m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_ctx [hKernel6Ideal : Cert.Kernel6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ctx m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_ctx [hReference6Ideal : Cert.Reference6Ideal.Facts] [hPre_finite_ctx : Cert.Pre_finite_ctx.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ctx m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_ada [hKernel7Ideal : Cert.Kernel7Ideal.Facts] [hPre_finite_ada : Cert.Pre_finite_ada.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ada m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_ada [hReference7Ideal : Cert.Reference7Ideal.Facts] [hPre_finite_ada : Cert.Pre_finite_ada.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ada m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)) →
    ∃ (v0 : (c : Dev Cert.Kernel4Ideal.nD) → Buf (Elt Ideal) ((c.tc : Thread Cert.Kernel4Ideal.nD Cert.Kernel4Ideal.τ).loc Cert.Kernel4Ideal.main_v96_0)) (v1 : (c : Dev Cert.Kernel4Ideal.nD) → Buf (Elt Ideal) ((c.tc : Thread Cert.Kernel4Ideal.nD Cert.Kernel4Ideal.τ).loc Cert.Kernel4Ideal.main_v96_1)) (v2 : (c : Dev Cert.Kernel4Ideal.nD) → Buf (Elt Ideal) ((c.tc : Thread Cert.Kernel4Ideal.nD Cert.Kernel4Ideal.τ).loc Cert.Kernel4Ideal.main_v96_2)) (v3 : (c : Dev Cert.Kernel4Ideal.nD) → Buf (Elt Ideal) ((c.tc : Thread Cert.Kernel4Ideal.nD Cert.Kernel4Ideal.τ).loc Cert.Kernel4Ideal.main_v96_3)) (v4 : (c : Dev Cert.Kernel4Ideal.nD) → Buf (Elt Ideal) ((c.tc : Thread Cert.Kernel4Ideal.nD Cert.Kernel4Ideal.τ).loc Cert.Kernel4Ideal.main_v96_4)) (v5 : (c : Dev Cert.Kernel4Ideal.nD) → Buf (Elt Ideal) ((c.tc : Thread Cert.Kernel4Ideal.nD Cert.Kernel4Ideal.τ).loc Cert.Kernel4Ideal.main_v96_5)) (v6 : (c : Dev Cert.Kernel4Ideal.nD) → Buf (Elt Ideal) ((c.tc : Thread Cert.Kernel4Ideal.nD Cert.Kernel4Ideal.τ).loc Cert.Kernel4Ideal.main_v96_6)) (v7 : (c : Dev Cert.Kernel4Ideal.nD) → Buf (Elt Ideal) ((c.tc : Thread Cert.Kernel4Ideal.nD Cert.Kernel4Ideal.τ).loc Cert.Kernel4Ideal.main_v96_7)) (v8 : (c : Dev Cert.Kernel4Ideal.nD) → Buf (Elt Ideal) ((c.tc : Thread Cert.Kernel4Ideal.nD Cert.Kernel4Ideal.τ).loc Cert.Kernel4Ideal.main_v96_8)) (v9 : (c : Dev Cert.Kernel4Ideal.nD) → Buf (Elt Ideal) ((c.tc : Thread Cert.Kernel4Ideal.nD Cert.Kernel4Ideal.τ).loc Cert.Kernel4Ideal.main_v96_9)) (v10 : (c : Dev Cert.Kernel4Ideal.nD) → Buf (Elt Ideal) ((c.tc : Thread Cert.Kernel4Ideal.nD Cert.Kernel4Ideal.τ).loc Cert.Kernel4Ideal.main_v96_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v96_0) = v0 c
          ∧ r.2.mem ((c.tc : Thread Cert.Kernel4Ideal.nD Cert.Kernel4Ideal.τ).loc Cert.Kernel4Ideal.main_v96_1) = v1 c
          ∧ r.2.mem ((c.tc : Thread Cert.Kernel4Ideal.nD Cert.Kernel4Ideal.τ).loc Cert.Kernel4Ideal.main_v96_2) = v2 c
          ∧ r.2.mem ((c.tc : Thread Cert.Kernel4Ideal.nD Cert.Kernel4Ideal.τ).loc Cert.Kernel4Ideal.main_v96_3) = v3 c
          ∧ r.2.mem ((c.tc : Thread Cert.Kernel4Ideal.nD Cert.Kernel4Ideal.τ).loc Cert.Kernel4Ideal.main_v96_4) = v4 c
          ∧ r.2.mem ((c.tc : Thread Cert.Kernel4Ideal.nD Cert.Kernel4Ideal.τ).loc Cert.Kernel4Ideal.main_v96_5) = v5 c
          ∧ r.2.mem ((c.tc : Thread Cert.Kernel4Ideal.nD Cert.Kernel4Ideal.τ).loc Cert.Kernel4Ideal.main_v96_6) = v6 c
          ∧ r.2.mem ((c.tc : Thread Cert.Kernel4Ideal.nD Cert.Kernel4Ideal.τ).loc Cert.Kernel4Ideal.main_v96_7) = v7 c
          ∧ r.2.mem ((c.tc : Thread Cert.Kernel4Ideal.nD Cert.Kernel4Ideal.τ).loc Cert.Kernel4Ideal.main_v96_8) = v8 c
          ∧ r.2.mem ((c.tc : Thread Cert.Kernel4Ideal.nD Cert.Kernel4Ideal.τ).loc Cert.Kernel4Ideal.main_v96_9) = v9 c
          ∧ r.2.mem ((c.tc : Thread Cert.Kernel4Ideal.nD Cert.Kernel4Ideal.τ).loc Cert.Kernel4Ideal.main_v96_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v108) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v195) = v2 c
          ∧ r.2.mem ((c.tc : Thread Cert.Reference4Ideal.nD Cert.Reference4Ideal.τ).loc Cert.Reference4Ideal.main_v118) = v3 c
          ∧ r.2.mem ((c.tc : Thread Cert.Reference4Ideal.nD Cert.Reference4Ideal.τ).loc Cert.Reference4Ideal.main_v196) = v4 c
          ∧ r.2.mem ((c.tc : Thread Cert.Reference4Ideal.nD Cert.Reference4Ideal.τ).loc Cert.Reference4Ideal.main_v201) = v5 c
          ∧ r.2.mem ((c.tc : Thread Cert.Reference4Ideal.nD Cert.Reference4Ideal.τ).loc Cert.Reference4Ideal.main_v203) = v6 c
          ∧ r.2.mem ((c.tc : Thread Cert.Reference4Ideal.nD Cert.Reference4Ideal.τ).loc Cert.Reference4Ideal.main_v205) = v7 c
          ∧ r.2.mem ((c.tc : Thread Cert.Reference4Ideal.nD Cert.Reference4Ideal.τ).loc Cert.Reference4Ideal.main_v207) = v8 c
          ∧ r.2.mem ((c.tc : Thread Cert.Reference4Ideal.nD Cert.Reference4Ideal.τ).loc Cert.Reference4Ideal.main_v209) = v9 c
          ∧ r.2.mem ((c.tc : Thread Cert.Reference4Ideal.nD Cert.Reference4Ideal.τ).loc Cert.Reference4Ideal.main_v211) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17))

def preserves_Kernel5_Kernel5Ideal : Prop :=
  True

def algebraic_Kernel5Ideal_Reference5Ideal_pre_finite_scan [hKernel5Ideal : Cert.Kernel5Ideal.Facts] [hReference5Ideal : Cert.Reference5Ideal.Facts] [hPre_finite_scan : Cert.Pre_finite_scan.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scan m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite_ctx [hKernel6Ideal : Cert.Kernel6Ideal.Facts] [hReference6Ideal : Cert.Reference6Ideal.Facts] [hPre_finite_ctx : Cert.Pre_finite_ctx.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ctx m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_ada [hKernel7Ideal : Cert.Kernel7Ideal.Facts] [hReference7Ideal : Cert.Reference7Ideal.Facts] [hPre_finite_ada : Cert.Pre_finite_ada.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ada m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_mix : Cert.Pre_finite_mix.Facts) (hPre_finite_scan : Cert.Pre_finite_scan.Facts) (hPre_finite_ctx : Cert.Pre_finite_ctx.Facts) (hPre_finite_ada : Cert.Pre_finite_ada.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_scan (hKernel5Ideal := hKernel5Ideal) (hPre_finite_scan := hPre_finite_scan)
    ∧ quiescent_Reference5Ideal (hReference5Ideal := hReference5Ideal)
    ∧ quiescent_Reference5Ideal_pre_finite_scan (hReference5Ideal := hReference5Ideal) (hPre_finite_scan := hPre_finite_scan)
    ∧ quiescent_Kernel6 (hKernel6 := hKernel6)
    ∧ quiescent_Kernel6Ideal (hKernel6Ideal := hKernel6Ideal)
    ∧ quiescent_Kernel6Ideal_pre_finite_ctx (hKernel6Ideal := hKernel6Ideal) (hPre_finite_ctx := hPre_finite_ctx)
    ∧ quiescent_Reference6Ideal (hReference6Ideal := hReference6Ideal)
    ∧ quiescent_Reference6Ideal_pre_finite_ctx (hReference6Ideal := hReference6Ideal) (hPre_finite_ctx := hPre_finite_ctx)
    ∧ quiescent_Kernel7 (hKernel7 := hKernel7)
    ∧ quiescent_Kernel7Ideal (hKernel7Ideal := hKernel7Ideal)
    ∧ quiescent_Kernel7Ideal_pre_finite_ada (hKernel7Ideal := hKernel7Ideal) (hPre_finite_ada := hPre_finite_ada)
    ∧ quiescent_Reference7Ideal (hReference7Ideal := hReference7Ideal)
    ∧ quiescent_Reference7Ideal_pre_finite_ada (hReference7Ideal := hReference7Ideal) (hPre_finite_ada := hPre_finite_ada)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_pre_finite_scan (hKernel5Ideal := hKernel5Ideal) (hReference5Ideal := hReference5Ideal) (hPre_finite_scan := hPre_finite_scan)
    ∧ preserves_Kernel6_Kernel6Ideal
    ∧ algebraic_Kernel6Ideal_Reference6Ideal_pre_finite_ctx (hKernel6Ideal := hKernel6Ideal) (hReference6Ideal := hReference6Ideal) (hPre_finite_ctx := hPre_finite_ctx)
    ∧ preserves_Kernel7_Kernel7Ideal
    ∧ algebraic_Kernel7Ideal_Reference7Ideal_pre_finite_ada (hKernel7Ideal := hKernel7Ideal) (hReference7Ideal := hReference7Ideal) (hPre_finite_ada := hPre_finite_ada)
-- ==== Pre_finite_ada.lean ====
abbrev S16x1024 : Shape := ⟨2, ![16, 1024]⟩
abbrev S4x1024x3072 : Shape := ⟨3, ![4, 1024, 3072]⟩
abbrev S4x3072 : Shape := ⟨2, ![4, 3072]⟩
abbrev S_ : Shape := ⟨0, ![]⟩

class Facts : Prop where
  bcast_S_S16x1024 : S_.BroadcastsInDim S16x1024 (![] : Fin 0 → Fin S16x1024.rank)
  bcast_S_S4x1024x3072 : S_.BroadcastsInDim S4x1024x3072 (![] : Fin 0 → Fin S4x1024x3072.rank)

variable [Facts]

def fn {F : FTy → Type} [FloatOps F] (main_arg0 : FVec F S16x1024 .f32) (main_arg1 : FVec F S4x1024x3072 .f32) (main_arg2 : FVec F S4x3072 .f32) : IVec S16x1024 1 × IVec S4x1024x3072 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S4x1024x3072 .f32 := Host.absf main_arg1
  let main_cst_0 : FVec F S_ .f32 := constant S_ .f32 0x7F800000#32
  let main_v4 : FVec F S4x1024x3072 .f32 := broadcastInDim S4x1024x3072 ![] bcast_S_S4x1024x3072 main_cst_0
  let main_v5 : IVec S4x1024x3072 1 := cmpf .olt main_v3 main_v4
  (main_v2, main_v5)
-- ==== Pre_finite_ctx.lean ====
abbrev S8x8448x1024 : Shape := ⟨3, ![8, 8448, 1024]⟩
abbrev S_ : Shape := ⟨0, ![]⟩

class Facts : Prop where
  bcast_S_S8x8448x1024 : S_.BroadcastsInDim S8x8448x1024 (![] : Fin 0 → Fin S8x8448x1024.rank)

variable [Facts]

def fn {F : FTy → Type} [FloatOps F] (main_arg0 : FVec F S8x8448x1024 .bf16) (main_arg1 : FVec F S8x8448x1024 .bf16) (main_arg2 : FVec F S8x8448x1024 .bf16) : IVec S8x8448x1024 1 × IVec S8x8448x1024 1 :=
  let main_v0 : FVec F S8x8448x1024 .bf16 := Host.absf main_arg0
  let main_cst : FVec F S_ .bf16 := constant S_ .bf16 0x7F80#16
  let main_v1 : FVec F S8x8448x1024 .bf16 := broadcastInDim S8x8448x1024 ![] bcast_S_S8x8448x1024 main_cst
  let main_v2 : IVec S8x8448x1024 1 := cmpf .olt main_v0 main_v1
  let main_v3 : FVec F S8x8448x1024 .bf16 := Host.absf main_arg1
  let main_cst_0 : FVec F S_ .bf16 := constant S_ .bf16 0x7F80#16
  let main_v4 : FVec F S8x8448x1024 .bf16 := broadcastInDim S8x8448x1024 ![] bcast_S_S8x8448x1024 main_cst_0
  let main_v5 : IVec S8x8448x1024 1 := cmpf .olt main_v3 main_v4
  (main_v2, main_v5)
-- ==== Pre_finite_mix.lean ====
abbrev S8x8448x1024 : Shape := ⟨3, ![8, 8448, 1024]⟩
abbrev S8x2x1x3072 : Shape := ⟨4, ![8, 2, 1, 3072]⟩
abbrev S1024 : Shape := ⟨1, ![1024]⟩
abbrev S6x1024 : Shape := ⟨2, ![6, 1024]⟩
abbrev S4x1024x1024 : Shape := ⟨3, ![4, 1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S16x64 : Shape := ⟨2, ![16, 64]⟩
abbrev S1024x32 : Shape := ⟨2, ![1024, 32]⟩
abbrev S32x1024 : Shape := ⟨2, ![32, 1024]⟩
abbrev S8x2x1x2048 : Shape := ⟨4, ![8, 2, 1, 2048]⟩
abbrev S_ : Shape := ⟨0, ![]⟩
abbrev S1x1024 : Shape := ⟨2, ![1, 1024]⟩
abbrev S2x1024x1024 : Shape := ⟨3, ![2, 1024, 1024]⟩

class Facts : Prop where
  slices_S8x2x1x3072_S8x2x1x2048_0_0_0_0 : S8x2x1x3072.Slices ![0, 0, 0, 0] S8x2x1x2048
  bcast_S_S8x2x1x2048 : S_.BroadcastsInDim S8x2x1x2048 (![] : Fin 0 → Fin S8x2x1x2048.rank)
  bcast_S_S1024 : S_.BroadcastsInDim S1024 (![] : Fin 0 → Fin S1024.rank)
  slices_S6x1024_S1x1024_0_0 : S6x1024.Slices ![0, 0] S1x1024
  bcast_S_S1x1024 : S_.BroadcastsInDim S1x1024 (![] : Fin 0 → Fin S1x1024.rank)
  slices_S6x1024_S1x1024_2_0 : S6x1024.Slices ![2, 0] S1x1024
  slices_S4x1024x1024_S2x1024x1024_0_0_0 : S4x1024x1024.Slices ![0, 0, 0] S2x1024x1024
  bcast_S_S2x1024x1024 : S_.BroadcastsInDim S2x1024x1024 (![] : Fin 0 → Fin S2x1024x1024.rank)
  bcast_S_S16x64 : S_.BroadcastsInDim S16x64 (![] : Fin 0 → Fin S16x64.rank)

variable [Facts]

def fn_part1 {F : FTy → Type} [FloatOps F] (main_arg11 : FVec F S1024 .f32) (main_arg12 : FVec F S1024 .f32) (main_arg13 : FVec F S16x64 .f32) (main_v3 : IVec S8x2x1x2048 1) (main_v6 : IVec S1024 1) (main_v10 : IVec S1x1024 1) (main_v14 : IVec S1x1024 1) (main_v18 : IVec S2x1024x1024 1) : IVec S8x2x1x2048 1 × IVec S1024 1 × IVec S1x1024 1 × IVec S1x1024 1 × IVec S2x1024x1024 1 × IVec S1024 1 × IVec S1024 1 × IVec S16x64 1 :=
  let main_v19 : FVec F S1024 .f32 := Host.absf main_arg11
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  let main_v22 : FVec F S1024 .f32 := Host.absf main_arg12
  let main_cst_5 : FVec F S_ .f32 := constant S_ .f32 0x7F800000#32
  let main_v23 : FVec F S1024 .f32 := broadcastInDim S1024 ![] bcast_S_S1024 main_cst_5
  let main_v24 : IVec S1024 1 := cmpf .olt main_v22 main_v23
  let main_v25 : FVec F S16x64 .f32 := Host.absf main_arg13
  let main_cst_6 : FVec F S_ .f32 := constant S_ .f32 0x7F800000#32
  let main_v26 : FVec F S16x64 .f32 := broadcastInDim S16x64 ![] bcast_S_S16x64 main_cst_6
  let main_v27 : IVec S16x64 1 := cmpf .olt main_v25 main_v26
  (main_v3, main_v6, main_v10, main_v14, main_v18, main_v21, main_v24, main_v27)

def fn {F : FTy → Type} [FloatOps F] (main_arg0 : FVec F S8x8448x1024 .f32) (main_arg1 : FVec F S8x2x1x3072 .f32) (main_arg2 : FVec F S1024 .f32) (main_arg3 : FVec F S6x1024 .f32) (main_arg4 : FVec F S4x1024x1024 .f32) (main_arg5 : FVec F S2x1024 .f32) (main_arg6 : FVec F S2x1024x64 .f32) (main_arg7 : FVec F S2x64x1024 .f32) (main_arg8 : FVec F S2x1024 .f32) (main_arg9 : FVec F S2x1024x64 .f32) (main_arg10 : FVec F S2x64x1024 .f32) (main_arg11 : FVec F S1024 .f32) (main_arg12 : FVec F S1024 .f32) (main_arg13 : FVec F S16x64 .f32) (main_arg14 : FVec F S1024 .f32) (main_arg15 : FVec F S1024x32 .f32) (main_arg16 : FVec F S32x1024 .f32) (main_arg17 : FVec F S8x8448x1024 .f32) : IVec S8x2x1x2048 1 × IVec S1024 1 × IVec S1x1024 1 × IVec S1x1024 1 × IVec S2x1024x1024 1 × IVec S1024 1 × IVec S1024 1 × IVec S16x64 1 :=
  let main_v0 : FVec F S8x2x1x2048 .f32 := (extractStridedSlice S8x2x1x2048 ![0, 0, 0, 0] · slices_S8x2x1x3072_S8x2x1x2048_0_0_0_0) main_arg1
  let main_v1 : FVec F S8x2x1x2048 .f32 := Host.absf main_v0
  let main_cst : FVec F S_ .f32 := constant S_ .f32 0x7F800000#32
  let main_v2 : FVec F S8x2x1x2048 .f32 := broadcastInDim S8x2x1x2048 ![] bcast_S_S8x2x1x2048 main_cst
  let main_v3 : IVec S8x2x1x2048 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1x1024 .f32 := (extractStridedSlice S1x1024 ![0, 0] · slices_S6x1024_S1x1024_0_0) main_arg3
  let main_v8 : FVec F S1x1024 .f32 := Host.absf main_v7
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024 .f32 := (extractStridedSlice S1x1024 ![2, 0] · slices_S6x1024_S1x1024_2_0) main_arg3
  let main_v12 : FVec F S1x1024 .f32 := Host.absf main_v11
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_v15 : FVec F S2x1024x1024 .f32 := (extractStridedSlice S2x1024x1024 ![0, 0, 0] · slices_S4x1024x1024_S2x1024x1024_0_0_0) main_arg4
  let main_v16 : FVec F S2x1024x1024 .f32 := Host.absf main_v15
  let main_cst_3 : FVec F S_ .f32 := constant S_ .f32 0x7F800000#32
  let main_v17 : FVec F S2x1024x1024 .f32 := broadcastInDim S2x1024x1024 ![] bcast_S_S2x1024x1024 main_cst_3
  let main_v18 : IVec S2x1024x1024 1 := cmpf .olt main_v16 main_v17
  fn_part1 (F := F) main_arg11 main_arg12 main_arg13 main_v3 main_v6 main_v10 main_v14 main_v18
-- ==== Pre_finite_scan.lean ====
abbrev S8x8448x1024 : Shape := ⟨3, ![8, 8448, 1024]⟩
abbrev S8x2x1x3072 : Shape := ⟨4, ![8, 2, 1, 3072]⟩
abbrev S1024 : Shape := ⟨1, ![1024]⟩
abbrev S1024x1024 : Shape := ⟨2, ![1024, 1024]⟩
abbrev S_ : Shape := ⟨0, ![]⟩

class Facts : Prop where
  bcast_S_S8x8448x1024 : S_.BroadcastsInDim S8x8448x1024 (![] : Fin 0 → Fin S8x8448x1024.rank)

variable [Facts]

def fn {F : FTy → Type} [FloatOps F] (main_arg0 : FVec F S8x8448x1024 .f32) (main_arg1 : FVec F S8x8448x1024 .f32) (main_arg2 : FVec F S8x8448x1024 .f32) (main_arg3 : FVec F S8x8448x1024 .f32) (main_arg4 : FVec F S8x8448x1024 .f32) (main_arg5 : FVec F S8x2x1x3072 .f32) (main_arg6 : FVec F S1024 .f32) (main_arg7 : FVec F S1024 .f32) (main_arg8 : FVec F S1024 .f32) (main_arg9 : FVec F S1024x1024 .f32) : IVec S8x8448x1024 1 × IVec S8x8448x1024 1 :=
  let main_v0 : FVec F S8x8448x1024 .f32 := Host.absf main_arg0
  let main_cst : FVec F S_ .f32 := constant S_ .f32 0x7F800000#32
  let main_v1 : FVec F S8x8448x1024 .f32 := broadcastInDim S8x8448x1024 ![] bcast_S_S8x8448x1024 main_cst
  let main_v2 : IVec S8x8448x1024 1 := cmpf .olt main_v0 main_v1
  let main_v3 : FVec F S8x8448x1024 .f32 := Host.absf main_arg1
  let main_cst_0 : FVec F S_ .f32 := constant S_ .f32 0x7F800000#32
  let main_v4 : FVec F S8x8448x1024 .f32 := broadcastInDim S8x8448x1024 ![] bcast_S_S8x8448x1024 main_cst_0
  let main_v5 : IVec S8x8448x1024 1 := cmpf .olt main_v3 main_v4
  (main_v2, main_v5)
-- ==== Pre_finite_scores.lean ====
abbrev S8x8448x1024 : Shape := ⟨3, ![8, 8448, 1024]⟩
abbrev S16x15x31 : Shape := ⟨3, ![16, 15, 31]⟩
abbrev S_ : Shape := ⟨0, ![]⟩

class Facts : Prop where
  bcast_S_S8x8448x1024 : S_.BroadcastsInDim S8x8448x1024 (![] : Fin 0 → Fin S8x8448x1024.rank)
  bcast_S_S16x15x31 : S_.BroadcastsInDim S16x15x31 (![] : Fin 0 → Fin S16x15x31.rank)

variable [Facts]

def fn {F : FTy → Type} [FloatOps F] (main_arg0 : FVec F S8x8448x1024 .bf16) (main_arg1 : FVec F S8x8448x1024 .bf16) (main_arg2 : FVec F S8x8448x1024 .bf16) (main_arg3 : FVec F S16x15x31 .f32) : IVec S8x8448x1024 1 × IVec S8x8448x1024 1 × IVec S16x15x31 1 :=
  let main_v0 : FVec F S8x8448x1024 .bf16 := Host.absf main_arg0
  let main_cst : FVec F S_ .bf16 := constant S_ .bf16 0x7F80#16
  let main_v1 : FVec F S8x8448x1024 .bf16 := broadcastInDim S8x8448x1024 ![] bcast_S_S8x8448x1024 main_cst
  let main_v2 : IVec S8x8448x1024 1 := cmpf .olt main_v0 main_v1
  let main_v3 : FVec F S8x8448x1024 .bf16 := Host.absf main_arg1
  let main_cst_0 : FVec F S_ .bf16 := constant S_ .bf16 0x7F80#16
  let main_v4 : FVec F S8x8448x1024 .bf16 := broadcastInDim S8x8448x1024 ![] bcast_S_S8x8448x1024 main_cst_0
  let main_v5 : IVec S8x8448x1024 1 := cmpf .olt main_v3 main_v4
  let main_v6 : FVec F S16x15x31 .f32 := Host.absf main_arg3
  let main_cst_1 : FVec F S_ .f32 := constant S_ .f32 0x7F800000#32
  let main_v7 : FVec F S16x15x31 .f32 := broadcastInDim S16x15x31 ![] bcast_S_S16x15x31 main_cst_1
  let main_v8 : IVec S16x15x31 1 := cmpf .olt main_v6 main_v7
  (main_v2, main_v5, main_v8)
-- ==== Kernel.lean ====
abbrev S8x8448x1024 : Shape := ⟨3, ![8, 8448, 1024]⟩
abbrev S16x15x31 : Shape := ⟨3, ![16, 15, 31]⟩
abbrev S8x8 : Shape := ⟨2, ![8, 8]⟩
abbrev S64x64 : Shape := ⟨2, ![64, 64]⟩
abbrev S_ : Shape := ⟨0, ![]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S1x1x1x64x64 : Shape := ⟨5, ![1, 1, 1, 64, 64]⟩
abbrev S16x8x64x8x64 : Shape := ⟨5, ![16, 8, 64, 8, 64]⟩
abbrev S16x8x64x512 : Shape := ⟨4, ![16, 8, 64, 512]⟩
abbrev S8x2x8x64x512 : Shape := ⟨5, ![8, 2, 8, 64, 512]⟩
abbrev S8x8x2x64x512 : Shape := ⟨5, ![8, 8, 2, 64, 512]⟩
abbrev S8x8x128x512 : Shape := ⟨4, ![8, 8, 128, 512]⟩
abbrev S8x8192x1024 : Shape := ⟨3, ![8, 8192, 1024]⟩
abbrev S1x256x128 : Shape := ⟨3, ![1, 256, 128]⟩
abbrev S1x8448x128 : Shape := ⟨3, ![1, 8448, 128]⟩
abbrev S1x8x128x512 : Shape := ⟨4, ![1, 8, 128, 512]⟩
abbrev S1x128 : Shape := ⟨2, ![1, 128]⟩
abbrev S256x128 : Shape := ⟨2, ![256, 128]⟩
abbrev S1x64x128 : Shape := ⟨3, ![1, 64, 128]⟩
abbrev S64x128 : Shape := ⟨2, ![64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S128x256 : Shape := ⟨2, ![128, 256]⟩
abbrev S128 : Shape := ⟨1, ![128]⟩
abbrev S128x1 : Shape := ⟨2, ![128, 1]⟩

abbrev nBuf : Space → Nat
  | .hbm => 33
  | .vmem => 10
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S8x8448x1024, .bf16⟩
  | .hbm, ⟨3, _⟩ => ⟨S16x15x31, .f32⟩
  | .hbm, ⟨4, _⟩ => ⟨S8x8, .i32⟩
  | .hbm, ⟨5, _⟩ => ⟨S8x8, .i1⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i32⟩
  | .hbm, ⟨13, _⟩ => ⟨S8x8x1, .i32⟩
  | .hbm, ⟨14, _⟩ => ⟨S16x8x8x31, .f32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64x1, .i32⟩
  | .hbm, ⟨20, _⟩ => ⟨S16x8x8x64x64, .f32⟩
  | .hbm, ⟨21, _⟩ => ⟨S1x1x1x64x64, .i1⟩
  | .hbm, ⟨22, _⟩ => ⟨S_, .f32⟩
  | .hbm, ⟨23, _⟩ => ⟨S_, .f32⟩
  | .hbm, ⟨24, _⟩ => ⟨S16x8x8x64x64, .i1⟩
  | .hbm, ⟨25, _⟩ => ⟨S16x8x8x64x64, .f32⟩
  | .hbm, ⟨26, _⟩ => ⟨S16x8x8x64x64, .f32⟩
  | .hbm, ⟨27, _⟩ => ⟨S16x8x64x8x64, .f32⟩
  | .hbm, ⟨28, _⟩ => ⟨S16x8x64x512, .f32⟩
  | .hbm, ⟨29, _⟩ => ⟨S8x2x8x64x512, .f32⟩
  | .hbm, ⟨30, _⟩ => ⟨S8x8x2x64x512, .f32⟩
  | .hbm, ⟨31, _⟩ => ⟨S8x8x128x512, .f32⟩
  | .hbm, ⟨32, _⟩ => ⟨S8x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x8x128x512, .f32⟩
  | .local _ .vmem, ⟨7, _⟩ => ⟨S1x8x128x512, .f32⟩
  | .local _ .vmem, ⟨8, _⟩ => ⟨S1x256x128, .bf16⟩
  | .local _ .vmem, ⟨9, _⟩ => ⟨S1x256x128, .bf16⟩
  | _, _ => ⟨S8x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 32], ![false, false, false]⟩

def k0_mult1 (i : grid0.Coords) : BitVec 32 :=
  let c256_i32 : BitVec 32 := 256#32
  let c120_i32 : BitVec 32 := 120#32
  let c0_i32_6 : BitVec 32 := 0#32
  let arg2 : BitVec 32 := BitVec.ofNat 32 (i 2).val
  let c4_i32 : BitVec 32 := 4#32
  let v7 : BitVec 32 := Scalar.muli arg2 c4_i32
  let c0_i32 : BitVec 32 := 0#32
  let v8 : BitVec 32 := Scalar.addi v7 c0_i32
  let c4_i32_5 : BitVec 32 := 4#32
  let v9 : BitVec 32 := Scalar.subi v8 c4_i32_5
  let v10 : BitVec 32 := Scalar.maxsi c0_i32_6 v9
  let v11 : BitVec 32 := Scalar.minsi c120_i32 v10
  let c64_i32_11 : BitVec 32 := 64#32
  let v23 : BitVec 32 := Scalar.muli v11 c64_i32_11
  let v24 : BitVec 32 := Scalar.addi c256_i32 v23
  v24
def k0_off1 (i : grid0.Coords) (c0_i32 : BitVec 32) : Fin 3 → Nat :=
  let c0_12 : Index := 0#32
  let c256_i32 : BitVec 32 := 256#32
  let c120_i32 : BitVec 32 := 120#32
  let c0_i32_6 : BitVec 32 := 0#32
  let arg2 : BitVec 32 := BitVec.ofNat 32 (i 2).val
  let c4_i32 : BitVec 32 := 4#32
  let v7 : BitVec 32 := Scalar.muli arg2 c4_i32
  let v8 : BitVec 32 := Scalar.addi v7 c0_i32
  let c4_i32_5 : BitVec 32 := 4#32
  let v9 : BitVec 32 := Scalar.subi v8 c4_i32_5
  let v10 : BitVec 32 := Scalar.maxsi c0_i32_6 v9
  let v11 : BitVec 32 := Scalar.minsi c120_i32 v10
  let c64_i32_11 : BitVec 32 := 64#32
  let v23 : BitVec 32 := Scalar.muli v11 c64_i32_11
  let v24 : BitVec 32 := Scalar.addi c256_i32 v23
  let v25 : BitVec 32 := v24
  let v26 : Index := Scalar.indexCast v25
  let c0_13 : Index := 0#32
  ![0, v26.toNat, 0]
def k0_off2 (i : grid0.Coords) (c0_i32 : BitVec 32) : Fin 4 → Nat :=
  let c0_17 : Index := 0#32
  let arg2 : BitVec 32 := BitVec.ofNat 32 (i 2).val
  let c4_i32 : BitVec 32 := 4#32
  let v7 : BitVec 32 := Scalar.muli arg2 c4_i32
  let v8 : BitVec 32 := Scalar.addi v7 c0_i32
  let c120_i32 : BitVec 32 := 120#32
  let c0_i32_6 : BitVec 32 := 0#32
  let c4_i32_5 : BitVec 32 := 4#32
  let v9 : BitVec 32 := Scalar.subi v8 c4_i32_5
  let v10 : BitVec 32 := Scalar.maxsi c0_i32_6 v9
  let v11 : BitVec 32 := Scalar.minsi c120_i32 v10
  let v33 : BitVec 32 := Scalar.subi v8 v11
  let v34 : Index := Scalar.indexCast v33
  let c0_18 : Index := 0#32
  let c0_19 : Index := 0#32
  ![0, v34.toNat, 0, 0]
def k0_mult2 (i : grid0.Coords) : BitVec 32 :=
  let c256_i32_39 : BitVec 32 := 256#32
  let c120_i32_33 : BitVec 32 := 120#32
  let c0_i32_32 : BitVec 32 := 0#32
  let arg2 : BitVec 32 := BitVec.ofNat 32 (i 2).val
  let c4_i32_30 : BitVec 32 := 4#32
  let v71 : BitVec 32 := Scalar.muli arg2 c4_i32_30
  let c1_i32 : BitVec 32 := 1#32
  let v72 : BitVec 32 := Scalar.addi v71 c1_i32
  let c4_i32_31 : BitVec 32 := 4#32
  let v73 : BitVec 32 := Scalar.subi v72 c4_i32_31
  let v74 : BitVec 32 := Scalar.maxsi c0_i32_32 v73
  let v75 : BitVec 32 := Scalar.minsi c120_i32_33 v74
  let c64_i32_38 : BitVec 32 := 64#32
  let v87 : BitVec 32 := Scalar.muli v75 c64_i32_38
  let v88 : BitVec 32 := Scalar.addi c256_i32_39 v87
  v88
def k0_mult3 (i : grid0.Coords) : BitVec 32 :=
  let c256_i32_67 : BitVec 32 := 256#32
  let c120_i32_61 : BitVec 32 := 120#32
  let c0_i32_60 : BitVec 32 := 0#32
  let arg2 : BitVec 32 := BitVec.ofNat 32 (i 2).val
  let c4_i32_58 : BitVec 32 := 4#32
  let v135 : BitVec 32 := Scalar.muli arg2 c4_i32_58
  let c2_i32 : BitVec 32 := 2#32
  let v136 : BitVec 32 := Scalar.addi v135 c2_i32
  let c4_i32_59 : BitVec 32 := 4#32
  let v137 : BitVec 32 := Scalar.subi v136 c4_i32_59
  let v138 : BitVec 32 := Scalar.maxsi c0_i32_60 v137
  let v139 : BitVec 32 := Scalar.minsi c120_i32_61 v138
  let c64_i32_66 : BitVec 32 := 64#32
  let v151 : BitVec 32 := Scalar.muli v139 c64_i32_66
  let v152 : BitVec 32 := Scalar.addi c256_i32_67 v151
  v152
def k0_mult4 (i : grid0.Coords) : BitVec 32 :=
  let c256_i32_95 : BitVec 32 := 256#32
  let c120_i32_89 : BitVec 32 := 120#32
  let c0_i32_88 : BitVec 32 := 0#32
  let arg2 : BitVec 32 := BitVec.ofNat 32 (i 2).val
  let c4_i32_86 : BitVec 32 := 4#32
  let v199 : BitVec 32 := Scalar.muli arg2 c4_i32_86
  let c3_i32 : BitVec 32 := 3#32
  let v200 : BitVec 32 := Scalar.addi v199 c3_i32
  let c4_i32_87 : BitVec 32 := 4#32
  let v201 : BitVec 32 := Scalar.subi v200 c4_i32_87
  let v202 : BitVec 32 := Scalar.maxsi c0_i32_88 v201
  let v203 : BitVec 32 := Scalar.minsi c120_i32_89 v202
  let c64_i32_94 : BitVec 32 := 64#32
  let v215 : BitVec 32 := Scalar.muli v203 c64_i32_94
  let v216 : BitVec 32 := Scalar.addi c256_i32_95 v215
  v216
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8448x1024 : Shape := ⟨3, ![8, 8448, 1024]⟩
abbrev S16x15x31 : Shape := ⟨3, ![16, 15, 31]⟩
abbrev S8x256x1024 : Shape := ⟨3, ![8, 256, 1024]⟩
abbrev S8x256x16x64 : Shape := ⟨4, ![8, 256, 16, 64]⟩
abbrev S8x8192x1024 : Shape := ⟨3, ![8, 8192, 1024]⟩
abbrev S8x8192x16x64 : Shape := ⟨4, ![8, 8192, 16, 64]⟩
abbrev S128 : Shape := ⟨1, ![128]⟩
abbrev S64 : Shape := ⟨1, ![64]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8192x128x1 : Shape := ⟨3, ![8192, 128, 1]⟩
abbrev S8x8192x128x16x64 : Shape := ⟨5, ![8, 8192, 128, 16, 64]⟩
abbrev S16x465 : Shape := ⟨2, ![16, 465]⟩
abbrev S16x8192x128 : Shape := ⟨3, ![16, 8192, 128]⟩
abbrev S8x16x8192x128 : Shape := ⟨4, ![8, 16, 8192, 128]⟩
abbrev S1x16x8192x128 : Shape := ⟨4, ![1, 16, 8192, 128]⟩
abbrev S8x16x8192x256 : Shape := ⟨4, ![8, 16, 8192, 256]⟩
abbrev S8x16x8192x384 : Shape := ⟨4, ![8, 16, 8192, 384]⟩
abbrev S8x16x8192 : Shape := ⟨3, ![8, 16, 8192]⟩
abbrev S8x16x8192x1 : Shape := ⟨4, ![8, 16, 8192, 1]⟩
abbrev S8x16x64x8192 : Shape := ⟨4, ![8, 16, 64, 8192]⟩

abbrev nBuf : Space → Nat
  | .hbm => 139
  | .vmem => 0
  | .smem => 0
  | _ => 0

abbrev hbmTy0_0 (i : Nat) : BufTy := match i % 128 with
  | 0 => ⟨S8x8448x1024, .bf16⟩
  | 1 => ⟨S8x8448x1024, .bf16⟩
  | 2 => ⟨S8x8448x1024, .bf16⟩
  | 3 => ⟨S16x15x31, .f32⟩
  | 4 => ⟨S8x8448x1024, .f32⟩
  | 5 => ⟨S8x8448x1024, .f32⟩
  | 6 => ⟨S8x8448x1024, .f32⟩
  | 7 => ⟨S8x256x1024, .f32⟩
  | 8 => ⟨S8x256x16x64, .f32⟩
  | 9 => ⟨S8x256x1024, .f32⟩
  | 10 => ⟨S8x256x16x64, .f32⟩
  | 11 => ⟨S8x8192x1024, .f32⟩
  | 12 => ⟨S8x8192x16x64, .f32⟩
  | 13 => ⟨S8x8192x1024, .f32⟩
  | 14 => ⟨S8x8192x16x64, .f32⟩
  | 15 => ⟨S8x8192x1024, .f32⟩
  | 16 => ⟨S8x8192x16x64, .f32⟩
  | 17 => ⟨S128, .i32⟩
  | 18 => ⟨S64, .i32⟩
  | 19 => ⟨S_, .i32⟩
  | 20 => ⟨S128, .i32⟩
  | 21 => ⟨S128, .i32⟩
  | 22 => ⟨S_, .i32⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128x1, .i32⟩
  | 31 => ⟨S8, .i32⟩
  | 32 => ⟨S1x8, .i32⟩
  | 33 => ⟨S128x8, .i32⟩
  | 34 => ⟨S128x8, .i32⟩
  | 35 => ⟨S128x8, .i32⟩
  | 36 => ⟨S_, .i32⟩
  | 37 => ⟨S64, .i32⟩
  | 38 => ⟨S64, .i32⟩
  | 39 => ⟨S_, .i32⟩
  | 40 => ⟨S_, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S64x1, .i32⟩
  | 48 => ⟨S16, .i32⟩
  | 49 => ⟨S1x16, .i32⟩
  | 50 => ⟨S64x16, .i32⟩
  | 51 => ⟨S64x16, .i32⟩
  | 52 => ⟨S64x16, .i32⟩
  | 53 => ⟨S128x1, .i32⟩
  | 54 => ⟨S128x8, .i32⟩
  | 55 => ⟨S128x8, .i32⟩
  | 56 => ⟨S_, .i32⟩
  | 57 => ⟨S128x8, .i32⟩
  | 58 => ⟨S128x8, .i32⟩
  | 59 => ⟨S64x1, .i32⟩
  | 60 => ⟨S64x16, .i32⟩
  | 61 => ⟨S64x16, .i32⟩
  | 62 => ⟨S_, .i32⟩
  | 63 => ⟨S64x16, .i32⟩
  | 64 => ⟨S64x16, .i32⟩
  | 65 => ⟨S128x1x8x1, .i32⟩
  | 66 => ⟨S_, .i32⟩
  | 67 => ⟨S128x1x8x1, .i32⟩
  | 68 => ⟨S128x1x8x1, .i32⟩
  | 69 => ⟨S1x64x1x16, .i32⟩
  | 70 => ⟨S128x64x8x16, .i32⟩
  | 71 => ⟨S128x64x8x16, .i32⟩
  | 72 => ⟨S128x64x8x16, .i32⟩
  | 73 => ⟨S8192x128, .i32⟩
  | 74 => ⟨S128x1x8x1, .i32⟩
  | 75 => ⟨S_, .i32⟩
  | 76 => ⟨S128x1x8x1, .i32⟩
  | 77 => ⟨S128x1x8x1, .i32⟩
  | 78 => ⟨S1x64x1x16, .i32⟩
  | 79 => ⟨S128x64x8x16, .i32⟩
  | 80 => ⟨S128x64x8x16, .i32⟩
  | 81 => ⟨S128x64x8x16, .i32⟩
  | 82 => ⟨S8192x128, .i32⟩
  | 83 => ⟨S_, .i32⟩
  | 84 => ⟨S8192x128, .i32⟩
  | 85 => ⟨S8192x128, .i1⟩
  | 86 => ⟨S_, .i32⟩
  | 87 => ⟨S8192x128, .i32⟩
  | 88 => ⟨S8192x128, .i32⟩
  | 89 => ⟨S8192x128, .i32⟩
  | 90 => ⟨S8192x128x1, .i32⟩
  | 91 => ⟨S8x8192x128x16x64, .f32⟩
  | 92 => ⟨S_, .i32⟩
  | 93 => ⟨S8192x128, .i32⟩
  | 94 => ⟨S8192x128, .i1⟩
  | 95 => ⟨S_, .i32⟩
  | 96 => ⟨S8192x128, .i32⟩
  | 97 => ⟨S8192x128, .i32⟩
  | 98 => ⟨S8192x128, .i32⟩
  | 99 => ⟨S8192x128x1, .i32⟩
  | 100 => ⟨S8x8192x128x16x64, .f32⟩
  | 101 => ⟨S16x465, .f32⟩
  | 102 => ⟨S_, .i32⟩
  | 103 => ⟨S8192x128, .i32⟩
  | 104 => ⟨S8192x128, .i1⟩
  | 105 => ⟨S_, .i32⟩
  | 106 => ⟨S8192x128, .i32⟩
  | 107 => ⟨S8192x128, .i32⟩
  | 108 => ⟨S8192x128, .i32⟩
  | 109 => ⟨S8192x128x1, .i32⟩
  | 110 => ⟨S16x8192x128, .f32⟩
  | 111 => ⟨S8x16x8192x128, .f32⟩
  | 112 => ⟨S1x16x8192x128, .f32⟩
  | 113 => ⟨S8x16x8192x128, .f32⟩
  | 114 => ⟨S8x16x8192x128, .f32⟩
  | 115 => ⟨S8x16x8192x256, .f32⟩
  | 116 => ⟨S8x16x8192x384, .f32⟩
  | 117 => ⟨S_, .f32⟩
  | 118 => ⟨S8x16x8192, .f32⟩
  | 119 => ⟨S_, .f32⟩
  | 120 => ⟨S8x16x8192, .f32⟩
  | 121 => ⟨S8x16x8192, .f32⟩
  | 122 => ⟨S8x16x8192x1, .f32⟩
  | 123 => ⟨S8x16x8192x384, .f32⟩
  | 124 => ⟨S8x16x8192x384, .f32⟩
  | 125 => ⟨S8x16x8192x384, .f32⟩
  | 126 => ⟨S_, .f32⟩
  | 127 => ⟨S8x16x8192, .f32⟩
  | _ => ⟨S8x8448x1024, .bf16⟩

abbrev hbmTy0_1 (i : Nat) : BufTy := match i % 128 with
  | 0 => ⟨S8x16x8192x1, .f32⟩
  | 1 => ⟨S8x16x8192x384, .f32⟩
  | 2 => ⟨S8x16x8192x384, .f32⟩
  | 3 => ⟨S8x16x8192x128, .f32⟩
  | 4 => ⟨S8x8192x16x64, .f32⟩
  | 5 => ⟨S8x16x8192x256, .f32⟩
  | 6 => ⟨S8x16x64x8192, .f32⟩
  | 7 => ⟨S8x8192x16x64, .f32⟩
  | 8 => ⟨S8x8192x16x64, .f32⟩
  | 9 => ⟨S8x8192x1024, .f32⟩
  | 10 => ⟨S8x8192x1024, .bf16⟩
  | _ => ⟨S8x8448x1024, .bf16⟩

abbrev hbmTy (i : Nat) : BufTy := match i / 128 with
  | 0 => hbmTy0_0 i
  | 1 => hbmTy0_1 i
  | _ => ⟨S8x8448x1024, .bf16⟩

abbrev bufTy : (tb : Table) → Fin (tcTables nBuf tb) → BufTy
  | .hbm, ⟨i, _⟩ => hbmTy i
  | _, _ => ⟨S8x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_c_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_13 : Ref sig .tc := ⟨.hbm, 102, rfl⟩
abbrev main_v74 : Ref sig .tc := ⟨.hbm, 103, rfl⟩
abbrev main_v75 : Ref sig .tc := ⟨.hbm, 104, rfl⟩
abbrev main_c_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_16 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]
-- ==== Kernel2.lean ====
abbrev S8x8448x1024 : Shape := ⟨3, ![8, 8448, 1024]⟩
abbrev S8x2x1x3072 : Shape := ⟨4, ![8, 2, 1, 3072]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S2x1024 : Shape := ⟨2, ![2, 1024]⟩
abbrev S_ : Shape := ⟨0, ![]⟩
abbrev S8x1024 : Shape := ⟨2, ![8, 1024]⟩
abbrev S1x4096 : Shape := ⟨2, ![1, 4096]⟩
abbrev S1x256x1024 : Shape := ⟨3, ![1, 256, 1024]⟩
abbrev S1x1x1x3072 : Shape := ⟨4, ![1, 1, 1, 3072]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8x8448x1024, .f32⟩
  | .hbm, ⟨1, _⟩ => ⟨S8x2x1x3072, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S1024x4096, .bf16⟩
  | .hbm, ⟨13, _⟩ => ⟨S1x4096, .f32⟩
  | .hbm, ⟨14, _⟩ => ⟨S8x8448x1024, .bf16⟩
  | .hbm, ⟨15, _⟩ => ⟨S8x8448x1024, .bf16⟩
  | .hbm, ⟨16, _⟩ => ⟨S8x8448x1024, .bf16⟩
  | .hbm, ⟨17, _⟩ => ⟨S8x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x3072, .f32⟩
  | .local _ .vmem, ⟨3, _⟩ => ⟨S1x1x1x3072, .f32⟩
  | .local _ .vmem, ⟨4, _⟩ => ⟨S8x1024, .f32⟩
  | .local _ .vmem, ⟨5, _⟩ => ⟨S1024x4096, .bf16⟩
  | .local _ .vmem, ⟨6, _⟩ => ⟨S1x4096, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .f32⟩
  | .local _ .vmem, ⟨14, _⟩ => ⟨S1x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x8448x1024 : Shape := ⟨3, ![8, 8448, 1024]⟩
abbrev S8x2x1x3072 : Shape := ⟨4, ![8, 2, 1, 3072]⟩
abbrev S1024 : Shape := ⟨1, ![1024]⟩
abbrev S1024x4096 : Shape := ⟨2, ![1024, 4096]⟩
abbrev S4096 : Shape := ⟨1, ![4096]⟩
abbrev S8x256x1024 : Shape := ⟨3, ![8, 256, 1024]⟩
abbrev S8x1x1x3072 : Shape := ⟨4, ![8, 1, 1, 3072]⟩
abbrev S8x3072 : Shape := ⟨2, ![8, 3072]⟩
abbrev S8x1024 : Shape := ⟨2, ![8, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x8192x1024 : Shape := ⟨3, ![8, 8192, 1024]⟩
abbrev S8x8192 : Shape := ⟨2, ![8, 8192]⟩
abbrev S8x8192x1 : Shape := ⟨3, ![8, 8192, 1]⟩
abbrev S8x8448x4096 : Shape := ⟨3, ![8, 8448, 4096]⟩
abbrev S1x1x4096 : Shape := ⟨3, ![1, 1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x2x1x3072, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S8x256x1024, .f32⟩
  | .hbm, ⟨7, _⟩ => ⟨S8x1x1x3072, .f32⟩
  | .hbm, ⟨8, _⟩ => ⟨S8x3072, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x256x1024, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S_, .f32⟩
  | .hbm, ⟨20, _⟩ => ⟨S8x256x1, .f32⟩
  | .hbm, ⟨21, _⟩ => ⟨S8x256x1, .f32⟩
  | .hbm, ⟨22, _⟩ => ⟨S8x256x1, .f32⟩
  | .hbm, ⟨23, _⟩ => ⟨S8x256x1024, .f32⟩
  | .hbm, ⟨24, _⟩ => ⟨S8x256x1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x256x1024, .f32⟩
  | .hbm, ⟨33, _⟩ => ⟨S8x256x1024, .f32⟩
  | .hbm, ⟨34, _⟩ => ⟨S8x1x1024, .f32⟩
  | .hbm, ⟨35, _⟩ => ⟨S8x256x1024, .f32⟩
  | .hbm, ⟨36, _⟩ => ⟨S8x256x1024, .f32⟩
  | .hbm, ⟨37, _⟩ => ⟨S8x8192x1024, .f32⟩
  | .hbm, ⟨38, _⟩ => ⟨S8x1x1x3072, .f32⟩
  | .hbm, ⟨39, _⟩ => ⟨S8x3072, .f32⟩
  | .hbm, ⟨40, _⟩ => ⟨S8x1024, .f32⟩
  | .hbm, ⟨41, _⟩ => ⟨S8x1024, .f32⟩
  | .hbm, ⟨42, _⟩ => ⟨S8x1024, .f32⟩
  | .hbm, ⟨43, _⟩ => ⟨S8x8192x1024, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S_, .f32⟩
  | .hbm, ⟨51, _⟩ => ⟨S8x8192x1, .f32⟩
  | .hbm, ⟨52, _⟩ => ⟨S8x8192x1, .f32⟩
  | .hbm, ⟨53, _⟩ => ⟨S8x8192x1, .f32⟩
  | .hbm, ⟨54, _⟩ => ⟨S8x8192x1024, .f32⟩
  | .hbm, ⟨55, _⟩ => ⟨S8x8192x1024, .f32⟩
  | .hbm, ⟨56, _⟩ => ⟨S1x1x1024, .f32⟩
  | .hbm, ⟨57, _⟩ => ⟨S8x8192x1024, .f32⟩
  | .hbm, ⟨58, _⟩ => ⟨S8x8192x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x8192x1024, .f32⟩
  | .hbm, ⟨64, _⟩ => ⟨S8x8192x1024, .f32⟩
  | .hbm, ⟨65, _⟩ => ⟨S8x1x1024, .f32⟩
  | .hbm, ⟨66, _⟩ => ⟨S8x8192x1024, .f32⟩
  | .hbm, ⟨67, _⟩ => ⟨S8x8192x1024, .f32⟩
  | .hbm, ⟨68, _⟩ => ⟨S8x8448x1024, .f32⟩
  | .hbm, ⟨69, _⟩ => ⟨S8x8448x4096, .f32⟩
  | .hbm, ⟨70, _⟩ => ⟨S1x1x4096, .f32⟩
  | .hbm, ⟨71, _⟩ => ⟨S8x8448x4096, .f32⟩
  | .hbm, ⟨72, _⟩ => ⟨S8x8448x4096, .f32⟩
  | .hbm, ⟨73, _⟩ => ⟨S8x8448x1024, .f32⟩
  | .hbm, ⟨74, _⟩ => ⟨S8x8448x1024, .f32⟩
  | .hbm, ⟨75, _⟩ => ⟨S8x8448x1024, .f32⟩
  | .hbm, ⟨76, _⟩ => ⟨S8x8448x1024, .f32⟩
  | .hbm, ⟨77, _⟩ => ⟨S_, .f32⟩
  | .hbm, ⟨78, _⟩ => ⟨S8x8448x1024, .f32⟩
  | .hbm, ⟨79, _⟩ => ⟨S8x8448x1024, .f32⟩
  | .hbm, ⟨80, _⟩ => ⟨S8x8448x1024, .bf16⟩
  | .hbm, ⟨81, _⟩ => ⟨S8x8448x1024, .bf16⟩
  | .hbm, ⟨82, _⟩ => ⟨S8x8448x1024, .bf16⟩
  | .hbm, ⟨83, _⟩ => ⟨S8x8448x1024, .f32⟩
  | .hbm, ⟨84, _⟩ => ⟨S8x8448x1024, .f32⟩
  | .hbm, ⟨85, _⟩ => ⟨S_, .f32⟩
  | .hbm, ⟨86, _⟩ => ⟨S8x8448x1024, .f32⟩
  | .hbm, ⟨87, _⟩ => ⟨S8x8448x1024, .f32⟩
  | .hbm, ⟨88, _⟩ => ⟨S_, .f32⟩
  | .hbm, ⟨89, _⟩ => ⟨S8x8448x1024, .f32⟩
  | .hbm, ⟨90, _⟩ => ⟨S8x8448x1024, .f32⟩
  | .hbm, ⟨91, _⟩ => ⟨S8x8448x1024, .f32⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x256x1024 : Shape := ⟨3, ![8, 256, 1024]⟩
abbrev S8x8448x1024 : Shape := ⟨3, ![8, 8448, 1024]⟩
abbrev S8x2x1x3072 : Shape := ⟨4, ![8, 2, 1, 3072]⟩
abbrev S1024 : Shape := ⟨1, ![1024]⟩
abbrev S1024x1024 : Shape := ⟨2, ![1024, 1024]⟩
abbrev S1x1024 : Shape := ⟨2, ![1, 1024]⟩
abbrev S2x1024 : Shape := ⟨2, ![2, 1024]⟩
abbrev S_ : Shape := ⟨0, ![]⟩
abbrev S8x1024 : Shape := ⟨2, ![8, 1024]⟩
abbrev S1x256x1024 : Shape := ⟨3, ![1, 256, 1024]⟩
abbrev S1x1x1x3072 : Shape := ⟨4, ![1, 1, 1, 3072]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S8x8192x1024, .bf16⟩
  | .hbm, ⟨1, _⟩ => ⟨S8x256x1024, .bf16⟩
  | .hbm, ⟨2, _⟩ => ⟨S8x8448x1024, .f32⟩
  | .hbm, ⟨3, _⟩ => ⟨S8x8448x1024, .f32⟩
  | .hbm, ⟨4, _⟩ => ⟨S8x2x1x3072, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S1024x1024, .bf16⟩
  | .hbm, ⟨15, _⟩ => ⟨S8x8448x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1x3072, .f32⟩
  | .local _ .vmem, ⟨9, _⟩ => ⟨S1x1x1x3072, .f32⟩
  | .local _ .vmem, ⟨10, _⟩ => ⟨S8x1024, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x8192x1024 : Shape := ⟨3, ![8, 8192, 1024]⟩
abbrev S8x256x1024 : Shape := ⟨3, ![8, 256, 1024]⟩
abbrev S8x8448x1024 : Shape := ⟨3, ![8, 8448, 1024]⟩
abbrev S8x2x1x3072 : Shape := ⟨4, ![8, 2, 1, 3072]⟩
abbrev S1024 : Shape := ⟨1, ![1024]⟩
abbrev S1024x1024 : Shape := ⟨2, ![1024, 1024]⟩
abbrev S8x1x1x3072 : Shape := ⟨4, ![8, 1, 1, 3072]⟩
abbrev S8x3072 : Shape := ⟨2, ![8, 3072]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1024 : Shape := ⟨2, ![8, 1024]⟩
abbrev S8x1x1024 : Shape := ⟨3, ![8, 1, 1024]⟩
abbrev S8x8192 : Shape := ⟨2, ![8, 8192]⟩
abbrev S8x8192x1 : Shape := ⟨3, ![8, 8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x256x1024, .bf16⟩
  | .hbm, ⟨2, _⟩ => ⟨S8x8448x1024, .f32⟩
  | .hbm, ⟨3, _⟩ => ⟨S8x8448x1024, .f32⟩
  | .hbm, ⟨4, _⟩ => ⟨S8x2x1x3072, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S8x256x1024, .f32⟩
  | .hbm, ⟨9, _⟩ => ⟨S8x256x1024, .f32⟩
  | .hbm, ⟨10, _⟩ => ⟨S8x1x1x3072, .f32⟩
  | .hbm, ⟨11, _⟩ => ⟨S8x3072, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S8x256x1024, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S_, .f32⟩
  | .hbm, ⟨20, _⟩ => ⟨S8x256x1, .f32⟩
  | .hbm, ⟨21, _⟩ => ⟨S8x256x1, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S8x256x1, .f32⟩
  | .hbm, ⟨26, _⟩ => ⟨S8x256x1024, .f32⟩
  | .hbm, ⟨27, _⟩ => ⟨S8x256x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S8x1x1024, .f32⟩
  | .hbm, ⟨35, _⟩ => ⟨S8x256x1024, .f32⟩
  | .hbm, ⟨36, _⟩ => ⟨S8x256x1024, .f32⟩
  | .hbm, ⟨37, _⟩ => ⟨S8x256x1024, .f32⟩
  | .hbm, ⟨38, _⟩ => ⟨S8x8192x1024, .f32⟩
  | .hbm, ⟨39, _⟩ => ⟨S8x8192x1024, .f32⟩
  | .hbm, ⟨40, _⟩ => ⟨S8x1x1x3072, .f32⟩
  | .hbm, ⟨41, _⟩ => ⟨S8x3072, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S8x8192x1, .f32⟩
  | .hbm, ⟨56, _⟩ => ⟨S8x8192x1024, .f32⟩
  | .hbm, ⟨57, _⟩ => ⟨S8x8192x1024, .f32⟩
  | .hbm, ⟨58, _⟩ => ⟨S1x1x1024, .f32⟩
  | .hbm, ⟨59, _⟩ => ⟨S8x8192x1024, .f32⟩
  | .hbm, ⟨60, _⟩ => ⟨S8x8192x1024, .f32⟩
  | .hbm, ⟨61, _⟩ => ⟨S8x1024, .f32⟩
  | .hbm, ⟨62, _⟩ => ⟨S8x1024, .f32⟩
  | .hbm, ⟨63, _⟩ => ⟨S8x1024, .f32⟩
  | .hbm, ⟨64, _⟩ => ⟨S8x1x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S8x8448x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel4.lean ====
abbrev S8x8448x1024 : Shape := ⟨3, ![8, 8448, 1024]⟩
abbrev S8x2x1x3072 : Shape := ⟨4, ![8, 2, 1, 3072]⟩
abbrev S1024 : Shape := ⟨1, ![1024]⟩
abbrev S6x1024 : Shape := ⟨2, ![6, 1024]⟩
abbrev S4x1024x1024 : Shape := ⟨3, ![4, 1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S16x64 : Shape := ⟨2, ![16, 64]⟩
abbrev S1024x32 : Shape := ⟨2, ![1024, 32]⟩
abbrev S32x1024 : Shape := ⟨2, ![32, 1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x1024 : Shape := ⟨2, ![1, 1024]⟩
abbrev S16x1024 : Shape := ⟨2, ![16, 1024]⟩
abbrev S1x1024x64 : Shape := ⟨3, ![1, 1024, 64]⟩
abbrev S1024x64 : Shape := ⟨2, ![1024, 64]⟩
abbrev S64x1024 : Shape := ⟨2, ![64, 1024]⟩
abbrev S1x64x1024 : Shape := ⟨3, ![1, 64, 1024]⟩
abbrev S1x128x1024 : Shape := ⟨3, ![1, 128, 1024]⟩
abbrev S2x128x1024 : Shape := ⟨3, ![2, 128, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S1x8x1024 : Shape := ⟨3, ![1, 8, 1024]⟩
abbrev S1x1x1x3072 : Shape := ⟨4, ![1, 1, 1, 3072]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S256x128 : Shape := ⟨2, ![256, 128]⟩

abbrev nBuf : Space → Nat
  | .hbm => 148
  | .vmem => 45
  | .smem => 0
  | _ => 0

abbrev hbmTy0_0 (i : Nat) : BufTy := match i % 128 with
  | 0 => ⟨S8x8448x1024, .f32⟩
  | 1 => ⟨S8x2x1x3072, .f32⟩
  | 2 => ⟨S1024, .f32⟩
  | 3 => ⟨S6x1024, .f32⟩
  | 4 => ⟨S4x1024x1024, .f32⟩
  | 5 => ⟨S2x1024, .f32⟩
  | 6 => ⟨S2x1024x64, .f32⟩
  | 7 => ⟨S2x64x1024, .f32⟩
  | 8 => ⟨S2x1024, .f32⟩
  | 9 => ⟨S2x1024x64, .f32⟩
  | 10 => ⟨S2x64x1024, .f32⟩
  | 11 => ⟨S1024, .f32⟩
  | 12 => ⟨S1024, .f32⟩
  | 13 => ⟨S16x64, .f32⟩
  | 14 => ⟨S1024, .f32⟩
  | 15 => ⟨S1024x32, .f32⟩
  | 16 => ⟨S32x1024, .f32⟩
  | 17 => ⟨S8x8448x1024, .f32⟩
  | 18 => ⟨S1024, .i32⟩
  | 19 => ⟨S1024x1, .i32⟩
  | 20 => ⟨S_, .i32⟩
  | 21 => ⟨S_, .i32⟩
  | 22 => ⟨S1024x1, .i32⟩
  | 23 => ⟨S1024x1, .i32⟩
  | 24 => ⟨S1024x1, .i32⟩
  | 25 => ⟨S_, .i32⟩
  | 26 => ⟨S1024x1, .i32⟩
  | 27 => ⟨S1024x1, .i1⟩
  | 28 => ⟨S1024x1, .i32⟩
  | 29 => ⟨S1024x1, .i32⟩
  | 30 => ⟨S_, .i32⟩
  | 31 => ⟨S1024x1, .i32⟩
  | 32 => ⟨S1024x1, .i1⟩
  | 33 => ⟨S1024x1, .i1⟩
  | 34 => ⟨S_, .i32⟩
  | 35 => ⟨S1024x1, .i32⟩
  | 36 => ⟨S1024x1, .i32⟩
  | 37 => ⟨S1024x1, .i32⟩
  | 38 => ⟨S128, .i32⟩
  | 39 => ⟨S1x128, .i32⟩
  | 40 => ⟨S1024x128, .i32⟩
  | 41 => ⟨S1024x128, .i32⟩
  | 42 => ⟨S1024x128, .i1⟩
  | 43 => ⟨S1024x128, .bf16⟩
  | 44 => ⟨S128x1024, .i1⟩
  | 45 => ⟨S128x1024, .bf16⟩
  | 46 => ⟨S_, .f32⟩
  | 47 => ⟨S1024, .f32⟩
  | 48 => ⟨S1x1024, .f32⟩
  | 49 => ⟨S1024, .f32⟩
  | 50 => ⟨S1x1024, .f32⟩
  | 51 => ⟨S1024, .f32⟩
  | 52 => ⟨S1x1024, .f32⟩
  | 53 => ⟨S1024, .f32⟩
  | 54 => ⟨S1x1024, .f32⟩
  | 55 => ⟨S1024, .f32⟩
  | 56 => ⟨S1x1024, .f32⟩
  | 57 => ⟨S1024, .f32⟩
  | 58 => ⟨S1x1024, .f32⟩
  | 59 => ⟨S1024, .f32⟩
  | 60 => ⟨S1024, .f32⟩
  | 61 => ⟨S1x1024, .f32⟩
  | 62 => ⟨S1024, .f32⟩
  | 63 => ⟨S1x1024, .f32⟩
  | 64 => ⟨S1024, .f32⟩
  | 65 => ⟨S1x1024, .f32⟩
  | 66 => ⟨S1024, .f32⟩
  | 67 => ⟨S1x1024, .f32⟩
  | 68 => ⟨S1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S16x1024, .f32⟩
  | 86 => ⟨S1x1024x64, .f32⟩
  | 87 => ⟨S1024x64, .f32⟩
  | 88 => ⟨S1x1024x64, .f32⟩
  | 89 => ⟨S1024x64, .f32⟩
  | 90 => ⟨S1024x128, .f32⟩
  | 91 => ⟨S1024x128, .bf16⟩
  | 92 => ⟨S1x1024x64, .f32⟩
  | 93 => ⟨S1024x64, .f32⟩
  | 94 => ⟨S1x1024x64, .f32⟩
  | 95 => ⟨S1024x64, .f32⟩
  | 96 => ⟨S1024x128, .f32⟩
  | 97 => ⟨S1024x128, .bf16⟩
  | 98 => ⟨S_, .f32⟩
  | 99 => ⟨S64x1024, .f32⟩
  | 100 => ⟨S1x64x1024, .f32⟩
  | 101 => ⟨S64x1024, .f32⟩
  | 102 => ⟨S128x1024, .f32⟩
  | 103 => ⟨S1x64x1024, .f32⟩
  | 104 => ⟨S64x1024, .f32⟩
  | 105 => ⟨S128x1024, .f32⟩
  | 106 => ⟨S1x128x1024, .f32⟩
  | 107 => ⟨S1x128x1024, .f32⟩
  | 108 => ⟨S2x128x1024, .f32⟩
  | 109 => ⟨S2x128x1024, .bf16⟩
  | 110 => ⟨S1x64x1024, .f32⟩
  | 111 => ⟨S64x1024, .f32⟩
  | 112 => ⟨S128x1024, .f32⟩
  | 113 => ⟨S1x64x1024, .f32⟩
  | 114 => ⟨S64x1024, .f32⟩
  | 115 => ⟨S128x1024, .f32⟩
  | 116 => ⟨S1x128x1024, .f32⟩
  | 117 => ⟨S1x128x1024, .f32⟩
  | 118 => ⟨S2x128x1024, .f32⟩
  | 119 => ⟨S2x128x1024, .bf16⟩
  | 120 => ⟨S_, .i32⟩
  | 121 => ⟨S_, .f32⟩
  | 122 => ⟨S1024x128, .f32⟩
  | 123 => ⟨S1024x128, .bf16⟩
  | 124 => ⟨S_, .i32⟩
  | 125 => ⟨S_, .f32⟩
  | 126 => ⟨S128x1024, .f32⟩
  | 127 => ⟨S128x1024, .bf16⟩
  | _ => ⟨S8x8448x1024, .f32⟩

abbrev hbmTy0_1 (i : Nat) : BufTy := match i % 128 with
  | 0 => ⟨S4x1024x1024, .bf16⟩
  | 1 => ⟨S1x1024x1024, .bf16⟩
  | 2 => ⟨S1024x1024, .bf16⟩
  | 3 => ⟨S1x1024x1024, .bf16⟩
  | 4 => ⟨S1024x1024, .bf16⟩
  | 5 => ⟨S1x1024x1024, .bf16⟩
  | 6 => ⟨S1024x1024, .bf16⟩
  | 7 => ⟨S1x1024x1024, .bf16⟩
  | 8 => ⟨S1024x1024, .bf16⟩
  | 9 => ⟨S8x8448x1024, .f32⟩
  | 10 => ⟨S8x8448x1024, .f32⟩
  | 11 => ⟨S8x8448x1024, .f32⟩
  | 12 => ⟨S8x8448x1024, .f32⟩
  | 13 => ⟨S8x8448x1024, .f32⟩
  | 14 => ⟨S8x8448x1024, .f32⟩
  | 15 => ⟨S8x8448x1024, .f32⟩
  | 16 => ⟨S8x8448x1024, .f32⟩
  | 17 => ⟨S8x8448x1024, .f32⟩
  | 18 => ⟨S8x8448x1024, .f32⟩
  | 19 => ⟨S8x8448x1024, .f32⟩
  | _ => ⟨S8x8448x1024, .f32⟩

abbrev hbmTy (i : Nat) : BufTy := match i / 128 with
  | 0 => hbmTy0_0 i
  | 1 => hbmTy0_1 i
  | _ => ⟨S8x8448x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x3072, .f32⟩
  | .local _ .vmem, ⟨7, _⟩ => ⟨S1x1x1x3072, .f32⟩
  | .local _ .vmem, ⟨8, _⟩ => ⟨S16x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S2x128x1024, .bf16⟩
  | .local _ .vmem, ⟨15, _⟩ => ⟨S1024x128, .bf16⟩
  | .local _ .vmem, ⟨16, _⟩ => ⟨S2x128x1024, .bf16⟩
  | .local _ .vmem, ⟨17, _⟩ => ⟨S1024x128, .bf16⟩
  | .local _ .vmem, ⟨18, _⟩ => ⟨S128x1024, .bf16⟩
  | .local _ .vmem, ⟨19, _⟩ => ⟨S1024x128, .bf16⟩
  | .local _ .vmem, ⟨20, _⟩ => ⟨S128x1024, .bf16⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S1x256x1024, .f32⟩
  | .local _ .vmem, ⟨43, _⟩ => ⟨S1x256x1024, .f32⟩
  | .local _ .vmem, ⟨44, _⟩ => ⟨S1x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_0 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_1 : Ref sig .tc := ⟨.hbm, 120, rfl⟩
abbrev main_call1_v0 : Ref sig .tc := ⟨.hbm, 121, rfl⟩
abbrev main_v83 : Ref sig .tc := ⟨.hbm, 122, rfl⟩
abbrev main_v84 : Ref sig .tc := ⟨.hbm, 123, rfl⟩
abbrev main_c_2 : Ref sig .tc := ⟨.hbm, 124, rfl⟩
abbrev main_call2_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_v96_3 : Ref sig .tc := ⟨.hbm, 140, rfl⟩
abbrev main_v96_4 : Ref sig .tc := ⟨.hbm, 141, rfl⟩
abbrev main_v96_5 : Ref sig .tc := ⟨.hbm, 142, rfl⟩
abbrev main_v96_6 : Ref sig .tc := ⟨.hbm, 143, rfl⟩
abbrev main_v96_7 : Ref sig .tc := ⟨.hbm, 144, rfl⟩
abbrev main_v96_8 : Ref sig .tc := ⟨.hbm, 145, rfl⟩
abbrev main_v96_9 : Ref sig .tc := ⟨.hbm, 146, rfl⟩
abbrev main_v96_10 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_stg28_0 : Ref sig .tc := ⟨.vmem, 43, rfl⟩
abbrev cc0_stg28_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42
abbrev cc0_sem28_0 : DmaSem sig := 43
abbrev cc0_sem28_1 : DmaSem sig := 44

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Reference4Ideal.lean ====
abbrev S8x8448x1024 : Shape := ⟨3, ![8, 8448, 1024]⟩
abbrev S8x2x1x3072 : Shape := ⟨4, ![8, 2, 1, 3072]⟩
abbrev S1024 : Shape := ⟨1, ![1024]⟩
abbrev S6x1024 : Shape := ⟨2, ![6, 1024]⟩
abbrev S4x1024x1024 : Shape := ⟨3, ![4, 1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S16x64 : Shape := ⟨2, ![16, 64]⟩
abbrev S1024x32 : Shape := ⟨2, ![1024, 32]⟩
abbrev S32x1024 : Shape := ⟨2, ![32, 1024]⟩
abbrev S8x256x1024 : Shape := ⟨3, ![8, 256, 1024]⟩
abbrev S8x1x1x3072 : Shape := ⟨4, ![8, 1, 1, 3072]⟩
abbrev S8x3072 : Shape := ⟨2, ![8, 3072]⟩
abbrev S8x1024 : Shape := ⟨2, ![8, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x8192x1024 : Shape := ⟨3, ![8, 8192, 1024]⟩
abbrev S8x8192 : Shape := ⟨2, ![8, 8192]⟩
abbrev S8x8192x1 : Shape := ⟨3, ![8, 8192, 1]⟩
abbrev S8x258x1024 : Shape := ⟨3, ![8, 258, 1024]⟩
abbrev S8x8194x1024 : Shape := ⟨3, ![8, 8194, 1024]⟩
abbrev S1x1024 : Shape := ⟨2, ![1, 1024]⟩
abbrev S1x1024x1024 : Shape := ⟨3, ![1, 1024, 1024]⟩
abbrev S1024x1024 : Shape := ⟨2, ![1024, 1024]⟩
abbrev S8x8448x32 : Shape := ⟨3, ![8, 8448, 32]⟩
abbrev S2x64x8x8448 : Shape := ⟨4, ![2, 64, 8, 8448]⟩
abbrev S2x8x8448x64 : Shape := ⟨4, ![2, 8, 8448, 64]⟩
abbrev S2x8x8448x1024 : Shape := ⟨4, ![2, 8, 8448, 1024]⟩
abbrev S2x1x1x1024 : Shape := ⟨4, ![2, 1, 1, 1024]⟩
abbrev S8x8448x16x64 : Shape := ⟨4, ![8, 8448, 16, 64]⟩
abbrev S8x8448x16 : Shape := ⟨3, ![8, 8448, 16]⟩
abbrev S8x8448x16x1 : Shape := ⟨4, ![8, 8448, 16, 1]⟩
abbrev S1x8x8448x1024 : Shape := ⟨4, ![1, 8, 8448, 1024]⟩
abbrev S1x1x1x1024 : Shape := ⟨4, ![1, 1, 1, 1024]⟩
abbrev S1x8x8448x16x64 : Shape := ⟨5, ![1, 8, 8448, 16, 64]⟩
abbrev S2x8x8448x16x64 : Shape := ⟨5, ![2, 8, 8448, 16, 64]⟩
abbrev S1x1x1x16x64 : Shape := ⟨5, ![1, 1, 1, 16, 64]⟩
abbrev S2x8x8448x16 : Shape := ⟨4, ![2, 8, 8448, 16]⟩
abbrev S2x8x8448x16x1 : Shape := ⟨5, ![2, 8, 8448, 16, 1]⟩

abbrev nBuf : Space → Nat
  | .hbm => 276
  | .vmem => 0
  | .smem => 0
  | _ => 0

abbrev hbmTy0_0 (i : Nat) : BufTy := match i % 128 with
  | 0 => ⟨S8x8448x1024, .f32⟩
  | 1 => ⟨S8x2x1x3072, .f32⟩
  | 2 => ⟨S1024, .f32⟩
  | 3 => ⟨S6x1024, .f32⟩
  | 4 => ⟨S4x1024x1024, .f32⟩
  | 5 => ⟨S2x1024, .f32⟩
  | 6 => ⟨S2x1024x64, .f32⟩
  | 7 => ⟨S2x64x1024, .f32⟩
  | 8 => ⟨S2x1024, .f32⟩
  | 9 => ⟨S2x1024x64, .f32⟩
  | 10 => ⟨S2x64x1024, .f32⟩
  | 11 => ⟨S1024, .f32⟩
  | 12 => ⟨S1024, .f32⟩
  | 13 => ⟨S16x64, .f32⟩
  | 14 => ⟨S1024, .f32⟩
  | 15 => ⟨S1024x32, .f32⟩
  | 16 => ⟨S32x1024, .f32⟩
  | 17 => ⟨S8x8448x1024, .f32⟩
  | 18 => ⟨S8x256x1024, .f32⟩
  | 19 => ⟨S8x1x1x3072, .f32⟩
  | 20 => ⟨S8x3072, .f32⟩
  | 21 => ⟨S8x1024, .f32⟩
  | 22 => ⟨S8x1024, .f32⟩
  | 23 => ⟨S8x1024, .f32⟩
  | 24 => ⟨S8x256x1024, .f32⟩
  | 25 => ⟨S_, .f32⟩
  | 26 => ⟨S8x256, .f32⟩
  | 27 => ⟨S8x256x1, .f32⟩
  | 28 => ⟨S_, .f32⟩
  | 29 => ⟨S8x256x1, .f32⟩
  | 30 => ⟨S8x256x1, .f32⟩
  | 31 => ⟨S_, .f32⟩
  | 32 => ⟨S8x256x1, .f32⟩
  | 33 => ⟨S8x256x1, .f32⟩
  | 34 => ⟨S8x256x1, .f32⟩
  | 35 => ⟨S8x256x1024, .f32⟩
  | 36 => ⟨S8x256x1024, .f32⟩
  | 37 => ⟨S1x1x1024, .f32⟩
  | 38 => ⟨S8x256x1024, .f32⟩
  | 39 => ⟨S8x256x1024, .f32⟩
  | 40 => ⟨S8x1x1024, .f32⟩
  | 41 => ⟨S_, .f32⟩
  | 42 => ⟨S8x1x1024, .f32⟩
  | 43 => ⟨S8x1x1024, .f32⟩
  | 44 => ⟨S8x256x1024, .f32⟩
  | 45 => ⟨S8x256x1024, .f32⟩
  | 46 => ⟨S8x1x1024, .f32⟩
  | 47 => ⟨S8x256x1024, .f32⟩
  | 48 => ⟨S8x256x1024, .f32⟩
  | 49 => ⟨S8x8192x1024, .f32⟩
  | 50 => ⟨S8x1x1x3072, .f32⟩
  | 51 => ⟨S8x3072, .f32⟩
  | 52 => ⟨S8x1024, .f32⟩
  | 53 => ⟨S8x1024, .f32⟩
  | 54 => ⟨S8x1024, .f32⟩
  | 55 => ⟨S8x8192x1024, .f32⟩
  | 56 => ⟨S_, .f32⟩
  | 57 => ⟨S8x8192, .f32⟩
  | 58 => ⟨S8x8192x1, .f32⟩
  | 59 => ⟨S_, .f32⟩
  | 60 => ⟨S8x8192x1, .f32⟩
  | 61 => ⟨S8x8192x1, .f32⟩
  | 62 => ⟨S_, .f32⟩
  | 63 => ⟨S8x8192x1, .f32⟩
  | 64 => ⟨S8x8192x1, .f32⟩
  | 65 => ⟨S8x8192x1, .f32⟩
  | 66 => ⟨S8x8192x1024, .f32⟩
  | 67 => ⟨S8x8192x1024, .f32⟩
  | 68 => ⟨S1x1x1024, .f32⟩
  | 69 => ⟨S8x8192x1024, .f32⟩
  | 70 => ⟨S8x8192x1024, .f32⟩
  | 71 => ⟨S8x1x1024, .f32⟩
  | 72 => ⟨S_, .f32⟩
  | 73 => ⟨S8x1x1024, .f32⟩
  | 74 => ⟨S8x1x1024, .f32⟩
  | 75 => ⟨S8x8192x1024, .f32⟩
  | 76 => ⟨S8x8192x1024, .f32⟩
  | 77 => ⟨S8x1x1024, .f32⟩
  | 78 => ⟨S8x8192x1024, .f32⟩
  | 79 => ⟨S8x8192x1024, .f32⟩
  | 80 => ⟨S8x8448x1024, .f32⟩
  | 81 => ⟨S_, .i32⟩
  | 82 => ⟨S_, .f32⟩
  | 83 => ⟨S8x258x1024, .f32⟩
  | 84 => ⟨S8x256x1024, .f32⟩
  | 85 => ⟨S8x256x1024, .f32⟩
  | 86 => ⟨S8x256x1024, .f32⟩
  | 87 => ⟨S_, .f32⟩
  | 88 => ⟨S8x256x1024, .f32⟩
  | 89 => ⟨S8x256x1024, .f32⟩
  | 90 => ⟨S8x256x1024, .f32⟩
  | 91 => ⟨S_, .i32⟩
  | 92 => ⟨S_, .f32⟩
  | 93 => ⟨S8x8194x1024, .f32⟩
  | 94 => ⟨S8x8192x1024, .f32⟩
  | 95 => ⟨S8x8192x1024, .f32⟩
  | 96 => ⟨S8x8192x1024, .f32⟩
  | 97 => ⟨S_, .f32⟩
  | 98 => ⟨S8x8192x1024, .f32⟩
  | 99 => ⟨S8x8192x1024, .f32⟩
  | 100 => ⟨S8x8192x1024, .f32⟩
  | 101 => ⟨S8x8448x1024, .f32⟩
  | 102 => ⟨S1x1024, .f32⟩
  | 103 => ⟨S1024, .f32⟩
  | 104 => ⟨S1x1x1024, .f32⟩
  | 105 => ⟨S8x8448x1024, .f32⟩
  | 106 => ⟨S8x8448x1024, .f32⟩
  | 107 => ⟨S8x8448x1024, .f32⟩
  | 108 => ⟨S1x1024, .f32⟩
  | 109 => ⟨S1024, .f32⟩
  | 110 => ⟨S1x1x1024, .f32⟩
  | 111 => ⟨S8x8448x1024, .f32⟩
  | 112 => ⟨S8x8448x1024, .f32⟩
  | 113 => ⟨S8x8448x1024, .f32⟩
  | 114 => ⟨S1x1024, .f32⟩
  | 115 => ⟨S1024, .f32⟩
  | 116 => ⟨S1x1x1024, .f32⟩
  | 117 => ⟨S8x8448x1024, .f32⟩
  | 118 => ⟨S8x8448x1024, .f32⟩
  | 119 => ⟨S8x8448x1024, .f32⟩
  | 120 => ⟨S1x1024, .f32⟩
  | 121 => ⟨S1024, .f32⟩
  | 122 => ⟨S1x1x1024, .f32⟩
  | 123 => ⟨S8x8448x1024, .f32⟩
  | 124 => ⟨S8x8448x1024, .f32⟩
  | 125 => ⟨S8x8448x1024, .f32⟩
  | 126 => ⟨S1x1024, .f32⟩
  | 127 => ⟨S1024, .f32⟩
  | _ => ⟨S8x8448x1024, .f32⟩

abbrev hbmTy0_1 (i : Nat) : BufTy := match i % 128 with
  | 0 => ⟨S1x1x1024, .f32⟩
  | 1 => ⟨S8x8448x1024, .f32⟩
  | 2 => ⟨S8x8448x1024, .f32⟩
  | 3 => ⟨S8x8448x1024, .f32⟩
  | 4 => ⟨S1x1024, .f32⟩
  | 5 => ⟨S1024, .f32⟩
  | 6 => ⟨S1x1x1024, .f32⟩
  | 7 => ⟨S8x8448x1024, .f32⟩
  | 8 => ⟨S8x8448x1024, .f32⟩
  | 9 => ⟨S8x8448x1024, .f32⟩
  | 10 => ⟨S1x1024x1024, .f32⟩
  | 11 => ⟨S1024x1024, .f32⟩
  | 12 => ⟨S8x8448x1024, .f32⟩
  | 13 => ⟨S1x1024x1024, .f32⟩
  | 14 => ⟨S1024x1024, .f32⟩
  | 15 => ⟨S8x8448x1024, .f32⟩
  | 16 => ⟨S1x1024x1024, .f32⟩
  | 17 => ⟨S1024x1024, .f32⟩
  | 18 => ⟨S8x8448x1024, .f32⟩
  | 19 => ⟨S1x1024x1024, .f32⟩
  | 20 => ⟨S1024x1024, .f32⟩
  | 21 => ⟨S8x8448x1024, .f32⟩
  | 22 => ⟨S8x8448x1024, .f32⟩
  | 23 => ⟨S8x8448x1024, .f32⟩
  | 24 => ⟨S_, .f32⟩
  | 25 => ⟨S8x8448x1024, .f32⟩
  | 26 => ⟨S8x8448x1024, .f32⟩
  | 27 => ⟨S_, .f32⟩
  | 28 => ⟨S8x8448x1024, .f32⟩
  | 29 => ⟨S8x8448x1024, .f32⟩
  | 30 => ⟨S8x8448x1024, .f32⟩
  | 31 => ⟨S8x8448x1024, .f32⟩
  | 32 => ⟨S8x8448x32, .f32⟩
  | 33 => ⟨S8x8448x1024, .f32⟩
  | 34 => ⟨S1x1x1024, .f32⟩
  | 35 => ⟨S8x8448x1024, .f32⟩
  | 36 => ⟨S8x8448x1024, .f32⟩
  | 37 => ⟨S8x8448x1024, .f32⟩
  | 38 => ⟨S8x8448x1024, .f32⟩
  | 39 => ⟨S_, .f32⟩
  | 40 => ⟨S8x8448x1024, .f32⟩
  | 41 => ⟨S8x8448x1024, .f32⟩
  | 42 => ⟨S_, .f32⟩
  | 43 => ⟨S8x8448x1024, .f32⟩
  | 44 => ⟨S8x8448x1024, .f32⟩
  | 45 => ⟨S8x8448x1024, .f32⟩
  | 46 => ⟨S8x8448x1024, .f32⟩
  | 47 => ⟨S2x64x8x8448, .f32⟩
  | 48 => ⟨S2x8x8448x64, .f32⟩
  | 49 => ⟨S2x8x8448x64, .f32⟩
  | 50 => ⟨S2x8x8448x1024, .f32⟩
  | 51 => ⟨S2x1x1x1024, .f32⟩
  | 52 => ⟨S2x8x8448x1024, .f32⟩
  | 53 => ⟨S2x8x8448x1024, .f32⟩
  | 54 => ⟨S2x8x8448x1024, .f32⟩
  | 55 => ⟨S_, .f32⟩
  | 56 => ⟨S2x8x8448x1024, .f32⟩
  | 57 => ⟨S2x8x8448x1024, .f32⟩
  | 58 => ⟨S2x8x8448x1024, .f32⟩
  | 59 => ⟨S2x8x8448x1024, .f32⟩
  | 60 => ⟨S2x8x8448x1024, .i1⟩
  | 61 => ⟨S2x8x8448x1024, .f32⟩
  | 62 => ⟨S2x8x8448x1024, .f32⟩
  | 63 => ⟨S2x8x8448x1024, .f32⟩
  | 64 => ⟨S2x8x8448x1024, .f32⟩
  | 65 => ⟨S2x8x8448x1024, .f32⟩
  | 66 => ⟨S2x8x8448x1024, .f32⟩
  | 67 => ⟨S2x8x8448x1024, .f32⟩
  | 68 => ⟨S2x8x8448x1024, .f32⟩
  | 69 => ⟨S2x8x8448x1024, .f32⟩
  | 70 => ⟨S_, .f32⟩
  | 71 => ⟨S2x8x8448x1024, .f32⟩
  | 72 => ⟨S2x8x8448x1024, .f32⟩
  | 73 => ⟨S2x8x8448x1024, .f32⟩
  | 74 => ⟨S2x8x8448x1024, .f32⟩
  | 75 => ⟨S2x64x8x8448, .f32⟩
  | 76 => ⟨S2x8x8448x64, .f32⟩
  | 77 => ⟨S2x8x8448x1024, .f32⟩
  | 78 => ⟨S2x1x1x1024, .f32⟩
  | 79 => ⟨S2x8x8448x1024, .f32⟩
  | 80 => ⟨S2x8x8448x1024, .f32⟩
  | 81 => ⟨S2x8x8448x1024, .f32⟩
  | 82 => ⟨S2x8x8448x1024, .f32⟩
  | 83 => ⟨S_, .f32⟩
  | 84 => ⟨S2x8x8448x1024, .f32⟩
  | 85 => ⟨S2x8x8448x1024, .f32⟩
  | 86 => ⟨S_, .f32⟩
  | 87 => ⟨S2x8x8448x1024, .f32⟩
  | 88 => ⟨S2x8x8448x1024, .f32⟩
  | 89 => ⟨S1x1x1024, .f32⟩
  | 90 => ⟨S8x8448x1024, .f32⟩
  | 91 => ⟨S8x8448x1024, .f32⟩
  | 92 => ⟨S8x8448x16x64, .f32⟩
  | 93 => ⟨S8x8448x16x64, .f32⟩
  | 94 => ⟨S_, .f32⟩
  | 95 => ⟨S8x8448x16, .f32⟩
  | 96 => ⟨S8x8448x16x1, .f32⟩
  | 97 => ⟨S8x8448x16x1, .f32⟩
  | 98 => ⟨S_, .f32⟩
  | 99 => ⟨S8x8448x16x1, .f32⟩
  | 100 => ⟨S8x8448x16x1, .f32⟩
  | 101 => ⟨S8x8448x16x64, .f32⟩
  | 102 => ⟨S8x8448x16x64, .f32⟩
  | 103 => ⟨S1x8x8448x1024, .f32⟩
  | 104 => ⟨S_, .f32⟩
  | 105 => ⟨S2x8x8448x1024, .f32⟩
  | 106 => ⟨S2x8x8448x1024, .f32⟩
  | 107 => ⟨S1x1x1x1024, .f32⟩
  | 108 => ⟨S2x8x8448x1024, .f32⟩
  | 109 => ⟨S2x8x8448x1024, .f32⟩
  | 110 => ⟨S_, .f32⟩
  | 111 => ⟨S2x8x8448x1024, .f32⟩
  | 112 => ⟨S2x8x8448x1024, .f32⟩
  | 113 => ⟨S2x8x8448x1024, .f32⟩
  | 114 => ⟨S2x8x8448x1024, .f32⟩
  | 115 => ⟨S8x8448x16x64, .f32⟩
  | 116 => ⟨S1x8x8448x16x64, .f32⟩
  | 117 => ⟨S2x8x8448x16x64, .f32⟩
  | 118 => ⟨S2x8x8448x16x64, .f32⟩
  | 119 => ⟨S2x8x8448x16x64, .f32⟩
  | 120 => ⟨S1x1x1x16x64, .f32⟩
  | 121 => ⟨S2x8x8448x16x64, .f32⟩
  | 122 => ⟨S2x8x8448x16x64, .f32⟩
  | 123 => ⟨S_, .f32⟩
  | 124 => ⟨S2x8x8448x16, .f32⟩
  | 125 => ⟨S2x8x8448x16x1, .f32⟩
  | 126 => ⟨S_, .f32⟩
  | 127 => ⟨S8x8448x16x1, .f32⟩
  | _ => ⟨S8x8448x1024, .f32⟩

abbrev hbmTy0_2 (i : Nat) : BufTy := match i % 128 with
  | 0 => ⟨S8x8448x16x64, .f32⟩
  | 1 => ⟨S8x8448x16x64, .f32⟩
  | 2 => ⟨S8x8448x16x64, .f32⟩
  | 3 => ⟨S8x8448x1024, .f32⟩
  | 4 => ⟨S8x8448x1024, .f32⟩
  | 5 => ⟨S1x8x8448x1024, .f32⟩
  | 6 => ⟨S2x8x8448x1024, .f32⟩
  | 7 => ⟨S2x8x8448x1024, .f32⟩
  | 8 => ⟨S1x8x8448x1024, .f32⟩
  | 9 => ⟨S8x8448x1024, .f32⟩
  | 10 => ⟨S1x8x8448x1024, .f32⟩
  | 11 => ⟨S8x8448x1024, .f32⟩
  | 12 => ⟨S1x8x8448x1024, .f32⟩
  | 13 => ⟨S8x8448x1024, .f32⟩
  | 14 => ⟨S1x8x8448x1024, .f32⟩
  | 15 => ⟨S8x8448x1024, .f32⟩
  | 16 => ⟨S1x8x8448x1024, .f32⟩
  | 17 => ⟨S8x8448x1024, .f32⟩
  | 18 => ⟨S1x8x8448x1024, .f32⟩
  | 19 => ⟨S8x8448x1024, .f32⟩
  | _ => ⟨S8x8448x1024, .f32⟩

abbrev hbmTy (i : Nat) : BufTy := match i / 128 with
  | 0 => hbmTy0_0 i
  | 1 => hbmTy0_1 i
  | 2 => hbmTy0_2 i
  | _ => ⟨S8x8448x1024, .f32⟩

abbrev bufTy : (tb : Table) → Fin (tcTables nBuf tb) → BufTy
  | .hbm, ⟨i, _⟩ => hbmTy i
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c : Ref sig .tc := ⟨.hbm, 81, rfl⟩
abbrev main_call0_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_8 : Ref sig .tc := ⟨.hbm, 91, rfl⟩
abbrev main_call1_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_call2_v5 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_10 : Ref sig .tc := ⟨.hbm, 167, rfl⟩
abbrev main_v127 : Ref sig .tc := ⟨.hbm, 168, rfl⟩
abbrev main_v128 : Ref sig .tc := ⟨.hbm, 169, rfl⟩
abbrev main_cst_11 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_v7 : Ref sig .tc := ⟨.hbm, 191, rfl⟩
abbrev main_call3_v8 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_v141 : Ref sig .tc := ⟨.hbm, 196, rfl⟩
abbrev main_v142 : Ref sig .tc := ⟨.hbm, 197, rfl⟩
abbrev main_cst_12 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_13 : Ref sig .tc := ⟨.hbm, 211, rfl⟩
abbrev main_v155 : Ref sig .tc := ⟨.hbm, 212, rfl⟩
abbrev main_v156 : Ref sig .tc := ⟨.hbm, 213, rfl⟩
abbrev main_cst_14 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_15 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_16 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_17 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_18 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_19 : Ref sig .tc := ⟨.hbm, 251, rfl⟩
abbrev main_v189 : Ref sig .tc := ⟨.hbm, 252, rfl⟩
abbrev main_v190 : Ref sig .tc := ⟨.hbm, 253, rfl⟩
abbrev main_cst_20 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩

abbrev nD : Nat := 1
abbrev τ : Topo := Topo.v7x

variable {F : FTy → Type} [FloatOps F]
-- ==== Kernel5.lean ====
abbrev S8x8448x1024 : Shape := ⟨3, ![8, 8448, 1024]⟩
abbrev S8x2x1x3072 : Shape := ⟨4, ![8, 2, 1, 3072]⟩
abbrev S1024 : Shape := ⟨1, ![1024]⟩
abbrev S1024x1024 : Shape := ⟨2, ![1024, 1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x1024 : Shape := ⟨2, ![1, 1024]⟩
abbrev S3x1024 : Shape := ⟨2, ![3, 1024]⟩
abbrev S8x1024 : Shape := ⟨2, ![8, 1024]⟩
abbrev S1x256x1024 : Shape := ⟨3, ![1, 256, 1024]⟩
abbrev S1x1x1x3072 : Shape := ⟨4, ![1, 1, 1, 3072]⟩
abbrev S256x1024 : Shape := ⟨2, ![256, 1024]⟩
abbrev S256x128 : Shape := ⟨2, ![256, 128]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 47
  | .vmem => 18
  | .smem => 0
  | _ => 0

abbrev bufTy : (tb : Table) → Fin (tcTables nBuf tb) → BufTy
  | .hbm, ⟨0, _⟩ => ⟨S8x8448x1024, .f32⟩
  | .hbm, ⟨1, _⟩ => ⟨S8x8448x1024, .f32⟩
  | .hbm, ⟨2, _⟩ => ⟨S8x8448x1024, .f32⟩
  | .hbm, ⟨3, _⟩ => ⟨S8x8448x1024, .f32⟩
  | .hbm, ⟨4, _⟩ => ⟨S8x8448x1024, .f32⟩
  | .hbm, ⟨5, _⟩ => ⟨S8x2x1x3072, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .i32⟩
  | .hbm, ⟨11, _⟩ => ⟨S1024x1, .i32⟩
  | .hbm, ⟨12, _⟩ => ⟨S_, .i32⟩
  | .hbm, ⟨13, _⟩ => ⟨S_, .i32⟩
  | .hbm, ⟨14, _⟩ => ⟨S1024x1, .i32⟩
  | .hbm, ⟨15, _⟩ => ⟨S1024x1, .i32⟩
  | .hbm, ⟨16, _⟩ => ⟨S1024x1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1024x1, .i32⟩
  | .hbm, ⟨21, _⟩ => ⟨S1024x1, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S1024x1, .i1⟩
  | .hbm, ⟨26, _⟩ => ⟨S_, .i32⟩
  | .hbm, ⟨27, _⟩ => ⟨S1024x1, .i32⟩
  | .hbm, ⟨28, _⟩ => ⟨S1024x1, .i32⟩
  | .hbm, ⟨29, _⟩ => ⟨S1024x1, .i32⟩
  | .hbm, ⟨30, _⟩ => ⟨S128, .i32⟩
  | .hbm, ⟨31, _⟩ => ⟨S1x128, .i32⟩
  | .hbm, ⟨32, _⟩ => ⟨S1024x128, .i32⟩
  | .hbm, ⟨33, _⟩ => ⟨S1024x128, .i32⟩
  | .hbm, ⟨34, _⟩ => ⟨S1024x128, .i1⟩
  | .hbm, ⟨35, _⟩ => ⟨S1024x128, .bf16⟩
  | .hbm, ⟨36, _⟩ => ⟨S128x1024, .i1⟩
  | .hbm, ⟨37, _⟩ => ⟨S128x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S3x1024, .f32⟩
  | .hbm, ⟨42, _⟩ => ⟨S_, .i32⟩
  | .hbm, ⟨43, _⟩ => ⟨S_, .f32⟩
  | .hbm, ⟨44, _⟩ => ⟨S8x1024, .f32⟩
  | .hbm, ⟨45, _⟩ => ⟨S1024x1024, .bf16⟩
  | .hbm, ⟨46, _⟩ => ⟨S8x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1x3072, .f32⟩
  | .local _ .vmem, ⟨11, _⟩ => ⟨S1x1x1x3072, .f32⟩
  | .local _ .vmem, ⟨12, _⟩ => ⟨S8x1024, .f32⟩
  | .local _ .vmem, ⟨13, _⟩ => ⟨S1024x1024, .bf16⟩
  | .local _ .vmem, ⟨14, _⟩ => ⟨S1024x128, .bf16⟩
  | .local _ .vmem, ⟨15, _⟩ => ⟨S128x1024, .bf16⟩
  | .local _ .vmem, ⟨16, _⟩ => ⟨S1x256x1024, .f32⟩
  | .local _ .vmem, ⟨17, _⟩ => ⟨S1x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_0 : Ref sig .tc := ⟨.hbm, 42, rfl⟩
abbrev main_call1_v0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S8x8448x1024 : Shape := ⟨3, ![8, 8448, 1024]⟩
abbrev S8x2x1x3072 : Shape := ⟨4, ![8, 2, 1, 3072]⟩
abbrev S1024 : Shape := ⟨1, ![1024]⟩
abbrev S1024x1024 : Shape := ⟨2, ![1024, 1024]⟩
abbrev S8x8448x16x64 : Shape := ⟨4, ![8, 8448, 16, 64]⟩
abbrev S_ : Shape := ⟨0, ![]⟩
abbrev S8x8448x16 : Shape := ⟨3, ![8, 8448, 16]⟩
abbrev S8x8448x16x1 : Shape := ⟨4, ![8, 8448, 16, 1]⟩
abbrev S1x1x1024 : Shape := ⟨3, ![1, 1, 1024]⟩
abbrev S8x8448 : Shape := ⟨2, ![8, 8448]⟩
abbrev S8x8448x1 : Shape := ⟨3, ![8, 8448, 1]⟩
abbrev S8x1x1x3072 : Shape := ⟨4, ![8, 1, 1, 3072]⟩
abbrev S8x3072 : Shape := ⟨2, ![8, 3072]⟩
abbrev S8x1024 : Shape := ⟨2, ![8, 1024]⟩
abbrev S8x1x1024 : Shape := ⟨3, ![8, 1, 1024]⟩
abbrev S8x256x1024 : Shape := ⟨3, ![8, 256, 1024]⟩
abbrev S8x8192x1024 : Shape := ⟨3, ![8, 8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x8448x1024, .f32⟩
  | .hbm, ⟨2, _⟩ => ⟨S8x8448x1024, .f32⟩
  | .hbm, ⟨3, _⟩ => ⟨S8x8448x1024, .f32⟩
  | .hbm, ⟨4, _⟩ => ⟨S8x8448x1024, .f32⟩
  | .hbm, ⟨5, _⟩ => ⟨S8x2x1x3072, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S8x8448x1024, .f32⟩
  | .hbm, ⟨11, _⟩ => ⟨S8x8448x16x64, .f32⟩
  | .hbm, ⟨12, _⟩ => ⟨S_, .f32⟩
  | .hbm, ⟨13, _⟩ => ⟨S8x8448x16, .f32⟩
  | .hbm, ⟨14, _⟩ => ⟨S8x8448x16x1, .f32⟩
  | .hbm, ⟨15, _⟩ => ⟨S_, .f32⟩
  | .hbm, ⟨16, _⟩ => ⟨S8x8448x16x1, .f32⟩
  | .hbm, ⟨17, _⟩ => ⟨S8x8448x16x1, .f32⟩
  | .hbm, ⟨18, _⟩ => ⟨S8x8448x16x64, .f32⟩
  | .hbm, ⟨19, _⟩ => ⟨S8x8448x16x64, .f32⟩
  | .hbm, ⟨20, _⟩ => ⟨S8x8448x16x64, .f32⟩
  | .hbm, ⟨21, _⟩ => ⟨S_, .f32⟩
  | .hbm, ⟨22, _⟩ => ⟨S8x8448x16, .f32⟩
  | .hbm, ⟨23, _⟩ => ⟨S8x8448x16x1, .f32⟩
  | .hbm, ⟨24, _⟩ => ⟨S_, .f32⟩
  | .hbm, ⟨25, _⟩ => ⟨S8x8448x16x1, .f32⟩
  | .hbm, ⟨26, _⟩ => ⟨S8x8448x16x1, .f32⟩
  | .hbm, ⟨27, _⟩ => ⟨S8x8448x16x64, .f32⟩
  | .hbm, ⟨28, _⟩ => ⟨S8x8448x16x64, .f32⟩
  | .hbm, ⟨29, _⟩ => ⟨S_, .f32⟩
  | .hbm, ⟨30, _⟩ => ⟨S8x8448x16x1, .f32⟩
  | .hbm, ⟨31, _⟩ => ⟨S8x8448x16x1, .f32⟩
  | .hbm, ⟨32, _⟩ => ⟨S8x8448x16x1, .f32⟩
  | .hbm, ⟨33, _⟩ => ⟨S8x8448x16x64, .f32⟩
  | .hbm, ⟨34, _⟩ => ⟨S8x8448x16x64, .f32⟩
  | .hbm, ⟨35, _⟩ => ⟨S8x8448x1024, .f32⟩
  | .hbm, ⟨36, _⟩ => ⟨S1x1x1024, .f32⟩
  | .hbm, ⟨37, _⟩ => ⟨S8x8448x1024, .f32⟩
  | .hbm, ⟨38, _⟩ => ⟨S8x8448x1024, .f32⟩
  | .hbm, ⟨39, _⟩ => ⟨S1x1x1024, .f32⟩
  | .hbm, ⟨40, _⟩ => ⟨S8x8448x1024, .f32⟩
  | .hbm, ⟨41, _⟩ => ⟨S8x8448x1024, .f32⟩
  | .hbm, ⟨42, _⟩ => ⟨S8x8448x1024, .f32⟩
  | .hbm, ⟨43, _⟩ => ⟨S8x8448x1024, .f32⟩
  | .hbm, ⟨44, _⟩ => ⟨S8x8448x1024, .f32⟩
  | .hbm, ⟨45, _⟩ => ⟨S8x8448x1024, .f32⟩
  | .hbm, ⟨46, _⟩ => ⟨S_, .f32⟩
  | .hbm, ⟨47, _⟩ => ⟨S8x8448, .f32⟩
  | .hbm, ⟨48, _⟩ => ⟨S8x8448x1, .f32⟩
  | .hbm, ⟨49, _⟩ => ⟨S_, .f32⟩
  | .hbm, ⟨50, _⟩ => ⟨S8x8448x1, .f32⟩
  | .hbm, ⟨51, _⟩ => ⟨S8x8448x1, .f32⟩
  | .hbm, ⟨52, _⟩ => ⟨S_, .f32⟩
  | .hbm, ⟨53, _⟩ => ⟨S8x8448x1, .f32⟩
  | .hbm, ⟨54, _⟩ => ⟨S8x8448x1, .f32⟩
  | .hbm, ⟨55, _⟩ => ⟨S8x8448x1, .f32⟩
  | .hbm, ⟨56, _⟩ => ⟨S8x8448x1024, .f32⟩
  | .hbm, ⟨57, _⟩ => ⟨S8x8448x1024, .f32⟩
  | .hbm, ⟨58, _⟩ => ⟨S1x1x1024, .f32⟩
  | .hbm, ⟨59, _⟩ => ⟨S8x8448x1024, .f32⟩
  | .hbm, ⟨60, _⟩ => ⟨S8x8448x1024, .f32⟩
  | .hbm, ⟨61, _⟩ => ⟨S8x1x1x3072, .f32⟩
  | .hbm, ⟨62, _⟩ => ⟨S8x3072, .f32⟩
  | .hbm, ⟨63, _⟩ => ⟨S8x1024, .f32⟩
  | .hbm, ⟨64, _⟩ => ⟨S8x1024, .f32⟩
  | .hbm, ⟨65, _⟩ => ⟨S8x1024, .f32⟩
  | .hbm, ⟨66, _⟩ => ⟨S8x1x1024, .f32⟩
  | .hbm, ⟨67, _⟩ => ⟨S8x1x1x3072, .f32⟩
  | .hbm, ⟨68, _⟩ => ⟨S8x3072, .f32⟩
  | .hbm, ⟨69, _⟩ => ⟨S8x1024, .f32⟩
  | .hbm, ⟨70, _⟩ => ⟨S8x1024, .f32⟩
  | .hbm, ⟨71, _⟩ => ⟨S8x1024, .f32⟩
  | .hbm, ⟨72, _⟩ => ⟨S8x1x1024, .f32⟩
  | .hbm, ⟨73, _⟩ => ⟨S8x256x1024, .f32⟩
  | .hbm, ⟨74, _⟩ => ⟨S8x256x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x8192x1024, .f32⟩
  | .hbm, ⟨79, _⟩ => ⟨S8x8192x1024, .f32⟩
  | .hbm, ⟨80, _⟩ => ⟨S8x8192x1024, .f32⟩
  | .hbm, ⟨81, _⟩ => ⟨S8x8192x1024, .f32⟩
  | .hbm, ⟨82, _⟩ => ⟨S8x8192x1024, .f32⟩
  | .hbm, ⟨83, _⟩ => ⟨S8x8448x1024, .f32⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel6.lean ====
abbrev S8x8448x1024 : Shape := ⟨3, ![8, 8448, 1024]⟩
abbrev S8x256x1024 : Shape := ⟨3, ![8, 256, 1024]⟩
abbrev S1x256x128 : Shape := ⟨3, ![1, 256, 128]⟩
abbrev S1x128 : Shape := ⟨2, ![1, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S8x8448x1024, .bf16⟩
  | .hbm, ⟨3, _⟩ => ⟨S8x256x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S8x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x8448x1024 : Shape := ⟨3, ![8, 8448, 1024]⟩
abbrev S8x256x1024 : Shape := ⟨3, ![8, 256, 1024]⟩
abbrev S8x256x16x64 : Shape := ⟨4, ![8, 256, 16, 64]⟩
abbrev S8x16x256x256 : Shape := ⟨4, ![8, 16, 256, 256]⟩
abbrev S_ : Shape := ⟨0, ![]⟩
abbrev S8x16x256 : Shape := ⟨3, ![8, 16, 256]⟩
abbrev S8x16x256x1 : Shape := ⟨4, ![8, 16, 256, 1]⟩
abbrev S8x16x64x256 : Shape := ⟨4, ![8, 16, 64, 256]⟩

abbrev nBuf : Space → Nat
  | .hbm => 31
  | .vmem => 0
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S8x8448x1024, .bf16⟩
  | .hbm, ⟨3, _⟩ => ⟨S8x8448x1024, .f32⟩
  | .hbm, ⟨4, _⟩ => ⟨S8x8448x1024, .f32⟩
  | .hbm, ⟨5, _⟩ => ⟨S8x8448x1024, .f32⟩
  | .hbm, ⟨6, _⟩ => ⟨S8x256x1024, .f32⟩
  | .hbm, ⟨7, _⟩ => ⟨S8x256x16x64, .f32⟩
  | .hbm, ⟨8, _⟩ => ⟨S8x256x1024, .f32⟩
  | .hbm, ⟨9, _⟩ => ⟨S8x256x16x64, .f32⟩
  | .hbm, ⟨10, _⟩ => ⟨S8x256x1024, .f32⟩
  | .hbm, ⟨11, _⟩ => ⟨S8x256x16x64, .f32⟩
  | .hbm, ⟨12, _⟩ => ⟨S8x16x256x256, .f32⟩
  | .hbm, ⟨13, _⟩ => ⟨S_, .f32⟩
  | .hbm, ⟨14, _⟩ => ⟨S8x16x256, .f32⟩
  | .hbm, ⟨15, _⟩ => ⟨S_, .f32⟩
  | .hbm, ⟨16, _⟩ => ⟨S8x16x256, .f32⟩
  | .hbm, ⟨17, _⟩ => ⟨S8x16x256, .f32⟩
  | .hbm, ⟨18, _⟩ => ⟨S8x16x256x1, .f32⟩
  | .hbm, ⟨19, _⟩ => ⟨S8x16x256x256, .f32⟩
  | .hbm, ⟨20, _⟩ => ⟨S8x16x256x256, .f32⟩
  | .hbm, ⟨21, _⟩ => ⟨S8x16x256x256, .f32⟩
  | .hbm, ⟨22, _⟩ => ⟨S_, .f32⟩
  | .hbm, ⟨23, _⟩ => ⟨S8x16x256, .f32⟩
  | .hbm, ⟨24, _⟩ => ⟨S8x16x256x1, .f32⟩
  | .hbm, ⟨25, _⟩ => ⟨S8x16x256x256, .f32⟩
  | .hbm, ⟨26, _⟩ => ⟨S8x16x256x256, .f32⟩
  | .hbm, ⟨27, _⟩ => ⟨S8x16x64x256, .f32⟩
  | .hbm, ⟨28, _⟩ => ⟨S8x256x16x64, .f32⟩
  | .hbm, ⟨29, _⟩ => ⟨S8x256x1024, .f32⟩
  | .hbm, ⟨30, _⟩ => ⟨S8x256x1024, .bf16⟩
  | _, _ => ⟨S8x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel7.lean ====
abbrev S16x1024 : Shape := ⟨2, ![16, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x16x3072 : Shape := ⟨3, ![4, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S4x1024x3072 : Shape := ⟨3, ![4, 1024, 3072]⟩
abbrev S4x3072 : Shape := ⟨2, ![4, 3072]⟩
abbrev S4x3072x16 : Shape := ⟨3, ![4, 3072, 16]⟩
abbrev S4x16x3072 : Shape := ⟨3, ![4, 16, 3072]⟩
abbrev S4x1x3072 : Shape := ⟨3, ![4, 1, 3072]⟩

abbrev nBuf : Space → Nat
  | .hbm => 8
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x3072, .f32⟩
  | .hbm, ⟨2, _⟩ => ⟨S4x3072, .f32⟩
  | .hbm, ⟨3, _⟩ => ⟨S4x3072x16, .f32⟩
  | .hbm, ⟨4, _⟩ => ⟨S4x16x3072, .f32⟩
  | .hbm, ⟨5, _⟩ => ⟨S4x1x3072, .f32⟩
  | .hbm, ⟨6, _⟩ => ⟨S4x16x3072, .f32⟩
  | .hbm, ⟨7, _⟩ => ⟨S4x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.MixFrameIdeal.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes an argument: the region finds it as launched. -/
theorem V_kept (c : Dev nD) (b : Ref sig .tc) (hb : b ∈ ([main_arg0, main_arg1, main_arg2, main_arg3, main_arg4, main_arg5, main_arg6, main_arg7, main_arg8, main_arg9, main_arg10, main_arg11, main_arg12, main_arg13, main_arg14, main_arg15, main_arg16, main_arg17] : List (Ref sig .tc))) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by rintro rfl; exact absurd hb (by decide))))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)
theorem V_main_arg5 (c : Dev nD) : V m c main_arg5 = m ((c : Thread nD τ).loc main_arg5) := V_kept m c _ (by decide)
theorem V_main_arg6 (c : Dev nD) : V m c main_arg6 = m ((c : Thread nD τ).loc main_arg6) := V_kept m c _ (by decide)
theorem V_main_arg7 (c : Dev nD) : V m c main_arg7 = m ((c : Thread nD τ).loc main_arg7) := V_kept m c _ (by decide)
theorem V_main_arg8 (c : Dev nD) : V m c main_arg8 = m ((c : Thread nD τ).loc main_arg8) := V_kept m c _ (by decide)
theorem V_main_arg9 (c : Dev nD) : V m c main_arg9 = m ((c : Thread nD τ).loc main_arg9) := V_kept m c _ (by decide)
theorem V_main_arg10 (c : Dev nD) : V m c main_arg10 = m ((c : Thread nD τ).loc main_arg10) := V_kept m c _ (by decide)
theorem V_main_arg11 (c : Dev nD) : V m c main_arg11 = m ((c : Thread nD τ).loc main_arg11) := V_kept m c _ (by decide)
theorem V_main_arg12 (c : Dev nD) : V m c main_arg12 = m ((c : Thread nD τ).loc main_arg12) := V_kept m c _ (by decide)
theorem V_main_arg13 (c : Dev nD) : V m c main_arg13 = m ((c : Thread nD τ).loc main_arg13) := V_kept m c _ (by decide)
theorem V_main_arg14 (c : Dev nD) : V m c main_arg14 = m ((c : Thread nD τ).loc main_arg14) := V_kept m c _ (by decide)
theorem V_main_arg15 (c : Dev nD) : V m c main_arg15 = m ((c : Thread nD τ).loc main_arg15) := V_kept m c _ (by decide)
theorem V_main_arg16 (c : Dev nD) : V m c main_arg16 = m ((c : Thread nD τ).loc main_arg16) := V_kept m c _ (by decide)
theorem V_main_arg17 (c : Dev nD) : V m c main_arg17 = m ((c : Thread nD τ).loc main_arg17) := V_kept m c _ (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's (here window 0's) current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 17).trans (((dats 0 c).arrAt_in 17 rfl _).trans ((hA c 17).trans (V_main_arg17 m c)))⟩) h

/-! ## The body's accesses -/

abbrev r0_0 : Rect S1x1x1x3072 := Rect.unit (s := S1x1x1x3072) ![0, 0, 0, 0] S1x1x1x1024.size inb_S1x1x1x3072_S1x1x1x1024_0_0_0_0
abbrev r0_1 : Rect S1x1x1x3072 := Rect.unit (s := S1x1x1x3072) ![0, 0, 0, 1024] S1x1x1x1024.size inb_S1x1x1x3072_S1x1x1x1024_0_0_0_1024
abbrev r0_2 : Rect S16x1024 := Rect.unit (s := S16x1024) ![0, 0] S1x1024.size inb_S16x1024_S1x1024_0_0
abbrev r0_3 : Rect S1x256x1024 := Rect.unit (s := S1x256x1024) ![0, 0, 0] S1x256x1024.size inb_S1x256x1024_S1x256x1024_0_0_0
abbrev r0_4 : Rect S1x8x1024 := Rect.unit (s := S1x8x1024) ![0, 0, 0] S1x8x1024.size inb_S1x8x1024_S1x8x1024_0_0_0
abbrev r0_5 : Rect S16x1024 := Rect.unit (s := S16x1024) ![1, 0] S1x1024.size inb_S16x1024_S1x1024_1_0
abbrev r0_6 : Rect S1024x1024 := Rect.unit (s := S1024x1024) ![0, 0] S1024x1024.size inb_S1024x1024_S1024x1024_0_0
abbrev r0_7 : Rect S16x1024 := Rect.unit (s := S16x1024) ![3, 0] S1x1024.size inb_S16x1024_S1x1024_3_0
abbrev r0_8 : Rect S16x1024 := Rect.unit (s := S16x1024) ![4, 0] S1x1024.size inb_S16x1024_S1x1024_4_0
abbrev r0_9 : Rect S16x1024 := Rect.unit (s := S16x1024) ![6, 0] S1x1024.size inb_S16x1024_S1x1024_6_0
abbrev r0_10 : Rect S1024x128 := Rect.unit (s := S1024x128) ![0, 0] S1024x128.size inb_S1024x128_S1024x128_0_0
abbrev r0_11 : Rect S128x1024 := Rect.unit (s := S128x1024) ![0, 0] S128x1024.size inb_S128x1024_S128x1024_0_0
abbrev r0_12 : Rect S16x1024 := Rect.unit (s := S16x1024) ![14, 0] S1x1024.size inb_S16x1024_S1x1024_14_0
abbrev r0_13 : Rect S16x1024 := Rect.unit (s := S16x1024) ![2, 0] S1x1024.size inb_S16x1024_S1x1024_2_0
abbrev r0_14 : Rect S16x1024 := Rect.unit (s := S16x1024) ![5, 0] S1x1024.size inb_S16x1024_S1x1024_5_0
abbrev r0_15 : Rect S16x1024 := Rect.unit (s := S16x1024) ![7, 0] S1x1024.size inb_S16x1024_S1x1024_7_0
abbrev r0_16 : Rect S16x1024 := Rect.unit (s := S16x1024) ![8, 0] S1x1024.size inb_S16x1024_S1x1024_8_0
abbrev r0_17 : Rect S16x1024 := Rect.unit (s := S16x1024) ![10, 0] S1x1024.size inb_S16x1024_S1x1024_10_0
abbrev r0_18 : Rect S2x128x1024 := Rect.unit (s := S2x128x1024) ![0, 0, 0] S1x128x1024.size inb_S2x128x1024_S1x128x1024_0_0_0
abbrev r0_19 : Rect S16x1024 := Rect.unit (s := S16x1024) ![12, 0] S1x1024.size inb_S16x1024_S1x1024_12_0
abbrev r0_20 : Rect S16x1024 := Rect.unit (s := S16x1024) ![11, 0] S1x1024.size inb_S16x1024_S1x1024_11_0
abbrev r0_21 : Rect S2x128x1024 := Rect.unit (s := S2x128x1024) ![1, 0, 0] S1x128x1024.size inb_S2x128x1024_S1x128x1024_1_0_0
abbrev r0_22 : Rect S16x1024 := Rect.unit (s := S16x1024) ![13, 0] S1x1024.size inb_S16x1024_S1x1024_13_0
abbrev r0_23 : Rect S16x1024 := Rect.unit (s := S16x1024) ![9, 0] S1x1024.size inb_S16x1024_S1x1024_9_0

/-! ## What the body leaves in each output window's buffer -/

/-! ### Values of the body that the stores' payloads, spelt out, would write more than once

    Each is a vector the body binds (often a part call's result), stated over the input windows' blocks and
    numbered on from the skeleton's payload functions (`k0_pay50` …, after `k0_pay49`), so that
    `out0_W` and the values after it name it instead of spelling it out; the comment after each is the printed function's
    name for the value (a count appended where that name is bound again). -/

def k0_pay50 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay2 (View.ld x3 r0_0) -- `v1`
def k0_pay51 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay3 (View.ld x3 r0_1) -- `v3`
def k0_pay52 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay4 (View.ld x4 r0_2) -- `v5`
def k0_pay53 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay5 (View.ld x3 r0_0) (View.ld x3 r0_1) (View.ld x4 r0_2) (View.ld x0 r0_3) -- `v25`
def k0_pay54 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : IVec S256x1 32 :=
  iota .tc S256x1 32 [0] iota_S256x1_d0_w32 -- `v76`
def k0_pay55 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay8 (BitVec.ofNat 32 (i 1).val) (k0_pay50 i x0 x1 x2 x3 x4 x5 x6 x7 x8 x9 x10 x11 x12 x13 x14 x15 x16 x17) (k0_pay51 i x0 x1 x2 x3 x4 x5 x6 x7 x8 x9 x10 x11 x12 x13 x14 x15 x16 x17) (k0_pay52 i x0 x1 x2 x3 x4 x5 x6 x7 x8 x9 x10 x11 x12 x13 x14 x15 x16 x17) (k0_pay6 (View.ld x1 r0_4)) (k0_pay7 (View.ld x1 r0_4)) -- `v70`
def k0_pay56 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay9 (BitVec.ofNat 32 (i 1).val) (k0_pay50 i x0 x1 x2 x3 x4 x5 x6 x7 x8 x9 x10 x11 x12 x13 x14 x15 x16 x17) (k0_pay51 i x0 x1 x2 x3 x4 x5 x6 x7 x8 x9 x10 x11 x12 x13 x14 x15 x16 x17) (k0_pay52 i x0 x1 x2 x3 x4 x5 x6 x7 x8 x9 x10 x11 x12 x13 x14 x15 x16 x17) (View.ld x2 r0_4) -- `v75`
def k0_pay57 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : IVec S256x1 1 :=
  k0_pay10 -- `v78`
def k0_pay58 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay11 (k0_pay53 i x0 x1 x2 x3 x4 x5 x6 x7 x8 x9 x10 x11 x12 x13 x14 x15 x16 x17) -- `v79`
def k0_pay59 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay12 (k0_pay53 i x0 x1 x2 x3 x4 x5 x6 x7 x8 x9 x10 x11 x12 x13 x14 x15 x16 x17) (k0_pay55 i x0 x1 x2 x3 x4 x5 x6 x7 x8 x9 x10 x11 x12 x13 x14 x15 x16 x17) (k0_pay56 i x0 x1 x2 x3 x4 x5 x6 x7 x8 x9 x10 x11 x12 x13 x14 x15 x16 x17) (k0_pay54 i x0 x1 x2 x3 x4 x5 x6 x7 x8 x9 x10 x11 x12 x13 x14 x15 x16 x17) (k0_pay57 i x0 x1 x2 x3 x4 x5 x6 x7 x8 x9 x10 x11 x12 x13 x14 x15 x16 x17) (k0_pay58 i x0 x1 x2 x3 x4 x5 x6 x7 x8 x9 x10 x11 x12 x13 x14 x15 x16 x17) -- `v96`
def k0_pay60 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay13 (k0_pay53 i x0 x1 x2 x3 x4 x5 x6 x7 x8 x9 x10 x11 x12 x13 x14 x15 x16 x17) (k0_pay55 i x0 x1 x2 x3 x4 x5 x6 x7 x8 x9 x10 x11 x12 x13 x14 x15 x16 x17) (k0_pay56 i x0 x1 x2 x3 x4 x5 x6 x7 x8 x9 x10 x11 x12 x13 x14 x15 x16 x17) (k0_pay54 i x0 x1 x2 x3 x4 x5 x6 x7 x8 x9 x10 x11 x12 x13 x14 x15 x16 x17) (k0_pay57 i x0 x1 x2 x3 x4 x5 x6 x7 x8 x9 x10 x11 x12 x13 x14 x15 x16 x17) (k0_pay58 i x0 x1 x2 x3 x4 x5 x6 x7 x8 x9 x10 x11 x12 x13 x14 x15 x16 x17) (View.ld x4 r0_5) (View.ld x5 r0_6) -- `v105`
def k0_pay61 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay14 (k0_pay53 i x0 x1 x2 x3 x4 x5 x6 x7 x8 x9 x10 x11 x12 x13 x14 x15 x16 x17) (k0_pay55 i x0 x1 x2 x3 x4 x5 x6 x7 x8 x9 x10 x11 x12 x13 x14 x15 x16 x17) (k0_pay56 i x0 x1 x2 x3 x4 x5 x6 x7 x8 x9 x10 x11 x12 x13 x14 x15 x16 x17) (k0_pay54 i x0 x1 x2 x3 x4 x5 x6 x7 x8 x9 x10 x11 x12 x13 x14 x15 x16 x17) (k0_pay57 i x0 x1 x2 x3 x4 x5 x6 x7 x8 x9 x10 x11 x12 x13 x14 x15 x16 x17) (k0_pay58 i x0 x1 x2 x3 x4 x5 x6 x7 x8 x9 x10 x11 x12 x13 x14 x15 x16 x17) (View.ld x4 r0_7) (View.ld x6 r0_6) -- `v114`
def k0_pay62 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .bf16 :=
  k0_pay15 (k0_pay53 i x0 x1 x2 x3 x4 x5 x6 x7 x8 x9 x10 x11 x12 x13 x14 x15 x16 x17) (k0_pay55 i x0 x1 x2 x3 x4 x5 x6 x7 x8 x9 x10 x11 x12 x13 x14 x15 x16 x17) (k0_pay56 i x0 x1 x2 x3 x4 x5 x6 x7 x8 x9 x10 x11 x12 x13 x14 x15 x16 x17) (k0_pay54 i x0 x1 x2 x3 x4 x5 x6 x7 x8 x9 x10 x11 x12 x13 x14 x15 x16 x17) (k0_pay57 i x0 x1 x2 x3 x4 x5 x6 x7 x8 x9 x10 x11 x12 x13 x14 x15 x16 x17) (k0_pay58 i x0 x1 x2 x3 x4 x5 x6 x7 x8 x9 x10 x11 x12 x13 x14 x15 x16 x17) (View.ld x4 r0_8) -- `v120`
def k0_pay63 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1024x1024 .bf16 :=
  k0_pay16 (View.ld x7 r0_6) -- `v122`
def k0_pay64 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay21 (k0_pay17 (k0_pay62 i x0 x1 x2 x3 x4 x5 x6 x7 x8 x9 x10 x11 x12 x13 x14 x15 x16 x17) (k0_pay63 i x0 x1 x2 x3 x4 x5 x6 x7 x8 x9 x10 x11 x12 x13 x14 x15 x16 x17)) (k0_pay19 (k0_pay62 i x0 x1 x2 x3 x4 x5 x6 x7 x8 x9 x10 x11 x12 x13 x14 x15 x16 x17) (k0_pay63 i x0 x1 x2 x3 x4 x5 x6 x7 x8 x9 x10 x11 x12 x13 x14 x15 x16 x17) (View.ld x17 r0_3)) (k0_pay20 (k0_pay62 i x0 x1 x2 x3 x4 x5 x6 x7 x8 x9 x10 x11 x12 x13 x14 x15 x16 x17) (View.ld x15 r0_10) (View.ld x16 r0_11) (View.ld x4 r0_12)) (Scalar.ofBits .f32 0x3F800000#32) -- `v163`
def k0_pay65 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x128 .bf16 :=
  k0_pay22 (k0_pay53 i x0 x1 x2 x3 x4 x5 x6 x7 x8 x9 x10 x11 x12 x13 x14 x15 x16 x17) (k0_pay59 i x0 x1 x2 x3 x4 x5 x6 x7 x8 x9 x10 x11 x12 x13 x14 x15 x16 x17) (View.ld x4 r0_13) (View.ld x9 r0_10) -- `v174`
def k0_pay66 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x128 .bf16 :=
  k0_pay23 (k0_pay53 i x0 x1 x2 x3 x4 x5 x6 x7 x8 x9 x10 x11 x12 x13 x14 x15 x16 x17) (k0_pay59 i x0 x1 x2 x3 x4 x5 x6 x7 x8 x9 x10 x11 x12 x13 x14 x15 x16 x17) (View.ld x4 r0_14) (View.ld x11 r0_10) -- `v184`
def k0_pay67 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S128x1024 .bf16 :=
  k0_pay25 (View.ld x14 r0_11) -- `v188`
def k0_pay68 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S256x1024 .f32 :=
  k0_pay29 (k0_pay67 i x0 x1 x2 x3 x4 x5 x6 x7 x8 x9 x10 x11 x12 x13 x14 x15 x16 x17) (k0_pay26 (k0_pay61 i x0 x1 x2 x3 x4 x5 x6 x7 x8 x9 x10 x11 x12 x13 x14 x15 x16 x17) (View.ld x4 r0_15)) (k0_pay27 (k0_pay61 i x0 x1 x2 x3 x4 x5 x6 x7 x8 x9 x10 x11 x12 x13 x14 x15 x16 x17) (View.ld x13 r0_10) (View.ld x4 r0_15)) (k0_pay28 (k0_pay61 i x0 x1 x2 x3 x4 x5 x6 x7 x8 x9 x10 x11 x12 x13 x14 x15 x16 x17) (View.ld x13 r0_10) (View.ld x4 r0_15)) -- `v211`
def k0_pay69 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay30 (View.ld x4 r0_16) -- `v213`
def k0_pay70 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : FVec F S1x1024 .f32 :=
  k0_pay32 (View.ld x4 r0_19) -- `v236`

/-- Window 18's staging buffer after the body, from the input windows' blocks: its 1 store as pieces, LAST
    FIRST (Lib/Pipeline/FrameBody.lean `View.canon`; the payloads are the skeleton's and the values stated above). -/
def out0_18 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay45 (k0_pay60 i x0 x1 x2 x3 x4 x5 x6 x7 x8 x9 x10 x11 x12 x13 x14 x15 x16 x17)⟩]

/-- Its stores tile the buffer (checked by evaluation), so they cover it. -/
theorem cover0_18 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay46 (k0_pay64 i x0 x1 x2 x3 x4 x5 x6 x7 x8 x9 x10 x11 x12 x13 x14 x15 x16 x17)⟩]

/-- Its stores tile the buffer (checked by evaluation), so they cover it. -/
theorem cover0_19 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 20's staging buffer after the body, from the input windows' blocks: its 1 store as pieces, LAST
    FIRST (Lib/Pipeline/FrameBody.lean `View.canon`; the payloads are the skeleton's and the values stated above). -/
def out0_20 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay47 (k0_pay68 i x0 x1 x2 x3 x4 x5 x6 x7 x8 x9 x10 x11 x12 x13 x14 x15 x16 x17)⟩]

/-- Its stores tile the buffer (checked by evaluation), so they cover it. -/
theorem cover0_20 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay48 (k0_pay18 (k0_pay53 i x0 x1 x2 x3 x4 x5 x6 x7 x8 x9 x10 x11 x12 x13 x14 x15 x16 x17) (k0_pay59 i x0 x1 x2 x3 x4 x5 x6 x7 x8 x9 x10 x11 x12 x13 x14 x15 x16 x17) (View.ld x4 r0_9) (View.ld x8 r0_6))⟩]

/-- Its stores tile the buffer (checked by evaluation), so they cover it. -/
theorem cover0_21 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay1 (k0_pay49 (k0_pay60 i x0 x1 x2 x3 x4 x5 x6 x7 x8 x9 x10 x11 x12 x13 x14 x15 x16 x17) (k0_pay64 i x0 x1 x2 x3 x4 x5 x6 x7 x8 x9 x10 x11 x12 x13 x14 x15 x16 x17) (k0_pay24 (View.ld x13 r0_10)) (k0_pay67 i x0 x1 x2 x3 x4 x5 x6 x7 x8 x9 x10 x11 x12 x13 x14 x15 x16 x17) (k0_pay34 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (k0_pay70 i x0 x1 x2 x3 x4 x5 x6 x7 x8 x9 x10 x11 x12 x13 x14 x15 x16 x17) (View.ld x12 r0_18)) (k0_pay41 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (View.ld x4 r0_22) (View.ld x12 r0_21)) (View.ld x4 r0_23))⟩]

/-- Its stores tile the buffer (checked by evaluation), so they cover it. -/
theorem cover0_22 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay35 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (k0_pay70 i x0 x1 x2 x3 x4 x5 x6 x7 x8 x9 x10 x11 x12 x13 x14 x15 x16 x17) (View.ld x12 r0_18)⟩]

/-- Its stores tile the buffer (checked by evaluation), so they cover it. -/
theorem cover0_23 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay42 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (View.ld x4 r0_22) (View.ld x12 r0_21)⟩]

/-- Its stores tile the buffer (checked by evaluation), so they cover it. -/
theorem cover0_24 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 25's staging buffer after the body, from the input windows' blocks: its 1 store as pieces, LAST
    FIRST (Lib/Pipeline/FrameBody.lean `View.canon`; the payloads are the skeleton's and the values stated above). -/
def out0_25 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay36 (k0_pay66 i x0 x1 x2 x3 x4 x5 x6 x7 x8 x9 x10 x11 x12 x13 x14 x15 x16 x17) (k0_pay68 i x0 x1 x2 x3 x4 x5 x6 x7 x8 x9 x10 x11 x12 x13 x14 x15 x16 x17) (k0_pay70 i x0 x1 x2 x3 x4 x5 x6 x7 x8 x9 x10 x11 x12 x13 x14 x15 x16 x17) (View.ld x12 r0_18)⟩]

/-- Its stores tile the buffer (checked by evaluation), so they cover it. -/
theorem cover0_25 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 26's staging buffer after the body, from the input windows' blocks: its 1 store as pieces, LAST
    FIRST (Lib/Pipeline/FrameBody.lean `View.canon`; the payloads are the skeleton's and the values stated above). -/
def out0_26 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay44 (k0_pay43 (k0_pay66 i x0 x1 x2 x3 x4 x5 x6 x7 x8 x9 x10 x11 x12 x13 x14 x15 x16 x17) (k0_pay68 i x0 x1 x2 x3 x4 x5 x6 x7 x8 x9 x10 x11 x12 x13 x14 x15 x16 x17) (View.ld x4 r0_22) (View.ld x12 r0_21))⟩]

/-- Its stores tile the buffer (checked by evaluation), so they cover it. -/
theorem cover0_26 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 27's staging buffer after the body, from the input windows' blocks: its 1 store as pieces, LAST
    FIRST (Lib/Pipeline/FrameBody.lean `View.canon`; the payloads are the skeleton's and the values stated above). -/
def out0_27 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay31 (k0_pay65 i x0 x1 x2 x3 x4 x5 x6 x7 x8 x9 x10 x11 x12 x13 x14 x15 x16 x17) (View.ld x4 r0_17) (View.ld x10 r0_18)⟩]

/-- Its stores tile the buffer (checked by evaluation), so they cover it. -/
theorem cover0_27 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-- Window 28's staging buffer after the body, from the input windows' blocks: its 1 store as pieces, LAST
    FIRST (Lib/Pipeline/FrameBody.lean `View.canon`; the payloads are the skeleton's and the values stated above). -/
def out0_28 (i : grid0.Coords) (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) : Vec F S1x256x1024 .f32 :=
  View.canon [⟨r0_3, k0_pay39 (k0_pay37 (F := F)) (k0_pay38 (k0_pay65 i x0 x1 x2 x3 x4 x5 x6 x7 x8 x9 x10 x11 x12 x13 x14 x15 x16 x17) (View.ld x4 r0_20) (View.ld x10 r0_21))⟩]

/-- Its stores tile the buffer (checked by evaluation), so they cover it. -/
theorem cover0_28 (p0 : Vec F S1x256x1024 .f32) (y : S1x256x1024.Idx) :
    ∃ pc ∈ ([⟨r0_3, p0⟩] : List (View.Piece (Elt F) S1x256x1024 .f32)), y ∈ pc.1.set :=
  View.cover_of_tiled [⟨r0_3, p0⟩] S1x256x1024.size (by rfl) y

/-! ## The body's triple -/

set_option maxHeartbeats 1010850 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1x3072 .f32) (harg5 : arg5.IsWhole) (arg6 : Memref sig .tc .vmem S16x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x128 .bf16) (harg11 : arg11.IsWhole) (arg12 : Memref sig .tc .vmem S2x128x1024 .bf16) (harg12 : arg12.IsWhole) (arg13 : Memref sig .tc .vmem S1024x128 .bf16) (harg13 : arg13.IsWhole) (arg14 : Memref sig .tc .vmem S2x128x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1024x128 .bf16) (harg17 : arg17.IsWhole) (arg18 : Memref sig .tc .vmem S128x1024 .bf16) (harg18 : arg18.IsWhole) (arg19 : Memref sig .tc .vmem S1x256x1024 .f32) (harg19 : arg19.IsWhole) (arg20 : Memref sig .tc .vmem S1x256x1024 .f32) (harg20 : arg20.IsWhole) (arg21 : Memref sig .tc .vmem S1x256x1024 .f32) (harg21 : arg21.IsWhole) (arg22 : Memref sig .tc .vmem S1x256x1024 .f32) (harg22 : arg22.IsWhole) (arg23 : Memref sig .tc .vmem S1x256x1024 .f32) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .f32) (harg26 : arg26.IsWhole) (arg27 : Memref sig .tc .vmem S1x256x1024 .f32) (harg27 : arg27.IsWhole) (arg28 : Memref sig .tc .vmem S1x256x1024 .f32) (harg28 : arg28.IsWhole) (arg29 : Memref sig .tc .vmem S1x256x1024 .f32) (harg29 : arg29.IsWhole) (arg30 : Memref sig .tc .vmem S1x256x1024 .f32) (harg30 : arg30.IsWhole)
    (x0 : Vec F S1x256x1024 .f32) (x1 : Vec F S1x8x1024 .f32) (x2 : Vec F S1x8x1024 .f32) (x3 : Vec F S1x1x1x3072 .f32) (x4 : Vec F S16x1024 .f32) (x5 : Vec F S1024x1024 .bf16) (x6 : Vec F S1024x1024 .bf16) (x7 : Vec F S1024x1024 .bf16) (x8 : Vec F S1024x1024 .bf16) (x9 : Vec F S1024x128 .bf16) (x10 : Vec F S2x128x1024 .bf16) (x11 : Vec F S1024x128 .bf16) (x12 : Vec F S2x128x1024 .bf16) (x13 : Vec F S1024x128 .bf16) (x14 : Vec F S128x1024 .bf16) (x15 : Vec F S1024x128 .bf16) (x16 : Vec F S128x1024 .bf16) (x17 : Vec F S1x256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 i x0 x1 x2 x3 x4 x5 x6 x7 x8 x9 x10 x11 x12 x13 x14 x15 x16 x17) ∗ owns (c : Thread nD τ) arg21 fullShare (out0_19 i x0 x1 x2 x3 x4 x5 x6 x7 x8 x9 x10 x11 x12 x13 x14 x15 x16 x17) ∗ owns (c : Thread nD τ) arg22 fullShare (out0_20 i x0 x1 x2 x3 x4 x5 x6 x7 x8 x9 x10 x11 x12 x13 x14 x15 x16 x17) ∗ owns (c : Thread nD τ) arg23 fullShare (out0_21 i x0 x1 x2 x3 x4 x5 x6 x7 x8 x9 x10 x11 x12 x13 x14 x15 x16 x17) ∗ owns (c : Thread nD τ) arg24 fullShare (out0_22 i x0 x1 x2 x3 x4 x5 x6 x7 x8 x9 x10 x11 x12 x13 x14 x15 x16 x17) ∗ owns (c : Thread nD τ) arg25 fullShare (out0_23 i x0 x1 x2 x3 x4 x5 x6 x7 x8 x9 x10 x11 x12 x13 x14 x15 x16 x17) ∗ owns (c : Thread nD τ) arg26 fullShare (out0_24 i x0 x1 x2 x3 x4 x5 x6 x7 x8 x9 x10 x11 x12 x13 x14 x15 x16 x17) ∗ owns (c : Thread nD τ) arg27 fullShare (out0_25 i x0 x1 x2 x3 x4 x5 x6 x7 x8 x9 x10 x11 x12 x13 x14 x15 x16 x17) ∗ owns (c : Thread nD τ) arg28 fullShare (out0_26 i x0 x1 x2 x3 x4 x5 x6 x7 x8 x9 x10 x11 x12 x13 x14 x15 x16 x17) ∗ owns (c : Thread nD τ) arg29 fullShare (out0_27 i x0 x1 x2 x3 x4 x5 x6 x7 x8 x9 x10 x11 x12 x13 x14 x15 x16 x17) ∗ owns (c : Thread nD τ) arg30 fullShare (out0_28 i x0 x1 x2 x3 x4 x5 x6 x7 x8 x9 x10 x11 x12 x13 x14 x15 x16 x17)) -∗ K ⟨⟩))
      ⊢ wp frame (wpE (defs₀ (F := F)) Variants.none c none) E (cc0_rwkv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_rwkv_proj_eq_skeleton]; unfold cc0_rwkv_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Kernel4Ideal.Gen

end
-- ==== Proof.MixRun.lean ====
module

public import proofs.«01_k».proof.Proof.MixFrameIdeal
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 18).cut (grid0.coords t) ((dats m 0 c).after 18 t) = _
  rw [after0_18]

/-- An index that no flushing point's block covers keeps output window 18's array contents at region entry. -/
theorem entry18 (c : Dev nD) (i : S8x8448x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 19).cut (grid0.coords t) ((dats m 0 c).after 19 t) = _
  rw [after0_19]

/-- An index that no flushing point's block covers keeps output window 19's array contents at region entry. -/
theorem entry19 (c : Dev nD) (i : S8x8448x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 20).cut (grid0.coords t) ((dats m 0 c).after 20 t) = _
  rw [after0_20]

/-- An index that no flushing point's block covers keeps output window 20's array contents at region entry. -/
theorem entry20 (c : Dev nD) (i : S8x8448x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 21).cut (grid0.coords t) ((dats m 0 c).after 21 t) = _
  rw [after0_21]

/-- An index that no flushing point's block covers keeps output window 21's array contents at region entry. -/
theorem entry21 (c : Dev nD) (i : S8x8448x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 22).cut (grid0.coords t) ((dats m 0 c).after 22 t) = _
  rw [after0_22]

/-- An index that no flushing point's block covers keeps output window 22's array contents at region entry. -/
theorem entry22 (c : Dev nD) (i : S8x8448x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 23).cut (grid0.coords t) ((dats m 0 c).after 23 t) = _
  rw [after0_23]

/-- An index that no flushing point's block covers keeps output window 23's array contents at region entry. -/
theorem entry23 (c : Dev nD) (i : S8x8448x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 24).cut (grid0.coords t) ((dats m 0 c).after 24 t) = _
  rw [after0_24]

/-- An index that no flushing point's block covers keeps output window 24's array contents at region entry. -/
theorem entry24 (c : Dev nD) (i : S8x8448x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the body's result for that window (`Gen.out0_25`: its stores
    as pieces over the input windows' blocks), read through the window's block. -/
theorem flushed25 (c : Dev nD) (t : Fin cfg0.N) :
    (dats m 0 c).flushed 25 t = (cfg0.win 25).cut (grid0.coords t) (out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 25).cut (grid0.coords t) ((dats m 0 c).after 25 t) = _
  rw [after0_25]

/-- An index that no flushing point's block covers keeps output window 25's array contents at region entry. -/
theorem entry25 (c : Dev nD) (i : S8x8448x1024.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- WHAT POINT `t` WRITES BACK to output window 26's array: the body's result for that window (`Gen.out0_26`: its stores
    as pieces over the input windows' blocks), read through the window's block. -/
theorem flushed26 (c : Dev nD) (t : Fin cfg0.N) :
    (dats m 0 c).flushed 26 t = (cfg0.win 26).cut (grid0.coords t) (out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 26).cut (grid0.coords t) ((dats m 0 c).after 26 t) = _
  rw [after0_26]

/-- An index that no flushing point's block covers keeps output window 26's array contents at region entry. -/
theorem entry26 (c : Dev nD) (i : S8x8448x1024.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the body's result for that window (`Gen.out0_27`: its stores
    as pieces over the input windows' blocks), read through the window's block. -/
theorem flushed27 (c : Dev nD) (t : Fin cfg0.N) :
    (dats m 0 c).flushed 27 t = (cfg0.win 27).cut (grid0.coords t) (out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 27).cut (grid0.coords t) ((dats m 0 c).after 27 t) = _
  rw [after0_27]

/-- An index that no flushing point's block covers keeps output window 27's array contents at region entry. -/
theorem entry27 (c : Dev nD) (i : S8x8448x1024.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- WHAT POINT `t` WRITES BACK to output window 28's array: the body's result for that window (`Gen.out0_28`: its stores
    as pieces over the input windows' blocks), read through the window's block. -/
theorem flushed28 (c : Dev nD) (t : Fin cfg0.N) :
    (dats m 0 c).flushed 28 t = (cfg0.win 28).cut (grid0.coords t) (out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 28).cut (grid0.coords t) ((dats m 0 c).after 28 t) = _
  rw [after0_28]

/-- An index that no flushing point's block covers keeps output window 28's array contents at region entry. -/
theorem entry28 (c : Dev nD) (i : S8x8448x1024.Idx) (h : ∀ t : Fin cfg0.N, (cfg0.win 28).flush t = true → i ∉ ((cfg0.win 28).blk t).view.set) :
    (dats m 0 c).arrAt 28 cfg0.N i = V m c (Pipeline.arrRef spec0 28) i := by
  rw [(dats m 0 c).arrAt_apply_of_forall_not_mem 28 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v96_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v96_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v96_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v96_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v96_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v96_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v96_6) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v96_7) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v96_8) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v96_9) = (dats m 0 c).arrAt 27 cfg0.N :=
  (h c).1 27

/-- After the frame run, output window 28's array is `(dats m 0 c).arrAt 28 N`. -/
theorem post28 (r : PUnit × MemSt nD τ sig (Elt F)) (h : Pipeline.FramePost cfgs (dats m) 0 (V m) r) (c : Dev nD) :
    r.2.mem ((c : Thread nD τ).loc main_v96_10) = (dats m 0 c).arrAt 28 cfg0.N :=
  (h c).1 28

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: input window 17 stages it and never writes it back. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

set_option maxHeartbeats 427840 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v96_0) = (dats m 0 c).arrAt 18 cfg0.N
      ∧ r.2.mem ((c : Thread nD τ).loc main_v96_1) = (dats m 0 c).arrAt 19 cfg0.N
      ∧ r.2.mem ((c : Thread nD τ).loc main_v96_2) = (dats m 0 c).arrAt 20 cfg0.N
      ∧ r.2.mem ((c : Thread nD τ).loc main_v96_3) = (dats m 0 c).arrAt 21 cfg0.N
      ∧ r.2.mem ((c : Thread nD τ).loc main_v96_4) = (dats m 0 c).arrAt 22 cfg0.N
      ∧ r.2.mem ((c : Thread nD τ).loc main_v96_5) = (dats m 0 c).arrAt 23 cfg0.N
      ∧ r.2.mem ((c : Thread nD τ).loc main_v96_6) = (dats m 0 c).arrAt 24 cfg0.N
      ∧ r.2.mem ((c : Thread nD τ).loc main_v96_7) = (dats m 0 c).arrAt 25 cfg0.N
      ∧ r.2.mem ((c : Thread nD τ).loc main_v96_8) = (dats m 0 c).arrAt 26 cfg0.N
      ∧ r.2.mem ((c : Thread nD τ).loc main_v96_9) = (dats m 0 c).arrAt 27 cfg0.N
      ∧ r.2.mem ((c : Thread nD τ).loc main_v96_10) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post18 m r h c,
      post19 m r h c,
      post20 m r h c,
      post21 m r h c,
      post22 m r h c,
      post23 m r h c,
      post24 m r h c,
      post25 m r h c,
      post26 m r h c,
      post27 m r h c,
      post28 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

/-! ## No closed form for the canon of this window's pieces: a store's payload reads the grid point. Prove the window's value by hand over `Value.run_blocks`. -/

end Cert.Kernel4Ideal.Value

end
-- ==== Proof.Finite.lean ====
module

public import Idealize.ShloMosaic.PureOps.Ideal
public import Idealize.ShloMosaic.PureOps.Ideal.Laws
public import proofs.«01_k».proof.Pre_finite_scores

@[expose] public section

noncomputable section

namespace Cert.Pre_finite_scores

open Idealize.ShloMosaic

/-- The shape facts of the precondition. -/
theorem facts : Cert.Pre_finite_scores.Facts := ⟨by decide, by decide⟩

/-- A number whose absolute value compares less than infinity is neither infinity. -/
theorem finite_of_lt (x w : EReal) (hw : w = ⊤) (h : Ideal.cmp .olt (max x (-x)) w = 1#1) : x ≠ ⊥ ∧ x ≠ ⊤ := by
  subst hw
  have h2 : max x (-x) < ⊤ := by
    by_contra hn
    have : Ideal.cmp .olt (max x (-x)) ⊤ = 0#1 := by simp only [Ideal.cmp, hn]; rfl
    rw [this] at h
    exact absurd h (by decide)
  constructor
  · rintro rfl
    simp at h2
  · rintro rfl
    simp at h2

theorem inf_bf16 : Ideal.ofBits FTy.bf16 0x7F80#16 = ⊤ := by simp [Ideal.ofBits, Ideal.ieee]

theorem inf_f32 : Ideal.ofBits FTy.f32 0x7F800000#32 = ⊤ := by simp [Ideal.ofBits, Ideal.ieee]

attribute [local instance] facts

/-- Where the precondition holds the queries are finite. -/
theorem finite_q (q k v : FVec Ideal S8x8448x1024 .bf16) (r : FVec Ideal S16x15x31 .f32) (h : (fn q k v r).1 = fun _ => 1#1) (i : S8x8448x1024.Idx) :
    (q i : EReal) ≠ ⊥ ∧ (q i : EReal) ≠ ⊤ :=
  finite_of_lt (q i) _ inf_bf16 (congrFun h i)

/-- Where the precondition holds the keys are finite. -/
theorem finite_k (q k v : FVec Ideal S8x8448x1024 .bf16) (r : FVec Ideal S16x15x31 .f32) (h : (fn q k v r).2.1 = fun _ => 1#1) (i : S8x8448x1024.Idx) :
    (k i : EReal) ≠ ⊥ ∧ (k i : EReal) ≠ ⊤ :=
  finite_of_lt (k i) _ inf_bf16 (congrFun h i)

/-- Where the precondition holds the biases are finite. -/
theorem finite_r (q k v : FVec Ideal S8x8448x1024 .bf16) (r : FVec Ideal S16x15x31 .f32) (h : (fn q k v r).2.2 = fun _ => 1#1) (i : S16x15x31.Idx) :
    (r i : EReal) ≠ ⊥ ∧ (r i : EReal) ≠ ⊤ :=
  finite_of_lt (r i) _ inf_f32 (congrFun h i)

end Cert.Pre_finite_scores

end
-- ==== Proof.Attn.lean ====
module

public import Idealize.ShloMosaic.PureOps.Ideal
public import Idealize.ShloMosaic.PureOps.Ideal.Laws

@[expose] public section

noncomputable section

namespace Cert.Attn

open Idealize.ShloMosaic

variable {ι κ μ : Type} [Fintype ι] [Fintype κ] [Fintype μ]

/-- The largest of finitely many scores (`⊥` of none). -/
def top (S : ι → EReal) : EReal := Finset.univ.fold max ⊥ S

/-- The larger of the two families' largest scores. -/
def peak (S : ι → EReal) (C : κ → EReal) : EReal := max (top S) (top C)

/-- The sum of the exponentials of a family's scores, each less `M`. -/
def mass (M : EReal) (S : ι → EReal) : EReal := ∑ n, Ideal.exp (S n - M)

/-- Attention over two families of keys, normalised at the end: the exponentials weigh the values, and the weighted
    sum is divided by the exponentials' sum. -/
def late (S V : ι → EReal) (C W : κ → EReal) : EReal :=
  Ideal.div (∑ n, Ideal.exp (S n - peak S C) * V n + ∑ n, Ideal.exp (C n - peak S C) * W n)
    (mass (peak S C) S + mass (peak S C) C)

/-- Attention over two families of keys, normalised first: each exponential is divided by the exponentials' sum, and
    the quotients weigh the values. -/
def early (S V : ι → EReal) (C W : κ → EReal) : EReal :=
  ∑ n, Ideal.div (Ideal.exp (S n - peak S C)) (mass (peak S C) S + mass (peak S C) C) * V n
    + ∑ n, Ideal.div (Ideal.exp (C n - peak S C)) (mass (peak S C) S + mass (peak S C) C) * W n

/-- Every score is at most the largest. -/
theorem le_top (S : ι → EReal) (n : ι) : S n ≤ top S :=
  Finset.le_sup (f := S) (Finset.mem_univ n)

/-- What bounds every score bounds the largest. -/
theorem top_le {S : ι → EReal} {a : EReal} (h : ∀ n, S n ≤ a) : top S ≤ a :=
  Finset.sup_le (f := S) fun n _ => h n

/-- The largest of a nonempty family's scores is one of them. -/
theorem exists_top [Nonempty ι] (S : ι → EReal) : ∃ n, S n = top S := by
  obtain ⟨n, -, h⟩ := Finset.exists_mem_eq_sup (Finset.univ : Finset ι) Finset.univ_nonempty S
  exact ⟨n, h.symm⟩

/-- An exponential is not negative. -/
theorem exp_nonneg (x : EReal) : 0 ≤ Ideal.exp x := by
  induction x with
  | bot => exact le_refl _
  | top => exact _root_.le_top
  | coe r => exact EReal.coe_nonneg.2 (Real.exp_pos r).le

/-- The exponential of zero is one. -/
theorem exp_zero : Ideal.exp 0 = 1 := by
  show Ideal.exp ((0 : ℝ) : EReal) = 1
  show ((Real.exp 0 : ℝ) : EReal) = 1
  rw [Real.exp_zero]; rfl

/-- A masked score `⊥` less anything is `⊥`, whose exponential is zero. -/
theorem exp_bot_sub (M : EReal) : Ideal.exp (⊥ - M) = 0 := by
  rw [sub_eq_add_neg, EReal.bot_add]; rfl

/-- Adding the mask `⊥` to a product makes the score `⊥`, whatever the product is. -/
theorem add_mask (x : EReal) : x + ⊥ = ⊥ := EReal.add_bot x

/-- A family whose scores outside the image of `f` are all `⊥` has the largest score of its part under `f`. -/
theorem top_of_image (f : μ → ι) (S : ι → EReal) (h : ∀ n, (∀ k, f k ≠ n) → S n = ⊥) : top S = top (S ∘ f) := by
  apply le_antisymm
  · refine top_le fun n => ?_
    by_cases hn : ∃ k, f k = n
    · obtain ⟨k, rfl⟩ := hn; exact le_top (S ∘ f) k
    · rw [h n fun k hk => hn ⟨k, hk⟩]; exact bot_le
  · exact top_le fun k => le_top S (f k)

/-- A sum whose terms outside the image of an injective `f` vanish is the sum over `f`. -/
theorem sum_of_image (f : μ → ι) (hf : Function.Injective f) (g : ι → EReal) (h : ∀ n, (∀ k, f k ≠ n) → g n = 0) :
    ∑ n, g n = ∑ k, g (f k) :=
  (Fintype.sum_of_injective f hf (fun k => g (f k)) g (fun n hn => h n fun k hk => hn ⟨k, hk⟩) fun _ => rfl).symm

/-- Attention over a family masked with `⊥` outside the image of an injective `f` is attention over `f`'s keys. -/
theorem late_of_image (f : μ → ι) (hf : Function.Injective f) (S V : ι → EReal) (C W : κ → EReal)
    (h : ∀ n, (∀ k, f k ≠ n) → S n = ⊥) : late S V C W = late (S ∘ f) (V ∘ f) C W := by
  unfold late mass peak
  rw [top_of_image f S h]
  rw [sum_of_image f hf _ (fun n hn => by rw [h n hn, exp_bot_sub, zero_mul]),
    sum_of_image f hf (fun n => Ideal.exp (S n - max (top (S ∘ f)) (top C))) (fun n hn => by rw [h n hn, exp_bot_sub])]
  rfl

/-- A factor that is neither negative nor infinite distributes over a finite sum. -/
theorem sum_mul (g : ι → EReal) {r : EReal} (h0 : 0 ≤ r) (ht : r ≠ ⊤) : (∑ n, g n) * r = ∑ n, g n * r := by
  classical
  refine Finset.induction_on (Finset.univ : Finset ι) (by simp) fun a s ha ih => ?_
  rw [Finset.sum_insert ha, Finset.sum_insert ha, ← ih, EReal.right_distrib_of_nonneg_of_ne_top h0 ht]

/-- The exponentials' sum is not negative. -/
theorem mass_nonneg (M : EReal) (S : ι → EReal) : 0 ≤ mass M S := Finset.sum_nonneg fun n _ => exp_nonneg (S n - M)

/-- Where some score is `M` and `M` is finite, the exponentials' sum is at least one. -/
theorem one_le_mass {M : EReal} {S : ι → EReal} (n : ι) (h : S n = M) (hb : M ≠ ⊥) (ht : M ≠ ⊤) : 1 ≤ mass M S := by
  have e : Ideal.exp (S n - M) = 1 := by rw [h, EReal.sub_self ht hb, exp_zero]
  rw [← e]
  exact Finset.single_le_sum (f := fun n => Ideal.exp (S n - M)) (fun k _ => exp_nonneg _) (Finset.mem_univ n)

/-- Of finite scores the exponentials' sum, each score less the largest, is not zero. -/
theorem mass_ne_zero [Nonempty ι] [Nonempty κ] (S : ι → EReal) (C : κ → EReal) (hS : ∀ n, S n ≠ ⊥ ∧ S n ≠ ⊤)
    (hC : ∀ n, C n ≠ ⊥ ∧ C n ≠ ⊤) : mass (peak S C) S + mass (peak S C) C ≠ 0 := by
  intro h0
  have h1 : (1 : EReal) ≤ mass (peak S C) S + mass (peak S C) C := by
    rcases max_choice (top S) (top C) with hm | hm
    · obtain ⟨n, hn⟩ := exists_top S
      have hM : peak S C = S n := hm.trans hn.symm
      exact le_add_of_le_of_nonneg (one_le_mass n hM.symm (hM ▸ (hS n).1) (hM ▸ (hS n).2)) (mass_nonneg _ _)
    · obtain ⟨n, hn⟩ := exists_top C
      have hM : peak S C = C n := hm.trans hn.symm
      exact le_add_of_nonneg_of_le (mass_nonneg _ _) (one_le_mass n hM.symm (hM ▸ (hC n).1) (hM ▸ (hC n).2))
  rw [h0] at h1
  exact absurd h1 (not_le.2 zero_lt_one)

/-- An inverse is never `⊤`. -/
theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- Of finite scores, normalising at the end is normalising first, whatever the values are. -/
theorem late_eq_early [Nonempty ι] [Nonempty κ] (S V : ι → EReal) (C W : κ → EReal) (hS : ∀ n, S n ≠ ⊥ ∧ S n ≠ ⊤)
    (hC : ∀ n, C n ≠ ⊥ ∧ C n ≠ ⊤) : late S V C W = early S V C W := by
  have hD := mass_ne_zero S C hS hC
  have hp : 0 ≤ mass (peak S C) S + mass (peak S C) C := add_nonneg (mass_nonneg _ _) (mass_nonneg _ _)
  unfold late early Ideal.div
  generalize mass (peak S C) S + mass (peak S C) C = D at hD hp
  simp only [if_neg hD]
  rw [EReal.right_distrib_of_nonneg_of_ne_top (EReal.inv_nonneg_of_nonneg hp) (inv_ne_top D),
    sum_mul _ (EReal.inv_nonneg_of_nonneg hp) (inv_ne_top D), sum_mul _ (EReal.inv_nonneg_of_nonneg hp) (inv_ne_top D)]
  simp only [mul_right_comm]

/-- The larger of two families' largest scores is the largest of the families put one after the other. -/
theorem top_append {a b : Nat} (T : Fin (a + b) → EReal) :
    top T = peak (fun n => T (Fin.castAdd b n)) (fun n => T (Fin.natAdd a n)) := by
  apply le_antisymm
  · refine top_le fun n => ?_
    refine Fin.addCases (fun i => ?_) (fun i => ?_) n
    · exact (le_top (fun n => T (Fin.castAdd b n)) i).trans (le_max_left _ _)
    · exact (le_top (fun n => T (Fin.natAdd a n)) i).trans (le_max_right _ _)
  · exact max_le (top_le fun n => le_top T _) (top_le fun n => le_top T _)

/-- A finite sum of products of finite numbers is finite. -/
theorem finite_sum_mul (f g : ι → EReal) (hf : ∀ n, f n ≠ ⊥ ∧ f n ≠ ⊤) (hg : ∀ n, g n ≠ ⊥ ∧ g n ≠ ⊤) :
    ∃ r : ℝ, ∑ n, f n * g n = r := by
  classical
  refine Finset.induction_on (Finset.univ : Finset ι) ⟨0, by simp⟩ fun a s ha ih => ?_
  obtain ⟨r, hr⟩ := ih
  refine ⟨(f a).toReal * (g a).toReal + r, ?_⟩
  rw [Finset.sum_insert ha, hr, EReal.coe_add, EReal.coe_mul, EReal.coe_toReal (hf a).2 (hf a).1,
    EReal.coe_toReal (hg a).2 (hg a).1]

end Cert.Attn
-- ==== Proof.NaRow.lean ====
module

public import proofs.«01_k».proof.Proof.Gen.KernelIdeal.Skeleton
public import proofs.«01_k».proof.Proof.Attn
public import Idealize.ShloMosaic.Lib.Pointwise

@[expose] public section

set_option maxRecDepth 16384

noncomputable section

namespace Cert.KernelIdeal.Na

open Cert.KernelIdeal Cert.KernelIdeal.Gen Idealize.ShloMosaic Idealize.ShloMosaic.TcCoe

/-- Lane `e` of head `h` of a pair of heads held side by side. -/
def lane (h : Fin 2) (e : Fin 64) : Fin 128 := ⟨64 * h.val + e.val, by omega⟩

/-- What one grid row of the block computes, from the context's keys and values, the row's queries, the window's keys
    and values, and the bias rows. -/
def rowOut {F : FTy → Type} [FloatOps F] (kc vc : Vec F S1x256x128 .bf16) (q : Vec F S1x64x128 .bf16)
    (kw vw : Vec F S1x512x128 .bf16) (bi : Vec F S1x1x128x512 .f32) : Vec F S1x64x128 .bf16 :=
  k0_pay8 k0_pay2 (k0_pay3 kc) (k0_pay4 vc) (k0_pay5 q) (k0_pay6 vw) (k0_pay7 q kw) bi

/-- The first row's store is the row's output. -/
theorem first_eq {F : FTy → Type} [FloatOps F] (kc vc : Vec F S1x256x128 .bf16) (q : Vec F S1x64x128 .bf16) (kw vw : Vec F S1x512x128 .bf16) (bi : Vec F S1x1x128x512 .f32) :
    k0_pay8 k0_pay2 (k0_pay3 kc) (k0_pay4 vc) (k0_pay5 q) (k0_pay6 vw) (k0_pay7 q kw) bi = rowOut kc vc q kw vw bi := rfl

/-- The second row's store is the row's output. -/
theorem second_eq {F : FTy → Type} [FloatOps F] (kc vc : Vec F S1x256x128 .bf16) (q : Vec F S1x64x128 .bf16) (kw vw : Vec F S1x512x128 .bf16) (bi : Vec F S1x1x128x512 .f32) :
    k0_pay17 k0_pay2 (k0_pay4 vc) (k0_pay10 vw) (k0_pay12 k0_pay2 (k0_pay3 kc) q) (k0_pay13 k0_pay2 (k0_pay3 kc) q kw bi)
      (k0_pay15 k0_pay2 (k0_pay3 kc) q kw bi) (k0_pay16 k0_pay2 (k0_pay3 kc) q kw bi) (constant S128x128 FTy.f32 0#32) = rowOut kc vc q kw vw bi := rfl

/-- The third row's store is the row's output. -/
theorem third_eq {F : FTy → Type} [FloatOps F] (kc vc : Vec F S1x256x128 .bf16) (q : Vec F S1x64x128 .bf16) (kw vw : Vec F S1x512x128 .bf16) (bi : Vec F S1x1x128x512 .f32) :
    k0_pay20 (k0_pay19 k0_pay2 (k0_pay3 kc) (k0_pay4 vc) (k0_pay18 k0_pay2 q) kw vw bi) = rowOut kc vc q kw vw bi := rfl

/-- The fourth row's store is the row's output. -/
theorem fourth_eq {F : FTy → Type} [FloatOps F] (kc vc : Vec F S1x256x128 .bf16) (q : Vec F S1x64x128 .bf16) (kw vw : Vec F S1x512x128 .bf16) (bi : Vec F S1x1x128x512 .f32) :
    k0_pay1 k0_pay2 (k0_pay4 vc) (k0_pay22 vw) (k0_pay23 k0_pay2 q kw bi) (k0_pay24 k0_pay2 (k0_pay3 kc) q)
      (k0_pay25 k0_pay2 q kw bi) (k0_pay26 k0_pay2 (k0_pay3 kc) q) = rowOut kc vc q kw vw bi := rfl

/-- A lane is below 64, as a signed word compares it, exactly when it belongs to the first head. -/
theorem lane_slt (l : Fin 128) : IntOp.cmpi .slt (BitVec.ofNat 32 l.val) 64#32 = if l.val < 64 then 1#1 else 0#1 := by
  revert l; decide +kernel

/-- The stacked queries: at row `j` of head `h`, the query's lanes of that head and zero at the other head's. -/
theorem stacked (q : Vec Ideal S1x64x128 .bf16) (h : Fin 2) (j : Fin 64) (l : Fin 128) :
    k0_pay5 q (ix2 (lane h j) l) = if l.val / 64 = h.val then q (ix3 0 j l) else 0 := by
  have hl := l.isLt
  pointwise [k0_pay5, k0_pay2]
  rw [lane_slt]
  have hj := j.isLt
  match h with
  | 0 =>
    have e : (lane 0 j).val = j.val := by simp [lane]
    rw [dif_pos (by omega)]
    by_cases hl' : l.val < 64
    · rw [if_pos hl', if_pos (by show l.val / 64 = 0; omega), Scalar.select]
      exact congrArg (fun i => q (ix3 0 i l)) (Fin.ext e)
    · rw [if_neg hl', if_neg (by show ¬ l.val / 64 = 0; omega)]; rfl
  | 1 =>
    have e : (lane 1 j).val - 64 = j.val := by simp [lane]
    have e' : (lane 1 j).val = 64 + j.val := by simp [lane]
    rw [dif_neg (by omega)]
    refine (congrArg (fun a => Scalar.select (if l.val < 64 then 1#1 else 0#1) 0 (q (ix3 0 a l)))
      (Fin.ext e : (⟨(lane 1 j).val - 64, by omega⟩ : Fin 64) = j)).trans ?_
    show Scalar.select (if l.val < 64 then 1#1 else 0#1) 0 (q (ix3 0 j l)) = if l.val / 64 = 1 then q (ix3 0 j l) else 0
    by_cases hl' : l.val < 64
    · rw [if_pos hl', if_neg (by omega)]; rfl
    · rw [if_neg hl', if_pos (by omega)]; rfl

/-- The word of positive infinity, at 32 bits. -/
theorem ofBits_inf : Ideal.ofBits FTy.f32 0x7F800000#32 = ⊤ := by
  simp [Ideal.ofBits, Ideal.ieee]

/-- The word of positive infinity, at 16 bits. -/
theorem ofBits_inf_bf16 : Ideal.ofBits FTy.bf16 0x7F80#16 = ⊤ := by
  simp [Ideal.ofBits, Ideal.ieee]

/-- The word a maximum's fold starts from is `⊥`. -/
theorem ofBits_negInf : Ideal.ofBits FTy.f32 4286578688#32 = ⊥ := by
  simp [Ideal.ofBits, Ideal.ieee]

/-- The row's softmax and products at a lane of head `h`, of the scores before the bias, the bias and the stacked
    queries: the attention of that head's stacked row. -/
theorem attend (v4 v6 : FVec Ideal S256x128 .bf16) (v22 : FVec Ideal S128x128 .bf16) (v31 : FVec Ideal S512x128 .bf16)
   (v32 : FVec Ideal S128x512 .f32) (v35 : Vec Ideal S1x1x128x512 .f32) (h : Fin 2) (j d : Fin 64) :
    k0_pay8 k0_pay2 v4 v6 v22 v31 v32 v35 (ix3 0 j (lane h d)) =
      Attn.late (fun n => v32 (ix2 (lane h j) n) + v35 (ix4 0 0 (lane h j) n)) (fun n => v31 (ix2 n (lane h d)))
        (fun n => ∑ e, v22 (ix2 (lane h j) e) * v4 (ix2 n e)) (fun n => v6 (ix2 n (lane h d))) := by
  pointwise [k0_pay8, k0_pay2]
  rw [lane_slt, ofBits_negInf]
  have hj := j.isLt
  match h with
  | 0 =>
    have e : (⟨j.val, by omega⟩ : Fin 128) = lane 0 j := Fin.ext (by simp [lane])
    rw [if_pos (by have : (lane 0 d).val = d.val := by simp [lane]
                   omega)]
    simp only [e]
    rfl
  | 1 =>
    rw [if_neg (by show ¬ 64 * 1 + d.val < 64; omega)]
    rfl

/-- The context's keys without their leading axis. -/
theorem keysCtx (v : Vec Ideal S1x256x128 .bf16) (a : Fin 256) (b : Fin 128): k0_pay3 v (ix2 a b) = v (ix3 0 a b) := by
  pointwise [k0_pay3]

/-- The context's values without their leading axis. -/
theorem valsCtx (v : Vec Ideal S1x256x128 .bf16) (a : Fin 256) (b : Fin 128): k0_pay4 v (ix2 a b) = v (ix3 0 a b) := by
  pointwise [k0_pay4]

/-- The window's values without their leading axis. -/
theorem valsWin (v : Vec Ideal S1x512x128 .bf16) (a : Fin 512) (b : Fin 128): k0_pay6 v (ix2 a b) = v (ix3 0 a b) := by
  pointwise [k0_pay6]

/-- The window's scores before the bias. -/
theorem scoresWin (q : Vec Ideal S1x64x128 .bf16) (kw : Vec Ideal S1x512x128 .bf16) (a : Fin 128) (n : Fin 512) :
    k0_pay7 q kw (ix2 a n) = ∑ e, k0_pay5 q (ix2 a e) * kw (ix3 0 n e) := by
  unfold k0_pay7
  generalize k0_pay5 q = q2
  pointwise []

/-- A stacked query row times a key row is the head's own lanes' product: the other head's lanes are zero. -/
theorem stacked_dot (q : Vec Ideal S1x64x128 .bf16) (h : Fin 2) (j : Fin 64) (g : Fin 128 → EReal) :
    ∑ l, k0_pay5 q (ix2 (lane h j) l) * g l = ∑ e, q (ix3 0 j (lane h e)) * g (lane h e) := by
  simp only [stacked]
  rw [Attn.sum_of_image (lane h)]
  · refine Finset.sum_congr rfl fun e _ => ?_
    rw [if_pos]
    have := e.isLt
    show (64 * h.val + e.val) / 64 = h.val
    omega
  · intro a b hab
    have := congrArg Fin.val hab
    simp only [lane] at this
    exact Fin.ext (by omega)
  · intro l hl
    rw [if_neg, zero_mul]
    intro hd
    exact hl ⟨l.val % 64, by omega⟩ (Fin.ext (by simp only [lane]; omega))

/-- One grid row of the block, at a lane of head `h`: that head's attention over the window's 512 keys, each score with
    its bias, and the context's 256 keys, normalised at the end. -/
theorem rowOut_apply (kc vc : Vec Ideal S1x256x128 .bf16) (q : Vec Ideal S1x64x128 .bf16)
    (kw vw : Vec Ideal S1x512x128 .bf16) (bi : Vec Ideal S1x1x128x512 .f32) (h : Fin 2) (j d : Fin 64) :
    rowOut kc vc q kw vw bi (ix3 0 j (lane h d)) =
      Attn.late (fun n => ∑ e, q (ix3 0 j (lane h e)) * kw (ix3 0 n (lane h e)) + bi (ix4 0 0 (lane h j) n))
        (fun n => vw (ix3 0 n (lane h d)))
        (fun n => ∑ e, q (ix3 0 j (lane h e)) * kc (ix3 0 n (lane h e))) (fun n => vc (ix3 0 n (lane h d))) := by
  unfold rowOut
  rw [attend]
  simp only [keysCtx, valsCtx, valsWin, scoresWin, stacked_dot]

end Cert.KernelIdeal.Na
-- ==== Proof.NaBlock.lean ====
module

public import proofs.«01_k».proof.Proof.Gen.KernelIdeal.Value
public import proofs.«01_k».proof.Proof.NaRow
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.KernelIdeal.Na

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- The first grid row of the window of row `r`: eight rows around it, held inside the 128 rows. -/
def firstRow (r : Nat) : Nat := min 120 (r - 4)

/-- The 128 lanes of head pair `p` of the context's 256 positions, of batch row `b`. -/
def ctxOf (K : Vec F S8x8448x1024 .bf16) (b p : Fin 8) : Vec F S1x256x128 .bf16 := fun x =>
  K (ix3 b ⟨(x 1).val, lt_trans (x 1).isLt (by decide)⟩ ⟨128 * p.val + (x 2).val, by have : (x 2).val < 128 := (x 2).isLt; omega⟩)

/-- The 128 lanes of head pair `p` of the 64 latent positions of grid row `r`, of batch row `b`. -/
def rowOf (Q : Vec F S8x8448x1024 .bf16) (b p : Fin 8) (r : Fin 128) : Vec F S1x64x128 .bf16 := fun x =>
  Q (ix3 b ⟨256 + 64 * r.val + (x 1).val, by have : (x 1).val < 64 := (x 1).isLt; omega⟩
    ⟨128 * p.val + (x 2).val, by have : (x 2).val < 128 := (x 2).isLt; omega⟩)

/-- The 128 lanes of head pair `p` of the 512 latent positions of the window of grid row `r`, of batch row `b`. -/
def winOf (K : Vec F S8x8448x1024 .bf16) (b p : Fin 8) (r : Fin 128) : Vec F S1x512x128 .bf16 := fun x =>
  K (ix3 b ⟨256 + 64 * firstRow r.val + (x 1).val, by have : (x 1).val < 512 := (x 1).isLt; unfold firstRow; omega⟩
    ⟨128 * p.val + (x 2).val, by have : (x 2).val < 128 := (x 2).isLt; omega⟩)

/-- The bias rows of head pair `p` for grid row `r`: those of the row's place in its window. -/
def biasOf (B : Vec F S8x8x128x512 .f32) (p : Fin 8) (r : Fin 128) : Vec F S1x1x128x512 .f32 := fun x =>
  B (ix4 p ⟨r.val - firstRow r.val, by unfold firstRow; omega⟩ (x 2) (x 3))

/-- What the kernel leaves in its result array, of its arrays: at every latent position its grid row's output. -/
def kOut (Q K W : Vec F S8x8448x1024 .bf16) (B : Vec F S8x8x128x512 .f32) : Vec F S8x8192x1024 .bf16 := fun i =>
  rowOut (ctxOf K (i 0) ⟨(i 2).val / 128, by have : (i 2).val < 1024 := (i 2).isLt; omega⟩)
    (ctxOf W (i 0) ⟨(i 2).val / 128, by have : (i 2).val < 1024 := (i 2).isLt; omega⟩)
    (rowOf Q (i 0) ⟨(i 2).val / 128, by have : (i 2).val < 1024 := (i 2).isLt; omega⟩ ⟨(i 1).val / 64, by have : (i 1).val < 8192 := (i 1).isLt; omega⟩)
    (winOf K (i 0) ⟨(i 2).val / 128, by have : (i 2).val < 1024 := (i 2).isLt; omega⟩ ⟨(i 1).val / 64, by have : (i 1).val < 8192 := (i 1).isLt; omega⟩)
    (winOf W (i 0) ⟨(i 2).val / 128, by have : (i 2).val < 1024 := (i 2).isLt; omega⟩ ⟨(i 1).val / 64, by have : (i 1).val < 8192 := (i 1).isLt; omega⟩)
    (biasOf B ⟨(i 2).val / 128, by have : (i 2).val < 1024 := (i 2).isLt; omega⟩ ⟨(i 1).val / 64, by have : (i 1).val < 8192 := (i 1).isLt; omega⟩)
    (ix3 0 ⟨(i 1).val % 64, by omega⟩ ⟨(i 2).val % 128, by omega⟩)

/-- At the position of row `r`, column `j`, lane `l` of pair `p`: that row's output at `j` and `l`. -/
theorem kOut_at (Q K W : Vec F S8x8448x1024 .bf16) (B : Vec F S8x8x128x512 .f32) (i : S8x8192x1024.Idx) (b p : Fin 8)
    (r : Fin 128) (j : Fin 64) (l : Fin 128) (h0 : (i 0).val = b.val) (h1 : (i 1).val = 64 * r.val + j.val)
    (h2 : (i 2).val = 128 * p.val + l.val) :
    kOut Q K W B i = rowOut (ctxOf K b p) (ctxOf W b p) (rowOf Q b p r) (winOf K b p r) (winOf W b p r) (biasOf B p r) (ix3 0 j l) := by
  have e0 : i 0 = b := Fin.ext h0
  have ep : (⟨(i 2).val / 128, by have : (i 2).val < 1024 := (i 2).isLt; omega⟩ : Fin 8) = p := Fin.ext (by show (i 2).val / 128 = _; omega)
  have er : (⟨(i 1).val / 64, by have : (i 1).val < 8192 := (i 1).isLt; omega⟩ : Fin 128) = r := Fin.ext (by show (i 1).val / 64 = _; omega)
  have ej : (⟨(i 1).val % 64, by omega⟩ : Fin 64) = j := Fin.ext (by show (i 1).val % 64 = _; omega)
  have el : (⟨(i 2).val % 128, by omega⟩ : Fin 128) = l := Fin.ext (by show (i 2).val % 128 = _; omega)
  unfold kOut
  simp only [ep, er, ej, el]
  rw [e0]

/-- A number small enough is its own 32-bit word's value. -/
theorem word_val {n k : Nat} (h : n < k) (hk : k < 4294967296) : (BitVec.ofNat 32 n).toNat = n := by
  rw [BitVec.toNat_ofNat]; exact Nat.mod_eq_of_lt (lt_trans h hk)

/-- The first grid block index of the queries is one more than the row group's: the context comes first. -/
theorem word_succ {n : Nat} (h : n < 32) : (Scalar.addi 1#32 (BitVec.ofNat 32 n)).toNat = 1 + n := by
  show (1#32 + BitVec.ofNat 32 n).toNat = 1 + n
  rw [BitVec.toNat_add, word_val h (by decide)]
  show (1 + n) % 4294967296 = 1 + n
  omega

/-- Window 0's block index at a setting of the grid's coordinates. -/
theorem transform0 (i : grid0.Coords) : cc0_transform_0 i = ![(i 0).val, 1 + (i 2).val, (i 1).val] := by
  funext a
  match a with
  | ⟨0, _⟩ => exact word_val (i 0).isLt (by decide)
  | ⟨1, _⟩ => exact word_succ (i 2).isLt
  | ⟨2, _⟩ => exact word_val (i 1).isLt (by decide)

/-- Window 0's block index at a grid point. -/
theorem index0 (t : Fin cfg0.N) : win0_0.index t = ![(grid0.coords t 0).val, 1 + (grid0.coords t 2).val, (grid0.coords t 1).val] :=
  transform0 (grid0.coords t)

/-- Window 1's block index at a setting of the grid's coordinates. -/
theorem transform1 (i : grid0.Coords) : cc0_transform_1 i = ![(i 0).val, 0, (i 1).val] := by
  funext a
  match a with
  | ⟨0, _⟩ => exact word_val (i 0).isLt (by decide)
  | ⟨1, _⟩ => exact rfl
  | ⟨2, _⟩ => exact word_val (i 1).isLt (by decide)

/-- Window 1's block index at a grid point. -/
theorem index1 (t : Fin cfg0.N) : win0_1.index t = ![(grid0.coords t 0).val, 0, (grid0.coords t 1).val] :=
  transform1 (grid0.coords t)

/-- Window 2's block index at a setting of the grid's coordinates. -/
theorem transform2 (i : grid0.Coords) : cc0_transform_2 i = ![(i 0).val, 0, (i 1).val] := by
  funext a
  match a with
  | ⟨0, _⟩ => exact word_val (i 0).isLt (by decide)
  | ⟨1, _⟩ => exact rfl
  | ⟨2, _⟩ => exact word_val (i 1).isLt (by decide)

/-- Window 2's block index at a grid point. -/
theorem index2 (t : Fin cfg0.N) : win0_2.index t = ![(grid0.coords t 0).val, 0, (grid0.coords t 1).val] :=
  transform2 (grid0.coords t)

/-- Window 3's block index at a setting of the grid's coordinates. -/
theorem transform3 (i : grid0.Coords) : cc0_transform_3 i = ![(i 1).val, 0, 0, 0] := by
  funext a
  match a with
  | ⟨0, _⟩ => exact word_val (i 1).isLt (by decide)
  | ⟨1, _⟩ => exact rfl
  | ⟨2, _⟩ => exact rfl
  | ⟨3, _⟩ => exact rfl

/-- Window 3's block index at a grid point. -/
theorem index3 (t : Fin cfg0.N) : win0_3.index t = ![(grid0.coords t 1).val, 0, 0, 0] :=
  transform3 (grid0.coords t)

/-- Window 4's block index at a setting of the grid's coordinates. -/
theorem transform4 (i : grid0.Coords) : cc0_transform_4 i = ![(i 0).val, (i 2).val, (i 1).val] := by
  funext a
  match a with
  | ⟨0, _⟩ => exact word_val (i 0).isLt (by decide)
  | ⟨1, _⟩ => exact word_val (i 2).isLt (by decide)
  | ⟨2, _⟩ => exact word_val (i 1).isLt (by decide)

/-- Window 4's block index at a grid point. -/
theorem index4 (t : Fin cfg0.N) : win0_4.index t = ![(grid0.coords t 0).val, (grid0.coords t 2).val, (grid0.coords t 1).val] :=
  transform4 (grid0.coords t)

/-- The result's blocks cover it. -/
theorem covers4 : win0_4.Covers :=
  win0_4.covers_of_indexMap_surj rfl (by decide) fun β => by
    have e : ∀ i : grid0.Coords, win0_4.indexMap i = ![(i 0).val, (i 2).val, (i 1).val] := transform4
    refine ⟨fun a => match a with
      | ⟨0, _⟩ => ⟨(β 0).val, (β 0).isLt⟩
      | ⟨1, _⟩ => ⟨(β 2).val, (β 2).isLt⟩
      | ⟨2, _⟩ => ⟨(β 1).val, (β 1).isLt⟩, fun a => ?_⟩
    rw [e]
    match a with
    | ⟨0, _⟩ => rfl
    | ⟨1, _⟩ => rfl
    | ⟨2, _⟩ => rfl

/-- Row `rr` of point `s`'s four rows. -/
def rowAt (s : Fin 32) (rr : Fin 4) : Fin 128 := ⟨4 * s.val + rr.val, by omega⟩

/-- The window's first position, as the kernel computes it in words. -/
theorem start_word (s : Fin 32) (rr : Fin 4) (w : BitVec 32) (hw : BitVec.ofNat 32 rr.val = w) :
    BitVec.toNat (Scalar.indexCast (Scalar.addi 256#32 (Scalar.muli (Scalar.minsi 120#32 (Scalar.maxsi 0#32 (Scalar.subi
      (Scalar.addi (Scalar.muli (BitVec.ofNat 32 s.val) 4#32) w) 4#32))) 64#32)))
      = 256 + 64 * firstRow (rowAt s rr).val := by
  subst hw; revert s rr; decide +kernel

/-- The row's place in its window, as the kernel computes it in words. -/
theorem off_word (s : Fin 32) (rr : Fin 4) (w : BitVec 32) (hw : BitVec.ofNat 32 rr.val = w) :
    BitVec.toNat (Scalar.indexCast (Scalar.subi (Scalar.addi (Scalar.muli (BitVec.ofNat 32 s.val) 4#32) w)
      (Scalar.minsi 120#32 (Scalar.maxsi 0#32 (Scalar.subi
      (Scalar.addi (Scalar.muli (BitVec.ofNat 32 s.val) 4#32) w) 4#32)))))
      = (rowAt s rr).val - firstRow (rowAt s rr).val := by
  subst hw; revert s rr; decide +kernel

/-- The context's keys, as the body loads them. -/
theorem ld_ctx1 (X : Vec F S8x8448x1024 .bf16) (t : Fin cfg0.N)  (i) :
    View.ld (((cfg0.win 1).blk t).view.read (Elt F) X) (Rect.unit (s := S1x8448x128) ![0, 0, 0] ![1, 256, 128] i) = ctxOf X (grid0.coords t 0) (grid0.coords t 1) := by
  funext x
  refine congrArg X (?_ : (win0_1.blk t).view.emb ((Rect.unit (s := S1x8448x128) ![0, 0, 0] ![1, 256, 128] i).emb x) = _)
  funext a
  apply Fin.ext
  fin_cases a
  · blk_simp [index1]; rfl
  · blk_simp [index1]; show (x 1).val = (x 1).val; rfl
  · blk_simp [index1]; show (grid0.coords t 1).val * 128 + (x 2).val = 128 * (grid0.coords t 1).val + (x 2).val; omega

/-- The context's values, as the body loads them. -/
theorem ld_ctx2 (X : Vec F S8x8448x1024 .bf16) (t : Fin cfg0.N)  (i) :
    View.ld (((cfg0.win 2).blk t).view.read (Elt F) X) (Rect.unit (s := S1x8448x128) ![0, 0, 0] ![1, 256, 128] i) = ctxOf X (grid0.coords t 0) (grid0.coords t 1) := by
  funext x
  refine congrArg X (?_ : (win0_2.blk t).view.emb ((Rect.unit (s := S1x8448x128) ![0, 0, 0] ![1, 256, 128] i).emb x) = _)
  funext a
  apply Fin.ext
  fin_cases a
  · blk_simp [index2]; rfl
  · blk_simp [index2]; show (x 1).val = (x 1).val; rfl
  · blk_simp [index2]; show (grid0.coords t 1).val * 128 + (x 2).val = 128 * (grid0.coords t 1).val + (x 2).val; omega

/-- A row's queries, as the body loads them. -/
theorem ld_row (X : Vec F S8x8448x1024 .bf16) (t : Fin cfg0.N) (rr : Fin 4) (qo : Nat) (hq : qo = 64 * rr.val) (i) :
    View.ld (((cfg0.win 0).blk t).view.read (Elt F) X) (Rect.unit (s := S1x256x128) ![0, qo, 0] ![1, 64, 128] i) = rowOf X (grid0.coords t 0) (grid0.coords t 1) (rowAt (grid0.coords t 2) rr) := by
  funext x
  refine congrArg X (?_ : (win0_0.blk t).view.emb ((Rect.unit (s := S1x256x128) ![0, qo, 0] ![1, 64, 128] i).emb x) = _)
  funext a
  apply Fin.ext
  fin_cases a
  · blk_simp [index0]; rfl
  · blk_simp [index0]; show (1 + (grid0.coords t 2).val) * 256 + (qo + (x 1).val) = 256 + 64 * (4 * (grid0.coords t 2).val + rr.val) + (x 1).val; omega
  · blk_simp [index0]; show (grid0.coords t 1).val * 128 + (x 2).val = 128 * (grid0.coords t 1).val + (x 2).val; omega

/-- A window's keys, as the body loads them. -/
theorem ld_win1 (X : Vec F S8x8448x1024 .bf16) (t : Fin cfg0.N) (r : Fin 128) (st : Nat) (hs : st = 256 + 64 * firstRow r.val) (i) :
    View.ld (((cfg0.win 1).blk t).view.read (Elt F) X) (Rect.unit (s := S1x8448x128) ![0, st, 0] ![1, 512, 128] i) = winOf X (grid0.coords t 0) (grid0.coords t 1) r := by
  funext x
  refine congrArg X (?_ : (win0_1.blk t).view.emb ((Rect.unit (s := S1x8448x128) ![0, st, 0] ![1, 512, 128] i).emb x) = _)
  funext a
  apply Fin.ext
  fin_cases a
  · blk_simp [index1]; rfl
  · blk_simp [index1]; show st + (x 1).val = 256 + 64 * firstRow r.val + (x 1).val; omega
  · blk_simp [index1]; show (grid0.coords t 1).val * 128 + (x 2).val = 128 * (grid0.coords t 1).val + (x 2).val; omega

/-- A window's values, as the body loads them. -/
theorem ld_win2 (X : Vec F S8x8448x1024 .bf16) (t : Fin cfg0.N) (r : Fin 128) (st : Nat) (hs : st = 256 + 64 * firstRow r.val) (i) :
    View.ld (((cfg0.win 2).blk t).view.read (Elt F) X) (Rect.unit (s := S1x8448x128) ![0, st, 0] ![1, 512, 128] i) = winOf X (grid0.coords t 0) (grid0.coords t 1) r := by
  funext x
  refine congrArg X (?_ : (win0_2.blk t).view.emb ((Rect.unit (s := S1x8448x128) ![0, st, 0] ![1, 512, 128] i).emb x) = _)
  funext a
  apply Fin.ext
  fin_cases a
  · blk_simp [index2]; rfl
  · blk_simp [index2]; show st + (x 1).val = 256 + 64 * firstRow r.val + (x 1).val; omega
  · blk_simp [index2]; show (grid0.coords t 1).val * 128 + (x 2).val = 128 * (grid0.coords t 1).val + (x 2).val; omega

/-- A row's bias, as the body loads it. -/
theorem ld_bias (X : Vec F S8x8x128x512 .f32) (t : Fin cfg0.N) (r : Fin 128) (of : Nat) (ho : of = r.val - firstRow r.val) (i) :
    View.ld (((cfg0.win 3).blk t).view.read (Elt F) X) (Rect.unit (s := S1x8x128x512) ![0, of, 0, 0] ![1, 1, 128, 512] i) = biasOf X (grid0.coords t 1) r := by
  funext x
  refine congrArg X (?_ : (win0_3.blk t).view.emb ((Rect.unit (s := S1x8x128x512) ![0, of, 0, 0] ![1, 1, 128, 512] i).emb x) = _)
  funext a
  apply Fin.ext
  fin_cases a
  · blk_simp [index3]; rfl
  · blk_simp [index3]; show of = r.val - firstRow r.val; omega
  · blk_simp [index3]; rfl
  · blk_simp [index3]; rfl

/-- One of the block's four rows: the row's output, of the loads the body makes for it. -/
theorem row_piece (c : Dev nD) (t : Fin cfg0.N) (rr : Fin 4) (qo st of : Nat) (hq : qo = 64 * rr.val)
    (hs : st = 256 + 64 * firstRow (rowAt (grid0.coords t 2) rr).val)
    (ho : of = (rowAt (grid0.coords t 2) rr).val - firstRow (rowAt (grid0.coords t 2) rr).val)
    (i1 i2 i3 i4 i5 i6 i7) (x : (Rect.unit (s := S1x256x128) ![0, qo, 0] ![1, 64, 128] i1).shape.Idx) :
    rowOut (View.ld (iblk m c 1 t) (Rect.unit (s := S1x8448x128) ![0, 0, 0] ![1, 256, 128] i2))
        (View.ld (iblk m c 2 t) (Rect.unit (s := S1x8448x128) ![0, 0, 0] ![1, 256, 128] i3))
        (View.ld (iblk m c 0 t) (Rect.unit (s := S1x256x128) ![0, qo, 0] ![1, 64, 128] i4))
        (View.ld (iblk m c 1 t) (Rect.unit (s := S1x8448x128) ![0, st, 0] ![1, 512, 128] i5))
        (View.ld (iblk m c 2 t) (Rect.unit (s := S1x8448x128) ![0, st, 0] ![1, 512, 128] i6))
        (View.ld (iblk m c 3 t) (Rect.unit (s := S1x8x128x512) ![0, of, 0, 0] ![1, 1, 128, 512] i7)) x
      = kOut (V m c main_arg0) (V m c main_arg1) (V m c main_arg2) (V m c main_v16)
          ((win0_4.blk t).view.emb ((Rect.unit (s := S1x256x128) ![0, qo, 0] ![1, 64, 128] i1).emb x)) := by
  have hx1 : (x 1).val < 64 := (x 1).isLt
  have hx2 : (x 2).val < 128 := (x 2).isLt
  rw [kOut_at _ _ _ _ _ (grid0.coords t 0) (grid0.coords t 1) (rowAt (grid0.coords t 2) rr) (x 1) (x 2)]
  · refine congr (congr (congr (congr (congr (congr (congrArg _ ?_) ?_) ?_) ?_) ?_) ?_) ?_
    · exact ld_ctx1 (V m c main_arg1) t _
    · exact ld_ctx2 (V m c main_arg2) t _
    · exact ld_row (V m c main_arg0) t rr qo hq _
    · exact ld_win1 (V m c main_arg1) t _ st hs _
    · exact ld_win2 (V m c main_arg2) t _ st hs _
    · exact ld_bias (V m c main_v16) t _ of ho _
    · funext a
      match a with
      | ⟨0, _⟩ => exact Fin.ext (by have : (x 0).val < 1 := (x 0).isLt
                                    show (x 0).val = 0
                                    omega)
      | ⟨1, _⟩ => rfl
      | ⟨2, _⟩ => rfl
  · blk_simp [index4]
  · blk_simp [index4]; simp only [rowAt]; omega
  · blk_simp [index4]; omega

/-- What a point leaves in its block of the result: the result array's formula at the block's place. -/
theorem after_apply (c : Dev nD) (t : Fin cfg0.N) (y : S1x256x128.Idx) :
    outsAt0 m c t y = kOut (V m c main_arg0) (V m c main_arg1) (V m c main_arg2) (V m c main_v16) ((win0_4.blk t).view.emb y) := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  refine View.canon_apply_of_pieces (fun y => kOut (V m c main_arg0) (V m c main_arg1) (V m c main_arg2) (V m c main_v16) ((win0_4.blk t).view.emb y)) _ ?_ y
    (View.cover_of_tiledL (s := S1x256x128) _ S1x64x128.size (by sl_kernel_rfl) y)
  simp only [List.forall_mem_cons]
  refine ⟨fun x => ?_, fun x => ?_, fun x => ?_, fun x => ?_, fun p hp => absurd hp (List.not_mem_nil)⟩
  · exact (congrFun (fourth_eq _ _ _ _ _ _) x).trans (row_piece m c t 3 192 _ _ rfl (start_word (grid0.coords t 2) 3 3#32 rfl)
      (off_word (grid0.coords t 2) 3 3#32 rfl) _ _ _ _ _ _ _ x)
  · exact (congrFun (third_eq _ _ _ _ _ _) x).trans (row_piece m c t 2 128 _ _ rfl (start_word (grid0.coords t 2) 2 2#32 rfl)
      (off_word (grid0.coords t 2) 2 2#32 rfl) _ _ _ _ _ _ _ x)
  · exact (congrFun (second_eq _ _ _ _ _ _) x).trans (row_piece m c t 1 64 _ _ rfl (start_word (grid0.coords t 2) 1 1#32 rfl)
      (off_word (grid0.coords t 2) 1 1#32 rfl) _ _ _ _ _ _ _ x)
  · exact (congrFun (first_eq _ _ _ _ _ _) x).trans (row_piece m c t 0 0 _ _ rfl (start_word (grid0.coords t 2) 0 0#32 rfl)
      (off_word (grid0.coords t 2) 0 0#32 rfl) _ _ _ _ _ _ _ x)

/-- The result array after the run, of the arrays the region finds. -/
theorem final (c : Dev nD) : (dats m 0 c).arrAt 4 cfg0.N
    = kOut (V m c main_arg0) (V m c main_arg1) (V m c main_arg2) (V m c main_v16) := by
  refine (dats m 0 c).arrAt_eq_of_covers 4 _ covers4 fun t hf y => ?_
  blk_simp
  rw [after0_4]
  exact after_apply m c t _

end Cert.KernelIdeal.Na
-- ==== Proof.NaTable.lean ====
module

public import proofs.«01_k».proof.Proof.NaBlock
public import Idealize.ShloMosaic.Lib.StableHlo.ReadAt
public import Idealize.ShloMosaic.Lib.Claim

@[expose] public section

set_option maxRecDepth 16384

noncomputable section

namespace Cert.KernelIdeal.Na

open Cert.KernelIdeal Cert.KernelIdeal.Gen Idealize.ShloMosaic Idealize.ShloMosaic.TcCoe Idealize.ShloMosaic.Tactic Idealize.SL.Sem
open Idealize.ShloMosaic.Pipeline (Dat)

/-- The table's rows, gathered along the relative rows: the entry that the pair's word names. -/
theorem gather_rows {α : Type} (x : S16x15x31.Idx → α) (idx : IVec S8x8x1 32) (h : Fin 16) (o i : Fin 8) (e : Fin 31) (s : Fin 15)
    (hs : (idx (ix3 o i 0)).toInt.toNat = s.val) :
    Host.gather gather_S16x15x31_S8x8x1_S16x8x8x31_03_1_n_n_1_2_16131 x idx (ix4 h o i e) = x (ix3 h s e) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start GatherDims.offCoord
    rw [dif_neg (by decide), dif_pos (by decide)]
    simp only [Nat.zero_add]
    rfl
  · unfold GatherDims.start
    rw [dif_pos (by decide), GatherDims.offCoord_eq_zero _ _ _ (by decide)]
    have e1 : ∀ p, GatherDims.siIdx gather_S16x15x31_S8x8x1_S16x8x8x31_03_1_n_n_1_2_16131 (ix4 h o i e) p = ix3 o i 0 := by
      intro p; funext q; fin_cases q
      · rfl
      · rfl
      · exact Subsingleton.elim (α := Fin 1) _ _
    rw [e1, hs]
    show min s.val (15 - 1) + 0 + 0 = s.val
    omega
  · unfold GatherDims.start GatherDims.offCoord
    rw [dif_neg (by decide), dif_pos (by decide)]
    simp only [Nat.zero_add]
    rfl

/-- The table's columns, gathered along the relative columns: the entry that the pair's word names. -/
theorem gather_cols {α : Type} (x : S16x8x8x31.Idx → α) (idx : IVec S64x64x1 32) (h : Fin 16) (o i : Fin 8) (j k : Fin 64) (s : Fin 31)
    (hs : (idx (ix3 j k 0)).toInt.toNat = s.val) :
    Host.gather gather_S16x8x8x31_S64x64x1_S16x8x8x64x64_012_3_n_n_3_2_16881 x idx (ix5 h o i j k) = x (ix4 h o i s) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl
  · unfold GatherDims.start
    rw [dif_pos (by decide), GatherDims.offCoord_eq_zero _ _ _ (by decide)]
    have e1 : ∀ p, GatherDims.siIdx gather_S16x8x8x31_S64x64x1_S16x8x8x64x64_012_3_n_n_3_2_16881 (ix5 h o i j k) p = ix3 j k 0 := by
      intro p; funext q; fin_cases q
      · rfl
      · rfl
      · exact Subsingleton.elim (α := Fin 1) _ _
    rw [e1, hs]
    show min s.val (31 - 1) + 0 + 0 = s.val
    omega

/-- The relative rows' literal table. -/
theorem rows_lit (o i : Fin 8) : (lit0 ⟨8 * o.val + i.val, by omega⟩).toInt.toNat = i.val + 7 - o.val := by
  revert o i; decide +kernel

/-- The relative columns' literal table. -/
theorem cols_lit (j k : Fin 64) : (lit1 ⟨64 * j.val + k.val, by omega⟩).toInt.toNat = min 30 (k.val + 15 - j.val) := by
  revert j k; decide +kernel

/-- The window's literal table: the sixteen columns that start at the window's first. -/
theorem band_lit (j k : Fin 64) : lit2 ⟨64 * j.val + k.val, by omega⟩ = if min 48 (j.val - 8) ≤ k.val ∧ k.val < min 48 (j.val - 8) + 16 then 1#1 else 0#1 := by
  revert j k; decide +kernel

theorem flat8 (o i : Fin 8) : S8x8.rowMajor (ix2 o i) = (⟨8 * o.val + i.val, by show _ < 64; omega⟩ : Fin S8x8.numel) := by
  refine Fin.ext ?_
  rw [Shape.rowMajor_val_two]
  show o.val * 8 + i.val = 8 * o.val + i.val
  omega

theorem flat64 (j k : Fin 64) : S64x64.rowMajor (ix2 j k) = (⟨64 * j.val + k.val, by show _ < 4096; omega⟩ : Fin S64x64.numel) := by
  refine Fin.ext ?_
  rw [Shape.rowMajor_val_two]
  show j.val * 64 + k.val = 64 * j.val + k.val
  omega

/-- The bias table of an array of relative biases: inside the window the entry at the relative row and column, outside
    it the mask. -/
theorem table_at (X : S16x15x31.Idx → EReal) (h : Fin 16) (o i : Fin 8) (j k : Fin 64) (z : EReal) :
    Scalar.select (lit2 (S64x64.rowMajor (ix2 j k)))
      (Host.gather gather_S16x8x8x31_S64x64x1_S16x8x8x64x64_012_3_n_n_3_2_16881
        (Host.gather gather_S16x15x31_S8x8x1_S16x8x8x31_03_1_n_n_1_2_16131 X
          (broadcastInDim S8x8x1 ![0, 1] bcast_S8x8_S8x8x1_0_1
            (select (constantI S8x8 1 0#1)
              (addi (fun i => lit0 (S8x8.rowMajor i)) (broadcastInDim S8x8 ![] bcast_S_S8x8 (constantI S_ 32 15#32)))
              fun i => lit0 (S8x8.rowMajor i))))
        (broadcastInDim S64x64x1 ![0, 1] bcast_S64x64_S64x64x1_0_1
          (select (constantI S64x64 1 0#1)
            (addi (fun i => lit1 (S64x64.rowMajor i))
              (broadcastInDim S64x64 ![] bcast_S_S64x64 (constantI S_ 32 31#32)))
            fun i => lit1 (S64x64.rowMajor i)))
        (ix5 h o i j k)) z
      = if min 48 (j.val - 8) ≤ k.val ∧ k.val < min 48 (j.val - 8) + 16
        then X (ix3 h ⟨i.val + 7 - o.val, by omega⟩ ⟨min 30 (k.val + 15 - j.val), by omega⟩) else z := by
  rw [gather_cols _ _ h o i j k ⟨min 30 (k.val + 15 - j.val), by omega⟩ ?_,
    gather_rows _ _ h o i _ ⟨i.val + 7 - o.val, by omega⟩ ?_, flat64]
  · have hb := band_lit j k
    show Scalar.select (lit2 ⟨64 * j.val + k.val, _⟩) _ _ = _
    rw [hb]
    split
    · rfl
    · rfl
  · rw [broadcastInDim_apply _ bcast_S8x8_S8x8x1_0_1 _ (ix3 o i 0) (ix2 o i) (by intro a; fin_cases a <;> rfl)]
    show (lit0 (S8x8.rowMajor (ix2 o i))).toInt.toNat = _
    rw [flat8]
    exact rows_lit o i
  · rw [broadcastInDim_apply _ bcast_S64x64_S64x64x1_0_1 _ (ix3 j k 0) (ix2 j k) (by intro a; fin_cases a <;> rfl)]
    show (lit1 (S64x64.rowMajor (ix2 j k))).toInt.toNat = _
    rw [flat64]
    exact cols_lit j k

end Cert.KernelIdeal.Na

end
-- ==== Proof.NaBias.lean ====
module

public import proofs.«01_k».proof.Proof.NaTable
public import Idealize.ShloMosaic.Lib.StableHlo.ReadAt
public import Idealize.ShloMosaic.Lib.Claim

@[expose] public section

set_option maxRecDepth 16384

noncomputable section

namespace Cert.KernelIdeal.Na

open Cert.KernelIdeal Cert.KernelIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The bias table the launch reads: at a pair of heads, a row offset, a head's query column and a window key. -/
theorem bias_at (c : Dev nD) (p o : Fin 8) (h : Fin 2) (j : Fin 64) (n : Fin 512) :
    (V m c main_v16 : S8x8x128x512.Idx → EReal) (ix4 p o (lane h j) n)
      = if min 48 (j.val - 8) ≤ n.val % 64 ∧ n.val % 64 < min 48 (j.val - 8) + 16
        then (m (c, Proc.tc.devRef main_arg3) : S16x15x31.Idx → EReal)
          (ix3 ⟨2 * p.val + h.val, by omega⟩ ⟨n.val / 64 + 7 - o.val, by omega⟩ ⟨min 30 (n.val % 64 + 15 - j.val), by omega⟩)
        else (⊥ : EReal) := by
  have hbot : Ideal.ofBits FTy.f32 4286578688#32 = ⊥ := by simp [Ideal.ofBits, Ideal.ieee]
  have h1 := (lane h j).isLt
  have e := table_at (m (c, Proc.tc.devRef main_arg3) : S16x15x31.Idx → EReal) ⟨p.val * 2 + (lane h j).val / 64, by omega⟩ o ⟨n.val / 64, by omega⟩
    ⟨(lane h j).val % 64, by omega⟩ ⟨n.val % 64, by omega⟩ (Ideal.ofBits FTy.f32 4286578688#32)
  have e1 : (⟨(lane h j).val % 64, by omega⟩ : Fin 64) = j := Fin.ext (by show (64 * h.val + j.val) % 64 = j.val; omega)
  have e2 : (⟨p.val * 2 + (lane h j).val / 64, by omega⟩ : Fin 16) = ⟨2 * p.val + h.val, by omega⟩ :=
    Fin.ext (by show p.val * 2 + (64 * h.val + j.val) / 64 = 2 * p.val + h.val; omega)
  refine Eq.trans ?_ (e.trans ?_)
  · unfold V
    after_reads_at
    rfl
  · rw [e1, e2, hbot]

end Cert.KernelIdeal.Na

end
-- ==== Proof.RefIndex.lean ====
module

public import proofs.«01_k».proof.Proof.Gen.ReferenceIdeal.Read
public import Idealize.ShloMosaic.Lib.Pointwise

@[expose] public section

set_option maxRecDepth 16384

noncomputable section

namespace Cert.ReferenceIdeal.Na

open Cert.ReferenceIdeal Cert.ReferenceIdeal.Read Idealize.ShloMosaic Idealize.ShloMosaic.TcCoe

variable {F : FTy → Type} [FloatOps F]

/-- The window's neighbours at a position: the row that the position's word names, at every batch entry, head and lane. -/
theorem gather_keys {α : Type} (x : S8x8192x16x64.Idx → α) (idx : IVec S8192x128x1 32) (b : Fin 8) (t : Fin 8192) (n : Fin 128)
    (h : Fin 16) (e : Fin 64) (s : Fin 8192) (hs : (idx (ix3 t n 0)).toInt.toNat = s.val) :
    Host.gather gather_S8x8192x16x64_S8192x128x1_S8x8192x128x16x64_034_1_n_n_1_2_811664 x idx (ix5 b t n h e) = x (ix4 b s h e) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start GatherDims.offCoord
    rw [dif_neg (by decide), dif_pos (by decide)]
    simp only [Nat.zero_add]
    rfl
  · unfold GatherDims.start
    rw [dif_pos (by decide), GatherDims.offCoord_eq_zero _ _ _ (by decide)]
    have e1 : ∀ p, GatherDims.siIdx gather_S8x8192x16x64_S8192x128x1_S8x8192x128x16x64_034_1_n_n_1_2_811664 (ix5 b t n h e) p = ix3 t n 0 := by
      intro p; funext q; fin_cases q
      · rfl
      · rfl
      · exact Subsingleton.elim (α := Fin 1) _ _
    rw [e1, hs]
    show min s.val (8192 - 1) + 0 + 0 = s.val
    omega
  · unfold GatherDims.start GatherDims.offCoord
    rw [dif_neg (by decide), dif_pos (by decide)]
    simp only [Nat.zero_add]
    rfl
  · unfold GatherDims.start GatherDims.offCoord
    rw [dif_neg (by decide), dif_pos (by decide)]
    simp only [Nat.zero_add]
    rfl

/-- The bias list read at a position: the entry that the position's word names, at every head. -/
theorem gather_bias {α : Type} (x : S16x465.Idx → α) (idx : IVec S8192x128x1 32) (h : Fin 16) (t : Fin 8192) (n : Fin 128)
    (s : Fin 465) (hs : (idx (ix3 t n 0)).toInt.toNat = s.val) :
    Host.gather gather_S16x465_S8192x128x1_S16x8192x128_0_1_n_n_1_2_161 x idx (ix3 h t n) = x (ix2 h s) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start GatherDims.offCoord
    rw [dif_neg (by decide), dif_pos (by decide)]
    simp only [Nat.zero_add]
    rfl
  · unfold GatherDims.start
    rw [dif_pos (by decide), GatherDims.offCoord_eq_zero _ _ _ (by decide)]
    have e1 : ∀ p, GatherDims.siIdx gather_S16x465_S8192x128x1_S16x8192x128_0_1_n_n_1_2_161 (ix3 h t n) p = ix3 t n 0 := by
      intro p; funext q; fin_cases q
      · rfl
      · rfl
      · exact Subsingleton.elim (α := Fin 1) _ _
    rw [e1, hs]
    show min s.val (465 - 1) + 0 + 0 = s.val
    omega

/-- The window's row at each grid row and each of the eight steps down. -/
theorem row_word (r : Fin 128) (i : Fin 8) : val_main_v23 (F := F) (ix2 r i) = BitVec.ofNat 32 (min 120 (r.val - 4) + i.val) := by
  have h : ∀ (r : Fin 128) (i : Fin 8), IntOp.addi (IntOp.minsi 120#32 (IntOp.maxsi 0#32 (IntOp.subi (BitVec.ofNat 32 r.val) 4#32))) (BitVec.ofNat 32 i.val)
      = BitVec.ofNat 32 (min 120 (r.val - 4) + i.val) := by decide +kernel
  rw [← h r i]
  simp only [val_main_v23_apply, val_main_v22_apply, val_main_v21_apply, val_main_v20_apply, val_main_v19_apply, val_main_v18_apply, val_main_v17_apply,
    val_main_call0_v4_apply, val_main_call0_v3_apply, val_main_call0_v2_apply, val_main_call0_v1_apply, val_main_call0_v0_apply, val_main_v16_apply,
    val_main_v15_apply, val_main_v13_apply, val_main_c_apply, val_main_c_0_apply, val_main_c_1_apply]
  rfl

/-- The window's column at each grid column and each of the sixteen steps across. -/
theorem col_word (j : Fin 64) (w : Fin 16) : val_main_v32 (F := F) (ix2 j w) = BitVec.ofNat 32 (min 48 (j.val - 8) + w.val) := by
  have h : ∀ (r : Fin 64) (i : Fin 16), IntOp.addi (IntOp.minsi 48#32 (IntOp.maxsi 0#32 (IntOp.subi (BitVec.ofNat 32 r.val) 8#32))) (BitVec.ofNat 32 i.val)
      = BitVec.ofNat 32 (min 48 (r.val - 8) + i.val) := by decide +kernel
  rw [← h j w]
  simp only [val_main_v32_apply, val_main_v31_apply, val_main_v30_apply, val_main_v29_apply, val_main_v28_apply, val_main_v27_apply, val_main_v26_apply,
    val_main_call1_v4_apply, val_main_call1_v3_apply, val_main_call1_v2_apply, val_main_call1_v1_apply, val_main_call1_v0_apply, val_main_v25_apply,
    val_main_v24_apply, val_main_v14_apply, val_main_c_2_apply, val_main_c_3_apply, val_main_c_4_apply]
  rfl

/-- How far the window's row lies from the query's row, counted from seven rows above. -/
theorem rowRel_word (r : Fin 128) (i : Fin 8) : val_main_v37 (F := F) (ix2 r i) = BitVec.ofNat 32 (min 120 (r.val - 4) + i.val + 7 - r.val) := by
  have h : ∀ (r : Fin 128) (i : Fin 8), IntOp.addi (IntOp.subi (BitVec.ofNat 32 (min 120 (r.val - 4) + i.val)) (BitVec.ofNat 32 r.val)) 7#32
      = BitVec.ofNat 32 (min 120 (r.val - 4) + i.val + 7 - r.val) := by decide +kernel
  rw [← h r i, ← row_word (F := F) r i]
  simp only [val_main_v37_apply, val_main_v36_apply, val_main_v35_apply, val_main_v34_apply, val_main_v33_apply, val_main_v13_apply, val_main_c_5_apply]
  rfl

/-- How far the window's column lies from the query's column, counted from fifteen columns to the left. -/
theorem colRel_word (j : Fin 64) (w : Fin 16) : val_main_v42 (F := F) (ix2 j w) = BitVec.ofNat 32 (min 48 (j.val - 8) + w.val + 15 - j.val) := by
  have h : ∀ (j : Fin 64) (w : Fin 16), IntOp.addi (IntOp.subi (BitVec.ofNat 32 (min 48 (j.val - 8) + w.val)) (BitVec.ofNat 32 j.val)) 15#32
      = BitVec.ofNat 32 (min 48 (j.val - 8) + w.val + 15 - j.val) := by decide +kernel
  rw [← h j w, ← col_word (F := F) j w]
  simp only [val_main_v42_apply, val_main_v41_apply, val_main_v40_apply, val_main_v39_apply, val_main_v38_apply, val_main_v14_apply, val_main_c_6_apply]
  rfl

/-- A grid position from its row and column. -/
def cell (r : Fin 128) (j : Fin 64) : Fin 8192 := ⟨64 * r.val + j.val, by omega⟩

/-- A neighbour's number from its step down and its step across. -/
def step (i : Fin 8) (w : Fin 16) : Fin 128 := ⟨16 * i.val + w.val, by omega⟩

theorem split50 (r : Fin 128) (j : Fin 64) (i : Fin 8) (w : Fin 16) : idx_main_v50 (ix2 (cell r j) (step i w)) = ix4 r j i w := by
  funext a
  fin_cases a <;> refine Fin.ext ?_
  · show ((64 * r.val + j.val) * 128 + (16 * i.val + w.val)) / 8192 = r.val; omega
  · show ((64 * r.val + j.val) * 128 + (16 * i.val + w.val)) / 128 % 64 = j.val; omega
  · show ((64 * r.val + j.val) * 128 + (16 * i.val + w.val)) / 16 % 8 = i.val; omega
  · show ((64 * r.val + j.val) * 128 + (16 * i.val + w.val)) % 16 = w.val; omega

theorem split58 (r : Fin 128) (j : Fin 64) (i : Fin 8) (w : Fin 16) : idx_main_v58 (ix2 (cell r j) (step i w)) = ix4 r j i w :=
  split50 r j i w

/-- The neighbour's grid position: its row, its column. -/
def nb (r : Fin 128) (j : Fin 64) (i : Fin 8) (w : Fin 16) : Fin 8192 :=
  ⟨64 * (min 120 (r.val - 4) + i.val) + (min 48 (j.val - 8) + w.val), by omega⟩

/-- The neighbour's entry in the flat list of relative offsets. -/
def relOf (r : Fin 128) (j : Fin 64) (i : Fin 8) (w : Fin 16) : Fin 465 :=
  ⟨31 * (min 120 (r.val - 4) + i.val + 7 - r.val) + (min 48 (j.val - 8) + w.val + 15 - j.val), by omega⟩

theorem word_flat (a b c : Nat) : IntOp.addi (IntOp.muli (BitVec.ofNat 32 a) (BitVec.ofNat 32 c)) (BitVec.ofNat 32 b) = BitVec.ofNat 32 (c * a + b) := by
  show BitVec.ofNat 32 a * BitVec.ofNat 32 c + BitVec.ofNat 32 b = _
  rw [← BitVec.ofNat_mul, ← BitVec.ofNat_add, Nat.mul_comm]

/-- The word that names a neighbour. -/
theorem nbr_word (r : Fin 128) (j : Fin 64) (i : Fin 8) (w : Fin 16) :
    val_main_v50 (F := F) (ix2 (cell r j) (step i w)) = BitVec.ofNat 32 (nb r j i w).val := by
  rw [val_main_v50_apply, split50]
  show _ = BitVec.ofNat 32 (64 * (min 120 (r.val - 4) + i.val) + (min 48 (j.val - 8) + w.val))
  rw [← word_flat, ← row_word (F := F), ← col_word (F := F)]
  simp only [val_main_v49_apply, val_main_v48_apply, val_main_v47_apply, val_main_v46_apply, val_main_v45_apply, val_main_v44_apply, val_main_v43_apply,
    val_main_c_7_apply]
  rfl

/-- The word that names a relative offset. -/
theorem rel_word (r : Fin 128) (j : Fin 64) (i : Fin 8) (w : Fin 16) :
    val_main_v58 (F := F) (ix2 (cell r j) (step i w)) = BitVec.ofNat 32 (relOf r j i w).val := by
  rw [val_main_v58_apply, split58]
  show _ = BitVec.ofNat 32 (31 * (min 120 (r.val - 4) + i.val + 7 - r.val) + (min 48 (j.val - 8) + w.val + 15 - j.val))
  rw [← word_flat, ← rowRel_word (F := F), ← colRel_word (F := F)]
  simp only [val_main_v57_apply, val_main_v56_apply, val_main_v55_apply, val_main_v54_apply, val_main_v53_apply, val_main_v52_apply, val_main_v51_apply,
    val_main_c_8_apply]
  rfl

theorem small_slt (v : Nat) (h : v < 8192) : IntOp.cmpi .slt (BitVec.ofNat 32 v) 0#32 = 0#1 := by
  have : (BitVec.ofNat 32 v).toInt = v := by
    rw [BitVec.toInt_eq_toNat_of_lt (by rw [BitVec.toNat_ofNat]; omega), BitVec.toNat_ofNat]; omega
  have h2 : ¬ ((v : ℤ) < 0) := by omega
  simp [IntOp.cmpi, BitVec.slt, this, h2]

theorem small_toInt (v : Nat) (h : v < 8192) : (BitVec.ofNat 32 v).toInt.toNat = v := by
  rw [BitVec.toInt_eq_toNat_of_lt (by rw [BitVec.toNat_ofNat]; omega), BitVec.toNat_ofNat]; omega

/-- The neighbours' keys: row `nb` of the keys' latent rows. -/
theorem keys_at (x1 : (⟨S8x8448x1024, .bf16⟩ : BufTy).Contents (Elt F)) (b : Fin 8) (r : Fin 128) (j : Fin 64) (i : Fin 8) (w : Fin 16) (h : Fin 16) (e : Fin 64) :
    val_main_v65 x1 (ix5 b (cell r j) (step i w) h e) = val_main_v10 x1 (ix4 b (nb r j i w) h e) := by
  unfold val_main_v65
  refine gather_keys _ _ _ _ _ _ _ _ ?_
  have e1 : idx_main_v64 (ix3 (cell r j) (step i w) 0) = ix2 (cell r j) (step i w) := by funext a; fin_cases a <;> rfl
  rw [val_main_v64_apply, e1, val_main_v63_apply, val_main_v60_apply, nbr_word, val_main_v59_apply, val_main_c_9_apply, small_slt _ (nb r j i w).isLt]
  exact small_toInt _ (nb r j i w).isLt

/-- The neighbours' values: row `nb` of the values' latent rows. -/
theorem vals_at (x2 : (⟨S8x8448x1024, .bf16⟩ : BufTy).Contents (Elt F)) (b : Fin 8) (r : Fin 128) (j : Fin 64) (i : Fin 8) (w : Fin 16) (h : Fin 16) (e : Fin 64) :
    val_main_v72 x2 (ix5 b (cell r j) (step i w) h e) = val_main_v12 x2 (ix4 b (nb r j i w) h e) := by
  unfold val_main_v72
  refine gather_keys _ _ _ _ _ _ _ _ ?_
  have e1 : idx_main_v71 (ix3 (cell r j) (step i w) 0) = ix2 (cell r j) (step i w) := by funext a; fin_cases a <;> rfl
  rw [val_main_v71_apply, e1, val_main_v70_apply, val_main_v67_apply, nbr_word, val_main_v66_apply, val_main_c_11_apply, small_slt _ (nb r j i w).isLt]
  exact small_toInt _ (nb r j i w).isLt

/-- The neighbours' bias: the table's entry at the relative row and the relative column. -/
theorem bias_at (x3 : (⟨S16x15x31, .f32⟩ : BufTy).Contents (Elt F)) (r : Fin 128) (j : Fin 64) (i : Fin 8) (w : Fin 16) (h : Fin 16) :
    val_main_v80 x3 (ix3 h (cell r j) (step i w))
      = x3 (ix3 h ⟨min 120 (r.val - 4) + i.val + 7 - r.val, by omega⟩ ⟨min 48 (j.val - 8) + w.val + 15 - j.val, by omega⟩) := by
  unfold val_main_v80
  rw [gather_bias _ _ _ _ _ (relOf r j i w) ?_, val_main_v73_apply]
  · congr 1
    funext a
    fin_cases a <;> refine Fin.ext ?_
    · show (h.val * 465 + (31 * (min 120 (r.val - 4) + i.val + 7 - r.val) + (min 48 (j.val - 8) + w.val + 15 - j.val))) / 465 = h.val; omega
    · show (h.val * 465 + (31 * (min 120 (r.val - 4) + i.val + 7 - r.val) + (min 48 (j.val - 8) + w.val + 15 - j.val))) / 31 % 15 = min 120 (r.val - 4) + i.val + 7 - r.val; omega
    · show (h.val * 465 + (31 * (min 120 (r.val - 4) + i.val + 7 - r.val) + (min 48 (j.val - 8) + w.val + 15 - j.val))) % 31 = min 48 (j.val - 8) + w.val + 15 - j.val; omega
  · have e1 : idx_main_v79 (ix3 (cell r j) (step i w) 0) = ix2 (cell r j) (step i w) := by funext a; fin_cases a <;> rfl
    have hl : (relOf r j i w).val < 8192 := by have := (relOf r j i w).isLt; omega
    rw [val_main_v79_apply, e1, val_main_v78_apply, val_main_v75_apply, rel_word, val_main_v74_apply, val_main_c_13_apply, small_slt _ hl]
    exact small_toInt _ hl

end Cert.ReferenceIdeal.Na

end
-- ==== Proof.RefValue.lean ====
module

public import proofs.«01_k».proof.Proof.RefIndex
public import proofs.«01_k».proof.Proof.Attn

@[expose] public section

set_option maxRecDepth 16384

noncomputable section

namespace Cert.ReferenceIdeal.Na

open Cert.ReferenceIdeal Cert.ReferenceIdeal.Gen Cert.ReferenceIdeal.Read Idealize.ShloMosaic Idealize.ShloMosaic.TcCoe

/-- Column `e` of head `h` among all the heads' columns. -/
def col (h : Fin 16) (e : Fin 64) : Fin 1024 := ⟨64 * h.val + e.val, by omega⟩

/-- A row of the context among all rows. -/
def ctxRow (n : Fin 256) : Fin 8448 := ⟨n.val, by omega⟩

/-- A grid position's row among all rows: the context's rows come first. -/
def latRow (t : Fin 8192) : Fin 8448 := ⟨256 + t.val, by omega⟩

/-- A neighbour's step down. -/
def down (n : Fin 128) : Fin 8 := ⟨n.val / 16, by omega⟩

/-- A neighbour's step across. -/
def across (n : Fin 128) : Fin 16 := ⟨n.val % 16, by omega⟩

theorem step_eta (n : Fin 128) : n = step (down n) (across n) := Fin.ext (by show n.val = 16 * (n.val / 16) + n.val % 16; omega)

section Stages

variable (x0 x1 x2 : (⟨S8x8448x1024, .bf16⟩ : BufTy).Contents (Elt Ideal)) (x3 : (⟨S16x15x31, .f32⟩ : BufTy).Contents (Elt Ideal))
variable (b : Fin 8) (r : Fin 128) (j : Fin 64) (h : Fin 16)

theorem lat_split (t : Fin 8192) (e : Fin 64) : idx_main_v7 (idx_main_v8 (ix4 b t h e)) = ix3 b (latRow t) (col h e) := by
  funext a
  fin_cases a <;> refine Fin.ext ?_
  · show ((((b.val * 8192 + t.val) * 16 + h.val) * 64 + e.val) / 8388608) = b.val; omega
  · show 256 + ((((b.val * 8192 + t.val) * 16 + h.val) * 64 + e.val) / 1024 % 8192) = 256 + t.val; omega
  · show ((((b.val * 8192 + t.val) * 16 + h.val) * 64 + e.val) % 1024) = 64 * h.val + e.val; omega

theorem ctx_split (n : Fin 256) (e : Fin 64) : idx_main_v3 (idx_main_v4 (ix4 b n h e)) = ix3 b (ctxRow n) (col h e) := by
  funext a
  fin_cases a <;> refine Fin.ext ?_
  · show ((((b.val * 256 + n.val) * 16 + h.val) * 64 + e.val) / 262144) = b.val; omega
  · show ((((b.val * 256 + n.val) * 16 + h.val) * 64 + e.val) / 1024 % 256) = n.val; omega
  · show ((((b.val * 256 + n.val) * 16 + h.val) * 64 + e.val) % 1024) = 64 * h.val + e.val; omega

theorem q_at (t : Fin 8192) (e : Fin 64) : val_main_v8 x0 (ix4 b t h e) = x0 (ix3 b (latRow t) (col h e)) := by
  rw [val_main_v8_apply, val_main_v7_apply, lat_split]; rfl

theorem k_at (t : Fin 8192) (e : Fin 64) : val_main_v10 x1 (ix4 b t h e) = x1 (ix3 b (latRow t) (col h e)) := by
  rw [val_main_v10_apply, val_main_v9_apply]
  exact (congrArg (val_main_v1 x1) (lat_split b h t e))

theorem v_at (t : Fin 8192) (e : Fin 64) : val_main_v12 x2 (ix4 b t h e) = x2 (ix3 b (latRow t) (col h e)) := by
  rw [val_main_v12_apply, val_main_v11_apply]
  exact (congrArg (val_main_v2 x2) (lat_split b h t e))

theorem kc_at (n : Fin 256) (e : Fin 64) : val_main_v4 x1 (ix4 b n h e) = x1 (ix3 b (ctxRow n) (col h e)) := by
  rw [val_main_v4_apply, val_main_v3_apply, ctx_split]; rfl

theorem vc_at (n : Fin 256) (e : Fin 64) : val_main_v6 x2 (ix4 b n h e) = x2 (ix3 b (ctxRow n) (col h e)) := by
  rw [val_main_v6_apply, val_main_v5_apply]
  exact (congrArg (val_main_v2 x2) (ctx_split b h n e))

/-- A neighbour's score: the query's product with the neighbour's key, and the bias of their relative place. -/
def winScore (n : Fin 128) : EReal :=
  ∑ e : Fin 64, x0 (ix3 b (latRow (cell r j)) (col h e)) * x1 (ix3 b (latRow (nb r j (down n) (across n))) (col h e))
    + x3 (ix3 h ⟨min 120 (r.val - 4) + (down n).val + 7 - r.val, by omega⟩ ⟨min 48 (j.val - 8) + (across n).val + 15 - j.val, by omega⟩)

/-- A context row's score: the query's product with its key. -/
def ctxScore (n : Fin 256) : EReal :=
  ∑ e : Fin 64, x0 (ix3 b (latRow (cell r j)) (col h e)) * x1 (ix3 b (ctxRow n) (col h e))

theorem win_score (n : Fin 128) : val_main_v84 x0 x1 x3 (ix4 b h (cell r j) n) = winScore x0 x1 x3 b r j h n := by
  have e3 : idx_main_v82 (idx_main_v83 (ix4 b h (cell r j) n)) = ix3 h (cell r j) n := by funext a; fin_cases a <;> rfl
  have el : ∀ e : Fin 64, lidx_main_v81 (ix4 b h (cell r j) n) e = ix4 b (cell r j) h e := by intro e; funext a; fin_cases a <;> rfl
  have er : ∀ e : Fin 64, ridx_main_v81 (ix4 b h (cell r j) n) e = ix5 b (cell r j) n h e := by intro e; funext a; fin_cases a <;> rfl
  have hk : ∀ e : Fin 64, val_main_v65 x1 (ix5 b (cell r j) n h e) = x1 (ix3 b (latRow (nb r j (down n) (across n))) (col h e)) := by
    intro e
    have := keys_at x1 b r j (down n) (across n) h e
    rw [← step_eta, k_at] at this
    exact this
  have hb := bias_at x3 r j (down n) (across n) h
  rw [← step_eta] at hb
  rw [val_main_v84_apply, val_main_v83_apply, val_main_v82_apply, e3, hb, val_main_v81_apply]
  simp only [el, er, hk, q_at]
  rfl

theorem ctx_score (n : Fin 256) : val_main_v85 x0 x1 (ix4 b h (cell r j) n) = ctxScore x0 x1 b r j h n := by
  have el : ∀ e : Fin 64, lidx_main_v85 (ix4 b h (cell r j) n) e = ix4 b (cell r j) h e := by intro e; funext a; fin_cases a <;> rfl
  have er : ∀ e : Fin 64, ridx_main_v85 (ix4 b h (cell r j) n) e = ix4 b n h e := by intro e; funext a; fin_cases a <;> rfl
  rw [val_main_v85_apply]
  simp only [el, er, kc_at, q_at]
  rfl

theorem cat_left (X : S8x16x8192x128.Idx → EReal) (Y : S8x16x8192x256.Idx → EReal) (t : Fin 8192) (n : Fin 128) :
    concatenate S8x16x8192x384 3 [⟨S8x16x8192x128, X⟩, ⟨S8x16x8192x256, Y⟩] concatenates_S8x16x8192x128_S8x16x8192x256_S8x16x8192x384_d3
      (ix4 b h t (Fin.castAdd 256 n)) = X (ix4 b h t n) :=
  concatenate_pair_apply_left (t := S8x16x8192x384) (s₁ := S8x16x8192x128) (s₂ := S8x16x8192x256) 3 X Y concatenates_S8x16x8192x128_S8x16x8192x256_S8x16x8192x384_d3 _ rfl (ix4 b h t n) (by intro a; fin_cases a <;> rfl)

theorem cat_right (X : S8x16x8192x128.Idx → EReal) (Y : S8x16x8192x256.Idx → EReal) (t : Fin 8192) (n : Fin 256) :
    concatenate S8x16x8192x384 3 [⟨S8x16x8192x128, X⟩, ⟨S8x16x8192x256, Y⟩] concatenates_S8x16x8192x128_S8x16x8192x256_S8x16x8192x384_d3
      (ix4 b h t (Fin.natAdd 128 n)) = Y (ix4 b h t n) :=
  concatenate_pair_apply_right (t := S8x16x8192x384) (s₁ := S8x16x8192x128) (s₂ := S8x16x8192x256) 3 X Y concatenates_S8x16x8192x128_S8x16x8192x256_S8x16x8192x384_d3 _ rfl rfl (ix4 b h t n) (by intro a ha; fin_cases a <;> first | rfl | exact absurd rfl ha) (by show n.val + 128 = 128 + n.val; omega)

theorem max_at (X : S8x16x8192x384.Idx → EReal) (c : S_.Idx → EReal) (t : Fin 8192) :
    Host.reduce (FloatOps.maximumf (F := Ideal) (φ := .f32)) X c reducesTo_S8x16x8192x384_S8x16x8192_d3 h_S_ (ix3 b h t)
      = Finset.univ.fold max (c (Shape.Idx.first h_S_)) fun n : Fin 384 => X (ix4 b h t n) := by
  pointwise

/-- The scores of a query, its neighbours' before the context's, have the larger of the two families' largest as their largest. -/
theorem max_score : val_main_v89 x0 x1 x3 (ix3 b h (cell r j)) = Attn.peak (winScore x0 x1 x3 b r j h) (ctxScore x0 x1 b r j h) := by
  have hbot : Ideal.ofBits FTy.f32 4286578688#32 = ⊥ := by simp [Ideal.ofBits, Ideal.ieee]
  have e : val_main_v87 x0 x1 x3 (ix3 b h (cell r j)) = Attn.top (fun n : Fin (128 + 256) => val_main_v86 x0 x1 x3 (ix4 b h (cell r j) n)) := by
    unfold val_main_v87
    rw [max_at, val_main_cst_apply]
    show Finset.fold max (Ideal.ofBits FTy.f32 4286578688#32) _ _ = _
    rw [hbot]
    rfl
  rw [val_main_v89_apply, val_main_v88_apply, val_main_cst_15_apply, e, Attn.top_append]
  show max (Ideal.ofBits FTy.f32 4286578688#32) _ = _
  rw [hbot, max_eq_right bot_le]
  unfold val_main_v86
  simp only [cat_left, cat_right, win_score, ctx_score]

/-- The exponential of a neighbour's score less the largest. -/
theorem win_exp (n : Fin 128) : val_main_v93 x0 x1 x3 (ix4 b h (cell r j) (Fin.castAdd 256 n))
    = Ideal.exp (winScore x0 x1 x3 b r j h n - Attn.peak (winScore x0 x1 x3 b r j h) (ctxScore x0 x1 b r j h)) := by
  have e1 : idx_main_v90 (idx_main_v91 (ix4 b h (cell r j) (Fin.castAdd 256 n))) = ix3 b h (cell r j) := by funext a; fin_cases a <;> rfl
  rw [val_main_v93_apply, val_main_v92_apply, val_main_v91_apply, val_main_v90_apply, e1, max_score]
  unfold val_main_v86
  rw [cat_left, win_score]
  rfl

/-- The exponential of a context row's score less the largest. -/
theorem ctx_exp (n : Fin 256) : val_main_v93 x0 x1 x3 (ix4 b h (cell r j) (Fin.natAdd 128 n))
    = Ideal.exp (ctxScore x0 x1 b r j h n - Attn.peak (winScore x0 x1 x3 b r j h) (ctxScore x0 x1 b r j h)) := by
  have e1 : idx_main_v90 (idx_main_v91 (ix4 b h (cell r j) (Fin.natAdd 128 n))) = ix3 b h (cell r j) := by funext a; fin_cases a <;> rfl
  rw [val_main_v93_apply, val_main_v92_apply, val_main_v91_apply, val_main_v90_apply, e1, max_score]
  unfold val_main_v86
  rw [cat_right, ctx_score]
  rfl

/-- The exponentials' sum is the neighbours' and the context's. -/
theorem mass_at : val_main_v94 x0 x1 x3 (ix3 b h (cell r j))
    = Attn.mass (Attn.peak (winScore x0 x1 x3 b r j h) (ctxScore x0 x1 b r j h)) (winScore x0 x1 x3 b r j h)
      + Attn.mass (Attn.peak (winScore x0 x1 x3 b r j h) (ctxScore x0 x1 b r j h)) (ctxScore x0 x1 b r j h) := by
  have e1 : ∀ n : Fin 384, idx_main_v94 (ix3 b h (cell r j)) n = ix4 b h (cell r j) n := by intro n; funext a; fin_cases a <;> rfl
  have h0 : FloatOps.ofBits (F := Ideal) FTy.f32 0x00000000#32 = (0 : EReal) := by
    show Ideal.ofBits FTy.f32 0#32 = 0
    simp [Ideal.ofBits, Ideal.ieee]
  rw [val_main_v94_apply, val_main_cst_16_apply, h0, zero_add]
  simp only [e1]
  rw [Fin.sum_univ_add (a := 128) (b := 256) (fun n => val_main_v93 x0 x1 x3 (ix4 b h (cell r j) n))]
  simp only [win_exp, ctx_exp]
  rfl

/-- A neighbour's weight. -/
theorem win_weight (n : Fin 128) : val_main_v98 x0 x1 x3 (ix4 b h (cell r j) n)
    = Ideal.div (Ideal.exp (winScore x0 x1 x3 b r j h n - Attn.peak (winScore x0 x1 x3 b r j h) (ctxScore x0 x1 b r j h)))
      (Attn.mass (Attn.peak (winScore x0 x1 x3 b r j h) (ctxScore x0 x1 b r j h)) (winScore x0 x1 x3 b r j h)
        + Attn.mass (Attn.peak (winScore x0 x1 x3 b r j h) (ctxScore x0 x1 b r j h)) (ctxScore x0 x1 b r j h)) := by
  have e0 : idx_main_v98 (ix4 b h (cell r j) n) = ix4 b h (cell r j) (Fin.castAdd 256 n) := by funext a; fin_cases a <;> rfl
  have e1 : idx_main_v95 (idx_main_v96 (ix4 b h (cell r j) (Fin.castAdd 256 n))) = ix3 b h (cell r j) := by funext a; fin_cases a <;> rfl
  rw [val_main_v98_apply, e0, val_main_v97_apply, val_main_v96_apply, val_main_v95_apply, e1, mass_at, win_exp]
  rfl

/-- A context row's weight. -/
theorem ctx_weight (n : Fin 256) : val_main_v100 x0 x1 x3 (ix4 b h (cell r j) n)
    = Ideal.div (Ideal.exp (ctxScore x0 x1 b r j h n - Attn.peak (winScore x0 x1 x3 b r j h) (ctxScore x0 x1 b r j h)))
      (Attn.mass (Attn.peak (winScore x0 x1 x3 b r j h) (ctxScore x0 x1 b r j h)) (winScore x0 x1 x3 b r j h)
        + Attn.mass (Attn.peak (winScore x0 x1 x3 b r j h) (ctxScore x0 x1 b r j h)) (ctxScore x0 x1 b r j h)) := by
  have e0 : idx_main_v100 (ix4 b h (cell r j) n) = ix4 b h (cell r j) (Fin.natAdd 128 n) := by funext a; fin_cases a <;> rfl
  have e1 : idx_main_v95 (idx_main_v96 (ix4 b h (cell r j) (Fin.natAdd 128 n))) = ix3 b h (cell r j) := by funext a; fin_cases a <;> rfl
  rw [val_main_v100_apply, e0, val_main_v97_apply, val_main_v96_apply, val_main_v95_apply, e1, mass_at, ctx_exp]
  rfl

theorem out_split (t : Fin 8192) (d : Fin 64) : idx_main_v104 (ix3 b t (col h d)) = ix4 b t h d := by
  funext a
  fin_cases a <;> refine Fin.ext ?_
  · show ((b.val * 8192 + t.val) * 1024 + (64 * h.val + d.val)) / 8388608 = b.val; omega
  · show ((b.val * 8192 + t.val) * 1024 + (64 * h.val + d.val)) / 1024 % 8192 = t.val; omega
  · show ((b.val * 8192 + t.val) * 1024 + (64 * h.val + d.val)) / 64 % 16 = h.val; omega
  · show ((b.val * 8192 + t.val) * 1024 + (64 * h.val + d.val)) % 64 = d.val; omega

/-- The reference at a grid position, a head and a column: attention over the neighbours and the context, normalised first. -/
theorem value_at (d : Fin 64) : val_main_v105 x0 x1 x2 x3 (ix3 b (cell r j) (col h d))
    = Attn.early (winScore x0 x1 x3 b r j h) (fun n => x2 (ix3 b (latRow (nb r j (down n) (across n))) (col h d)))
      (ctxScore x0 x1 b r j h) (fun n => x2 (ix3 b (ctxRow n) (col h d))) := by
  have el : ∀ n : Fin 128, lidx_main_v99 (ix4 b (cell r j) h d) n = ix4 b h (cell r j) n := by intro n; funext a; fin_cases a <;> rfl
  have er : ∀ n : Fin 128, ridx_main_v99 (ix4 b (cell r j) h d) n = ix5 b (cell r j) n h d := by intro n; funext a; fin_cases a <;> rfl
  have cl : ∀ n : Fin 256, lidx_main_v101 (idx_main_v102 (ix4 b (cell r j) h d)) n = ix4 b n h d := by intro n; funext a; fin_cases a <;> rfl
  have cr : ∀ n : Fin 256, ridx_main_v101 (idx_main_v102 (ix4 b (cell r j) h d)) n = ix4 b h (cell r j) n := by intro n; funext a; fin_cases a <;> rfl
  have hv : ∀ n : Fin 128, val_main_v72 x2 (ix5 b (cell r j) n h d) = x2 (ix3 b (latRow (nb r j (down n) (across n))) (col h d)) := by
    intro n
    have := vals_at x2 b r j (down n) (across n) h d
    rw [← step_eta, v_at] at this
    exact this
  show val_main_v104 x0 x1 x2 x3 (ix3 b (cell r j) (col h d)) = _
  rw [val_main_v104_apply, out_split, val_main_v103_apply, val_main_v102_apply, val_main_v101_apply, val_main_v99_apply]
  simp only [el, er, cl, cr, hv, vc_at, win_weight, ctx_weight]
  show _ + _ = _ + _
  refine congrArg₂ (· + ·) rfl (Finset.sum_congr rfl fun n _ => mul_comm _ _)

end Stages

end Cert.ReferenceIdeal.Na

end
-- ==== Proof.NaValue.lean ====
module

public import proofs.«01_k».proof.Proof.NaBlock
public import proofs.«01_k».proof.Proof.RefValue

@[expose] public section

set_option maxRecDepth 16384

noncomputable section

namespace Cert.KernelIdeal.Na

open Cert.KernelIdeal Cert.KernelIdeal.Gen Idealize.ShloMosaic Idealize.ShloMosaic.TcCoe
open Cert.ReferenceIdeal.Na (col ctxRow latRow cell nb down across winScore ctxScore)

/-- A head from its pair and its place in the pair. -/
def head (p : Fin 8) (h : Fin 2) : Fin 16 := ⟨2 * p.val + h.val, by omega⟩

/-- A query column's neighbour among the 512 keys of the window's eight full rows. -/
def key (j : Fin 64) (n : Fin 128) : Fin 512 :=
  ⟨64 * (down n).val + (min 48 (j.val - 8) + (across n).val), by have := (down n).isLt; have := (across n).isLt; omega⟩

theorem key_injective (j : Fin 64) : Function.Injective (key j) := by
  intro a b hab
  have h := congrArg Fin.val hab
  refine Fin.ext ?_
  have e : 64 * (a.val / 16) + (min 48 (j.val - 8) + a.val % 16) = 64 * (b.val / 16) + (min 48 (j.val - 8) + b.val % 16) := h
  omega

/-- A key of the window's columns is a neighbour. -/
theorem key_of_band (j : Fin 64) (n : Fin 512) (h : min 48 (j.val - 8) ≤ n.val % 64 ∧ n.val % 64 < min 48 (j.val - 8) + 16) :
    ∃ k, key j k = n := by
  refine ⟨⟨16 * (n.val / 64) + (n.val % 64 - min 48 (j.val - 8)), by omega⟩, Fin.ext ?_⟩
  show 64 * ((16 * (n.val / 64) + (n.val % 64 - min 48 (j.val - 8))) / 16)
    + (min 48 (j.val - 8) + (16 * (n.val / 64) + (n.val % 64 - min 48 (j.val - 8))) % 16) = n.val
  omega

section Same

variable (Q K W : Vec Ideal S8x8448x1024 .bf16) (R : S16x15x31.Idx → EReal) (B : Vec Ideal S8x8x128x512 .f32)

theorem row_at (b p : Fin 8) (r : Fin 128) (h : Fin 2) (j e : Fin 64) :
    rowOf Q b p r (ix3 0 j (lane h e)) = Q (ix3 b (latRow (cell r j)) (col (head p h) e)) := by
  unfold rowOf
  congr 1
  funext a
  fin_cases a <;> refine Fin.ext ?_
  · rfl
  · show 256 + 64 * r.val + j.val = 256 + (64 * r.val + j.val); omega
  · show 128 * p.val + (64 * h.val + e.val) = 64 * (2 * p.val + h.val) + e.val; omega

theorem ctx_at (b p : Fin 8) (h : Fin 2) (n : Fin 256) (e : Fin 64) :
    ctxOf K b p (ix3 0 n (lane h e)) = K (ix3 b (ctxRow n) (col (head p h) e)) := by
  unfold ctxOf
  congr 1
  funext a
  fin_cases a <;> refine Fin.ext ?_
  · rfl
  · rfl
  · show 128 * p.val + (64 * h.val + e.val) = 64 * (2 * p.val + h.val) + e.val; omega

theorem win_at (b p : Fin 8) (r : Fin 128) (h : Fin 2) (j e : Fin 64) (n : Fin 128) :
    winOf K b p r (ix3 0 (key j n) (lane h e)) = K (ix3 b (latRow (nb r j (down n) (across n))) (col (head p h) e)) := by
  unfold winOf
  congr 1
  funext a
  fin_cases a <;> refine Fin.ext ?_
  · rfl
  · show 256 + 64 * min 120 (r.val - 4) + (64 * (down n).val + (min 48 (j.val - 8) + (across n).val))
      = 256 + (64 * (min 120 (r.val - 4) + (down n).val) + (min 48 (j.val - 8) + (across n).val))
    omega
  · show 128 * p.val + (64 * h.val + e.val) = 64 * (2 * p.val + h.val) + e.val; omega

/-- The kernel's result is the reference's, of finite queries, keys and biases, where the bias table is the biases' at
    each relative place in the window and the mask outside it. -/
theorem same
    (hB : ∀ (p o : Fin 8) (h : Fin 2) (j : Fin 64) (n : Fin 512), (B : S8x8x128x512.Idx → EReal) (ix4 p o (lane h j) n)
      = if min 48 (j.val - 8) ≤ n.val % 64 ∧ n.val % 64 < min 48 (j.val - 8) + 16
        then R (ix3 ⟨2 * p.val + h.val, by omega⟩ ⟨n.val / 64 + 7 - o.val, by omega⟩ ⟨min 30 (n.val % 64 + 15 - j.val), by omega⟩)
        else (⊥ : EReal))
    (hQ : ∀ i, (Q i : EReal) ≠ ⊥ ∧ (Q i : EReal) ≠ ⊤) (hK : ∀ i, (K i : EReal) ≠ ⊥ ∧ (K i : EReal) ≠ ⊤) (hR : ∀ i, R i ≠ ⊥ ∧ R i ≠ ⊤) :
    kOut Q K W B = Cert.ReferenceIdeal.Read.val_main_v105 (F := Ideal) Q K W R := by
  funext i
  have i0 : (i 0).val < 8 := (i 0).isLt
  have i1 : (i 1).val < 8192 := (i 1).isLt
  have i2 : (i 2).val < 1024 := (i 2).isLt
  obtain ⟨b, hb⟩ : ∃ b : Fin 8, (i 0).val = b.val := ⟨i 0, rfl⟩
  obtain ⟨r, j, h1⟩ : ∃ (r : Fin 128) (j : Fin 64), (i 1).val = 64 * r.val + j.val :=
    ⟨⟨(i 1).val / 64, by omega⟩, ⟨(i 1).val % 64, by omega⟩, by show (i 1).val = 64 * ((i 1).val / 64) + (i 1).val % 64; omega⟩
  obtain ⟨p, h, d, h2⟩ : ∃ (p : Fin 8) (h : Fin 2) (d : Fin 64), (i 2).val = 128 * p.val + (64 * h.val + d.val) :=
    ⟨⟨(i 2).val / 128, by omega⟩, ⟨(i 2).val / 64 % 2, by omega⟩, ⟨(i 2).val % 64, by omega⟩, by
      show (i 2).val = 128 * ((i 2).val / 128) + (64 * ((i 2).val / 64 % 2) + (i 2).val % 64); omega⟩
  have ei : i = ix3 b (cell r j) (col (head p h) d) := by
    funext a
    fin_cases a <;> refine Fin.ext ?_
    · exact hb
    · exact h1
    · show (i 2).val = 64 * (2 * p.val + h.val) + d.val; omega
  rw [kOut_at Q K W B i b p r j (lane h d) hb h1 h2, rowOut_apply, ei, Cert.ReferenceIdeal.Na.value_at]
  rw [← Attn.late_eq_early]
  · rw [Attn.late_of_image (key j) (key_injective j)]
    · congr 1
      · funext n
        show ∑ e, rowOf Q b p r (ix3 0 j (lane h e)) * winOf K b p r (ix3 0 (key j n) (lane h e))
          + B (ix4 p ⟨r.val - firstRow r.val, _⟩ (lane h j) (key j n)) = winScore Q K R b r j (head p h) n
        rw [hB, if_pos]
        · simp only [row_at, win_at]
          unfold winScore
          have hd := (down n).isLt
          have ha := (across n).isLt
          refine congrArg₂ (· + ·) rfl (congrArg R ?_)
          funext a
          fin_cases a <;> refine Fin.ext ?_
          · rfl
          · show (64 * (down n).val + (min 48 (j.val - 8) + (across n).val)) / 64 + 7 - (r.val - min 120 (r.val - 4))
              = min 120 (r.val - 4) + (down n).val + 7 - r.val
            omega
          · show min 30 ((64 * (down n).val + (min 48 (j.val - 8) + (across n).val)) % 64 + 15 - j.val)
              = min 48 (j.val - 8) + (across n).val + 15 - j.val
            omega
        · have ha := (across n).isLt
          show min 48 (j.val - 8) ≤ (64 * (down n).val + (min 48 (j.val - 8) + (across n).val)) % 64
            ∧ (64 * (down n).val + (min 48 (j.val - 8) + (across n).val)) % 64 < min 48 (j.val - 8) + 16
          omega
      · funext n
        exact win_at W b p r h j d n
      · funext n
        simp only [row_at, ctx_at]
        rfl
      · funext n
        exact ctx_at W b p h n d
    · intro n hn
      show _ + B (ix4 p ⟨r.val - firstRow r.val, _⟩ (lane h j) n) = (⊥ : EReal)
      rw [hB, if_neg]
      · exact Attn.add_mask _
      · intro hw
        obtain ⟨k, hk⟩ := key_of_band j n hw
        exact hn k hk
  · intro n
    obtain ⟨s, hs⟩ := Attn.finite_sum_mul (fun e : Fin 64 => (Q (ix3 b (latRow (cell r j)) (col (head p h) e)) : EReal))
      (fun e => K (ix3 b (latRow (nb r j (down n) (across n))) (col (head p h) e))) (fun _ => hQ _) (fun _ => hK _)
    unfold winScore
    rw [hs]
    generalize hx : R _ = x
    have hx2 : x ≠ ⊥ ∧ x ≠ ⊤ := hx ▸ hR _
    lift x to ℝ using ⟨hx2.2, hx2.1⟩
    rw [← EReal.coe_add]
    exact ⟨EReal.coe_ne_bot _, EReal.coe_ne_top _⟩
  · intro n
    obtain ⟨s, hs⟩ := Attn.finite_sum_mul (fun e : Fin 64 => (Q (ix3 b (latRow (cell r j)) (col (head p h) e)) : EReal))
      (fun e => K (ix3 b (ctxRow n) (col (head p h) e))) (fun _ => hQ _) (fun _ => hK _)
    unfold ctxScore
    rw [hs]
    exact ⟨EReal.coe_ne_bot _, EReal.coe_ne_top _⟩

end Same

end Cert.KernelIdeal.Na

end
-- ==== Proof.Layer.lean ====
module

public import Idealize.ShloMosaic.PureOps.Ideal

@[expose] public section

noncomputable section

namespace Cert.Layer

open Idealize.ShloMosaic

/-- The reciprocal root mean square of a row of 1024 numbers, with the small number that keeps it finite. -/
def rms (x : Fin 1024 → EReal) : EReal :=
  Ideal.rsqrt (Ideal.div (∑ e, x e * x e) (Ideal.ofBits FTy.f32 1149239296#32) + Ideal.ofBits FTy.f32 897988541#32)

/-- A row normalised, then weighted, scaled and shifted at each place. -/
def modulated (x g scale shift : Fin 1024 → EReal) (e : Fin 1024) : EReal := x e * rms x * g e * (1 + scale e) + shift e

/-- A number times its logistic. -/
def silu (g : EReal) : EReal := g * Ideal.div 1 (1 + Ideal.exp (-g))

/-- The part of the sequence a position belongs to: the context's 256 positions come first, then the latents. -/
def part (t : Fin 8448) : Fin 2 := if t.val < 256 then 0 else 1

/-- Place `d` of quarter `s` of 4096. -/
def quarter (s : Fin 4) (d : Fin 1024) : Fin 4096 := ⟨1024 * s.val + d.val, by omega⟩

/-- A row `x` with a normalised and weighted row `y` added through a gate. -/
def gated (x y g gate : Fin 1024 → EReal) (d : Fin 1024) : EReal := x d + gate d * (y d * rms y * g d)

theorem gated_congr {x x' y y' g g' c c' : Fin 1024 → EReal} (hx : ∀ e, x e = x' e) (hy : ∀ e, y e = y' e) (hg : ∀ e, g e = g' e)
    (hc : ∀ e, c e = c' e) (d : Fin 1024) : gated x y g c d = gated x' y' g' c' d := by
  rw [funext hx, funext hy, funext hg, funext hc]

end Cert.Layer

end
-- ==== Proof.ProjBlock.lean ====
module

public import proofs.«01_k».proof.Proof.Gen.Kernel2Ideal.Value
public import proofs.«01_k».proof.Proof.Layer
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.Pipeline (Dat)
open Cert.Layer

/-- The body's hidden block: each row normalised, weighted, scaled and shifted. -/
theorem hidden_at (sh sc : Vec Ideal S1x1x1x1024 .f32) (x : Vec Ideal S1x256x1024 .f32) (g : Vec Ideal S1x1024 .f32) (r : Fin 256) (e : Fin 1024) :
    k0_pay2 sh sc x g (ix2 r e) = modulated (fun e => x (ix3 0 r e)) (fun e => g (ix2 0 e)) (fun e => sc (ix4 0 0 0 e)) (fun e => sh (ix4 0 0 0 e)) e := by
  pointwise [k0_pay2]
  rfl

/-- The first output's block: the product with the first quarter of the weights and its bias, scaled by an eighth. -/
theorem first_at (sh sc : Vec Ideal S1x1x1x1024 .f32) (x : Vec Ideal S1x256x1024 .f32) (g : Vec Ideal S1x1024 .f32) (w : Vec Ideal S1024x1024 .bf16)
    (b : Vec Ideal S1x1024 .f32) (r : Fin 256) (d : Fin 1024) :
    k0_pay5 (k0_pay3 sh sc x g w b) k0_pay4 (ix3 0 r d)
      = (∑ e, k0_pay2 sh sc x g (ix2 r e) * w (ix2 e d) + b (ix2 0 d)) * Ideal.ofBits FTy.f32 1040187392#32 := by
  unfold k0_pay3
  generalize k0_pay2 sh sc x g = h
  pointwise [k0_pay5, k0_pay4]

/-- The second output's block: the product with the second quarter and its bias. -/
theorem second_at (h : FVec Ideal S256x1024 .bf16) (w : Vec Ideal S1024x1024 .bf16) (b : Vec Ideal S1x1024 .f32) (r : Fin 256) (d : Fin 1024) :
    k0_pay6 h w b (ix3 0 r d) = ∑ e, h (ix2 r e) * w (ix2 e d) + b (ix2 0 d) := by
  pointwise [k0_pay6]

/-- The third output's block: the product with the third quarter and its bias. -/
theorem third_at (h : FVec Ideal S256x1024 .bf16) (w : Vec Ideal S1024x1024 .bf16) (b : Vec Ideal S1x1024 .f32) (r : Fin 256) (d : Fin 1024) :
    k0_pay7 h w b (ix3 0 r d) = ∑ e, h (ix2 r e) * w (ix2 e d) + b (ix2 0 d) := by
  pointwise [k0_pay7]

/-- The fourth output's block: the product with the last quarter and its bias, times its logistic. -/
theorem fourth_at (h : FVec Ideal S256x1024 .bf16) (w : Vec Ideal S1024x1024 .bf16) (b : Vec Ideal S1x1024 .f32) (r : Fin 256) (d : Fin 1024) :
    k0_pay1 (k0_pay8 h w) (k0_pay9 b) (ix3 0 r d) = silu (∑ e, h (ix2 r e) * w (ix2 e d) + b (ix2 0 d)) := by
  pointwise [k0_pay1, k0_pay8, k0_pay9]
  unfold silu
  rw [zero_sub]

/-- The hidden row of a position: of the arrays, with the scale and shift of its part. -/
def hid (X : S8x8448x1024.Idx → EReal) (M : S8x2x1x3072.Idx → EReal) (G : S8x1024.Idx → EReal) (b : Fin 8) (t : Fin 8448) : Fin 1024 → EReal :=
  modulated (fun e => X (ix3 b t e)) (fun e => G (ix2 0 e)) (fun e => M (ix4 b (part t) 0 ⟨1024 + e.val, by omega⟩))
    (fun e => M (ix4 b (part t) 0 ⟨e.val, by omega⟩))

/-- The product of a position's hidden row with a column of the weights, with its bias. -/
def lin (X : S8x8448x1024.Idx → EReal) (M : S8x2x1x3072.Idx → EReal) (G : S8x1024.Idx → EReal) (W : S1024x4096.Idx → EReal)
    (B : S1x4096.Idx → EReal) (s : Fin 4) (b : Fin 8) (t : Fin 8448) (d : Fin 1024) : EReal :=
  ∑ e, hid X M G b t e * W (ix2 e (quarter s d)) + B (ix2 0 (quarter s d))

theorem word_val {n k : Nat} (h : n < k) (hk : k < 4294967296) : (BitVec.ofNat 32 n).toNat = n := by
  rw [BitVec.toNat_ofNat]; exact Nat.mod_eq_of_lt (lt_trans h hk)

theorem word_part (n : Fin 33) : (Scalar.minsi (BitVec.ofNat 32 n.val) 1#32).toNat = min n.val 1 := by
  revert n; decide +kernel

/-- Window 0's block index at a setting of the grid's coordinates. -/
theorem transform0 (i : grid0.Coords) : cc0_transform_0 i = ![(i 0).val, (i 1).val, 0] := by
  funext a
  match a with
  | ⟨0, _⟩ => exact word_val (i 0).isLt (by decide)
  | ⟨1, _⟩ => exact word_val (i 1).isLt (by decide)
  | ⟨2, _⟩ => rfl

theorem index0 (t : Fin cfg0.N) : win0_0.index t = ![(grid0.coords t 0).val, (grid0.coords t 1).val, 0] := transform0 (grid0.coords t)

/-- Window 1's block index: the context's for the first tile, else the latents'. -/
theorem transform1 (i : grid0.Coords) : cc0_transform_1 i = ![(i 0).val, min (i 1).val 1, 0, 0] := by
  funext a
  match a with
  | ⟨0, _⟩ => exact word_val (i 0).isLt (by decide)
  | ⟨1, _⟩ => exact word_part (i 1)
  | ⟨2, _⟩ => rfl
  | ⟨3, _⟩ => rfl

theorem index1 (t : Fin cfg0.N) : win0_1.index t = ![(grid0.coords t 0).val, min (grid0.coords t 1).val 1, 0, 0] := transform1 (grid0.coords t)

theorem index2 (t : Fin cfg0.N) : win0_2.index t = ![0, 0] := by
  show cc0_transform_2 (grid0.coords t) = _
  funext a; fin_cases a <;> rfl

theorem index3 (t : Fin cfg0.N) : win0_3.index t = ![0, 0] := by
  show cc0_transform_3 (grid0.coords t) = _
  funext a; fin_cases a <;> rfl

theorem index4 (t : Fin cfg0.N) : win0_4.index t = ![0, 0] := by
  show cc0_transform_4 (grid0.coords t) = _
  funext a; fin_cases a <;> rfl

theorem index5 (t : Fin cfg0.N) : win0_5.index t = ![(grid0.coords t 0).val, (grid0.coords t 1).val, 0] := transform0 (grid0.coords t)
theorem index6 (t : Fin cfg0.N) : win0_6.index t = ![(grid0.coords t 0).val, (grid0.coords t 1).val, 0] := transform0 (grid0.coords t)
theorem index7 (t : Fin cfg0.N) : win0_7.index t = ![(grid0.coords t 0).val, (grid0.coords t 1).val, 0] := transform0 (grid0.coords t)
theorem index8 (t : Fin cfg0.N) : win0_8.index t = ![(grid0.coords t 0).val, (grid0.coords t 1).val, 0] := transform0 (grid0.coords t)

/-- Row `r` of tile `t`, as a position of the sequence. -/
def pos (t : Fin 33) (r : Fin 256) : Fin 8448 := ⟨256 * t.val + r.val, by omega⟩

theorem part_pos (t : Fin 33) (r : Fin 256) : (part (pos t r)).val = min t.val 1 := by
  unfold part pos
  have := r.isLt
  split
  · next h => have h' : 256 * t.val + r.val < 256 := h
              show 0 = _; omega
  · next h => have h' : ¬ 256 * t.val + r.val < 256 := h
              show 1 = _; omega

section Loads

variable (t : Fin cfg0.N)

theorem ld_x (X : Vec Ideal S8x8448x1024 .f32) (r : Fin 256) (e : Fin 1024) :
    View.ld (((cfg0.win 0).blk t).view.read (Elt Ideal) X) r0_2 (ix3 0 r e) = X (ix3 (grid0.coords t 0) (pos (grid0.coords t 1) r) e) := by
  refine congrArg X (?_ : (win0_0.blk t).view.emb (r0_2.emb (ix3 0 r e)) = _)
  funext a
  apply Fin.ext
  fin_cases a
  · blk_simp [index0]; try rfl
  · blk_simp [index0]; show (grid0.coords t 1).val * 256 + r.val = 256 * (grid0.coords t 1).val + r.val; omega
  · blk_simp [index0]; try rfl

theorem ld_shift (X : Vec Ideal S8x2x1x3072 .f32) (r : Fin 256) (e : Fin 1024) :
    View.ld (((cfg0.win 1).blk t).view.read (Elt Ideal) X) r0_0 (ix4 0 0 0 e)
      = X (ix4 (grid0.coords t 0) (part (pos (grid0.coords t 1) r)) 0 ⟨e.val, by omega⟩) := by
  refine congrArg X (?_ : (win0_1.blk t).view.emb (r0_0.emb (ix4 0 0 0 e)) = _)
  funext a
  apply Fin.ext
  fin_cases a
  · blk_simp [index1]; try rfl
  · refine Eq.trans ?_ (part_pos _ r).symm
    blk_simp [index1]; try rfl
  · blk_simp [index1]; try rfl
  · blk_simp [index1]; try rfl

theorem ld_scale (X : Vec Ideal S8x2x1x3072 .f32) (r : Fin 256) (e : Fin 1024) :
    View.ld (((cfg0.win 1).blk t).view.read (Elt Ideal) X) r0_1 (ix4 0 0 0 e)
      = X (ix4 (grid0.coords t 0) (part (pos (grid0.coords t 1) r)) 0 ⟨1024 + e.val, by omega⟩) := by
  refine congrArg X (?_ : (win0_1.blk t).view.emb (r0_1.emb (ix4 0 0 0 e)) = _)
  funext a
  apply Fin.ext
  fin_cases a
  · blk_simp [index1]; try rfl
  · refine Eq.trans ?_ (part_pos _ r).symm
    blk_simp [index1]; try rfl
  · blk_simp [index1]; try rfl
  · blk_simp [index1]; try rfl

theorem ld_g (X : Vec Ideal S8x1024 .f32) (e : Fin 1024) :
    View.ld (((cfg0.win 2).blk t).view.read (Elt Ideal) X) r0_3 (ix2 0 e) = X (ix2 0 e) := by
  refine congrArg X (?_ : (win0_2.blk t).view.emb (r0_3.emb (ix2 0 e)) = _)
  funext a
  apply Fin.ext
  fin_cases a
  · blk_simp [index2]; try rfl
  · blk_simp [index2]; try rfl

theorem ld_w (X : Vec Ideal S1024x4096 .bf16) (s : Fin 4) (o : Nat) (ho : o = 1024 * s.val) (i) (e d : Fin 1024) :
    View.ld (((cfg0.win 3).blk t).view.read (Elt Ideal) X) (Rect.unit (s := S1024x4096) ![0, o] S1024x1024.size i) (ix2 e d)
      = X (ix2 e (quarter s d)) := by
  refine congrArg X (?_ : (win0_3.blk t).view.emb ((Rect.unit (s := S1024x4096) ![0, o] S1024x1024.size i).emb (ix2 e d)) = _)
  funext a
  apply Fin.ext
  fin_cases a
  · blk_simp [index3]; try rfl
  · blk_simp [index3]; show o + d.val = 1024 * s.val + d.val; omega

theorem ld_b (X : Vec Ideal S1x4096 .f32) (s : Fin 4) (o : Nat) (ho : o = 1024 * s.val) (i) (d : Fin 1024) :
    View.ld (((cfg0.win 4).blk t).view.read (Elt Ideal) X) (Rect.unit (s := S1x4096) ![0, o] S1x1024.size i) (ix2 0 d)
      = X (ix2 0 (quarter s d)) := by
  refine congrArg X (?_ : (win0_4.blk t).view.emb ((Rect.unit (s := S1x4096) ![0, o] S1x1024.size i).emb (ix2 0 d)) = _)
  funext a
  apply Fin.ext
  fin_cases a
  · blk_simp [index4]; try rfl
  · blk_simp [index4]; show o + d.val = 1024 * s.val + d.val; omega

end Loads

end Cert.Kernel2Ideal.Proj

end
-- ==== Proof.ProjValue.lean ====
module

public import proofs.«01_k».proof.Proof.ProjBlock
public import Idealize.ShloMosaic.Lib.StableHlo.ReadAt
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.ShloMosaic.Tactic Idealize.SL.Sem
open Idealize.ShloMosaic.Pipeline (Dat)
open Cert.Layer

section Outputs

variable (X : S8x8448x1024.Idx → EReal) (M : S8x2x1x3072.Idx → EReal) (G : S8x1024.Idx → EReal) (W : S1024x4096.Idx → EReal)
    (B : S1x4096.Idx → EReal)

/-- The queries at every position, scaled by an eighth. -/
def outQ : S8x8448x1024.Idx → EReal := fun i => lin X M G W B 0 (i 0) (i 1) (i 2) * Ideal.ofBits FTy.f32 1040187392#32

/-- The keys at every position. -/
def outK : S8x8448x1024.Idx → EReal := fun i => lin X M G W B 1 (i 0) (i 1) (i 2)

/-- The values at every position. -/
def outV : S8x8448x1024.Idx → EReal := fun i => lin X M G W B 2 (i 0) (i 1) (i 2)

/-- The gate at every position, after its silu. -/
def outG : S8x8448x1024.Idx → EReal := fun i => silu (lin X M G W B 3 (i 0) (i 1) (i 2))

end Outputs

section Blocks

variable (X : Vec Ideal S8x8448x1024 .f32) (M : Vec Ideal S8x2x1x3072 .f32) (G : Vec Ideal S8x1024 .f32) (W : Vec Ideal S1024x4096 .bf16)
    (B : Vec Ideal S1x4096 .f32) (t : Fin cfg0.N)

/-- A point's hidden rows are the positions' hidden rows. -/
theorem hid_at (r : Fin 256) (e : Fin 1024) :
    k0_pay2 (View.ld (((cfg0.win 1).blk t).view.read (Elt Ideal) M) r0_0) (View.ld (((cfg0.win 1).blk t).view.read (Elt Ideal) M) r0_1)
      (View.ld (((cfg0.win 0).blk t).view.read (Elt Ideal) X) r0_2) (View.ld (((cfg0.win 2).blk t).view.read (Elt Ideal) G) r0_3) (ix2 r e)
    = hid X M G (grid0.coords t 0) (pos (grid0.coords t 1) r) e := by
  rw [hidden_at]
  unfold hid
  have e1 := funext fun e => ld_x t X r e
  have e2 := funext fun e => ld_g t G e
  have e3 := funext fun e => ld_scale t M r e
  have e4 := funext fun e => ld_shift t M r e
  rw [e1, e2, e3, e4]

/-- A point's product with a quarter of the weights is the positions'. -/
theorem lin_at (s : Fin 4) (o : Nat) (ho : o = 1024 * s.val) (i1) (i2) (h : FVec Ideal S256x1024 .bf16)
    (hh : ∀ r e, h (ix2 r e) = hid X M G (grid0.coords t 0) (pos (grid0.coords t 1) r) e) (r : Fin 256) (d : Fin 1024) :
    (∑ e, h (ix2 r e) * View.ld (((cfg0.win 3).blk t).view.read (Elt Ideal) W) (Rect.unit (s := S1024x4096) ![0, o] S1024x1024.size i1) (ix2 e d)
      + View.ld (((cfg0.win 4).blk t).view.read (Elt Ideal) B) (Rect.unit (s := S1x4096) ![0, o] S1x1024.size i2) (ix2 0 d) : EReal)
    = lin X M G W B s (grid0.coords t 0) (pos (grid0.coords t 1) r) d := by
  unfold lin
  rw [ld_b t B s o ho]
  refine congrArg (· + _) (Finset.sum_congr rfl fun e _ => ?_)
  rw [ld_w t W s o ho, hh]

/-- A place of a block, by its row and column. -/
theorem exists_place (y : S1x256x1024.Idx) : ∃ (r : Fin 256) (d : Fin 1024), y = ix3 0 r d := by
  refine ⟨y 1, y 2, funext fun a => ?_⟩
  match a with
  | ⟨0, _⟩ => exact Fin.ext (by have : (y 0).val < 1 := (y 0).isLt
                                show (y 0).val = 0
                                omega)
  | ⟨1, _⟩ => rfl
  | ⟨2, _⟩ => rfl

/-- Where a place of an output's block lies in the array. -/
theorem place5 (y : S1x256x1024.Idx) : (win0_5.blk t).view.emb y = ix3 (grid0.coords t 0) (pos (grid0.coords t 1) (y 1)) (y 2) := by
  have : (y 0).val < 1 := (y 0).isLt
  funext a
  apply Fin.ext
  fin_cases a
  · blk_simp [index5]; try rfl
  · blk_simp [index5]; show (grid0.coords t 1).val * 256 + (y 1).val = 256 * (grid0.coords t 1).val + (y 1).val; omega
  · blk_simp [index5]; try rfl

theorem place6 (y : S1x256x1024.Idx) : (win0_6.blk t).view.emb y = ix3 (grid0.coords t 0) (pos (grid0.coords t 1) (y 1)) (y 2) := place5 t y
theorem place7 (y : S1x256x1024.Idx) : (win0_7.blk t).view.emb y = ix3 (grid0.coords t 0) (pos (grid0.coords t 1) (y 1)) (y 2) := place5 t y
theorem place8 (y : S1x256x1024.Idx) : (win0_8.blk t).view.emb y = ix3 (grid0.coords t 0) (pos (grid0.coords t 1) (y 1)) (y 2) := place5 t y

/-- A store of the whole block leaves what it stores. -/
theorem whole {e : EltTy} (p : Vec Ideal S1x256x1024 e) (y : S1x256x1024.Idx) : View.canon (Val := Elt Ideal) [⟨r0_2, p⟩] y = p y := by
  have hy : r0_2.emb y = y := by
    funext a
    apply Fin.ext
    fin_cases a
    · show 0 + 1 * (y 0).val = (y 0).val; omega
    · show 0 + 1 * (y 1).val = (y 1).val; omega
    · show 0 + 1 * (y 2).val = (y 2).val; omega
  have h := View.canon_cons_emb (Val := Elt Ideal) r0_2 p [] y
  rw [hy] at h
  exact h

theorem block5 (y : S1x256x1024.Idx) :
    out0_5 (((cfg0.win 0).blk t).view.read (Elt Ideal) X) (((cfg0.win 1).blk t).view.read (Elt Ideal) M) (((cfg0.win 2).blk t).view.read (Elt Ideal) G)
      (((cfg0.win 3).blk t).view.read (Elt Ideal) W) (((cfg0.win 4).blk t).view.read (Elt Ideal) B) y = outQ X M G W B ((win0_5.blk t).view.emb y) := by
  unfold out0_5
  rw [whole, place5]
  obtain ⟨r, d, rfl⟩ := exists_place y
  rw [first_at]
  exact congrArg (· * Ideal.ofBits FTy.f32 1040187392#32) (lin_at X M G W B t 0 0 rfl _ _ _ (fun r e => hid_at X M G t r e) r d)

theorem block6 (y : S1x256x1024.Idx) :
    out0_6 (((cfg0.win 0).blk t).view.read (Elt Ideal) X) (((cfg0.win 1).blk t).view.read (Elt Ideal) M) (((cfg0.win 2).blk t).view.read (Elt Ideal) G)
      (((cfg0.win 3).blk t).view.read (Elt Ideal) W) (((cfg0.win 4).blk t).view.read (Elt Ideal) B) y = outK X M G W B ((win0_6.blk t).view.emb y) := by
  unfold out0_6 k0_pay10
  rw [whole, place6]
  obtain ⟨r, d, rfl⟩ := exists_place y
  rw [second_at]
  exact (lin_at X M G W B t 1 1024 rfl _ _ _ (fun r e => hid_at X M G t r e) r d)

theorem block7 (y : S1x256x1024.Idx) :
    out0_7 (((cfg0.win 0).blk t).view.read (Elt Ideal) X) (((cfg0.win 1).blk t).view.read (Elt Ideal) M) (((cfg0.win 2).blk t).view.read (Elt Ideal) G)
      (((cfg0.win 3).blk t).view.read (Elt Ideal) W) (((cfg0.win 4).blk t).view.read (Elt Ideal) B) y = outV X M G W B ((win0_7.blk t).view.emb y) := by
  unfold out0_7 k0_pay10
  rw [whole, place7]
  obtain ⟨r, d, rfl⟩ := exists_place y
  rw [third_at]
  exact (lin_at X M G W B t 2 2048 rfl _ _ _ (fun r e => hid_at X M G t r e) r d)

theorem block8 (y : S1x256x1024.Idx) :
    out0_8 (((cfg0.win 0).blk t).view.read (Elt Ideal) X) (((cfg0.win 1).blk t).view.read (Elt Ideal) M) (((cfg0.win 2).blk t).view.read (Elt Ideal) G)
      (((cfg0.win 3).blk t).view.read (Elt Ideal) W) (((cfg0.win 4).blk t).view.read (Elt Ideal) B) y = outG X M G W B ((win0_8.blk t).view.emb y) := by
  unfold out0_8 k0_pay10
  rw [whole, place8]
  obtain ⟨r, d, rfl⟩ := exists_place y
  rw [fourth_at]
  exact congrArg silu (lin_at X M G W B t 3 3072 rfl _ _ _ (fun r e => hid_at X M G t r e) r d)

end Blocks

/-- A tile of the grid for every block of an output. -/
theorem tile_of (i : grid0.Coords → Fin 3 → Nat) (hi : i = cc0_transform_0) (β : Fin 3 → Nat) (h0 : β 0 < 8) (h1 : β 1 < 33) (h2 : β 2 = 0) :
    ∃ k : grid0.Coords, ∀ a, i k a = β a := by
  subst hi
  refine ⟨fun a => match a with
    | ⟨0, _⟩ => ⟨β 0, h0⟩
    | ⟨1, _⟩ => ⟨β 1, h1⟩, fun a => ?_⟩
  rw [transform0]
  match a with
  | ⟨0, _⟩ => rfl
  | ⟨1, _⟩ => rfl
  | ⟨2, _⟩ => exact h2.symm

theorem covers5 : win0_5.Covers := win0_5.covers_of_indexMap_surj rfl (by decide) fun β =>
  tile_of _ rfl (fun a => (β a).val) (β 0).isLt (β 1).isLt (Nat.lt_one_iff.mp (β 2).isLt)
theorem covers6 : win0_6.Covers := win0_6.covers_of_indexMap_surj rfl (by decide) fun β =>
  tile_of _ rfl (fun a => (β a).val) (β 0).isLt (β 1).isLt (Nat.lt_one_iff.mp (β 2).isLt)
theorem covers7 : win0_7.Covers := win0_7.covers_of_indexMap_surj rfl (by decide) fun β =>
  tile_of _ rfl (fun a => (β a).val) (β 0).isLt (β 1).isLt (Nat.lt_one_iff.mp (β 2).isLt)
theorem covers8 : win0_8.Covers := win0_8.covers_of_indexMap_surj rfl (by decide) fun β =>
  tile_of _ rfl (fun a => (β a).val) (β 0).isLt (β 1).isLt (Nat.lt_one_iff.mp (β 2).isLt)

variable (m : (ℓ : Loc nD τ sig) → Buf (Elt Ideal) ℓ)

/-- The queries' array after the run. -/
theorem final5 (c : Dev nD) : (dats m 0 c).arrAt 5 cfg0.N
    = outQ (V m c main_arg0) (V m c main_arg1) (V m c main_v3) (V m c main_v4) (V m c main_v5) := by
  refine (dats m 0 c).arrAt_eq_of_covers 5 _ covers5 fun t hf y => ?_
  blk_simp
  rw [after0_5]
  exact block5 (V m c main_arg0) (V m c main_arg1) (V m c main_v3) (V m c main_v4) (V m c main_v5) t _

/-- The keys' array after the run. -/
theorem final6 (c : Dev nD) : (dats m 0 c).arrAt 6 cfg0.N
    = outK (V m c main_arg0) (V m c main_arg1) (V m c main_v3) (V m c main_v4) (V m c main_v5) := by
  refine (dats m 0 c).arrAt_eq_of_covers 6 _ covers6 fun t hf y => ?_
  blk_simp
  rw [after0_6]
  exact block6 (V m c main_arg0) (V m c main_arg1) (V m c main_v3) (V m c main_v4) (V m c main_v5) t _

/-- The values' array after the run. -/
theorem final7 (c : Dev nD) : (dats m 0 c).arrAt 7 cfg0.N
    = outV (V m c main_arg0) (V m c main_arg1) (V m c main_v3) (V m c main_v4) (V m c main_v5) := by
  refine (dats m 0 c).arrAt_eq_of_covers 7 _ covers7 fun t hf y => ?_
  blk_simp
  rw [after0_7]
  exact block7 (V m c main_arg0) (V m c main_arg1) (V m c main_v3) (V m c main_v4) (V m c main_v5) t _

/-- The gate's array after the run. -/
theorem final8 (c : Dev nD) : (dats m 0 c).arrAt 8 cfg0.N
    = outG (V m c main_arg0) (V m c main_arg1) (V m c main_v3) (V m c main_v4) (V m c main_v5) := by
  refine (dats m 0 c).arrAt_eq_of_covers 8 _ covers8 fun t hf y => ?_
  blk_simp
  rw [after0_8]
  exact block8 (V m c main_arg0) (V m c main_arg1) (V m c main_v3) (V m c main_v4) (V m c main_v5) t _

/-- The first row of the padded pair of gains is the first of the pair. -/
theorem gains_at (x y : S1024.Idx → EReal) (z : S_.Idx → EReal) (e : Fin 1024) :
    pad S8x1024 ![0, 0] ![6, 0] ![0, 0] (concatenate S2x1024 0 [⟨S1x1024, broadcastInDim S1x1024 ![1] bcast_S1024_S1x1024_1 x⟩,
      ⟨S1x1024, broadcastInDim S1x1024 ![1] bcast_S1024_S1x1024_1 y⟩] concatenates_S1x1024_S1x1024_S2x1024_d0) z
      pads_S2x1024_S8x1024_060_000 h_S_ (ix2 0 e) = x (ix1 e) := by
  pointwise []

theorem bias_row (x : S4096.Idx → EReal) (e : Fin 4096) : broadcastInDim S1x4096 ![1] bcast_S4096_S1x4096_1 x (ix2 0 e) = x (ix1 e) := by
  pointwise []

/-- The gain row the launch reads. -/
theorem gain_at (c : Dev nD) (e : Fin 1024) :
    (V m c main_v3 : S8x1024.Idx → EReal) (ix2 0 e) = (m (c, Proc.tc.devRef main_arg2) : S1024.Idx → EReal) (ix1 e) := by
  have h : ∀ x y : S1024.Idx → EReal, x = (m (c, Proc.tc.devRef main_arg2) : S1024.Idx → EReal) →
      y = (m (c, Proc.tc.devRef main_arg3) : S1024.Idx → EReal) →
      (V m c main_v3 : S8x1024.Idx → EReal) = pad S8x1024 ![0, 0] ![6, 0] ![0, 0] (concatenate S2x1024 0 [⟨S1x1024,
        broadcastInDim S1x1024 ![1] bcast_S1024_S1x1024_1 x⟩, ⟨S1x1024, broadcastInDim S1x1024 ![1] bcast_S1024_S1x1024_1 y⟩]
        concatenates_S1x1024_S1x1024_S2x1024_d0) (sitofp (F := Ideal) .f32 (constantI S_ 32 0) : S_.Idx → EReal) pads_S2x1024_S8x1024_060_000 h_S_ := by
    rintro x y rfl rfl
    unfold V
    after_reads_at
    rfl
  rw [h _ _ rfl rfl]
  exact gains_at _ _ _ e

theorem weight_at (c : Dev nD) : (V m c main_v4 : S1024x4096.Idx → EReal) = (m (c, Proc.tc.devRef main_arg4) : S1024x4096.Idx → EReal) := by
  unfold V
  after_reads_at
  rfl

theorem bias_at (c : Dev nD) (e : Fin 4096) :
    (V m c main_v5 : S1x4096.Idx → EReal) (ix2 0 e) = (m (c, Proc.tc.devRef main_arg5) : S4096.Idx → EReal) (ix1 e) := by
  refine Eq.trans ?_ (bias_row _ e)
  unfold V
  after_reads_at

end Cert.Kernel2Ideal.Proj

end
-- ==== Proof.ProjRef.lean ====
module

public import proofs.«01_k».proof.Proof.Gen.Reference2Ideal.Read
public import proofs.«01_k».proof.Proof.Layer
public import Idealize.ShloMosaic.Lib.Pointwise
public import Idealize.ShloMosaic.Lib.ValueIdx

@[expose] public section

set_option maxRecDepth 16384

noncomputable section

namespace Cert.Reference2Ideal.Proj

open Cert.Reference2Ideal Cert.Reference2Ideal.Gen Cert.Reference2Ideal.Read Idealize.ShloMosaic Idealize.ShloMosaic.TcCoe
open Idealize.ShloMosaic.Tactic
open Cert.Layer

/-- A context position among all positions. -/
def early (n : Fin 256) : Fin 8448 := ⟨n.val, by omega⟩

/-- A latent position among all positions: the context's come first. -/
def late (n : Fin 8192) : Fin 8448 := ⟨256 + n.val, by omega⟩

section Stages

variable (x0 : (⟨S8x8448x1024, .f32⟩ : BufTy).Contents (Elt Ideal)) (x1 : (⟨S8x2x1x3072, .f32⟩ : BufTy).Contents (Elt Ideal))
    (x2 : (⟨S1024, .f32⟩ : BufTy).Contents (Elt Ideal)) (x4 : (⟨S1024x4096, .f32⟩ : BufTy).Contents (Elt Ideal))
    (x5 : (⟨S4096, .f32⟩ : BufTy).Contents (Elt Ideal)) (b : Fin 8)

theorem early_hidden (n : Fin 256) (e : Fin 1024) : val_main_v26 x0 x1 x2 (ix3 b n e)
    = modulated (fun e => x0 (ix3 b (early n) e)) (fun e => x2 (ix1 e)) (fun e => x1 (ix4 b 0 0 ⟨1024 + e.val, by omega⟩))
        (fun e => x1 (ix4 b 0 0 ⟨e.val, by omega⟩)) e := by
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v4, val_main_v3, val_main_v2, val_main_v1, val_main_v0]
  rfl

theorem late_hidden (n : Fin 8192) (e : Fin 1024) : val_main_v53 x0 x1 x2 (ix3 b n e)
    = modulated (fun e => x0 (ix3 b (late n) e)) (fun e => x2 (ix1 e)) (fun e => x1 (ix4 b 1 0 ⟨1024 + e.val, by omega⟩))
        (fun e => x1 (ix4 b 1 0 ⟨e.val, by omega⟩)) e := by
  pointwise [val_main_v53, val_main_v52, val_main_v51, val_main_v50, val_main_v49, val_main_v48, val_main_v47, val_main_cst_6, val_main_v46, val_main_v45, val_main_v44, val_main_v43, val_main_v42, val_main_v41, val_main_v40, val_main_v39, val_main_v38, val_main_cst_5, val_main_v37, val_main_v36, val_main_cst_4, val_main_v35, val_main_v34, val_main_cst_3, val_main_v33, val_main_v31, val_main_v30, val_main_v29, val_main_v28, val_main_v27]
  rfl

theorem cat_early (X : S8x256x1024.Idx → EReal) (Y : S8x8192x1024.Idx → EReal) (n : Fin 256) (e : Fin 1024) :
    concatenate S8x8448x1024 1 [⟨S8x256x1024, X⟩, ⟨S8x8192x1024, Y⟩] concatenates_S8x256x1024_S8x8192x1024_S8x8448x1024_d1
      (ix3 b (early n) e) = X (ix3 b n e) :=
  concatenate_pair_apply_left (t := S8x8448x1024) (s₁ := S8x256x1024) (s₂ := S8x8192x1024) 1 X Y
    concatenates_S8x256x1024_S8x8192x1024_S8x8448x1024_d1 _ rfl (ix3 b n e) (by intro a; fin_cases a <;> rfl)

theorem cat_late (X : S8x256x1024.Idx → EReal) (Y : S8x8192x1024.Idx → EReal) (n : Fin 8192) (e : Fin 1024) :
    concatenate S8x8448x1024 1 [⟨S8x256x1024, X⟩, ⟨S8x8192x1024, Y⟩] concatenates_S8x256x1024_S8x8192x1024_S8x8448x1024_d1
      (ix3 b (late n) e) = Y (ix3 b n e) :=
  concatenate_pair_apply_right (t := S8x8448x1024) (s₁ := S8x256x1024) (s₂ := S8x8192x1024) 1 X Y
    concatenates_S8x256x1024_S8x8192x1024_S8x8448x1024_d1 _ rfl rfl (ix3 b n e)
    (by intro a ha; fin_cases a <;> first | rfl | exact absurd rfl ha) (by show n.val + 256 = 256 + n.val; omega)

/-- The hidden row of a position, of the layer's arguments. -/
def hiddenRow (t : Fin 8448) : Fin 1024 → EReal :=
  modulated (fun e => x0 (ix3 b t e)) (fun e => x2 (ix1 e)) (fun e => x1 (ix4 b (part t) 0 ⟨1024 + e.val, by omega⟩))
    (fun e => x1 (ix4 b (part t) 0 ⟨e.val, by omega⟩))

theorem all_hidden (t : Fin 8448) (e : Fin 1024) : val_main_v54 x0 x1 x2 (ix3 b t e) = hiddenRow x0 x1 x2 b t e := by
  unfold val_main_v54 hiddenRow
  by_cases ht : t.val < 256
  · obtain ⟨n, rfl⟩ : ∃ n : Fin 256, t = early n := ⟨⟨t.val, ht⟩, rfl⟩
    have hp : part (early n) = 0 := if_pos ht
    rw [cat_early, early_hidden, hp]
  · obtain ⟨n, rfl⟩ : ∃ n : Fin 8192, t = late n := ⟨⟨t.val - 256, by omega⟩, Fin.ext (by show t.val = 256 + (t.val - 256); omega)⟩
    have hp : part (late n) = 1 := if_neg ht
    rw [cat_late, late_hidden, hp]

theorem linear_at (t : Fin 8448) (k : Fin 4096) :
    val_main_v58 x0 x1 x2 x4 x5 (ix3 b t k) = ∑ e, hiddenRow x0 x1 x2 b t e * x4 (ix2 e k) + x5 (ix1 k) := by
  have h : ∀ y : S8x8448x1024.Idx → EReal, val_main_v54 x0 x1 x2 = y →
      val_main_v58 x0 x1 x2 x4 x5 (ix3 b t k) = ∑ e, y (ix3 b t e) * x4 (ix2 e k) + x5 (ix1 k) := by
    rintro y hy
    unfold val_main_v58 val_main_v55
    rw [hy]
    pointwise [val_main_v57, val_main_v56]
  rw [h _ rfl]
  refine congrArg (· + _) (Finset.sum_congr rfl fun e _ => ?_)
  rw [all_hidden]

theorem first_value (t : Fin 8448) (d : Fin 1024) : val_main_v65 x0 x1 x2 x4 x5 (ix3 b t d)
    = val_main_v58 x0 x1 x2 x4 x5 (ix3 b t (quarter 0 d)) * Ideal.ofBits FTy.f32 1040187392#32 := by
  unfold val_main_v65 val_main_v64 val_main_v59
  generalize val_main_v58 x0 x1 x2 x4 x5 = y
  pointwise [val_main_v63, val_main_cst_7]
  have hq : (⟨d.val, by omega⟩ : Fin 4096) = quarter 0 d := Fin.ext (Nat.zero_add _).symm
  rw [hq]

theorem second_value (t : Fin 8448) (d : Fin 1024) : val_main_v66 x0 x1 x2 x4 x5 (ix3 b t d)
    = val_main_v58 x0 x1 x2 x4 x5 (ix3 b t (quarter 1 d)) := by
  unfold val_main_v66 val_main_v60
  generalize val_main_v58 x0 x1 x2 x4 x5 = y
  pointwise []
  rfl

theorem third_value (t : Fin 8448) (d : Fin 1024) : val_main_v67 x0 x1 x2 x4 x5 (ix3 b t d)
    = val_main_v58 x0 x1 x2 x4 x5 (ix3 b t (quarter 2 d)) := by
  unfold val_main_v67 val_main_v61
  generalize val_main_v58 x0 x1 x2 x4 x5 = y
  pointwise []
  rfl

theorem fourth_value (t : Fin 8448) (d : Fin 1024) : val_main_v68 x0 x1 x2 x4 x5 (ix3 b t d)
    = silu (val_main_v58 x0 x1 x2 x4 x5 (ix3 b t (quarter 3 d))) := by
  have h : ∀ y : S8x8448x1024.Idx → EReal, val_main_v62 x0 x1 x2 x4 x5 = y → val_main_v68 x0 x1 x2 x4 x5 (ix3 b t d) = silu (y (ix3 b t d)) := by
    rintro y hy
    unfold val_main_v68 val_main_call0_v5 val_main_call0_v3 val_main_call0_v1 val_main_call0_v0
    rw [hy]
    pointwise [val_main_call0_cst, val_main_call0_v2, val_main_call0_cst_0, val_main_call0_v4]
    rfl
  rw [h _ rfl]
  unfold val_main_v62
  generalize val_main_v58 x0 x1 x2 x4 x5 = y
  pointwise []
  rfl

end Stages

end Cert.Reference2Ideal.Proj

end
-- ==== Proof.ProjSame.lean ====
module

public import proofs.«01_k».proof.Defs
public import proofs.«01_k».proof.Proof.ProjValue
public import proofs.«01_k».proof.Proof.ProjRef
public import proofs.«01_k».proof.Proof.Gen.Reference2Ideal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Layer
open Cert.Kernel2Ideal (S8x8448x1024 S8x2x1x3072 S8x1024 S1024x4096 S1x4096 S1024 S4096)
open Cert.Kernel2Ideal.Proj Cert.Reference2Ideal.Proj Cert.Reference2Ideal.Read

section Same

variable (X : S8x8448x1024.Idx → EReal) (M : S8x2x1x3072.Idx → EReal) (G : S8x1024.Idx → EReal) (W : S1024x4096.Idx → EReal)
    (B : S1x4096.Idx → EReal) (g : S1024.Idx → EReal) (v : S4096.Idx → EReal) (hG : ∀ e, G (ix2 0 e) = g (ix1 e))
    (hB : ∀ k, B (ix2 0 k) = v (ix1 k))

include hG in
theorem same_hidden (b : Fin 8) (t : Fin 8448) : hid X M G b t = hiddenRow X M g b t := by
  unfold hid hiddenRow
  rw [show (fun e => G (ix2 0 e)) = fun e => g (ix1 e) from funext hG]

include hG hB in
/-- The launch's product at a position is the reference's. -/
theorem same_linear (s : Fin 4) (b : Fin 8) (t : Fin 8448) (d : Fin 1024) :
    lin X M G W B s b t d = val_main_v58 (F := Ideal) X M g W v (ix3 b t (quarter s d)) := by
  rw [linear_at]
  unfold lin
  rw [same_hidden X M G g hG, hB]

/-- An array over all positions, by its places. -/
theorem place_ext {x y : S8x8448x1024.Idx → EReal} (h : ∀ b t d, x (ix3 b t d) = y (ix3 b t d)) : x = y := by
  funext i
  have hi : i = ix3 (i 0) (i 1) (i 2) := by
    funext a
    match a with
    | ⟨0, _⟩ => rfl
    | ⟨1, _⟩ => rfl
    | ⟨2, _⟩ => rfl
  rw [hi]
  exact h _ _ _

include hG hB in
theorem same_q : outQ X M G W B = val_main_v65 (F := Ideal) X M g W v := place_ext fun b t d =>
  (congrArg (· * Ideal.ofBits FTy.f32 1040187392#32) (same_linear X M G W B g v hG hB 0 b t d)).trans (first_value X M g W v b t d).symm

include hG hB in
theorem same_k : outK X M G W B = val_main_v66 (F := Ideal) X M g W v := place_ext fun b t d =>
  (same_linear X M G W B g v hG hB 1 b t d).trans (second_value X M g W v b t d).symm

include hG hB in
theorem same_v : outV X M G W B = val_main_v67 (F := Ideal) X M g W v := place_ext fun b t d =>
  (same_linear X M G W B g v hG hB 2 b t d).trans (third_value X M g W v b t d).symm

include hG hB in
theorem same_g : outG X M G W B = val_main_v68 (F := Ideal) X M g W v := place_ext fun b t d =>
  (congrArg silu (same_linear X M G W B g v hG hB 3 b t d)).trans (fourth_value X M g W v b t d).symm

end Same

/-- The projection's launch and its reference end with equal results. -/
theorem algebraic_proj : Cert.algebraic_Kernel2Ideal_Reference2Ideal (hKernel2Ideal := Cert.Kernel2Ideal.Gen.facts)
    (hReference2Ideal := Cert.Reference2Ideal.Gen.facts) := by
  intro m g m' g' hpre hargs
  refine ⟨fun c => Cert.Reference2Ideal.Value.res_main_v65 m' c, fun c => Cert.Reference2Ideal.Value.res_main_v66 m' c,
    fun c => Cert.Reference2Ideal.Value.res_main_v67 m' c, fun c => Cert.Reference2Ideal.Value.res_main_v68 m' c, ?_, ?_⟩
  · refine (θ_run Cert.Kernel2Ideal.defs _ _).mono (fun r h c => ?_) (Cert.Kernel2Ideal.Value.run_blocks m g)
    obtain ⟨h5, h6, h7, h8, hk⟩ := h c
    obtain ⟨a0, a1, a2, a3, a4, a5⟩ := hargs c
    refine ⟨h5.trans ((Cert.Kernel2Ideal.Proj.final5 m c).trans ?_), h6.trans ((Cert.Kernel2Ideal.Proj.final6 m c).trans ?_),
      h7.trans ((Cert.Kernel2Ideal.Proj.final7 m c).trans ?_), h8.trans ((Cert.Kernel2Ideal.Proj.final8 m c).trans ?_), hk⟩ <;>
      rw [Cert.Kernel2Ideal.Gen.V_main_arg0, Cert.Kernel2Ideal.Gen.V_main_arg1, Cert.Kernel2Ideal.Proj.weight_at]
    · show _ = Cert.Reference2Ideal.Value.res_main_v65 m' c
      rw [Cert.Reference2Ideal.Read.val_main_v65_eq, a0, a1, a2, a4, a5]
      exact same_q _ _ _ _ _ _ _ (Cert.Kernel2Ideal.Proj.gain_at m c) (Cert.Kernel2Ideal.Proj.bias_at m c)
    · show _ = Cert.Reference2Ideal.Value.res_main_v66 m' c
      rw [Cert.Reference2Ideal.Read.val_main_v66_eq, a0, a1, a2, a4, a5]
      exact same_k _ _ _ _ _ _ _ (Cert.Kernel2Ideal.Proj.gain_at m c) (Cert.Kernel2Ideal.Proj.bias_at m c)
    · show _ = Cert.Reference2Ideal.Value.res_main_v67 m' c
      rw [Cert.Reference2Ideal.Read.val_main_v67_eq, a0, a1, a2, a4, a5]
      exact same_v _ _ _ _ _ _ _ (Cert.Kernel2Ideal.Proj.gain_at m c) (Cert.Kernel2Ideal.Proj.bias_at m c)
    · show _ = Cert.Reference2Ideal.Value.res_main_v68 m' c
      rw [Cert.Reference2Ideal.Read.val_main_v68_eq, a0, a1, a2, a4, a5]
      exact same_g _ _ _ _ _ _ _ (Cert.Kernel2Ideal.Proj.gain_at m c) (Cert.Kernel2Ideal.Proj.bias_at m c)
  · exact (θ_run Cert.Reference2Ideal.defs _ _).mono (fun r h c => h c) (Cert.Reference2Ideal.Value.run m' g')

/-- The projection's reference runs and leaves its arguments unchanged; it declares no semaphore. -/
theorem frame_proj_ref : Cert.quiescent_Reference2Ideal (hReference2Ideal := Cert.Reference2Ideal.Gen.facts) := fun m g _ =>
  (θ_run (Cert.Reference2Ideal.defs (F := Ideal)) _ _).mono
    (fun r h => And.intro (fun c => (h c).2.2.2.2) (sem_eq_zero_of_no_sems (by decide) r.2)) (Cert.Reference2Ideal.Value.run m g)

end Cert.Proof

end
-- ==== Proof.OutBlock.lean ====
module

public import proofs.«01_k».proof.Proof.Gen.Kernel3Ideal.Value
public import proofs.«01_k».proof.Proof.Layer
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.StableHlo.ReadAt
public import Idealize.ShloMosaic.Lib.Claim

@[expose] public section

set_option maxRecDepth 16384

noncomputable section

namespace Cert.Kernel3Ideal.Out

open Cert.Kernel3Ideal Cert.Kernel3Ideal.Gen Idealize.ShloMosaic Idealize.ShloMosaic.TcCoe Idealize.ShloMosaic.Tactic Idealize.SL.Sem
open Idealize.ShloMosaic.Pipeline (Dat)
open Cert.Layer

/-- The attention's rows the body takes: the context's at the first tile, else the latents'. -/
def taken (i : grid0.Coords) (o l : Vec Ideal S1x256x1024 .bf16) : Vec Ideal S1x256x1024 .bf16 := if (i 1).val = 0 then o else l

theorem tile_word (n : Fin 33) : Scalar.cmpi .eq (BitVec.ofNat 32 n.val) 0#32 = if n.val = 0 then 1#1 else 0#1 := by
  revert n; decide +kernel

/-- The body's choice of rows, as one array of rows. -/
theorem taken_eq (i : grid0.Coords) (o l : Vec Ideal S1x256x1024 .bf16) (p : Vec Ideal S1x256x1024 .f32) (q : Vec Ideal S1x1024 .f32)
    (w : Vec Ideal S1024x1024 .bf16) : k0_pay3 i o l p q w = k0_pay3 i (taken i o l) (taken i o l) p q w := by
  have hw := tile_word (i 1)
  by_cases h : (i 1).val = 0
  · rw [if_pos h] at hw
    have ht : taken i o l = o := if_pos h
    rw [ht]
    unfold k0_pay3
    simp only [hw]
    rfl
  · rw [if_neg h] at hw
    have ht : taken i o l = l := if_neg h
    rw [ht]
    unfold k0_pay3
    simp only [hw]
    rfl

theorem product_at (i : grid0.Coords) (o : Vec Ideal S1x256x1024 .bf16) (p : Vec Ideal S1x256x1024 .f32) (q : Vec Ideal S1x1024 .f32)
    (w : Vec Ideal S1024x1024 .bf16) (x : Vec Ideal S1x256x1024 .f32) (c : Vec Ideal S1x1x1x1024 .f32) (r : Fin 256) (d : Fin 1024) :
    k0_pay1 (k0_pay2 x) (k0_pay3 i o o p q w) (k0_pay4 c) (ix3 0 r d)
      = gated (fun d => x (ix3 0 r d)) (fun d => ∑ e, o (ix3 0 r e) * p (ix3 0 r e) * w (ix2 e d)) (fun d => q (ix2 0 d))
          (fun d => c (ix4 0 0 0 d)) d := by
  pointwise [k0_pay1, k0_pay2, k0_pay3, k0_pay4]
  rfl

theorem word_val {n k : Nat} (h : n < k) (hk : k < 4294967296) : (BitVec.ofNat 32 n).toNat = n := by
  rw [BitVec.toNat_ofNat]; exact Nat.mod_eq_of_lt (lt_trans h hk)

theorem word_part (n : Fin 33) : (Scalar.minsi (BitVec.ofNat 32 n.val) 1#32).toNat = min n.val 1 := by
  revert n; decide +kernel

theorem word_prev (n : Fin 33) : (Scalar.maxsi (Scalar.subi (BitVec.ofNat 32 n.val) 1#32) 0#32).toNat = n.val - 1 := by
  revert n; decide +kernel

/-- Window 0's block index: the latents' tiles start at the second. -/
theorem transform0 (i : grid0.Coords) : cc0_transform_0 i = ![(i 0).val, (i 1).val - 1, 0] := by
  funext a
  match a with
  | ⟨0, _⟩ => exact word_val (i 0).isLt (by decide)
  | ⟨1, _⟩ => exact word_prev (i 1)
  | ⟨2, _⟩ => rfl

theorem index0 (t : Fin cfg0.N) : win0_0.index t = ![(grid0.coords t 0).val, (grid0.coords t 1).val - 1, 0] := transform0 (grid0.coords t)

theorem transform1 (i : grid0.Coords) : cc0_transform_1 i = ![(i 0).val, 0, 0] := by
  funext a
  match a with
  | ⟨0, _⟩ => exact word_val (i 0).isLt (by decide)
  | ⟨1, _⟩ => rfl
  | ⟨2, _⟩ => rfl

theorem index1 (t : Fin cfg0.N) : win0_1.index t = ![(grid0.coords t 0).val, 0, 0] := transform1 (grid0.coords t)

theorem transform2 (i : grid0.Coords) : cc0_transform_2 i = ![(i 0).val, (i 1).val, 0] := by
  funext a
  match a with
  | ⟨0, _⟩ => exact word_val (i 0).isLt (by decide)
  | ⟨1, _⟩ => exact word_val (i 1).isLt (by decide)
  | ⟨2, _⟩ => rfl

theorem index2 (t : Fin cfg0.N) : win0_2.index t = ![(grid0.coords t 0).val, (grid0.coords t 1).val, 0] := transform2 (grid0.coords t)
theorem index3 (t : Fin cfg0.N) : win0_3.index t = ![(grid0.coords t 0).val, (grid0.coords t 1).val, 0] := transform2 (grid0.coords t)
theorem index7 (t : Fin cfg0.N) : win0_7.index t = ![(grid0.coords t 0).val, (grid0.coords t 1).val, 0] := transform2 (grid0.coords t)

/-- Window 4's block index: the context's for the first tile, else the latents'. -/
theorem transform4 (i : grid0.Coords) : cc0_transform_4 i = ![(i 0).val, min (i 1).val 1, 0, 0] := by
  funext a
  match a with
  | ⟨0, _⟩ => exact word_val (i 0).isLt (by decide)
  | ⟨1, _⟩ => exact word_part (i 1)
  | ⟨2, _⟩ => rfl
  | ⟨3, _⟩ => rfl

theorem index4 (t : Fin cfg0.N) : win0_4.index t = ![(grid0.coords t 0).val, min (grid0.coords t 1).val 1, 0, 0] := transform4 (grid0.coords t)

theorem index5 (t : Fin cfg0.N) : win0_5.index t = ![0, 0] := by
  show cc0_transform_5 (grid0.coords t) = _
  funext a; fin_cases a <;> rfl

theorem index6 (t : Fin cfg0.N) : win0_6.index t = ![0, 0] := by
  show cc0_transform_6 (grid0.coords t) = _
  funext a; fin_cases a <;> rfl

/-- Row `r` of tile `t`, as a position of the sequence. -/
def pos (t : Fin 33) (r : Fin 256) : Fin 8448 := ⟨256 * t.val + r.val, by omega⟩

theorem part_pos (t : Fin 33) (r : Fin 256) : (part (pos t r)).val = min t.val 1 := by
  unfold part pos
  have := r.isLt
  split
  · next h => have h' : 256 * t.val + r.val < 256 := h
              show 0 = _; omega
  · next h => have h' : ¬ 256 * t.val + r.val < 256 := h
              show 1 = _; omega

/-- The attention's row of a position: of the context's rows, then the latents'. -/
def attended (L : S8x8192x1024.Idx → EReal) (C : S8x256x1024.Idx → EReal) (b : Fin 8) (t : Fin 8448) (e : Fin 1024) : EReal :=
  if h : t.val < 256 then C (ix3 b ⟨t.val, h⟩ e) else L (ix3 b ⟨t.val - 256, by omega⟩ e)

section Loads

variable (t : Fin cfg0.N)

theorem ld_taken (L : Vec Ideal S8x8192x1024 .bf16) (C : Vec Ideal S8x256x1024 .bf16) (r : Fin 256) (e : Fin 1024) :
    taken (grid0.coords t) (View.ld (((cfg0.win 1).blk t).view.read (Elt Ideal) C) r0_0)
      (View.ld (((cfg0.win 0).blk t).view.read (Elt Ideal) L) r0_0) (ix3 0 r e)
    = attended L C (grid0.coords t 0) (pos (grid0.coords t 1) r) e := by
  unfold taken attended
  by_cases h : (grid0.coords t 1).val = 0
  · have hp : (pos (grid0.coords t 1) r).val < 256 := by
      show 256 * (grid0.coords t 1).val + r.val < 256
      omega
    rw [if_pos h, dif_pos hp]
    refine congrArg C (?_ : (win0_1.blk t).view.emb (r0_0.emb (ix3 0 r e)) = _)
    funext a
    apply Fin.ext
    fin_cases a
    · blk_simp [index1]; try rfl
    · blk_simp [index1]; show r.val = 256 * (grid0.coords t 1).val + r.val; omega
    · blk_simp [index1]; try rfl
  · have hp : ¬ (pos (grid0.coords t 1) r).val < 256 := by
      show ¬ 256 * (grid0.coords t 1).val + r.val < 256
      omega
    rw [if_neg h, dif_neg hp]
    refine congrArg L (?_ : (win0_0.blk t).view.emb (r0_0.emb (ix3 0 r e)) = _)
    funext a
    apply Fin.ext
    fin_cases a
    · blk_simp [index0]; try rfl
    · blk_simp [index0]; show ((grid0.coords t 1).val - 1) * 256 + r.val = 256 * (grid0.coords t 1).val + r.val - 256; omega
    · blk_simp [index0]; try rfl

theorem ld_p (X : Vec Ideal S8x8448x1024 .f32) (r : Fin 256) (e : Fin 1024) :
    View.ld (((cfg0.win 2).blk t).view.read (Elt Ideal) X) r0_0 (ix3 0 r e) = X (ix3 (grid0.coords t 0) (pos (grid0.coords t 1) r) e) := by
  refine congrArg X (?_ : (win0_2.blk t).view.emb (r0_0.emb (ix3 0 r e)) = _)
  funext a
  apply Fin.ext
  fin_cases a
  · blk_simp [index2]; try rfl
  · blk_simp [index2]; show (grid0.coords t 1).val * 256 + r.val = 256 * (grid0.coords t 1).val + r.val; omega
  · blk_simp [index2]; try rfl

theorem ld_x (X : Vec Ideal S8x8448x1024 .f32) (r : Fin 256) (e : Fin 1024) :
    View.ld (((cfg0.win 3).blk t).view.read (Elt Ideal) X) r0_0 (ix3 0 r e) = X (ix3 (grid0.coords t 0) (pos (grid0.coords t 1) r) e) := by
  refine congrArg X (?_ : (win0_3.blk t).view.emb (r0_0.emb (ix3 0 r e)) = _)
  funext a
  apply Fin.ext
  fin_cases a
  · blk_simp [index3]; try rfl
  · blk_simp [index3]; show (grid0.coords t 1).val * 256 + r.val = 256 * (grid0.coords t 1).val + r.val; omega
  · blk_simp [index3]; try rfl

theorem ld_gate (X : Vec Ideal S8x2x1x3072 .f32) (r : Fin 256) (e : Fin 1024) :
    View.ld (((cfg0.win 4).blk t).view.read (Elt Ideal) X) r0_2 (ix4 0 0 0 e)
      = X (ix4 (grid0.coords t 0) (part (pos (grid0.coords t 1) r)) 0 ⟨2048 + e.val, by omega⟩) := by
  refine congrArg X (?_ : (win0_4.blk t).view.emb (r0_2.emb (ix4 0 0 0 e)) = _)
  funext a
  apply Fin.ext
  fin_cases a
  · blk_simp [index4]; try rfl
  · refine Eq.trans ?_ (part_pos _ r).symm
    blk_simp [index4]; try rfl
  · blk_simp [index4]; try rfl
  · blk_simp [index4]; try rfl

theorem ld_q (X : Vec Ideal S8x1024 .f32) (e : Fin 1024) :
    View.ld (((cfg0.win 5).blk t).view.read (Elt Ideal) X) r0_1 (ix2 0 e) = X (ix2 1 e) := by
  refine congrArg X (?_ : (win0_5.blk t).view.emb (r0_1.emb (ix2 0 e)) = _)
  funext a
  apply Fin.ext
  fin_cases a
  · blk_simp [index5]; try rfl
  · blk_simp [index5]; try rfl

theorem ld_w (X : Vec Ideal S1024x1024 .bf16) (e d : Fin 1024) :
    View.ld (((cfg0.win 6).blk t).view.read (Elt Ideal) X) r0_3 (ix2 e d) = X (ix2 e d) := by
  refine congrArg X (?_ : (win0_6.blk t).view.emb (r0_3.emb (ix2 e d)) = _)
  funext a
  apply Fin.ext
  fin_cases a
  · blk_simp [index6]; try rfl
  · blk_simp [index6]; try rfl

end Loads

section Output

variable (L : S8x8192x1024.Idx → EReal) (C : S8x256x1024.Idx → EReal) (P X : S8x8448x1024.Idx → EReal) (M : S8x2x1x3072.Idx → EReal)
    (Q : S8x1024.Idx → EReal) (W : S1024x1024.Idx → EReal)

/-- The launch's result at every position. -/
def outX : S8x8448x1024.Idx → EReal := fun i =>
  gated (fun d => X (ix3 (i 0) (i 1) d)) (fun d => ∑ e, attended L C (i 0) (i 1) e * P (ix3 (i 0) (i 1) e) * W (ix2 e d))
    (fun d => Q (ix2 1 d)) (fun d => M (ix4 (i 0) (part (i 1)) 0 ⟨2048 + d.val, by omega⟩)) (i 2)

end Output

section Blocks

variable (L : Vec Ideal S8x8192x1024 .bf16) (C : Vec Ideal S8x256x1024 .bf16) (P X : Vec Ideal S8x8448x1024 .f32) (M : Vec Ideal S8x2x1x3072 .f32)
    (Q : Vec Ideal S8x1024 .f32) (W : Vec Ideal S1024x1024 .bf16) (t : Fin cfg0.N)

/-- A place of a block, by its row and column. -/
theorem exists_place (y : S1x256x1024.Idx) : ∃ (r : Fin 256) (d : Fin 1024), y = ix3 0 r d := by
  refine ⟨y 1, y 2, funext fun a => ?_⟩
  match a with
  | ⟨0, _⟩ => exact Fin.ext (by have : (y 0).val < 1 := (y 0).isLt
                                show (y 0).val = 0
                                omega)
  | ⟨1, _⟩ => rfl
  | ⟨2, _⟩ => rfl

/-- Where a place of the output's block lies in the array. -/
theorem place7 (r : Fin 256) (d : Fin 1024) :
    (win0_7.blk t).view.emb (ix3 0 r d : S1x256x1024.Idx) = ix3 (grid0.coords t 0) (pos (grid0.coords t 1) r) d := by
  funext a
  apply Fin.ext
  fin_cases a
  · blk_simp [index7]; try rfl
  · blk_simp [index7]; show (grid0.coords t 1).val * 256 + r.val = 256 * (grid0.coords t 1).val + r.val; omega
  · blk_simp [index7]; try rfl

/-- A store of the whole block leaves what it stores. -/
theorem whole (p : Vec Ideal S1x256x1024 .f32) (y : S1x256x1024.Idx) : View.canon (Val := Elt Ideal) [⟨r0_0, p⟩] y = p y := by
  have hy : r0_0.emb y = y := by
    funext a
    apply Fin.ext
    fin_cases a
    · show 0 + 1 * (y 0).val = (y 0).val; omega
    · show 0 + 1 * (y 1).val = (y 1).val; omega
    · show 0 + 1 * (y 2).val = (y 2).val; omega
  have h := View.canon_cons_emb (Val := Elt Ideal) r0_0 p [] y
  rw [hy] at h
  exact h

theorem block7 (y : S1x256x1024.Idx) :
    out0_7 (grid0.coords t) (((cfg0.win 0).blk t).view.read (Elt Ideal) L) (((cfg0.win 1).blk t).view.read (Elt Ideal) C)
      (((cfg0.win 2).blk t).view.read (Elt Ideal) P) (((cfg0.win 3).blk t).view.read (Elt Ideal) X)
      (((cfg0.win 4).blk t).view.read (Elt Ideal) M) (((cfg0.win 5).blk t).view.read (Elt Ideal) Q)
      (((cfg0.win 6).blk t).view.read (Elt Ideal) W) y = outX L C P X M Q W ((win0_7.blk t).view.emb y) := by
  unfold out0_7
  rw [whole, taken_eq]
  obtain ⟨r, d, rfl⟩ := exists_place y
  rw [place7, product_at]
  exact gated_congr (fun e => ld_x t X r e) (fun d => Finset.sum_congr rfl fun e _ =>
    congr (congrArg _ (congr (congrArg _ (ld_taken t L C r e)) (ld_p t P r e))) (ld_w t W e d)) (fun e => ld_q t Q e) (fun e => ld_gate t M r e) d

end Blocks

theorem covers7 : win0_7.Covers := win0_7.covers_of_indexMap_surj rfl (by decide) fun β => by
  refine ⟨fun a => match a with
    | ⟨0, _⟩ => ⟨(β 0).val, (β 0).isLt⟩
    | ⟨1, _⟩ => ⟨(β 1).val, (β 1).isLt⟩, fun a => ?_⟩
  have h := transform2 (fun a => match a with
    | ⟨0, _⟩ => ⟨(β 0).val, (β 0).isLt⟩
    | ⟨1, _⟩ => ⟨(β 1).val, (β 1).isLt⟩)
  refine (congrFun h a).trans ?_
  match a with
  | ⟨0, _⟩ => rfl
  | ⟨1, _⟩ => rfl
  | ⟨2, _⟩ => exact (Nat.lt_one_iff.mp (β 2).isLt).symm

variable (m : (ℓ : Loc nD τ sig) → Buf (Elt Ideal) ℓ)

/-- The result's array after the run. -/
theorem final7 (c : Dev nD) : (dats m 0 c).arrAt 7 cfg0.N
    = outX (V m c main_arg0) (V m c main_arg1) (V m c main_arg2) (V m c main_arg3) (V m c main_arg4) (V m c main_v3) (V m c main_v4) := by
  refine (dats m 0 c).arrAt_eq_of_covers 7 _ covers7 fun t hf y => ?_
  blk_simp
  rw [after0_7]
  exact block7 (V m c main_arg0) (V m c main_arg1) (V m c main_arg2) (V m c main_arg3) (V m c main_arg4) (V m c main_v3) (V m c main_v4) t _

/-- The second row of the padded pair of gains is the second of the pair. -/
theorem gains_at (x y : S1024.Idx → EReal) (z : S_.Idx → EReal) (e : Fin 1024) :
    pad S8x1024 ![0, 0] ![6, 0] ![0, 0] (concatenate S2x1024 0 [⟨S1x1024, broadcastInDim S1x1024 ![1] bcast_S1024_S1x1024_1 x⟩,
      ⟨S1x1024, broadcastInDim S1x1024 ![1] bcast_S1024_S1x1024_1 y⟩] concatenates_S1x1024_S1x1024_S2x1024_d0) z
      pads_S2x1024_S8x1024_060_000 h_S_ (ix2 1 e) = y (ix1 e) := by
  pointwise []

/-- The gain row the launch reads. -/
theorem gain_at (c : Dev nD) (e : Fin 1024) :
    (V m c main_v3 : S8x1024.Idx → EReal) (ix2 1 e) = (m (c, Proc.tc.devRef main_arg6) : S1024.Idx → EReal) (ix1 e) := by
  have h : ∀ x y : S1024.Idx → EReal, x = (m (c, Proc.tc.devRef main_arg5) : S1024.Idx → EReal) →
      y = (m (c, Proc.tc.devRef main_arg6) : S1024.Idx → EReal) →
      (V m c main_v3 : S8x1024.Idx → EReal) = pad S8x1024 ![0, 0] ![6, 0] ![0, 0] (concatenate S2x1024 0 [⟨S1x1024,
        broadcastInDim S1x1024 ![1] bcast_S1024_S1x1024_1 x⟩, ⟨S1x1024, broadcastInDim S1x1024 ![1] bcast_S1024_S1x1024_1 y⟩]
        concatenates_S1x1024_S1x1024_S2x1024_d0) (sitofp (F := Ideal) .f32 (constantI S_ 32 0) : S_.Idx → EReal) pads_S2x1024_S8x1024_060_000 h_S_ := by
    rintro x y rfl rfl
    unfold V
    after_reads_at
    rfl
  rw [h _ _ rfl rfl]
  exact gains_at _ _ _ e

theorem weight_at (c : Dev nD) : (V m c main_v4 : S1024x1024.Idx → EReal) = (m (c, Proc.tc.devRef main_arg7) : S1024x1024.Idx → EReal) := by
  unfold V
  after_reads_at
  rfl

end Cert.Kernel3Ideal.Out

end
-- ==== Proof.OutRef.lean ====
module

public import proofs.«01_k».proof.Proof.Gen.Reference3Ideal.Read
public import proofs.«01_k».proof.Proof.Layer
public import Idealize.ShloMosaic.Lib.Pointwise
public import Idealize.ShloMosaic.Lib.ValueIdx

@[expose] public section

set_option maxRecDepth 16384

noncomputable section

namespace Cert.Reference3Ideal.Out

open Cert.Reference3Ideal Cert.Reference3Ideal.Gen Cert.Reference3Ideal.Read Idealize.ShloMosaic Idealize.ShloMosaic.TcCoe
open Idealize.ShloMosaic.Tactic
open Cert.Layer

/-- A context position among all positions. -/
def early (n : Fin 256) : Fin 8448 := ⟨n.val, by omega⟩

/-- A latent position among all positions: the context's come first. -/
def late (n : Fin 8192) : Fin 8448 := ⟨256 + n.val, by omega⟩

section Stages

variable (x0 : (⟨S8x8192x1024, .bf16⟩ : BufTy).Contents (Elt Ideal)) (x1 : (⟨S8x256x1024, .bf16⟩ : BufTy).Contents (Elt Ideal))
    (x2 x3 : (⟨S8x8448x1024, .f32⟩ : BufTy).Contents (Elt Ideal)) (x4 : (⟨S8x2x1x3072, .f32⟩ : BufTy).Contents (Elt Ideal))
    (x6 : (⟨S1024, .f32⟩ : BufTy).Contents (Elt Ideal)) (x7 : (⟨S1024x1024, .f32⟩ : BufTy).Contents (Elt Ideal)) (b : Fin 8)

theorem early_product (n : Fin 256) (d : Fin 1024) :
    val_main_v6 x1 x2 x7 (ix3 b n d) = ∑ e, x1 (ix3 b n e) * x2 (ix3 b (early n) e) * x7 (ix2 e d) := by
  pointwise [val_main_v6, val_main_v5, val_main_v4, val_main_v1]
  rfl

theorem late_product (n : Fin 8192) (d : Fin 1024) :
    val_main_v33 x0 x2 x7 (ix3 b n d) = ∑ e, x0 (ix3 b n e) * x2 (ix3 b (late n) e) * x7 (ix2 e d) := by
  pointwise [val_main_v33, val_main_v32, val_main_v31, val_main_v28]
  rfl

theorem early_value (n : Fin 256) (d : Fin 1024) : val_main_v26 x1 x2 x3 x4 x6 x7 (ix3 b n d)
    = gated (fun d => x3 (ix3 b (early n) d)) (fun d => ∑ e, x1 (ix3 b n e) * x2 (ix3 b (early n) e) * x7 (ix2 e d)) (fun d => x6 (ix1 d))
        (fun d => x4 (ix4 b 0 0 ⟨2048 + d.val, by omega⟩)) d := by
  have h : ∀ y : S8x256x1024.Idx → EReal, val_main_v6 x1 x2 x7 = y → val_main_v26 x1 x2 x3 x4 x6 x7 (ix3 b n d)
      = gated (fun d => x3 (ix3 b (early n) d)) (fun d => y (ix3 b n d)) (fun d => x6 (ix1 d))
          (fun d => x4 (ix4 b 0 0 ⟨2048 + d.val, by omega⟩)) d := by
    rintro y hy
    unfold val_main_v26 val_main_v25 val_main_v19 val_main_v16 val_main_v15 val_main_v14 val_main_v13 val_main_v11 val_main_v9 val_main_v8 val_main_v7
    rw [hy]
    pointwise [val_main_v26, val_main_v25, val_main_v24, val_main_v23, val_main_v22, val_main_v19, val_main_v18, val_main_v17, val_main_v16, val_main_v15, val_main_v14, val_main_v13, val_main_v12, val_main_cst_1, val_main_v11, val_main_v10, val_main_cst_0, val_main_v9, val_main_v8, val_main_cst, val_main_v7, val_main_v3, val_main_v2, val_main_v0]
    rfl
  rw [h _ rfl]
  exact gated_congr (fun _ => rfl) (fun d => early_product x1 x2 x7 b n d) (fun _ => rfl) (fun _ => rfl) d

theorem late_value (n : Fin 8192) (d : Fin 1024) : val_main_v53 x0 x2 x3 x4 x6 x7 (ix3 b n d)
    = gated (fun d => x3 (ix3 b (late n) d)) (fun d => ∑ e, x0 (ix3 b n e) * x2 (ix3 b (late n) e) * x7 (ix2 e d)) (fun d => x6 (ix1 d))
        (fun d => x4 (ix4 b 1 0 ⟨2048 + d.val, by omega⟩)) d := by
  have h : ∀ y : S8x8192x1024.Idx → EReal, val_main_v33 x0 x2 x7 = y → val_main_v53 x0 x2 x3 x4 x6 x7 (ix3 b n d)
      = gated (fun d => x3 (ix3 b (late n) d)) (fun d => y (ix3 b n d)) (fun d => x6 (ix1 d))
          (fun d => x4 (ix4 b 1 0 ⟨2048 + d.val, by omega⟩)) d := by
    rintro y hy
    unfold val_main_v53 val_main_v52 val_main_v46 val_main_v43 val_main_v42 val_main_v41 val_main_v40 val_main_v38 val_main_v36 val_main_v35 val_main_v34
    rw [hy]
    pointwise [val_main_v53, val_main_v52, val_main_v51, val_main_v50, val_main_v49, val_main_v46, val_main_v45, val_main_v44, val_main_v43, val_main_v42, val_main_v41, val_main_v40, val_main_v39, val_main_cst_4, val_main_v38, val_main_v37, val_main_cst_3, val_main_v36, val_main_v35, val_main_cst_2, val_main_v34, val_main_v30, val_main_v29, val_main_v27]
    rfl
  rw [h _ rfl]
  exact gated_congr (fun _ => rfl) (fun d => late_product x0 x2 x7 b n d) (fun _ => rfl) (fun _ => rfl) d

theorem cat_early (X : S8x256x1024.Idx → EReal) (Y : S8x8192x1024.Idx → EReal) (n : Fin 256) (e : Fin 1024) :
    concatenate S8x8448x1024 1 [⟨S8x256x1024, X⟩, ⟨S8x8192x1024, Y⟩] concatenates_S8x256x1024_S8x8192x1024_S8x8448x1024_d1
      (ix3 b (early n) e) = X (ix3 b n e) :=
  concatenate_pair_apply_left (t := S8x8448x1024) (s₁ := S8x256x1024) (s₂ := S8x8192x1024) 1 X Y
    concatenates_S8x256x1024_S8x8192x1024_S8x8448x1024_d1 _ rfl (ix3 b n e) (by intro a; fin_cases a <;> rfl)

theorem cat_late (X : S8x256x1024.Idx → EReal) (Y : S8x8192x1024.Idx → EReal) (n : Fin 8192) (e : Fin 1024) :
    concatenate S8x8448x1024 1 [⟨S8x256x1024, X⟩, ⟨S8x8192x1024, Y⟩] concatenates_S8x256x1024_S8x8192x1024_S8x8448x1024_d1
      (ix3 b (late n) e) = Y (ix3 b n e) :=
  concatenate_pair_apply_right (t := S8x8448x1024) (s₁ := S8x256x1024) (s₂ := S8x8192x1024) 1 X Y
    concatenates_S8x256x1024_S8x8192x1024_S8x8448x1024_d1 _ rfl rfl (ix3 b n e)
    (by intro a ha; fin_cases a <;> first | rfl | exact absurd rfl ha) (by show n.val + 256 = 256 + n.val; omega)

theorem early_all (n : Fin 256) (d : Fin 1024) :
    val_main_v54 x0 x1 x2 x3 x4 x6 x7 (ix3 b (early n) d) = val_main_v26 x1 x2 x3 x4 x6 x7 (ix3 b n d) := by
  unfold val_main_v54
  rw [cat_early]

theorem late_all (n : Fin 8192) (d : Fin 1024) :
    val_main_v54 x0 x1 x2 x3 x4 x6 x7 (ix3 b (late n) d) = val_main_v53 x0 x2 x3 x4 x6 x7 (ix3 b n d) := by
  unfold val_main_v54
  rw [cat_late]

end Stages

end Cert.Reference3Ideal.Out

end
-- ==== Proof.OutSame.lean ====
module

public import proofs.«01_k».proof.Defs
public import proofs.«01_k».proof.Proof.OutBlock
public import proofs.«01_k».proof.Proof.OutRef
public import proofs.«01_k».proof.Proof.Gen.Reference3Ideal.Run
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Layer
open Cert.Kernel3Ideal (S8x8192x1024 S8x256x1024 S8x8448x1024 S8x2x1x3072 S8x1024 S1024x1024 S1024)
open Cert.Kernel3Ideal.Out Cert.Reference3Ideal.Out Cert.Reference3Ideal.Read

/-- The output product's launch leaves the reference's array. -/
theorem same_out (L : S8x8192x1024.Idx → EReal) (C : S8x256x1024.Idx → EReal) (P X : S8x8448x1024.Idx → EReal) (M : S8x2x1x3072.Idx → EReal)
    (Q : S8x1024.Idx → EReal) (W : S1024x1024.Idx → EReal) (q : S1024.Idx → EReal) (hQ : ∀ e, Q (ix2 1 e) = q (ix1 e)) :
    outX L C P X M Q W = val_main_v54 (F := Ideal) L C P X M q W := by
  have h : ∀ (b : Fin 8) (t : Fin 8448) (d : Fin 1024), outX L C P X M Q W (ix3 b t d) = val_main_v54 (F := Ideal) L C P X M q W (ix3 b t d) := by
    intro b t d
    by_cases ht : t.val < 256
    · obtain ⟨n, rfl⟩ : ∃ n : Fin 256, t = early n := ⟨⟨t.val, ht⟩, rfl⟩
      have hp : part (early n) = 0 := if_pos ht
      have ha : ∀ e, attended L C b (early n) e = C (ix3 b n e) := fun e => dif_pos ht
      rw [early_all, early_value]
      refine gated_congr (fun _ => rfl) (fun d => Finset.sum_congr rfl fun e _ => ?_) hQ (fun e => ?_) d
      · exact congrArg (fun z => z * P (ix3 b (early n) e) * W (ix2 e d)) (ha e)
      · exact congrArg (fun z => M (ix4 b z 0 ⟨2048 + e.val, by omega⟩)) hp
    · obtain ⟨n, rfl⟩ : ∃ n : Fin 8192, t = late n := ⟨⟨t.val - 256, by omega⟩, Fin.ext (by show t.val = 256 + (t.val - 256); omega)⟩
      have hp : part (late n) = 1 := if_neg ht
      have hn : (⟨(late n).val - 256, by omega⟩ : Fin 8192) = n := Fin.ext (by show 256 + n.val - 256 = n.val; omega)
      have ha : ∀ e, attended L C b (late n) e = L (ix3 b n e) := fun e => (dif_neg ht).trans (congrArg (fun z => L (ix3 b z e)) hn)
      rw [late_all, late_value]
      refine gated_congr (fun _ => rfl) (fun d => Finset.sum_congr rfl fun e _ => ?_) hQ (fun e => ?_) d
      · exact congrArg (fun z => z * P (ix3 b (late n) e) * W (ix2 e d)) (ha e)
      · exact congrArg (fun z => M (ix4 b z 0 ⟨2048 + e.val, by omega⟩)) hp
  funext i
  have hi : i = ix3 (i 0) (i 1) (i 2) := by
    funext a
    match a with
    | ⟨0, _⟩ => rfl
    | ⟨1, _⟩ => rfl
    | ⟨2, _⟩ => rfl
  rw [hi]
  exact h _ _ _

/-- The output product's launch and its reference end with equal results. -/
theorem algebraic_out : Cert.algebraic_Kernel3Ideal_Reference3Ideal (hKernel3Ideal := Cert.Kernel3Ideal.Gen.facts)
    (hReference3Ideal := Cert.Reference3Ideal.Gen.facts) := by
  intro m g m' g' hpre hargs
  refine ⟨fun c => Cert.Reference3Ideal.Value.res_main_v54 m' c, ?_, ?_⟩
  · refine (θ_run Cert.Kernel3Ideal.defs _ _).mono (fun r h c => ?_) (Cert.Kernel3Ideal.Value.run_blocks m g)
    obtain ⟨h7, hk⟩ := h c
    obtain ⟨a0, a1, a2, a3, a4, a5, a6, a7⟩ := hargs c
    refine ⟨h7.trans ((Cert.Kernel3Ideal.Out.final7 m c).trans ?_), hk⟩
    rw [Cert.Kernel3Ideal.Gen.V_main_arg0, Cert.Kernel3Ideal.Gen.V_main_arg1, Cert.Kernel3Ideal.Gen.V_main_arg2,
      Cert.Kernel3Ideal.Gen.V_main_arg3, Cert.Kernel3Ideal.Gen.V_main_arg4, Cert.Kernel3Ideal.Out.weight_at]
    show _ = Cert.Reference3Ideal.Value.res_main_v54 m' c
    rw [Cert.Reference3Ideal.Read.val_main_v54_eq, a0, a1, a2, a3, a4, a6, a7]
    exact same_out _ _ _ _ _ _ _ _ (Cert.Kernel3Ideal.Out.gain_at m c)
  · exact (θ_run Cert.Reference3Ideal.defs _ _).mono (fun r h c => h c) (Cert.Reference3Ideal.Value.run m' g')

/-- The output product's reference runs and leaves its arguments unchanged; it declares no semaphore. -/
theorem frame_out_ref : Cert.quiescent_Reference3Ideal (hReference3Ideal := Cert.Reference3Ideal.Gen.facts) := fun m g _ =>
  (θ_run (Cert.Reference3Ideal.defs (F := Ideal)) _ _).mono
    (fun r h => And.intro (fun c => (h c).2) (sem_eq_zero_of_no_sems (by decide) r.2)) (Cert.Reference3Ideal.Value.run m g)

end Cert.Proof

end
-- ==== Proof.Mix.lean ====
module

public import proofs.«01_k».proof.Proof.Layer
public import Mathlib.Analysis.SpecialFunctions.Log.Basic

@[expose] public section

noncomputable section

namespace Cert.Mix

open Idealize.ShloMosaic
open Cert.Layer

/-- One half. -/
def half : EReal := Ideal.ofBits FTy.f32 1056964608#32

/-- The least length a direction is divided by. -/
def tiny : EReal := Ideal.ofBits FTy.f32 730643660#32

/-- The logistic of a number. -/
def logi (z : EReal) : EReal := Ideal.div 1 (1 + Ideal.exp (-z))

/-- The weights of a recurrent layer's projections. -/
structure Par where
  mu : Fin 6 → Fin 1024 → EReal
  w : Fin 4 → Fin 1024 → Fin 1024 → EReal
  w0 : Fin 2 → Fin 1024 → EReal
  w1 : Fin 2 → Fin 1024 → Fin 64 → EReal
  w2 : Fin 2 → Fin 64 → Fin 1024 → EReal
  a0 : Fin 2 → Fin 1024 → EReal
  a1 : Fin 2 → Fin 1024 → Fin 64 → EReal
  a2 : Fin 2 → Fin 64 → Fin 1024 → EReal
  kk : Fin 1024 → EReal
  ka : Fin 1024 → EReal
  rk : Fin 1024 → EReal
  v0 : Fin 1024 → EReal
  v1 : Fin 1024 → Fin 32 → EReal
  v2 : Fin 32 → Fin 1024 → EReal

/-- What a position's projections are made of: its hidden row, the rows before and after it, and the first layer's values. -/
structure Row where
  own : Fin 1024 → EReal
  before : Fin 1024 → EReal
  after : Fin 1024 → EReal
  first : Fin 1024 → EReal

/-- The mean of the neighbours less the row itself. -/
def Row.gap (q : Row) (e : Fin 1024) : EReal := half * (q.before e + q.after e) - q.own e

/-- The row moved towards its neighbours' mean by a weight at each place. -/
def Row.mix (q : Row) (m : Fin 1024 → EReal) (e : Fin 1024) : EReal := q.own e + q.gap e * m e

/-- Place `j` of the head that place `d` belongs to. -/
def inHead (d : Fin 1024) (j : Fin 64) : Fin 1024 := ⟨d.val / 64 * 64 + j.val, by omega⟩

/-- The sum over the head that a place belongs to. -/
def headSum (f : Fin 1024 → EReal) (d : Fin 1024) : EReal := ∑ j, f (inHead d j)

section Spec

variable (P : Par) (q : Row)

def recep (d : Fin 1024) : EReal := ∑ e, q.mix (P.mu 0) e * P.w 0 e d
def key (d : Fin 1024) : EReal := ∑ e, q.mix (P.mu 2) e * P.w 1 e d
def raw (d : Fin 1024) : EReal := ∑ e, q.mix (P.mu 3) e * P.w 2 e d
def gate (d : Fin 1024) : EReal := silu (∑ e, q.mix (P.mu 5) e * P.w 3 e d)
def trust (d : Fin 1024) : EReal := logi (P.v0 d + ∑ j, (∑ e, q.mix (P.mu 3) e * P.v1 e j) * P.v2 j d)
def value (d : Fin 1024) : EReal := raw P q d + (q.first d - raw P q d) * trust P q d
def level (s : Fin 2) (d : Fin 1024) : EReal := P.w0 s d + ∑ j, Ideal.tanh (∑ e, q.mix (P.mu 1) e * P.w1 s e j) * P.w2 s j d
def rate (s : Fin 2) (d : Fin 1024) : EReal := logi (P.a0 s d + ∑ j, (∑ e, q.mix (P.mu 4) e * P.a1 s e j) * P.a2 s j d)
def long (d : Fin 1024) : EReal := key P q d * P.kk d
def dir (d : Fin 1024) : EReal := Ideal.div (long P q d) (max (Ideal.sqrt (headSum (fun e => long P q e * long P q e) d)) tiny)
def kdir (s : Fin 2) (d : Fin 1024) : EReal := key P q d * (1 + (rate P q s d - 1) * P.ka d)
def bonus (d : Fin 1024) : EReal :=
  (headSum (fun e => recep P q e * kdir P q 0 e * P.rk e) d + headSum (fun e => recep P q e * kdir P q 1 e * P.rk e) d) * value P q d
def step (s : Fin 2) (d : Fin 1024) : EReal := dir P q d * rate P q s d
def softplus (y : EReal) : EReal := max y 0 + Ideal.log1p (Ideal.exp (-(max y (-y))))
def decay (s : Fin 2) (d : Fin 1024) : EReal := -Ideal.exp (-softplus (-level P q s d) - half)

end Spec

/-- Neither infinity. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.neg {x : EReal} (hx : Real' x) : Real' (-x) := by
  obtain ⟨a, rfl⟩ := hx; exact ⟨-a, (EReal.coe_neg a).symm⟩

theorem real_zero : Real' 0 := ⟨0, rfl⟩
theorem real_one : Real' 1 := ⟨1, rfl⟩

theorem Real'.sum {ι : Type*} (s : Finset ι) {f : ι → EReal} (h : ∀ i, Real' (f i)) : Real' (∑ i ∈ s, f i) := by
  classical
  induction s using Finset.induction_on with
  | empty => rw [Finset.sum_empty]; exact real_zero
  | insert a s ha ih => rw [Finset.sum_insert ha]; exact (h a).add ih

theorem half_eq : half = ((1 / 2 : ℝ) : EReal) := by
  unfold half
  simp [Ideal.ofBits, Ideal.ieee]
  rw [← EReal.coe_mul]
  norm_num

theorem real_half : Real' half := ⟨_, half_eq⟩

theorem Real'.self_sub {x : EReal} (hx : Real' x) : x - x = 0 := by
  obtain ⟨a, rfl⟩ := hx; rw [← EReal.coe_sub, sub_self]; rfl

theorem real_tanh (x : EReal) : Real' (Ideal.tanh x) := by
  induction x with
  | bot => exact ⟨-1, rfl⟩
  | top => exact ⟨1, rfl⟩
  | coe r => exact ⟨_, rfl⟩

theorem logi_coe (r : ℝ) : logi (r : EReal) = (((1 + Real.exp (-r))⁻¹ : ℝ) : EReal) := Ideal.logistic_coe (r := r)

theorem real_logi (x : EReal) : Real' (logi x) := by
  induction x with
  | bot => refine ⟨0, ?_⟩
           unfold logi
           have h : (1 : EReal) + Ideal.exp (-⊥) = ⊤ := by
             rw [EReal.neg_bot]; rfl
           rw [h]
           unfold Ideal.div
           rw [if_neg (by decide)]
           simp
  | top => refine ⟨1, ?_⟩
           unfold logi
           have h : (1 : EReal) + Ideal.exp (-⊤) = ((1 : ℝ) : EReal) := by
             rw [EReal.neg_top]; exact add_zero (1 : EReal)
           rw [h, Ideal.div_coe one_ne_zero]
           simp
  | coe r => exact ⟨_, logi_coe r⟩

end Cert.Mix

end
-- ==== Proof.MixReal.lean ====
module

public import proofs.«01_k».proof.Proof.Mix

@[expose] public section

noncomputable section

namespace Cert.Mix

open Idealize.ShloMosaic
open Cert.Layer

/-- A real number of a bit pattern: the mean's divisor. -/
theorem thousand_eq : Ideal.ofBits FTy.f32 1149239296#32 = ((1024 : ℝ) : EReal) := by
  simp [Ideal.ofBits, Ideal.ieee]
  try rw [← EReal.coe_mul]
  try norm_num

theorem small_eq : ∃ r : ℝ, 0 < r ∧ Ideal.ofBits FTy.f32 897988541#32 = (r : EReal) := by
  simp [Ideal.ofBits, Ideal.ieee]
  try exact ⟨_, by norm_num, (EReal.coe_mul _ _).symm⟩

theorem tiny_eq : ∃ r : ℝ, 0 < r ∧ tiny = (r : EReal) := by
  unfold tiny
  simp [Ideal.ofBits, Ideal.ieee]
  try exact ⟨_, by norm_num, (EReal.coe_mul _ _).symm⟩

theorem minus_half : Ideal.ofBits FTy.f32 3204448256#32 = ((-(1 / 2) : ℝ) : EReal) := by
  simp [Ideal.ofBits, Ideal.ieee]
  try rw [← EReal.coe_mul]
  try norm_num

/-- The sum of the squares of real numbers is a real number that is not negative. -/
theorem squares {ι : Type*} [Fintype ι] {f : ι → EReal} (h : ∀ i, Real' (f i)) : ∃ r : ℝ, 0 ≤ r ∧ ∑ i, f i * f i = (r : EReal) := by
  classical
  suffices H : ∀ s : Finset ι, ∃ r : ℝ, 0 ≤ r ∧ ∑ i ∈ s, f i * f i = (r : EReal) from H Finset.univ
  intro s
  induction s using Finset.induction_on with
  | empty => exact ⟨0, le_refl _, by rw [Finset.sum_empty]; rfl⟩
  | insert a s ha ih =>
    obtain ⟨r, hr, er⟩ := ih
    obtain ⟨x, hx⟩ := h a
    exact ⟨x * x + r, add_nonneg (mul_self_nonneg x) hr, by rw [Finset.sum_insert ha, er, hx, EReal.coe_add, EReal.coe_mul]⟩

theorem real_rms {x : Fin 1024 → EReal} (h : ∀ e, Real' (x e)) : Real' (rms x) := by
  obtain ⟨s, hs, es⟩ := squares h
  obtain ⟨c, hc, ec⟩ := small_eq
  unfold rms
  rw [es, ec, thousand_eq, Ideal.div_coe (by norm_num), ← EReal.coe_mul, ← EReal.coe_add, Ideal.rsqrt_coe]
  have hp : 0 < s * (1 / 1024) + c := by positivity
  rw [if_neg hp.not_gt, if_neg hp.ne']
  exact ⟨_, rfl⟩

/-- A row that is normalised is real, whatever it was: the norm of a row with an infinite place is infinite, and takes the row to zero. -/
theorem real_scaled (x : Fin 1024 → EReal) (e : Fin 1024) : Real' (x e * rms x) := by
  by_cases h : ∀ e, Real' (x e)
  · exact (h e).mul (real_rms h)
  obtain ⟨k, hk⟩ := not_forall.mp h
  have hn : ∀ y : EReal, 0 ≤ y * y := fun y => by
    induction y using EReal.rec with
    | bot => exact le_top
    | coe r => rw [← EReal.coe_mul]; exact EReal.coe_nonneg.mpr (mul_self_nonneg r)
    | top => exact le_top
  have ht : ∀ y : EReal, ¬ Real' y → y * y = ⊤ := fun y => by
    induction y using EReal.rec with
    | bot => exact fun _ => rfl
    | coe r => exact fun hr => absurd ⟨r, rfl⟩ hr
    | top => exact fun _ => rfl
  have hs : ∑ e, x e * x e = ⊤ :=
    top_le_iff.mp ((ht _ hk).symm.le.trans (Finset.single_le_sum (f := fun e => x e * x e) (fun e _ => hn (x e)) (Finset.mem_univ k)))
  obtain ⟨c, hc, ec⟩ := small_eq
  have hr : rms x = 0 := by
    unfold rms
    rw [hs, ec, thousand_eq, Ideal.div_coe (by norm_num), EReal.top_mul_coe_of_pos (by norm_num), EReal.top_add_coe, Ideal.rsqrt_top]
  rw [hr, mul_zero]
  exact real_zero

theorem real_modulated (x : Fin 1024 → EReal) {g scale shift : Fin 1024 → EReal} (hg : ∀ e, Real' (g e)) (hc : ∀ e, Real' (scale e))
    (hs : ∀ e, Real' (shift e)) (e : Fin 1024) : Real' (modulated x g scale shift e) :=
  (((real_scaled x e).mul (hg e)).mul (real_one.add (hc e))).add (hs e)

/-- What the weights must be for the receptance and the keys to be real numbers. -/
structure Par.Finite (P : Par) : Prop where
  mu0 : ∀ e, Real' (P.mu 0 e)
  mu2 : ∀ e, Real' (P.mu 2 e)
  w0 : ∀ e d, Real' (P.w 0 e d)
  w1 : ∀ e d, Real' (P.w 1 e d)
  kk : ∀ d, Real' (P.kk d)
  ka : ∀ d, Real' (P.ka d)
  rk : ∀ d, Real' (P.rk d)

/-- A position's rows are real numbers; nothing is asked of the first layer's values. -/
structure Row.Finite (q : Row) : Prop where
  own : ∀ e, Real' (q.own e)
  before : ∀ e, Real' (q.before e)
  after : ∀ e, Real' (q.after e)

section

variable {P : Par} {q : Row} (hP : P.Finite) (hq : q.Finite)

include hq in
theorem real_mix {mu : Fin 1024 → EReal} (hm : ∀ e, Real' (mu e)) (e : Fin 1024) : Real' (q.mix mu e) :=
  (hq.own e).add (((real_half.mul ((hq.before e).add (hq.after e))).sub (hq.own e)).mul (hm e))

include hP hq

theorem real_recep (d : Fin 1024) : Real' (recep P q d) := Real'.sum _ fun e => (real_mix hq hP.mu0 e).mul (hP.w0 e d)
theorem real_key (d : Fin 1024) : Real' (key P q d) := Real'.sum _ fun e => (real_mix hq hP.mu2 e).mul (hP.w1 e d)
theorem real_long (d : Fin 1024) : Real' (long P q d) := (real_key hP hq d).mul (hP.kk d)
theorem real_kdir (s : Fin 2) (d : Fin 1024) : Real' (kdir P q s d) :=
  (real_key hP hq d).mul (real_one.add (((real_logi _).sub real_one).mul (hP.ka d)))

end

/-- Multiplication distributes over the sum of real numbers. -/
theorem spread {x a b c : EReal} (hx : Real' x) (ha : Real' a) (hb : Real' b) (hc : Real' c) : x * (a + b) * c = x * a * c + x * b * c := by
  obtain ⟨x, rfl⟩ := hx; obtain ⟨a, rfl⟩ := ha; obtain ⟨b, rfl⟩ := hb; obtain ⟨c, rfl⟩ := hc
  norm_cast
  ring

theorem softplus_coe (y : ℝ) : softplus (y : EReal) = ((Real.log (1 + Real.exp y) : ℝ) : EReal) := by
  unfold softplus Ideal.log1p
  have h0 : max (y : EReal) 0 = ((max y 0 : ℝ) : EReal) := (EReal.coe_strictMono.monotone.map_max).symm
  have h1 : max (y : EReal) (-(y : EReal)) = ((max y (-y) : ℝ) : EReal) := by rw [← EReal.coe_neg]; exact (EReal.coe_strictMono.monotone.map_max).symm
  have h2 : (1 : EReal) = ((1 : ℝ) : EReal) := rfl
  rw [h0, h1, ← EReal.coe_neg, Ideal.exp_coe, h2, ← EReal.coe_add, Ideal.log_coe]
  have hp : 0 < 1 + Real.exp (-max y (-y)) := by positivity
  rw [if_neg hp.not_ge, ← EReal.coe_add]
  congr 1
  have h3 : Real.log (Real.exp (max y 0)) = max y 0 := Real.log_exp _
  rw [← h3, ← Real.log_mul (Real.exp_pos _).ne' hp.ne']
  congr 1
  rw [mul_add, mul_one, ← Real.exp_add]
  rcases le_total 0 y with h | h
  · rw [max_eq_left h, max_eq_left (by linarith), add_neg_cancel, Real.exp_zero]; ring
  · rw [max_eq_right h, max_eq_right (by linarith), neg_neg, zero_add, Real.exp_zero]

/-- The logarithm of a real level's decay: the logistic of the level against a constant. -/
theorem decay_real {w : EReal} (hw : Real' w) :
    -Ideal.exp (Ideal.ofBits FTy.f32 3204448256#32) * logi w = -Ideal.exp (-softplus (-w) - half) := by
  obtain ⟨r, rfl⟩ := hw
  rw [minus_half, half_eq, ← EReal.coe_neg r, softplus_coe, logi_coe, ← EReal.coe_neg, ← EReal.coe_sub, Ideal.exp_coe, Ideal.exp_coe,
    ← EReal.coe_neg, ← EReal.coe_neg, ← EReal.coe_mul]
  congr 1
  have hp : 0 < 1 + Real.exp (-r) := by positivity
  rw [sub_eq_add_neg, Real.exp_add, Real.exp_neg (Real.log _), Real.exp_log hp]
  ring

theorem softplus_top : softplus ⊤ = ⊤ := by
  have h : max (⊤ : EReal) (-⊤) = ⊤ := max_eq_left le_top
  unfold softplus Ideal.log1p
  rw [h, EReal.neg_top, Ideal.exp_bot, add_zero, max_eq_left (le_top : (0 : EReal) ≤ ⊤), ← EReal.coe_one, Ideal.log_coe,
    if_neg (by norm_num), EReal.top_add_coe]

theorem softplus_bot : softplus ⊥ = 0 := by
  have h : max (⊥ : EReal) (-⊥) = ⊤ := max_eq_right bot_le
  unfold softplus Ideal.log1p
  rw [h, EReal.neg_top, Ideal.exp_bot, add_zero, max_eq_right (bot_le : (⊥ : EReal) ≤ 0), ← EReal.coe_one, Ideal.log_coe,
    if_neg (by norm_num), Real.log_one, EReal.coe_zero, add_zero]

/-- The same of any level: at either infinity both sides are their limits. -/
theorem decay_eq (w : EReal) : -Ideal.exp (Ideal.ofBits FTy.f32 3204448256#32) * logi w = -Ideal.exp (-softplus (-w) - half) := by
  induction w using EReal.rec with
  | bot =>
    have hl : logi ⊥ = 0 := by
      unfold logi Ideal.div
      rw [EReal.neg_bot, Ideal.exp_top, ← EReal.coe_one, EReal.coe_add_top, if_neg EReal.top_ne_zero, EReal.inv_top, mul_zero]
    rw [hl, mul_zero, EReal.neg_bot, softplus_top, EReal.neg_top, half_eq, EReal.bot_sub, Ideal.exp_bot, neg_zero]
  | coe r => exact decay_real ⟨r, rfl⟩
  | top =>
    have hl : logi ⊤ = 1 := by
      unfold logi
      rw [EReal.neg_top, Ideal.exp_bot, add_zero, ← EReal.coe_one, Ideal.div_coe one_ne_zero, ← EReal.coe_mul]
      norm_num
    rw [hl, mul_one, EReal.neg_top, softplus_bot, neg_zero, zero_sub, minus_half, half_eq, ← EReal.coe_neg]

/-- The sum over 64 consecutive places of a family that is zero at every other place. -/
theorem sum_block {n : Nat} (f : Fin n → EReal) (s : Nat) (hs : s * 64 + 64 ≤ n) (h0 : ∀ j : Fin n, j.val / 64 ≠ s → f j = 0) :
    ∑ j, f j = ∑ i : Fin 64, f ⟨s * 64 + i.val, by omega⟩ := by
  refine (Fintype.sum_of_injective (fun i : Fin 64 => (⟨s * 64 + i.val, by omega⟩ : Fin n)) (fun a b h => ?_) _ _ (fun j hj => ?_)
    fun i => rfl).symm
  · have := congrArg Fin.val h
    exact Fin.ext (by simpa using this)
  · refine h0 j fun h => hj ⟨⟨j.val % 64, Nat.mod_lt _ (by decide)⟩, Fin.ext ?_⟩
    show s * 64 + j.val % 64 = j.val
    omega

/-- The sum over the head that column `j` stands for. -/
theorem sum_head (x : Fin 1024 → EReal) (E : Fin 1024 → EReal) (j : Nat) (hj : j < 16) (hE : ∀ e : Fin 1024, E e = if e.val / 64 = j then 1 else 0) :
    ∑ e, x e * E e = ∑ i : Fin 64, x ⟨j * 64 + i.val, by omega⟩ := by
  rw [sum_block (fun e => x e * E e) j (by omega) fun e he => by rw [hE, if_neg he, mul_zero]]
  refine Finset.sum_congr rfl fun i _ => ?_
  rw [hE, if_pos (by show (j * 64 + i.val) / 64 = j; omega), mul_one]

/-- The head sum as the layer's kernel takes it: what is lost by splitting a number in two is added back, and of real numbers nothing is lost. -/
theorem headSum_eq (x : Fin 1024 → EReal) (hx : ∀ e, Real' (x e)) (E : Fin 1024 → Fin 128 → EReal) (T : Fin 128 → Fin 1024 → EReal)
    (hE : ∀ e j, E e j = if e.val / 64 = j.val then 1 else 0) (hT : ∀ j d, T j d = if d.val / 64 = j.val then 1 else 0) (d : Fin 1024) :
    (∑ j, (∑ e, x e * E e j + ∑ e, (x e - x e) * E e j) * T j d
      + ∑ j, ((∑ e, x e * E e j + ∑ e, (x e - x e) * E e j) - (∑ e, x e * E e j + ∑ e, (x e - x e) * E e j)) * T j d : EReal)
    = headSum x d := by
  have hEr : ∀ e j, Real' (E e j) := fun e j => by rw [hE]; split; exacts [real_one, real_zero]
  have h1 : ∀ j, (∑ e, x e * E e j + ∑ e, (x e - x e) * E e j : EReal) = ∑ e, x e * E e j := fun j => by
    rw [Finset.sum_eq_zero (s := Finset.univ) (f := fun e => (x e - x e) * E e j) fun e _ => by rw [(hx e).self_sub, zero_mul], add_zero]
  have h2 : ∀ j, Real' (∑ e, x e * E e j) := fun j => Real'.sum _ fun e => (hx e).mul (hEr e j)
  rw [Finset.sum_congr rfl fun j _ => by rw [h1 j],
    Finset.sum_eq_zero (s := Finset.univ) (f := fun j => ((∑ e, x e * E e j + ∑ e, (x e - x e) * E e j) - (∑ e, x e * E e j + ∑ e, (x e - x e) * E e j)) * T j d)
      fun j _ => by rw [h1 j, (h2 j).self_sub, zero_mul], add_zero,
    Finset.sum_eq_single (⟨d.val / 64, by omega⟩ : Fin 128)
      (fun j _ hj => by rw [hT, if_neg fun h => hj (Fin.ext h.symm), mul_zero]) (fun h => absurd (Finset.mem_univ _) h),
    hT, if_pos rfl, mul_one]
  exact sum_head x (fun e => E e _) (d.val / 64) (by omega) fun e => hE e _

/-- The sum over 128 columns of which only one half's weights are not zero. -/
theorem sum_half (f g : Fin 128 → EReal) (s : Fin 2) (y : Fin 64 → EReal) (w : Fin 64 → EReal)
    (hf : ∀ j : Fin 64, f ⟨s.val * 64 + j.val, by omega⟩ = y j)
    (hg : ∀ j : Fin 128, g j = if j.val / 64 = s.val then w ⟨j.val % 64, Nat.mod_lt _ (by decide)⟩ else 0) :
    ∑ j, f j * g j = ∑ j, y j * w j := by
  rw [sum_block (fun e => f e * g e) s.val (by omega) fun e he => by rw [hg, if_neg he, mul_zero]]
  refine Finset.sum_congr rfl fun i _ => ?_
  rw [hg, if_pos (by show (s.val * 64 + i.val) / 64 = s.val; omega), hf]
  congr 2
  exact Fin.ext (by show (s.val * 64 + i.val) % 64 = i.val; omega)

/-- The sum over 128 columns of which only the first 32 are not zero. -/
theorem sum_pad (f g : Fin 128 → EReal) (y w : Fin 32 → EReal) (hf : ∀ j : Fin 32, f ⟨j.val, by omega⟩ = y j)
    (hg : ∀ j : Fin 128, g j = if h : j.val < 32 then w ⟨j.val, h⟩ else 0) : ∑ j, f j * g j = ∑ j, y j * w j := by
  refine (Fintype.sum_of_injective (fun i : Fin 32 => (⟨i.val, by omega⟩ : Fin 128)) (fun a b h => ?_) _ _ (fun j hj => ?_) fun i => ?_).symm
  · have := congrArg Fin.val h
    exact Fin.ext (by simpa using this)
  · rw [hg, dif_neg fun h => hj ⟨⟨j.val, h⟩, rfl⟩, mul_zero]
  · rw [hg, dif_pos i.isLt, hf]

end Cert.Mix

end
-- ==== Proof.MixBlock.lean ====
module

public import proofs.«01_k».proof.Proof.MixRun
public import proofs.«01_k».proof.Proof.MixReal
public import Idealize.ShloMosaic.Lib.Pointwise
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.Tactic Idealize.SL.Sem
open Idealize.ShloMosaic.Pipeline (Dat)
open Cert.Layer Cert.Mix

/-- The body's hidden block: each row normalised, weighted, scaled and shifted. -/
theorem hidden_at (sh sc : Vec Ideal S1x1x1x1024 .f32) (g : Vec Ideal S1x1024 .f32) (x : Vec Ideal S1x256x1024 .f32) (r : Fin 256) (e : Fin 1024) :
    k0_pay5 sh sc g x (ix2 r e) = modulated (fun e => x (ix3 0 r e)) (fun e => g (ix2 0 e)) (fun e => sc (ix4 0 0 0 e)) (fun e => sh (ix4 0 0 0 e)) e := by
  pointwise [k0_pay5, k0_pay4, k0_pay3, k0_pay2]
  rfl

theorem word_two (n : Fin 33) : Scalar.cmpi .sge (BitVec.ofNat 32 n.val) 2#32 = BitVec.ofBool (decide (2 ≤ n.val)) := by
  revert n; decide +kernel

theorem word_mid (n : Fin 33) : Scalar.andi (Scalar.cmpi .sge (BitVec.ofNat 32 n.val) 1#32) (Scalar.cmpi .slt (BitVec.ofNat 32 n.val) 32#32)
    = BitVec.ofBool (decide (1 ≤ n.val ∧ n.val < 32)) := by
  revert n; decide +kernel

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- The row before a tile: the last of the rows before it, and none before the first two tiles. -/
theorem before_at (n : Fin 33) (sh sc : Vec Ideal S1x1x1x1024 .f32) (g : Vec Ideal S1x1024 .f32) (x : Vec Ideal S1x8x1024 .f32) (e : Fin 1024) :
    k0_pay8 (BitVec.ofNat 32 n.val) (k0_pay2 sh) (k0_pay3 sc) (k0_pay4 g) (k0_pay6 x) (k0_pay7 x) (ix2 0 e)
      = if 2 ≤ n.val then modulated (fun e => x (ix3 0 7 e)) (fun e => g (ix2 0 e)) (fun e => sc (ix4 0 0 0 e)) (fun e => sh (ix4 0 0 0 e)) e else 0 := by
  unfold k0_pay8
  rw [word_two]
  rw [select_ofBool]
  split <;> pointwise [k0_pay7, k0_pay6, k0_pay4, k0_pay3, k0_pay2] <;> rfl

/-- The row after a tile: the first of the rows after it, and none after the first tile and after the last. -/
theorem after_at (n : Fin 33) (sh sc : Vec Ideal S1x1x1x1024 .f32) (g : Vec Ideal S1x1024 .f32) (x : Vec Ideal S1x8x1024 .f32) (e : Fin 1024) :
    k0_pay9 (BitVec.ofNat 32 n.val) (k0_pay2 sh) (k0_pay3 sc) (k0_pay4 g) x (ix2 0 e)
      = if 1 ≤ n.val ∧ n.val < 32 then modulated (fun e => x (ix3 0 0 e)) (fun e => g (ix2 0 e)) (fun e => sc (ix4 0 0 0 e)) (fun e => sh (ix4 0 0 0 e)) e
        else 0 := by
  unfold k0_pay9
  rw [word_mid]
  rw [select_ofBool]
  split <;> pointwise [k0_pay7, k0_pay6, k0_pay4, k0_pay3, k0_pay2] <;> rfl

theorem row_first (r : Fin 256) : IntOp.cmpi .eq (BitVec.ofNat 32 r.val) 0#32 = BitVec.ofBool (decide (r.val = 0)) := by
  revert r; decide +kernel

theorem row_last (r : Fin 256) : IntOp.cmpi .eq (BitVec.ofNat 32 r.val) 255#32 = BitVec.ofBool (decide (r.val = 255)) := by
  revert r; decide +kernel

/-- The neighbours' mean less the row itself, in a tile. -/
theorem gap_at (h : FVec Ideal S256x1024 .f32) (p n : FVec Ideal S1x1024 .f32) (r : Fin 256) (e : Fin 1024) :
    k0_pay12 h p n (iota .tc S256x1 32 [0] iota_S256x1_d0_w32) k0_pay10 (k0_pay11 h) (ix2 r e)
      = half * ((if r.val = 0 then p (ix2 0 e) else h (ix2 ⟨(r.val + 256 - 1) % 256, Nat.mod_lt _ (by decide)⟩ e))
          + (if r.val = 255 then n (ix2 0 e) else h (ix2 ⟨(r.val + 256 - 255) % 256, Nat.mod_lt _ (by decide)⟩ e))) - h (ix2 r e) := by
  pointwise [k0_pay12, k0_pay10, k0_pay11]
  rw [row_first, row_last, select_ofBool, select_ofBool]
  rfl

section Products

variable (h x : FVec Ideal S256x1024 .f32) (p n : FVec Ideal S1x1024 .f32) (io : IVec S256x1 32) (lt : IVec S256x1 1) (ro : FVec Ideal S256x1024 .f32)
  (m : Vec Ideal S1x1024 .f32) (w : Vec Ideal S1024x1024 .bf16) (w' : Vec Ideal S1024x128 .bf16) (r : Fin 256) (d : Fin 1024)

theorem pay13_at : k0_pay13 h p n io lt ro m w (ix2 r d)
    = ∑ e, (h (ix2 r e) + k0_pay12 h p n io lt ro (ix2 r e) * m (ix2 0 e)) * w (ix2 e d) := by
  unfold k0_pay13
  generalize k0_pay12 h p n io lt ro = y
  pointwise []

theorem pay14_at : k0_pay14 h p n io lt ro m w (ix2 r d)
    = ∑ e, (h (ix2 r e) + k0_pay12 h p n io lt ro (ix2 r e) * m (ix2 0 e)) * w (ix2 e d) := by
  unfold k0_pay14
  generalize k0_pay12 h p n io lt ro = y
  pointwise []

theorem pay15_at : k0_pay15 h p n io lt ro m (ix2 r d) = h (ix2 r d) + k0_pay12 h p n io lt ro (ix2 r d) * m (ix2 0 d) := by
  unfold k0_pay15
  generalize k0_pay12 h p n io lt ro = y
  pointwise []

theorem pay18_at : k0_pay48 (k0_pay18 h x m w) (ix3 0 r d) = silu (∑ e, (h (ix2 r e) + x (ix2 r e) * m (ix2 0 e)) * w (ix2 e d)) := by
  pointwise [k0_pay48, k0_pay18]
  unfold silu
  rw [zero_sub]

theorem pay22_at (j : Fin 128) : k0_pay22 h x m w' (ix2 r j) = Ideal.tanh (∑ e, (h (ix2 r e) + x (ix2 r e) * m (ix2 0 e)) * w' (ix2 e j)) := by
  pointwise [k0_pay22]

theorem pay23_at (j : Fin 128) : k0_pay23 h x m w' (ix2 r j) = ∑ e, (h (ix2 r e) + x (ix2 r e) * m (ix2 0 e)) * w' (ix2 e j) := by
  pointwise [k0_pay23]

end Products

section Values

variable (r : Fin 256) (d : Fin 1024)

theorem value_at (a : FVec Ideal S256x1024 .bf16) (w : Vec Ideal S1024x1024 .bf16) (f : Vec Ideal S1x256x1024 .f32) (u : Vec Ideal S1024x128 .bf16)
    (v : Vec Ideal S128x1024 .bf16) (z : Vec Ideal S1x1024 .f32) :
    k0_pay21 (k0_pay17 a (k0_pay16 w)) (k0_pay19 a (k0_pay16 w) f) (k0_pay20 a u v z) (Scalar.ofBits .f32 0x3F800000#32) (ix2 r d)
      = ∑ e, a (ix2 r e) * w (ix2 e d)
        + (f (ix3 0 r d) - ∑ e, a (ix2 r e) * w (ix2 e d)) * logi (z (ix2 0 d) + ∑ j, (∑ e, a (ix2 r e) * u (ix2 e j)) * v (ix2 j d)) := by
  pointwise [k0_pay21, k0_pay17, k0_pay19, k0_pay20, k0_pay16]
  unfold logi
  rw [zero_sub]

theorem dir_at (k : FVec Ideal S256x1024 .f32) (c : Vec Ideal S1x1024 .f32) (E : Vec Ideal S1024x128 .bf16) (T : Vec Ideal S128x1024 .bf16)
    (x : Fin 1024 → EReal) (hx : ∀ e, k (ix2 r e) * c (ix2 0 e) = x e) :
    k0_pay29 (k0_pay25 T) (k0_pay26 k c) (k0_pay27 k E c) (k0_pay28 k E c) (ix2 r d)
      = Ideal.div (x d) (max (Ideal.sqrt (∑ j, (∑ e, x e * x e * E (ix2 e j) + ∑ e, (x e * x e - x e * x e) * E (ix2 e j)) * T (ix2 j d)
        + ∑ j, ((∑ e, x e * x e * E (ix2 e j) + ∑ e, (x e * x e - x e * x e) * E (ix2 e j))
          - (∑ e, x e * x e * E (ix2 e j) + ∑ e, (x e * x e - x e * x e) * E (ix2 e j))) * T (ix2 j d))) tiny) := by
  pointwise [k0_pay29, k0_pay25, k0_pay26, k0_pay27, k0_pay28, k0_pay24]
  simp only [hx]
  rfl

theorem bonus_at (q v k l : FVec Ideal S256x1024 .f32) (E : Vec Ideal S1024x128 .bf16) (T : Vec Ideal S128x1024 .bf16) (c : Vec Ideal S1x1024 .f32)
    (x : Fin 1024 → EReal) (hx : ∀ e, q (ix2 r e) * (k (ix2 r e) + l (ix2 r e)) * c (ix2 0 e) = x e) :
    k0_pay1 (k0_pay49 q v (k0_pay24 E) (k0_pay25 T) k l c) (ix3 0 r d)
      = (∑ j, (∑ e, x e * E (ix2 e j) + ∑ e, (x e - x e) * E (ix2 e j)) * T (ix2 j d)
        + ∑ j, ((∑ e, x e * E (ix2 e j) + ∑ e, (x e - x e) * E (ix2 e j))
          - (∑ e, x e * E (ix2 e j) + ∑ e, (x e - x e) * E (ix2 e j))) * T (ix2 j d)) * v (ix2 r d) := by
  pointwise [k0_pay1, k0_pay49, k0_pay25, k0_pay24]
  simp only [hx]

theorem rate_at (a : FVec Ideal S256x128 .bf16) (z : Vec Ideal S1x1024 .f32) (w : Vec Ideal S1x128x1024 .bf16) :
    k0_pay33 a (k0_pay32 z) w (ix2 r d) = logi (z (ix2 0 d) + ∑ j, a (ix2 r j) * w (ix3 0 j d)) := by
  pointwise [k0_pay33, k0_pay32]
  unfold logi
  rw [zero_sub]

theorem rate_at' (a : FVec Ideal S256x128 .bf16) (z : Vec Ideal S1x1024 .f32) (w : Vec Ideal S1x128x1024 .bf16) :
    k0_pay40 a z w (ix2 r d) = logi (z (ix2 0 d) + ∑ j, a (ix2 r j) * w (ix3 0 j d)) := by
  pointwise [k0_pay40]
  unfold logi
  rw [zero_sub]

theorem kdir_at (k : FVec Ideal S256x1024 .f32) (a : FVec Ideal S256x128 .bf16) (c z : Vec Ideal S1x1024 .f32) (w : Vec Ideal S1x128x1024 .bf16) :
    k0_pay34 k a (k0_pay30 c) (k0_pay32 z) w (ix2 r d) = k (ix2 r d) * (1 + (k0_pay33 a (k0_pay32 z) w (ix2 r d) - 1) * c (ix2 0 d)) := by
  unfold k0_pay34
  generalize k0_pay33 a (k0_pay32 z) w = y
  pointwise [k0_pay30]

theorem kdir_at' (k : FVec Ideal S256x1024 .f32) (a : FVec Ideal S256x128 .bf16) (c z : Vec Ideal S1x1024 .f32) (w : Vec Ideal S1x128x1024 .bf16) :
    k0_pay41 k a (k0_pay30 c) z w (ix2 r d) = k (ix2 r d) * (1 + (k0_pay40 a z w (ix2 r d) - 1) * c (ix2 0 d)) := by
  unfold k0_pay41
  generalize k0_pay40 a z w = y
  pointwise [k0_pay30]

theorem decay_at (a : FVec Ideal S256x128 .bf16) (z : Vec Ideal S1x1024 .f32) (w : Vec Ideal S1x128x1024 .bf16) :
    k0_pay31 a z w (ix3 0 r d) = -Ideal.exp (Ideal.ofBits FTy.f32 3204448256#32) * logi (z (ix2 0 d) + ∑ j, a (ix2 r j) * w (ix3 0 j d)) := by
  pointwise [k0_pay31]
  unfold logi
  rw [zero_sub, zero_sub]
  try rfl

theorem decay_at' (a : FVec Ideal S256x128 .bf16) (z : Vec Ideal S1x1024 .f32) (w : Vec Ideal S1x128x1024 .bf16) :
    k0_pay39 k0_pay37 (k0_pay38 a z w) (ix3 0 r d)
      = -Ideal.exp (Ideal.ofBits FTy.f32 3204448256#32) * logi (z (ix2 0 d) + ∑ j, a (ix2 r j) * w (ix3 0 j d)) := by
  pointwise [k0_pay39, k0_pay37, k0_pay38]
  unfold logi
  rw [zero_sub, zero_sub]
  try rfl

theorem cast_at (x : FVec Ideal S256x1024 .f32) : k0_pay1 x (ix3 0 r d) = x (ix2 r d) := by
  pointwise [k0_pay1]

theorem step_at (k : FVec Ideal S256x1024 .f32) (a : FVec Ideal S256x128 .bf16) (z : Vec Ideal S1x1024 .f32) (w : Vec Ideal S1x128x1024 .bf16) :
    k0_pay36 a k (k0_pay32 z) w (ix3 0 r d) = k (ix2 r d) * k0_pay33 a (k0_pay32 z) w (ix2 r d) := by
  unfold k0_pay36
  generalize k0_pay33 a (k0_pay32 z) w = y
  pointwise []

theorem step_at' (k : FVec Ideal S256x1024 .f32) (a : FVec Ideal S256x128 .bf16) (z : Vec Ideal S1x1024 .f32) (w : Vec Ideal S1x128x1024 .bf16) :
    k0_pay44 (k0_pay43 a k z w) (ix3 0 r d) = k (ix2 r d) * k0_pay40 a z w (ix2 r d) := by
  unfold k0_pay43
  generalize k0_pay40 a z w = y
  pointwise [k0_pay44]

end Values

end Cert.Kernel4Ideal.Mix

end
-- ==== Proof.MixTile.lean ====
module

public import proofs.«01_k».proof.Proof.MixBlock

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.Tactic Idealize.SL.Sem
open Cert.Layer Cert.Mix

/-- What a tile's blocks hold: the weights as the launch is given them, the hidden rows and the first layer's values. -/
structure Tile (P : Par) (R : Fin 256 → Row) (i : grid0.Coords) (x0 : Vec Ideal S1x256x1024 .f32) (x1 x2 : Vec Ideal S1x8x1024 .f32)
    (x3 : Vec Ideal S1x1x1x3072 .f32) (x4 : Vec Ideal S16x1024 .f32) (x5 x6 x7 x8 : Vec Ideal S1024x1024 .bf16) (x9 : Vec Ideal S1024x128 .bf16)
    (x10 : Vec Ideal S2x128x1024 .bf16) (x11 : Vec Ideal S1024x128 .bf16) (x12 : Vec Ideal S2x128x1024 .bf16) (x13 : Vec Ideal S1024x128 .bf16)
    (x14 : Vec Ideal S128x1024 .bf16) (x15 : Vec Ideal S1024x128 .bf16) (x16 : Vec Ideal S128x1024 .bf16) (x17 : Vec Ideal S1x256x1024 .f32) : Prop where
  own : ∀ r e, k0_pay53 i x0 x1 x2 x3 x4 x5 x6 x7 x8 x9 x10 x11 x12 x13 x14 x15 x16 x17 (ix2 r e) = (R r).own e
  gap : ∀ r e, k0_pay59 i x0 x1 x2 x3 x4 x5 x6 x7 x8 x9 x10 x11 x12 x13 x14 x15 x16 x17 (ix2 r e) = (R r).gap e
  first : ∀ r e, View.ld x17 r0_3 (ix3 0 r e) = (R r).first e
  mu0 : ∀ e, View.ld x4 r0_5 (ix2 0 e) = P.mu 0 e
  mu1 : ∀ e, View.ld x4 r0_13 (ix2 0 e) = P.mu 1 e
  mu2 : ∀ e, View.ld x4 r0_7 (ix2 0 e) = P.mu 2 e
  mu3 : ∀ e, View.ld x4 r0_8 (ix2 0 e) = P.mu 3 e
  mu4 : ∀ e, View.ld x4 r0_14 (ix2 0 e) = P.mu 4 e
  mu5 : ∀ e, View.ld x4 r0_9 (ix2 0 e) = P.mu 5 e
  kk : ∀ e, View.ld x4 r0_15 (ix2 0 e) = P.kk e
  ka : ∀ e, View.ld x4 r0_16 (ix2 0 e) = P.ka e
  rk : ∀ e, View.ld x4 r0_23 (ix2 0 e) = P.rk e
  w00 : ∀ e, View.ld x4 r0_17 (ix2 0 e) = P.w0 0 e
  w01 : ∀ e, View.ld x4 r0_20 (ix2 0 e) = P.w0 1 e
  a00 : ∀ e, View.ld x4 r0_19 (ix2 0 e) = P.a0 0 e
  a01 : ∀ e, View.ld x4 r0_22 (ix2 0 e) = P.a0 1 e
  v0 : ∀ e, View.ld x4 r0_12 (ix2 0 e) = P.v0 e
  wr : ∀ e d, View.ld x5 r0_6 (ix2 e d) = P.w 0 e d
  wk : ∀ e d, View.ld x6 r0_6 (ix2 e d) = P.w 1 e d
  wv : ∀ e d, View.ld x7 r0_6 (ix2 e d) = P.w 2 e d
  wg : ∀ e d, View.ld x8 r0_6 (ix2 e d) = P.w 3 e d
  w1 : ∀ e (s : Fin 2) (j : Fin 64), View.ld x9 r0_10 (ix2 e ⟨s.val * 64 + j.val, by omega⟩) = P.w1 s e j
  w20 : ∀ (j : Fin 128) d, View.ld x10 r0_18 (ix3 0 j d) = if j.val / 64 = 0 then P.w2 0 ⟨j.val % 64, Nat.mod_lt _ (by decide)⟩ d else 0
  w21 : ∀ (j : Fin 128) d, View.ld x10 r0_21 (ix3 0 j d) = if j.val / 64 = 1 then P.w2 1 ⟨j.val % 64, Nat.mod_lt _ (by decide)⟩ d else 0
  a1 : ∀ e (s : Fin 2) (j : Fin 64), View.ld x11 r0_10 (ix2 e ⟨s.val * 64 + j.val, by omega⟩) = P.a1 s e j
  a20 : ∀ (j : Fin 128) d, View.ld x12 r0_18 (ix3 0 j d) = if j.val / 64 = 0 then P.a2 0 ⟨j.val % 64, Nat.mod_lt _ (by decide)⟩ d else 0
  a21 : ∀ (j : Fin 128) d, View.ld x12 r0_21 (ix3 0 j d) = if j.val / 64 = 1 then P.a2 1 ⟨j.val % 64, Nat.mod_lt _ (by decide)⟩ d else 0
  gather : ∀ (e : Fin 1024) (j : Fin 128), View.ld x13 r0_10 (ix2 e j) = if e.val / 64 = j.val then 1 else 0
  spread : ∀ (j : Fin 128) (d : Fin 1024), View.ld x14 r0_11 (ix2 j d) = if d.val / 64 = j.val then 1 else 0
  v1 : ∀ e (j : Fin 32), View.ld x15 r0_10 (ix2 e ⟨j.val, by omega⟩) = P.v1 e j
  v2 : ∀ (j : Fin 128) d, View.ld x16 r0_11 (ix2 j d) = if h : j.val < 32 then P.v2 ⟨j.val, h⟩ d else 0

variable {P : Par} {R : Fin 256 → Row} {i : grid0.Coords} {x0 : Vec Ideal S1x256x1024 .f32} {x1 x2 : Vec Ideal S1x8x1024 .f32}
    {x3 : Vec Ideal S1x1x1x3072 .f32} {x4 : Vec Ideal S16x1024 .f32} {x5 x6 x7 x8 : Vec Ideal S1024x1024 .bf16} {x9 : Vec Ideal S1024x128 .bf16}
    {x10 : Vec Ideal S2x128x1024 .bf16} {x11 : Vec Ideal S1024x128 .bf16} {x12 : Vec Ideal S2x128x1024 .bf16} {x13 : Vec Ideal S1024x128 .bf16}
    {x14 : Vec Ideal S128x1024 .bf16} {x15 : Vec Ideal S1024x128 .bf16} {x16 : Vec Ideal S128x1024 .bf16} {x17 : Vec Ideal S1x256x1024 .f32}
    (T : Tile P R i x0 x1 x2 x3 x4 x5 x6 x7 x8 x9 x10 x11 x12 x13 x14 x15 x16 x17)

/-- A store of the whole block leaves what it stores. -/
theorem whole (p : Vec Ideal S1x256x1024 .f32) (y : S1x256x1024.Idx) : View.canon (Val := Elt Ideal) [⟨r0_3, p⟩] y = p y := by
  have hy : r0_3.emb y = y := by
    funext a
    apply Fin.ext
    fin_cases a
    · show 0 + 1 * (y 0).val = (y 0).val; omega
    · show 0 + 1 * (y 1).val = (y 1).val; omega
    · show 0 + 1 * (y 2).val = (y 2).val; omega
  have h := View.canon_cons_emb (Val := Elt Ideal) r0_3 p [] y
  rw [hy] at h
  exact h

include T

theorem Tile.mixed (r : Fin 256) (e : Fin 1024) {m : EReal} {M : Fin 1024 → EReal} (hm : m = M e) :
    k0_pay53 i x0 x1 x2 x3 x4 x5 x6 x7 x8 x9 x10 x11 x12 x13 x14 x15 x16 x17 (ix2 r e) + k0_pay59 i x0 x1 x2 x3 x4 x5 x6 x7 x8 x9 x10 x11 x12 x13 x14 x15 x16 x17 (ix2 r e) * m = (R r).mix M e := by
  rw [T.own, T.gap, hm]; rfl

theorem Tile.recep_at (r : Fin 256) (d : Fin 1024) : k0_pay60 i x0 x1 x2 x3 x4 x5 x6 x7 x8 x9 x10 x11 x12 x13 x14 x15 x16 x17 (ix2 r d) = recep P (R r) d := by
  refine (pay13_at _ _ _ _ _ _ _ _ r d).trans (Finset.sum_congr rfl fun e _ => ?_)
  rw [T.wr]
  exact congrArg (· * _) (T.mixed r e (T.mu0 e))

theorem Tile.key_at (r : Fin 256) (d : Fin 1024) : k0_pay61 i x0 x1 x2 x3 x4 x5 x6 x7 x8 x9 x10 x11 x12 x13 x14 x15 x16 x17 (ix2 r d) = key P (R r) d := by
  refine (pay14_at _ _ _ _ _ _ _ _ r d).trans (Finset.sum_congr rfl fun e _ => ?_)
  rw [T.wk]
  exact congrArg (· * _) (T.mixed r e (T.mu2 e))

theorem Tile.third_at (r : Fin 256) (e : Fin 1024) : k0_pay62 i x0 x1 x2 x3 x4 x5 x6 x7 x8 x9 x10 x11 x12 x13 x14 x15 x16 x17 (ix2 r e) = (R r).mix (P.mu 3) e :=
  (pay15_at _ _ _ _ _ _ _ r e).trans (T.mixed r e (T.mu3 e))

theorem Tile.raw_at (r : Fin 256) (d : Fin 1024) :
    (∑ e, k0_pay62 i x0 x1 x2 x3 x4 x5 x6 x7 x8 x9 x10 x11 x12 x13 x14 x15 x16 x17 (ix2 r e) * View.ld x7 r0_6 (ix2 e d) : EReal) = raw P (R r) d :=
  Finset.sum_congr rfl fun e _ => by rw [T.third_at, T.wv]

theorem Tile.trust_at (r : Fin 256) (d : Fin 1024) :
    (∑ j, (∑ e, k0_pay62 i x0 x1 x2 x3 x4 x5 x6 x7 x8 x9 x10 x11 x12 x13 x14 x15 x16 x17 (ix2 r e) * View.ld x15 r0_10 (ix2 e j)) * View.ld x16 r0_11 (ix2 j d) : EReal)
      = ∑ j, (∑ e, (R r).mix (P.mu 3) e * P.v1 e j) * P.v2 j d :=
  sum_pad _ _ (fun j => ∑ e, (R r).mix (P.mu 3) e * P.v1 e j) (fun j => P.v2 j d)
    (fun j => Finset.sum_congr rfl fun e _ => by rw [T.third_at, T.v1]) fun j => T.v2 j d

theorem Tile.value_at (r : Fin 256) (d : Fin 1024) : k0_pay64 i x0 x1 x2 x3 x4 x5 x6 x7 x8 x9 x10 x11 x12 x13 x14 x15 x16 x17 (ix2 r d) = value P (R r) d := by
  refine (Mix.value_at r d _ _ _ _ _ _).trans ?_
  rw [T.raw_at, T.trust_at, T.first, T.v0]
  rfl

theorem Tile.tanh_at (r : Fin 256) (s : Fin 2) (j : Fin 64) : k0_pay65 i x0 x1 x2 x3 x4 x5 x6 x7 x8 x9 x10 x11 x12 x13 x14 x15 x16 x17 (ix2 r ⟨s.val * 64 + j.val, by omega⟩)
    = Ideal.tanh (∑ e, (R r).mix (P.mu 1) e * P.w1 s e j) := by
  refine (pay22_at _ _ _ _ r _).trans (congrArg Ideal.tanh (Finset.sum_congr rfl fun e _ => ?_))
  rw [T.w1]
  exact congrArg (· * _) (T.mixed r e (T.mu1 e))

theorem Tile.low_at (r : Fin 256) (s : Fin 2) (j : Fin 64) : k0_pay66 i x0 x1 x2 x3 x4 x5 x6 x7 x8 x9 x10 x11 x12 x13 x14 x15 x16 x17 (ix2 r ⟨s.val * 64 + j.val, by omega⟩)
    = ∑ e, (R r).mix (P.mu 4) e * P.a1 s e j := by
  refine (pay23_at _ _ _ _ r _).trans (Finset.sum_congr rfl fun e _ => ?_)
  rw [T.a1]
  exact congrArg (· * _) (T.mixed r e (T.mu4 e))

theorem Tile.level0 (r : Fin 256) (d : Fin 1024) :
    (View.ld x4 r0_17 (ix2 0 d) + ∑ j, k0_pay65 i x0 x1 x2 x3 x4 x5 x6 x7 x8 x9 x10 x11 x12 x13 x14 x15 x16 x17 (ix2 r j) * View.ld x10 r0_18 (ix3 0 j d) : EReal) = level P (R r) 0 d := by
  rw [T.w00]
  exact congrArg (_ + ·) (sum_half _ _ 0 _ (fun j => P.w2 0 j d) (fun j => T.tanh_at r 0 j) fun j => T.w20 j d)

theorem Tile.level1 (r : Fin 256) (d : Fin 1024) :
    (View.ld x4 r0_20 (ix2 0 d) + ∑ j, k0_pay65 i x0 x1 x2 x3 x4 x5 x6 x7 x8 x9 x10 x11 x12 x13 x14 x15 x16 x17 (ix2 r j) * View.ld x10 r0_21 (ix3 0 j d) : EReal) = level P (R r) 1 d := by
  rw [T.w01]
  exact congrArg (_ + ·) (sum_half _ _ 1 _ (fun j => P.w2 1 j d) (fun j => T.tanh_at r 1 j) fun j => T.w21 j d)

theorem Tile.rate0 (r : Fin 256) (d : Fin 1024) :
    k0_pay33 (k0_pay66 i x0 x1 x2 x3 x4 x5 x6 x7 x8 x9 x10 x11 x12 x13 x14 x15 x16 x17) (k0_pay32 (View.ld x4 r0_19)) (View.ld x12 r0_18) (ix2 r d) = rate P (R r) 0 d := by
  rw [rate_at, T.a00]
  exact congrArg (fun z => logi (_ + z)) (sum_half _ _ 0 _ (fun j => P.a2 0 j d) (fun j => T.low_at r 0 j) fun j => T.a20 j d)

theorem Tile.rate1 (r : Fin 256) (d : Fin 1024) :
    k0_pay40 (k0_pay66 i x0 x1 x2 x3 x4 x5 x6 x7 x8 x9 x10 x11 x12 x13 x14 x15 x16 x17) (View.ld x4 r0_22) (View.ld x12 r0_21) (ix2 r d) = rate P (R r) 1 d := by
  rw [rate_at', T.a01]
  exact congrArg (fun z => logi (_ + z)) (sum_half _ _ 1 _ (fun j => P.a2 1 j d) (fun j => T.low_at r 1 j) fun j => T.a21 j d)

theorem Tile.kdir0 (r : Fin 256) (d : Fin 1024) :
    k0_pay34 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (k0_pay70 i x0 x1 x2 x3 x4 x5 x6 x7 x8 x9 x10 x11 x12 x13 x14 x15 x16 x17) (View.ld x12 r0_18) (ix2 r d) = kdir P (R r) 0 d := by
  refine (kdir_at r d _ _ _ _ _).trans ?_
  rw [T.key_at, T.rate0, T.ka]
  rfl

theorem Tile.kdir1 (r : Fin 256) (d : Fin 1024) :
    k0_pay41 (k0_pay61 i x0 x1 x2 x3 x4 x5 x6 x7 x8 x9 x10 x11 x12 x13 x14 x15 x16 x17) (k0_pay66 i x0 x1 x2 x3 x4 x5 x6 x7 x8 x9 x10 x11 x12 x13 x14 x15 x16 x17) (k0_pay69 i x0 x1 x2 x3 x4 x5 x6 x7 x8 x9 x10 x11 x12 x13 x14 x15 x16 x17) (View.ld x4 r0_22) (View.ld x12 r0_21) (ix2 r d) = kdir P (R r) 1 d := by
  refine (kdir_at' r d _ _ _ _ _).trans ?_
  rw [T.key_at, T.rate1, T.ka]
  rfl

theorem Tile.dir_at (hP : P.Finite) (hR : ∀ r, (R r).Finite) (r : Fin 256) (d : Fin 1024) : k0_pay68 i x0 x1 x2 x3 x4 x5 x6 x7 x8 x9 x10 x11 x12 x13 x14 x15 x16 x17 (ix2 r d) = dir P (R r) d := by
  refine (Mix.dir_at r d _ _ _ _ (long P (R r)) fun e => by rw [T.key_at, T.kk]; rfl).trans ?_
  have h := headSum_eq (fun e => long P (R r) e * long P (R r) e) (fun e => (real_long hP (hR r) e).mul (real_long hP (hR r) e))
    (fun e j => View.ld x13 r0_10 (ix2 e j)) (fun j d => View.ld x14 r0_11 (ix2 j d)) T.gather T.spread d
  exact congrArg (fun z => Ideal.div (long P (R r) d) (max (Ideal.sqrt z) tiny)) h

theorem Tile.out18 (r : Fin 256) (d : Fin 1024) : out0_18 i x0 x1 x2 x3 x4 x5 x6 x7 x8 x9 x10 x11 x12 x13 x14 x15 x16 x17 (ix3 0 r d) = recep P (R r) d := by
  unfold out0_18
  rw [whole]
  exact (cast_at r d _).trans (T.recep_at r d)

theorem Tile.out19 (r : Fin 256) (d : Fin 1024) : out0_19 i x0 x1 x2 x3 x4 x5 x6 x7 x8 x9 x10 x11 x12 x13 x14 x15 x16 x17 (ix3 0 r d) = value P (R r) d := by
  unfold out0_19
  rw [whole]
  exact (cast_at r d _).trans (T.value_at r d)

theorem Tile.out20 (hP : P.Finite) (hR : ∀ r, (R r).Finite) (r : Fin 256) (d : Fin 1024) : out0_20 i x0 x1 x2 x3 x4 x5 x6 x7 x8 x9 x10 x11 x12 x13 x14 x15 x16 x17 (ix3 0 r d) = dir P (R r) d := by
  unfold out0_20
  rw [whole]
  exact (cast_at r d _).trans (T.dir_at hP hR r d)

theorem Tile.out21 (r : Fin 256) (d : Fin 1024) : out0_21 i x0 x1 x2 x3 x4 x5 x6 x7 x8 x9 x10 x11 x12 x13 x14 x15 x16 x17 (ix3 0 r d) = gate P (R r) d := by
  unfold out0_21
  rw [whole]
  refine (pay18_at _ _ _ _ r d).trans (congrArg silu (Finset.sum_congr rfl fun e _ => ?_))
  rw [T.wg]
  exact congrArg (· * _) (T.mixed r e (T.mu5 e))

theorem Tile.out22 (hP : P.Finite) (hR : ∀ r, (R r).Finite) (r : Fin 256) (d : Fin 1024) : out0_22 i x0 x1 x2 x3 x4 x5 x6 x7 x8 x9 x10 x11 x12 x13 x14 x15 x16 x17 (ix3 0 r d) = bonus P (R r) d := by
  unfold out0_22
  rw [whole]
  refine (bonus_at r d _ _ _ _ _ _ _ (fun e => recep P (R r) e * kdir P (R r) 0 e * P.rk e + recep P (R r) e * kdir P (R r) 1 e * P.rk e)
    fun e => ?_).trans ?_
  · rw [T.recep_at, T.kdir0, T.kdir1, T.rk]
    exact Cert.Mix.spread (real_recep hP (hR r) e) (real_kdir hP (hR r) 0 e) (real_kdir hP (hR r) 1 e) (hP.rk e)
  · have hr : ∀ s e, Real' (recep P (R r) e * kdir P (R r) s e * P.rk e) := fun s e =>
      ((real_recep hP (hR r) e).mul (real_kdir hP (hR r) s e)).mul (hP.rk e)
    have h := headSum_eq (fun e => recep P (R r) e * kdir P (R r) 0 e * P.rk e + recep P (R r) e * kdir P (R r) 1 e * P.rk e)
      (fun e => (hr 0 e).add (hr 1 e))
      (fun e j => View.ld x13 r0_10 (ix2 e j)) (fun j d => View.ld x14 r0_11 (ix2 j d)) T.gather T.spread d
    rw [T.value_at]
    refine (congrArg (· * value P (R r) d) h).trans ?_
    unfold bonus headSum
    rw [Finset.sum_add_distrib]

theorem Tile.out23 (r : Fin 256) (d : Fin 1024) : out0_23 i x0 x1 x2 x3 x4 x5 x6 x7 x8 x9 x10 x11 x12 x13 x14 x15 x16 x17 (ix3 0 r d) = kdir P (R r) 0 d := by
  unfold out0_23
  rw [whole]
  exact (cast_at r d _).trans (T.kdir0 r d)

theorem Tile.out24 (r : Fin 256) (d : Fin 1024) : out0_24 i x0 x1 x2 x3 x4 x5 x6 x7 x8 x9 x10 x11 x12 x13 x14 x15 x16 x17 (ix3 0 r d) = kdir P (R r) 1 d := by
  unfold out0_24
  rw [whole]
  exact (cast_at r d _).trans (T.kdir1 r d)

theorem Tile.out25 (hP : P.Finite) (hR : ∀ r, (R r).Finite) (r : Fin 256) (d : Fin 1024) : out0_25 i x0 x1 x2 x3 x4 x5 x6 x7 x8 x9 x10 x11 x12 x13 x14 x15 x16 x17 (ix3 0 r d) = step P (R r) 0 d := by
  unfold out0_25
  rw [whole]
  refine (step_at r d _ _ _ _).trans ?_
  rw [T.dir_at hP hR, T.rate0]
  rfl

theorem Tile.out26 (hP : P.Finite) (hR : ∀ r, (R r).Finite) (r : Fin 256) (d : Fin 1024) : out0_26 i x0 x1 x2 x3 x4 x5 x6 x7 x8 x9 x10 x11 x12 x13 x14 x15 x16 x17 (ix3 0 r d) = step P (R r) 1 d := by
  unfold out0_26
  rw [whole]
  refine (step_at' r d _ _ _ _).trans ?_
  rw [T.dir_at hP hR, T.rate1]
  rfl

theorem Tile.out27 (r : Fin 256) (d : Fin 1024) : out0_27 i x0 x1 x2 x3 x4 x5 x6 x7 x8 x9 x10 x11 x12 x13 x14 x15 x16 x17 (ix3 0 r d) = decay P (R r) 0 d := by
  unfold out0_27
  rw [whole]
  refine (decay_at r d _ _ _).trans ?_
  rw [T.level0]
  exact decay_eq _

theorem Tile.out28 (r : Fin 256) (d : Fin 1024) : out0_28 i x0 x1 x2 x3 x4 x5 x6 x7 x8 x9 x10 x11 x12 x13 x14 x15 x16 x17 (ix3 0 r d) = decay P (R r) 1 d := by
  unfold out0_28
  rw [whole]
  refine (decay_at' r d _ _ _).trans ?_
  rw [T.level1]
  exact decay_eq _

end Cert.Kernel4Ideal.Mix

end
-- ==== Proof.MixHost.lean ====
module

public import proofs.«01_k».proof.Proof.MixTile
public import Idealize.ShloMosaic.Lib.StableHlo.ReadAt

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.Tactic Idealize.SL.Sem
open Cert.Layer Cert.Mix

variable (m : (ℓ : Loc nD τ sig) → Buf (Elt Ideal) ℓ)

theorem vec0 (c : Dev nD) (e : Fin 1024) :
    (V m c main_v49 : S16x1024.Idx → EReal) (ix2 0 e) = (m (c, Proc.tc.devRef main_arg2) : S1024.Idx → EReal) (ix1 e) := by
  unfold V
  iterate 4 (try after_reads_at; try pointwise [])

theorem vec1 (c : Dev nD) (e : Fin 1024) :
    (V m c main_v49 : S16x1024.Idx → EReal) (ix2 1 e) = (m (c, Proc.tc.devRef main_arg3) : S6x1024.Idx → EReal) (ix2 0 e) := by
  unfold V
  iterate 4 (try after_reads_at; try pointwise [])

theorem vec2 (c : Dev nD) (e : Fin 1024) :
    (V m c main_v49 : S16x1024.Idx → EReal) (ix2 2 e) = (m (c, Proc.tc.devRef main_arg3) : S6x1024.Idx → EReal) (ix2 1 e) := by
  unfold V
  iterate 4 (try after_reads_at; try pointwise [])

theorem vec3 (c : Dev nD) (e : Fin 1024) :
    (V m c main_v49 : S16x1024.Idx → EReal) (ix2 3 e) = (m (c, Proc.tc.devRef main_arg3) : S6x1024.Idx → EReal) (ix2 2 e) := by
  unfold V
  iterate 4 (try after_reads_at; try pointwise [])

theorem vec4 (c : Dev nD) (e : Fin 1024) :
    (V m c main_v49 : S16x1024.Idx → EReal) (ix2 4 e) = (m (c, Proc.tc.devRef main_arg3) : S6x1024.Idx → EReal) (ix2 3 e) := by
  unfold V
  iterate 4 (try after_reads_at; try pointwise [])

theorem vec5 (c : Dev nD) (e : Fin 1024) :
    (V m c main_v49 : S16x1024.Idx → EReal) (ix2 5 e) = (m (c, Proc.tc.devRef main_arg3) : S6x1024.Idx → EReal) (ix2 4 e) := by
  unfold V
  iterate 4 (try after_reads_at; try pointwise [])

theorem vec6 (c : Dev nD) (e : Fin 1024) :
    (V m c main_v49 : S16x1024.Idx → EReal) (ix2 6 e) = (m (c, Proc.tc.devRef main_arg3) : S6x1024.Idx → EReal) (ix2 5 e) := by
  unfold V
  iterate 4 (try after_reads_at; try pointwise [])

theorem vec7 (c : Dev nD) (e : Fin 1024) :
    (V m c main_v49 : S16x1024.Idx → EReal) (ix2 7 e) = (m (c, Proc.tc.devRef main_arg11) : S1024.Idx → EReal) (ix1 e) := by
  unfold V
  iterate 4 (try after_reads_at; try pointwise [])

theorem vec8 (c : Dev nD) (e : Fin 1024) :
    (V m c main_v49 : S16x1024.Idx → EReal) (ix2 8 e) = (m (c, Proc.tc.devRef main_arg12) : S1024.Idx → EReal) (ix1 e) := by
  unfold V
  iterate 4 (try after_reads_at; try pointwise [])

theorem vec9 (c : Dev nD) (e : Fin 1024) :
    (V m c main_v49 : S16x1024.Idx → EReal) (ix2 9 e) = (m (c, Proc.tc.devRef main_arg13) : S16x64.Idx → EReal) (ix2 ⟨e.val / 64, by omega⟩ ⟨e.val % 64, by omega⟩) := by
  unfold V
  iterate 4 (try after_reads_at; try pointwise [])

theorem vec10 (c : Dev nD) (e : Fin 1024) :
    (V m c main_v49 : S16x1024.Idx → EReal) (ix2 10 e) = (m (c, Proc.tc.devRef main_arg5) : S2x1024.Idx → EReal) (ix2 0 e) := by
  unfold V
  iterate 4 (try after_reads_at; try pointwise [])

theorem vec11 (c : Dev nD) (e : Fin 1024) :
    (V m c main_v49 : S16x1024.Idx → EReal) (ix2 11 e) = (m (c, Proc.tc.devRef main_arg5) : S2x1024.Idx → EReal) (ix2 1 e) := by
  unfold V
  iterate 4 (try after_reads_at; try pointwise [])

theorem vec12 (c : Dev nD) (e : Fin 1024) :
    (V m c main_v49 : S16x1024.Idx → EReal) (ix2 12 e) = (m (c, Proc.tc.devRef main_arg8) : S2x1024.Idx → EReal) (ix2 0 e) := by
  unfold V
  iterate 4 (try after_reads_at; try pointwise [])

theorem vec13 (c : Dev nD) (e : Fin 1024) :
    (V m c main_v49 : S16x1024.Idx → EReal) (ix2 13 e) = (m (c, Proc.tc.devRef main_arg8) : S2x1024.Idx → EReal) (ix2 1 e) := by
  unfold V
  iterate 4 (try after_reads_at; try pointwise [])

theorem vec14 (c : Dev nD) (e : Fin 1024) :
    (V m c main_v49 : S16x1024.Idx → EReal) (ix2 14 e) = (m (c, Proc.tc.devRef main_arg14) : S1024.Idx → EReal) (ix1 e) := by
  unfold V
  iterate 4 (try after_reads_at; try pointwise [])

theorem weight0 (c : Dev nD) (e d : Fin 1024) :
    (V m c main_v89 : S1024x1024.Idx → EReal) (ix2 e d) = (m (c, Proc.tc.devRef main_arg4) : S4x1024x1024.Idx → EReal) (ix3 0 e d) := by
  unfold V
  after_reads_at

theorem weight1 (c : Dev nD) (e d : Fin 1024) :
    (V m c main_v91 : S1024x1024.Idx → EReal) (ix2 e d) = (m (c, Proc.tc.devRef main_arg4) : S4x1024x1024.Idx → EReal) (ix3 1 e d) := by
  unfold V
  after_reads_at

theorem weight2 (c : Dev nD) (e d : Fin 1024) :
    (V m c main_v93 : S1024x1024.Idx → EReal) (ix2 e d) = (m (c, Proc.tc.devRef main_arg4) : S4x1024x1024.Idx → EReal) (ix3 2 e d) := by
  unfold V
  after_reads_at

theorem weight3 (c : Dev nD) (e d : Fin 1024) :
    (V m c main_v95 : S1024x1024.Idx → EReal) (ix2 e d) = (m (c, Proc.tc.devRef main_arg4) : S4x1024x1024.Idx → EReal) (ix3 3 e d) := by
  unfold V
  after_reads_at

theorem low_w1_0 (c : Dev nD) (e : Fin 1024) (j : Fin 64) :
    (V m c main_v55 : S1024x128.Idx → EReal) (ix2 e ⟨j.val, by omega⟩) = (m (c, Proc.tc.devRef main_arg6) : S2x1024x64.Idx → EReal) (ix3 0 e j) := by
  unfold V
  iterate 4 (try after_reads_at; try pointwise [])

theorem low_w1_1 (c : Dev nD) (e : Fin 1024) (j : Fin 64) :
    (V m c main_v55 : S1024x128.Idx → EReal) (ix2 e ⟨64 + j.val, by omega⟩) = (m (c, Proc.tc.devRef main_arg6) : S2x1024x64.Idx → EReal) (ix3 1 e j) := by
  unfold V
  iterate 4 (try after_reads_at; try pointwise [])

theorem low_a1_0 (c : Dev nD) (e : Fin 1024) (j : Fin 64) :
    (V m c main_v61 : S1024x128.Idx → EReal) (ix2 e ⟨j.val, by omega⟩) = (m (c, Proc.tc.devRef main_arg9) : S2x1024x64.Idx → EReal) (ix3 0 e j) := by
  unfold V
  iterate 4 (try after_reads_at; try pointwise [])

theorem low_a1_1 (c : Dev nD) (e : Fin 1024) (j : Fin 64) :
    (V m c main_v61 : S1024x128.Idx → EReal) (ix2 e ⟨64 + j.val, by omega⟩) = (m (c, Proc.tc.devRef main_arg9) : S2x1024x64.Idx → EReal) (ix3 1 e j) := by
  unfold V
  iterate 4 (try after_reads_at; try pointwise [])

theorem high_w2_0_0 (c : Dev nD) (j : Fin 64) (d : Fin 1024) :
    @Eq EReal ((V m c main_v72 : S2x128x1024.Idx → EReal) (ix3 0 ⟨j.val, by omega⟩ d)) ((m (c, Proc.tc.devRef main_arg7) : S2x64x1024.Idx → EReal) (ix3 0 j d)) := by
  unfold V
  iterate 4 (try after_reads_at; try pointwise [])

theorem high_w2_0_1 (c : Dev nD) (j : Fin 64) (d : Fin 1024) :
    @Eq EReal ((V m c main_v72 : S2x128x1024.Idx → EReal) (ix3 0 ⟨64 + j.val, by omega⟩ d)) (0) := by
  unfold V
  iterate 4 (try after_reads_at; try pointwise [])

theorem high_w2_1_0 (c : Dev nD) (j : Fin 64) (d : Fin 1024) :
    @Eq EReal ((V m c main_v72 : S2x128x1024.Idx → EReal) (ix3 1 ⟨j.val, by omega⟩ d)) (0) := by
  unfold V
  iterate 4 (try after_reads_at; try pointwise [])

theorem high_w2_1_1 (c : Dev nD) (j : Fin 64) (d : Fin 1024) :
    @Eq EReal ((V m c main_v72 : S2x128x1024.Idx → EReal) (ix3 1 ⟨64 + j.val, by omega⟩ d)) ((m (c, Proc.tc.devRef main_arg7) : S2x64x1024.Idx → EReal) (ix3 1 j d)) := by
  unfold V
  iterate 4 (try after_reads_at; try pointwise [])

theorem high_a2_0_0 (c : Dev nD) (j : Fin 64) (d : Fin 1024) :
    @Eq EReal ((V m c main_v82 : S2x128x1024.Idx → EReal) (ix3 0 ⟨j.val, by omega⟩ d)) ((m (c, Proc.tc.devRef main_arg10) : S2x64x1024.Idx → EReal) (ix3 0 j d)) := by
  unfold V
  iterate 4 (try after_reads_at; try pointwise [])

theorem high_a2_0_1 (c : Dev nD) (j : Fin 64) (d : Fin 1024) :
    @Eq EReal ((V m c main_v82 : S2x128x1024.Idx → EReal) (ix3 0 ⟨64 + j.val, by omega⟩ d)) (0) := by
  unfold V
  iterate 4 (try after_reads_at; try pointwise [])

theorem high_a2_1_0 (c : Dev nD) (j : Fin 64) (d : Fin 1024) :
    @Eq EReal ((V m c main_v82 : S2x128x1024.Idx → EReal) (ix3 1 ⟨j.val, by omega⟩ d)) (0) := by
  unfold V
  iterate 4 (try after_reads_at; try pointwise [])

theorem high_a2_1_1 (c : Dev nD) (j : Fin 64) (d : Fin 1024) :
    @Eq EReal ((V m c main_v82 : S2x128x1024.Idx → EReal) (ix3 1 ⟨64 + j.val, by omega⟩ d)) ((m (c, Proc.tc.devRef main_arg10) : S2x64x1024.Idx → EReal) (ix3 1 j d)) := by
  unfold V
  iterate 4 (try after_reads_at; try pointwise [])

/-- The head a place belongs to, as the words that number it: the quotient rounds down and there is nothing below zero. -/
def headWord (x : BitVec 32) : BitVec 32 :=
  Scalar.select
    (IntOp.andi (IntOp.cmpi CmpIPredicate.ne (if x = 0 then (0 : BitVec 32) else if x.msb = true then -1 else 1)
        (if (64#32 : BitVec 32) = 0 then (0 : BitVec 32) else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem headWord_eq (e : Fin 1024) : headWord (BitVec.ofNat 32 e.val) = BitVec.ofNat 32 (e.val / 64) := by
  revert e; decide +kernel

theorem same_word (a b : Nat) (ha : a < 1024) (hb : b < 1024) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · rw [decide_eq_false h, beq_eq_false_iff_ne]
    intro hab
    apply h
    have := congrArg BitVec.toNat hab
    rw [BitVec.toNat_ofNat, BitVec.toNat_ofNat] at this
    omega

theorem bit_value (p : Prop) [Decidable p] : @Eq EReal (FloatOps.uitofp (F := Ideal) FTy.bf16 (BitVec.ofBool (decide p))) (if p then 1 else 0) := by
  by_cases h : p
  · rw [if_pos h, decide_eq_true h]
    show ((BitVec.toNat (BitVec.ofBool true) : ℝ) : EReal) = 1
    simp
  · rw [if_neg h, decide_eq_false h]
    show ((BitVec.toNat (BitVec.ofBool false) : ℝ) : EReal) = 0
    simp

theorem head_bit (e : Fin 1024) (j : Fin 128) :
    @Eq EReal (FloatOps.uitofp (F := Ideal) FTy.bf16 (IntOp.cmpi .eq (headWord (BitVec.ofNat 32 e.val)) (BitVec.ofNat 32 j.val)))
      (if e.val / 64 = j.val then 1 else 0) := by
  rw [headWord_eq, same_word _ _ (by omega) (by omega), bit_value]

theorem pad_v1 (c : Dev nD) (e : Fin 1024) (j : Fin 32) :
    (V m c main_v84 : S1024x128.Idx → EReal) (ix2 e ⟨j.val, by omega⟩) = (m (c, Proc.tc.devRef main_arg15) : S1024x32.Idx → EReal) (ix2 e j) := by
  unfold V
  after_reads_at

theorem pad_v2_low (c : Dev nD) (j : Fin 32) (d : Fin 1024) :
    (V m c main_v86 : S128x1024.Idx → EReal) (ix2 ⟨j.val, by omega⟩ d) = (m (c, Proc.tc.devRef main_arg16) : S32x1024.Idx → EReal) (ix2 j d) := by
  unfold V
  after_reads_at

theorem pad_v2_high (c : Dev nD) (j : Fin 96) (d : Fin 1024) :
    @Eq EReal ((V m c main_v86 : S128x1024.Idx → EReal) (ix2 ⟨32 + j.val, by omega⟩ d)) 0 := by
  unfold V
  after_reads_at
  pointwise []
  show ((BitVec.toInt 0#32 : ℝ) : EReal) = 0
  simp

theorem gather_at (c : Dev nD) (e : Fin 1024) (j : Fin 128) :
    @Eq EReal ((V m c main_v8 : S1024x128.Idx → EReal) (ix2 e j)) (if e.val / 64 = j.val then 1 else 0) := by
  unfold V
  after_reads_at
  pointwise []
  exact head_bit e j

theorem spread_at (c : Dev nD) (j : Fin 128) (d : Fin 1024) :
    @Eq EReal ((V m c main_v10 : S128x1024.Idx → EReal) (ix2 j d)) (if d.val / 64 = j.val then 1 else 0) := by
  unfold V
  after_reads_at
  pointwise []
  exact head_bit d j

end Cert.Kernel4Ideal.Mix

end
-- ==== Proof.MixRow.lean ====
module

public import proofs.«01_k».proof.Proof.MixReal
public import Idealize.ShloMosaic.Lib.Pointwise
public import Idealize.ShloMosaic.Lib.ValueIdx

@[expose] public section

noncomputable section

namespace Cert.Mix

open Idealize.ShloMosaic Idealize.ShloMosaic.TcCoe Idealize.ShloMosaic.Tactic
open Cert.Layer

section

variable (X : Fin 8 → Fin 8448 → Fin 1024 → EReal) (M : Fin 8 → Fin 2 → Fin 3072 → EReal) (G : Fin 1024 → EReal)
    (F : Fin 8 → Fin 8448 → Fin 1024 → EReal)

/-- The hidden row of a position: normalised, then scaled and shifted by its part's modulation. -/
def hid (b : Fin 8) (t : Fin 8448) : Fin 1024 → EReal :=
  modulated (X b t) G (fun e => M b (part t) ⟨1024 + e.val, by omega⟩) (fun e => M b (part t) ⟨e.val, by omega⟩)

/-- What a position's projections are made of. The context and the latents are shifted apart: past either end of a part
    there is a row of zeros. -/
def rowAt (b : Fin 8) (t : Fin 8448) : Row where
  own := hid X M G b t
  before := fun e => if t.val = 0 ∨ t.val = 256 then 0 else hid X M G b ⟨t.val - 1, by omega⟩ e
  after := fun e => if t.val = 255 ∨ t.val = 8447 then 0 else hid X M G b ⟨(t.val + 1) % 8448, Nat.mod_lt _ (by decide)⟩ e
  first := F b t

theorem real_hid (hM : ∀ b p (e : Fin 2048), Real' (M b p ⟨e.val, by omega⟩)) (hG : ∀ e, Real' (G e)) (b : Fin 8) (t : Fin 8448) (e : Fin 1024) :
    Real' (hid X M G b t e) :=
  real_modulated (X b t) hG (fun e => hM b _ ⟨1024 + e.val, by omega⟩) (fun e => hM b _ ⟨e.val, by omega⟩) e

theorem rowAt_finite (hM : ∀ b p (e : Fin 2048), Real' (M b p ⟨e.val, by omega⟩)) (hG : ∀ e, Real' (G e)) (b : Fin 8) (t : Fin 8448) :
    (rowAt X M G F b t).Finite where
  own := real_hid X M G hM hG b t
  before := fun e => by
    show Real' (if _ then _ else _)
    split
    · exact real_zero
    · exact real_hid X M G hM hG b _ e
  after := fun e => by
    show Real' (if _ then _ else _)
    split
    · exact real_zero
    · exact real_hid X M G hM hG b _ e

end

/-- The weights, of the arrays that hold them. -/
def parOf (a3 : (⟨2, ![6, 1024]⟩ : Shape).Idx → EReal) (a4 : (⟨3, ![4, 1024, 1024]⟩ : Shape).Idx → EReal) (a5 : (⟨2, ![2, 1024]⟩ : Shape).Idx → EReal)
    (a6 : (⟨3, ![2, 1024, 64]⟩ : Shape).Idx → EReal) (a7 : (⟨3, ![2, 64, 1024]⟩ : Shape).Idx → EReal) (a8 : (⟨2, ![2, 1024]⟩ : Shape).Idx → EReal)
    (a9 : (⟨3, ![2, 1024, 64]⟩ : Shape).Idx → EReal) (a10 : (⟨3, ![2, 64, 1024]⟩ : Shape).Idx → EReal) (a11 a12 : (⟨1, ![1024]⟩ : Shape).Idx → EReal)
    (a13 : (⟨2, ![16, 64]⟩ : Shape).Idx → EReal) (a14 : (⟨1, ![1024]⟩ : Shape).Idx → EReal) (a15 : (⟨2, ![1024, 32]⟩ : Shape).Idx → EReal)
    (a16 : (⟨2, ![32, 1024]⟩ : Shape).Idx → EReal) : Par where
  mu k e := a3 (ix2 k e)
  w k e d := a4 (ix3 k e d)
  w0 s d := a5 (ix2 s d)
  w1 s e j := a6 (ix3 s e j)
  w2 s j d := a7 (ix3 s j d)
  a0 s d := a8 (ix2 s d)
  a1 s e j := a9 (ix3 s e j)
  a2 s j d := a10 (ix3 s j d)
  kk d := a11 (ix1 d)
  ka d := a12 (ix1 d)
  rk d := a13 (ix2 ⟨d.val / 64, by omega⟩ ⟨d.val % 64, by omega⟩)
  v0 d := a14 (ix1 d)
  v1 e j := a15 (ix2 e j)
  v2 j d := a16 (ix2 j d)

/-- A position's rows, of the arrays that hold the sequence, the modulation, the gain and the first layer's values. -/
def rowOf (a0 : (⟨3, ![8, 8448, 1024]⟩ : Shape).Idx → EReal) (a1 : (⟨4, ![8, 2, 1, 3072]⟩ : Shape).Idx → EReal) (a2 : (⟨1, ![1024]⟩ : Shape).Idx → EReal)
    (a17 : (⟨3, ![8, 8448, 1024]⟩ : Shape).Idx → EReal) : Fin 8 → Fin 8448 → Row :=
  rowAt (fun b t e => a0 (ix3 b t e)) (fun b p e => a1 (ix4 b p 0 e)) (fun e => a2 (ix1 e)) fun b t e => a17 (ix3 b t e)

end Cert.Mix

end
-- ==== Proof.MixLoad.lean ====
module

public import proofs.«01_k».proof.Proof.MixHost
public import proofs.«01_k».proof.Proof.MixRow
public import Idealize.ShloMosaic.Lib.Claim

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.Tactic Idealize.SL.Sem
open Idealize.ShloMosaic.Pipeline (Dat)
open Cert.Layer Cert.Mix

theorem word_nat {n k : Nat} (h : n < k) (hk : k < 4294967296) : (BitVec.ofNat 32 n).toNat = n := by
  rw [BitVec.toNat_ofNat]; exact Nat.mod_eq_of_lt (lt_trans h hk)

theorem word_prev (n : Fin 33) : (Scalar.maxsi (Scalar.subi (Scalar.muli (BitVec.ofNat 32 n.val) 32#32) 1#32) 0#32).toNat = 32 * n.val - 1 := by
  revert n; decide +kernel

theorem word_next (n : Fin 33) :
    (Scalar.minsi (Scalar.muli (Scalar.addi (BitVec.ofNat 32 n.val) 1#32) 32#32) 1055#32).toNat = min (32 * (n.val + 1)) 1055 := by
  revert n; decide +kernel

theorem word_lesser (n : Fin 33) : (Scalar.minsi (BitVec.ofNat 32 n.val) 1#32).toNat = min n.val 1 := by
  revert n; decide +kernel

/-- Window 0's block index: the batch element and the tile. -/
theorem transform0 (i : grid0.Coords) : cc0_transform_0 i = ![(i 0).val, (i 1).val, 0] := by
  funext a
  match a with
  | ⟨0, _⟩ => exact word_nat (i 0).isLt (by decide)
  | ⟨1, _⟩ => exact word_nat (i 1).isLt (by decide)
  | ⟨2, _⟩ => rfl

theorem index0 (t : Fin cfg0.N) : win0_0.index t = ![(grid0.coords t 0).val, (grid0.coords t 1).val, 0] := transform0 (grid0.coords t)
theorem index17 (t : Fin cfg0.N) : win0_17.index t = ![(grid0.coords t 0).val, (grid0.coords t 1).val, 0] := transform0 (grid0.coords t)

/-- Window 1's block index: the eight rows before the tile. -/
theorem transform1 (i : grid0.Coords) : cc0_transform_1 i = ![(i 0).val, 32 * (i 1).val - 1, 0] := by
  funext a
  match a with
  | ⟨0, _⟩ => exact word_nat (i 0).isLt (by decide)
  | ⟨1, _⟩ => exact word_prev (i 1)
  | ⟨2, _⟩ => rfl

theorem index1 (t : Fin cfg0.N) : win0_1.index t = ![(grid0.coords t 0).val, 32 * (grid0.coords t 1).val - 1, 0] := transform1 (grid0.coords t)

/-- Window 2's block index: the eight rows after the tile. -/
theorem transform2 (i : grid0.Coords) : cc0_transform_2 i = ![(i 0).val, min (32 * ((i 1).val + 1)) 1055, 0] := by
  funext a
  match a with
  | ⟨0, _⟩ => exact word_nat (i 0).isLt (by decide)
  | ⟨1, _⟩ => exact word_next (i 1)
  | ⟨2, _⟩ => rfl

theorem index2 (t : Fin cfg0.N) : win0_2.index t = ![(grid0.coords t 0).val, min (32 * ((grid0.coords t 1).val + 1)) 1055, 0] := transform2 (grid0.coords t)

/-- Window 3's block index: the context's for the first tile, else the latents'. -/
theorem transform3 (i : grid0.Coords) : cc0_transform_3 i = ![(i 0).val, min (i 1).val 1, 0, 0] := by
  funext a
  match a with
  | ⟨0, _⟩ => exact word_nat (i 0).isLt (by decide)
  | ⟨1, _⟩ => exact word_lesser (i 1)
  | ⟨2, _⟩ => rfl
  | ⟨3, _⟩ => rfl

theorem index3 (t : Fin cfg0.N) : win0_3.index t = ![(grid0.coords t 0).val, min (grid0.coords t 1).val 1, 0, 0] := transform3 (grid0.coords t)

theorem index4 (t : Fin cfg0.N) : win0_4.index t = ![0, 0] := by
  show cc0_transform_4 (grid0.coords t) = _
  funext a; fin_cases a <;> rfl

theorem index5 (t : Fin cfg0.N) : win0_5.index t = ![0, 0] := by
  show cc0_transform_5 (grid0.coords t) = _
  funext a; fin_cases a <;> rfl

theorem index6 (t : Fin cfg0.N) : win0_6.index t = ![0, 0] := by
  show cc0_transform_6 (grid0.coords t) = _
  funext a; fin_cases a <;> rfl

theorem index7 (t : Fin cfg0.N) : win0_7.index t = ![0, 0] := by
  show cc0_transform_7 (grid0.coords t) = _
  funext a; fin_cases a <;> rfl

theorem index8 (t : Fin cfg0.N) : win0_8.index t = ![0, 0] := by
  show cc0_transform_8 (grid0.coords t) = _
  funext a; fin_cases a <;> rfl

theorem index9 (t : Fin cfg0.N) : win0_9.index t = ![0, 0] := by
  show cc0_transform_9 (grid0.coords t) = _
  funext a; fin_cases a <;> rfl

theorem index10 (t : Fin cfg0.N) : win0_10.index t = ![0, 0, 0] := by
  show cc0_transform_10 (grid0.coords t) = _
  funext a; fin_cases a <;> rfl

theorem index11 (t : Fin cfg0.N) : win0_11.index t = ![0, 0] := by
  show cc0_transform_11 (grid0.coords t) = _
  funext a; fin_cases a <;> rfl

theorem index12 (t : Fin cfg0.N) : win0_12.index t = ![0, 0, 0] := by
  show cc0_transform_12 (grid0.coords t) = _
  funext a; fin_cases a <;> rfl

theorem index13 (t : Fin cfg0.N) : win0_13.index t = ![0, 0] := by
  show cc0_transform_13 (grid0.coords t) = _
  funext a; fin_cases a <;> rfl

theorem index14 (t : Fin cfg0.N) : win0_14.index t = ![0, 0] := by
  show cc0_transform_14 (grid0.coords t) = _
  funext a; fin_cases a <;> rfl

theorem index15 (t : Fin cfg0.N) : win0_15.index t = ![0, 0] := by
  show cc0_transform_15 (grid0.coords t) = _
  funext a; fin_cases a <;> rfl

theorem index16 (t : Fin cfg0.N) : win0_16.index t = ![0, 0] := by
  show cc0_transform_16 (grid0.coords t) = _
  funext a; fin_cases a <;> rfl

/-- Row `r` of tile `t`, as a position of the sequence. -/
def pos (t : Fin 33) (r : Fin 256) : Fin 8448 := ⟨256 * t.val + r.val, by omega⟩

theorem part_of (t : Fin 33) (p : Fin 8448) (h : 256 * t.val ≤ p.val) (h' : t.val = 0 → p.val < 256) : (part p).val = min t.val 1 := by
  unfold part
  split
  · next hp => show 0 = _; omega
  · next hp => show 1 = _
               rcases Nat.eq_zero_or_pos t.val with h0 | h0
               · exact absurd (h' h0) hp
               · omega

section Loads

variable (t : Fin cfg0.N)

theorem ld_x (X : Vec Ideal S8x8448x1024 .f32) (r : Fin 256) (e : Fin 1024) :
    View.ld (((cfg0.win 0).blk t).view.read (Elt Ideal) X) r0_3 (ix3 0 r e) = X (ix3 (grid0.coords t 0) (pos (grid0.coords t 1) r) e) := by
  refine congrArg X (?_ : (win0_0.blk t).view.emb (r0_3.emb (ix3 0 r e)) = _)
  funext a
  apply Fin.ext
  fin_cases a
  · blk_simp [index0]; try rfl
  · blk_simp [index0]; show (grid0.coords t 1).val * 256 + r.val = 256 * (grid0.coords t 1).val + r.val; omega
  · blk_simp [index0]; try rfl

theorem ld_first (X : Vec Ideal S8x8448x1024 .f32) (r : Fin 256) (e : Fin 1024) :
    View.ld (((cfg0.win 17).blk t).view.read (Elt Ideal) X) r0_3 (ix3 0 r e) = X (ix3 (grid0.coords t 0) (pos (grid0.coords t 1) r) e) := by
  refine congrArg X (?_ : (win0_17.blk t).view.emb (r0_3.emb (ix3 0 r e)) = _)
  funext a
  apply Fin.ext
  fin_cases a
  · blk_simp [index17]; try rfl
  · blk_simp [index17]; show (grid0.coords t 1).val * 256 + r.val = 256 * (grid0.coords t 1).val + r.val; omega
  · blk_simp [index17]; try rfl

theorem ld_prev (X : Vec Ideal S8x8448x1024 .f32) (p : Fin 8448) (hp : p.val = (32 * (grid0.coords t 1).val - 1) * 8 + 7) (e : Fin 1024) :
    View.ld (((cfg0.win 1).blk t).view.read (Elt Ideal) X) r0_4 (ix3 0 7 e) = X (ix3 (grid0.coords t 0) p e) := by
  refine congrArg X (?_ : (win0_1.blk t).view.emb (r0_4.emb (ix3 0 7 e)) = _)
  funext a
  apply Fin.ext
  fin_cases a
  · blk_simp [index1]; try rfl
  · refine Eq.trans ?_ hp.symm
    blk_simp [index1]; try rfl
  · blk_simp [index1]; try rfl

theorem ld_next (X : Vec Ideal S8x8448x1024 .f32) (p : Fin 8448) (hp : p.val = min (32 * ((grid0.coords t 1).val + 1)) 1055 * 8) (e : Fin 1024) :
    View.ld (((cfg0.win 2).blk t).view.read (Elt Ideal) X) r0_4 (ix3 0 0 e) = X (ix3 (grid0.coords t 0) p e) := by
  refine congrArg X (?_ : (win0_2.blk t).view.emb (r0_4.emb (ix3 0 0 e)) = _)
  funext a
  apply Fin.ext
  fin_cases a
  · blk_simp [index2]; try rfl
  · refine Eq.trans ?_ hp.symm
    blk_simp [index2]; try rfl
  · blk_simp [index2]; try rfl

theorem ld_shift (X : Vec Ideal S8x2x1x3072 .f32) (p : Fin 2) (hp : p.val = min (grid0.coords t 1).val 1) (e : Fin 1024) :
    View.ld (((cfg0.win 3).blk t).view.read (Elt Ideal) X) r0_0 (ix4 0 0 0 e) = X (ix4 (grid0.coords t 0) p 0 ⟨e.val, by omega⟩) := by
  refine congrArg X (?_ : (win0_3.blk t).view.emb (r0_0.emb (ix4 0 0 0 e)) = _)
  funext a
  apply Fin.ext
  fin_cases a
  · blk_simp [index3]; try rfl
  · refine Eq.trans ?_ hp.symm
    blk_simp [index3]; try rfl
  · blk_simp [index3]; try rfl
  · blk_simp [index3]; try rfl

theorem ld_scale (X : Vec Ideal S8x2x1x3072 .f32) (p : Fin 2) (hp : p.val = min (grid0.coords t 1).val 1) (e : Fin 1024) :
    View.ld (((cfg0.win 3).blk t).view.read (Elt Ideal) X) r0_1 (ix4 0 0 0 e) = X (ix4 (grid0.coords t 0) p 0 ⟨1024 + e.val, by omega⟩) := by
  refine congrArg X (?_ : (win0_3.blk t).view.emb (r0_1.emb (ix4 0 0 0 e)) = _)
  funext a
  apply Fin.ext
  fin_cases a
  · blk_simp [index3]; try rfl
  · refine Eq.trans ?_ hp.symm
    blk_simp [index3]; try rfl
  · blk_simp [index3]; try rfl
  · blk_simp [index3]; try rfl

theorem ld_vec (X : Vec Ideal S16x1024 .f32) (k : Nat) (hk : k < 16) (i) (e : Fin 1024) :
    View.ld (((cfg0.win 4).blk t).view.read (Elt Ideal) X) (Rect.unit (s := S16x1024) ![k, 0] S1x1024.size i) (ix2 0 e) = X (ix2 ⟨k, hk⟩ e) := by
  refine congrArg X (?_ : (win0_4.blk t).view.emb ((Rect.unit (s := S16x1024) ![k, 0] S1x1024.size i).emb (ix2 0 e)) = _)
  funext a
  apply Fin.ext
  fin_cases a
  · blk_simp [index4]; try rfl
  · blk_simp [index4]; try rfl

theorem ld5 (X : Vec Ideal S1024x1024 .bf16) (e : Fin 1024) (d : Fin 1024) :
    View.ld (((cfg0.win 5).blk t).view.read (Elt Ideal) X) r0_6 (ix2 e d) = X (ix2 e d) := by
  refine congrArg X (?_ : (win0_5.blk t).view.emb (r0_6.emb (ix2 e d)) = _)
  funext a
  apply Fin.ext
  fin_cases a
  · blk_simp [index5]; try rfl
  · blk_simp [index5]; try rfl

theorem ld6 (X : Vec Ideal S1024x1024 .bf16) (e : Fin 1024) (d : Fin 1024) :
    View.ld (((cfg0.win 6).blk t).view.read (Elt Ideal) X) r0_6 (ix2 e d) = X (ix2 e d) := by
  refine congrArg X (?_ : (win0_6.blk t).view.emb (r0_6.emb (ix2 e d)) = _)
  funext a
  apply Fin.ext
  fin_cases a
  · blk_simp [index6]; try rfl
  · blk_simp [index6]; try rfl

theorem ld7 (X : Vec Ideal S1024x1024 .bf16) (e : Fin 1024) (d : Fin 1024) :
    View.ld (((cfg0.win 7).blk t).view.read (Elt Ideal) X) r0_6 (ix2 e d) = X (ix2 e d) := by
  refine congrArg X (?_ : (win0_7.blk t).view.emb (r0_6.emb (ix2 e d)) = _)
  funext a
  apply Fin.ext
  fin_cases a
  · blk_simp [index7]; try rfl
  · blk_simp [index7]; try rfl

theorem ld8 (X : Vec Ideal S1024x1024 .bf16) (e : Fin 1024) (d : Fin 1024) :
    View.ld (((cfg0.win 8).blk t).view.read (Elt Ideal) X) r0_6 (ix2 e d) = X (ix2 e d) := by
  refine congrArg X (?_ : (win0_8.blk t).view.emb (r0_6.emb (ix2 e d)) = _)
  funext a
  apply Fin.ext
  fin_cases a
  · blk_simp [index8]; try rfl
  · blk_simp [index8]; try rfl

theorem ld9 (X : Vec Ideal S1024x128 .bf16) (e : Fin 1024) (d : Fin 128) :
    View.ld (((cfg0.win 9).blk t).view.read (Elt Ideal) X) r0_10 (ix2 e d) = X (ix2 e d) := by
  refine congrArg X (?_ : (win0_9.blk t).view.emb (r0_10.emb (ix2 e d)) = _)
  funext a
  apply Fin.ext
  fin_cases a
  · blk_simp [index9]; try rfl
  · blk_simp [index9]; try rfl

theorem ld11 (X : Vec Ideal S1024x128 .bf16) (e : Fin 1024) (d : Fin 128) :
    View.ld (((cfg0.win 11).blk t).view.read (Elt Ideal) X) r0_10 (ix2 e d) = X (ix2 e d) := by
  refine congrArg X (?_ : (win0_11.blk t).view.emb (r0_10.emb (ix2 e d)) = _)
  funext a
  apply Fin.ext
  fin_cases a
  · blk_simp [index11]; try rfl
  · blk_simp [index11]; try rfl

theorem ld13 (X : Vec Ideal S1024x128 .bf16) (e : Fin 1024) (d : Fin 128) :
    View.ld (((cfg0.win 13).blk t).view.read (Elt Ideal) X) r0_10 (ix2 e d) = X (ix2 e d) := by
  refine congrArg X (?_ : (win0_13.blk t).view.emb (r0_10.emb (ix2 e d)) = _)
  funext a
  apply Fin.ext
  fin_cases a
  · blk_simp [index13]; try rfl
  · blk_simp [index13]; try rfl

theorem ld15 (X : Vec Ideal S1024x128 .bf16) (e : Fin 1024) (d : Fin 128) :
    View.ld (((cfg0.win 15).blk t).view.read (Elt Ideal) X) r0_10 (ix2 e d) = X (ix2 e d) := by
  refine congrArg X (?_ : (win0_15.blk t).view.emb (r0_10.emb (ix2 e d)) = _)
  funext a
  apply Fin.ext
  fin_cases a
  · blk_simp [index15]; try rfl
  · blk_simp [index15]; try rfl

theorem ld14 (X : Vec Ideal S128x1024 .bf16) (e : Fin 128) (d : Fin 1024) :
    View.ld (((cfg0.win 14).blk t).view.read (Elt Ideal) X) r0_11 (ix2 e d) = X (ix2 e d) := by
  refine congrArg X (?_ : (win0_14.blk t).view.emb (r0_11.emb (ix2 e d)) = _)
  funext a
  apply Fin.ext
  fin_cases a
  · blk_simp [index14]; try rfl
  · blk_simp [index14]; try rfl

theorem ld16 (X : Vec Ideal S128x1024 .bf16) (e : Fin 128) (d : Fin 1024) :
    View.ld (((cfg0.win 16).blk t).view.read (Elt Ideal) X) r0_11 (ix2 e d) = X (ix2 e d) := by
  refine congrArg X (?_ : (win0_16.blk t).view.emb (r0_11.emb (ix2 e d)) = _)
  funext a
  apply Fin.ext
  fin_cases a
  · blk_simp [index16]; try rfl
  · blk_simp [index16]; try rfl

theorem ld10_0 (X : Vec Ideal S2x128x1024 .bf16) (e : Fin 128) (d : Fin 1024) :
    View.ld (((cfg0.win 10).blk t).view.read (Elt Ideal) X) r0_18 (ix3 0 e d) = X (ix3 0 e d) := by
  refine congrArg X (?_ : (win0_10.blk t).view.emb (r0_18.emb (ix3 0 e d)) = _)
  funext a
  apply Fin.ext
  fin_cases a
  · blk_simp [index10]; try rfl
  · blk_simp [index10]; try rfl
  · blk_simp [index10]; try rfl

theorem ld10_1 (X : Vec Ideal S2x128x1024 .bf16) (e : Fin 128) (d : Fin 1024) :
    View.ld (((cfg0.win 10).blk t).view.read (Elt Ideal) X) r0_21 (ix3 0 e d) = X (ix3 1 e d) := by
  refine congrArg X (?_ : (win0_10.blk t).view.emb (r0_21.emb (ix3 0 e d)) = _)
  funext a
  apply Fin.ext
  fin_cases a
  · blk_simp [index10]; try rfl
  · blk_simp [index10]; try rfl
  · blk_simp [index10]; try rfl

theorem ld12_0 (X : Vec Ideal S2x128x1024 .bf16) (e : Fin 128) (d : Fin 1024) :
    View.ld (((cfg0.win 12).blk t).view.read (Elt Ideal) X) r0_18 (ix3 0 e d) = X (ix3 0 e d) := by
  refine congrArg X (?_ : (win0_12.blk t).view.emb (r0_18.emb (ix3 0 e d)) = _)
  funext a
  apply Fin.ext
  fin_cases a
  · blk_simp [index12]; try rfl
  · blk_simp [index12]; try rfl
  · blk_simp [index12]; try rfl

theorem ld12_1 (X : Vec Ideal S2x128x1024 .bf16) (e : Fin 128) (d : Fin 1024) :
    View.ld (((cfg0.win 12).blk t).view.read (Elt Ideal) X) r0_21 (ix3 0 e d) = X (ix3 1 e d) := by
  refine congrArg X (?_ : (win0_12.blk t).view.emb (r0_21.emb (ix3 0 e d)) = _)
  funext a
  apply Fin.ext
  fin_cases a
  · blk_simp [index12]; try rfl
  · blk_simp [index12]; try rfl
  · blk_simp [index12]; try rfl

end Loads

end Cert.Kernel4Ideal.Mix

end
-- ==== Proof.MixValue.lean ====
module

public import proofs.«01_k».proof.Proof.MixLoad

@[expose] public section

set_option maxRecDepth 16384

noncomputable section

namespace Cert.Kernel4Ideal.Mix

open Cert.Kernel4Ideal Cert.Kernel4Ideal.Gen Idealize.ShloMosaic Idealize.ShloMosaic.TcCoe Idealize.ShloMosaic.Tactic Idealize.SL.Sem
open Idealize.ShloMosaic.Pipeline (Dat)
open Cert.Layer Cert.Mix

variable (m : (ℓ : Loc nD τ sig) → Buf (Elt Ideal) ℓ)

/-- The weights in a state's arrays. -/
def par (c : Dev nD) : Par :=
  parOf (m (c, Proc.tc.devRef main_arg3)) (m (c, Proc.tc.devRef main_arg4)) (m (c, Proc.tc.devRef main_arg5)) (m (c, Proc.tc.devRef main_arg6))
    (m (c, Proc.tc.devRef main_arg7)) (m (c, Proc.tc.devRef main_arg8)) (m (c, Proc.tc.devRef main_arg9)) (m (c, Proc.tc.devRef main_arg10))
    (m (c, Proc.tc.devRef main_arg11)) (m (c, Proc.tc.devRef main_arg12)) (m (c, Proc.tc.devRef main_arg13)) (m (c, Proc.tc.devRef main_arg14))
    (m (c, Proc.tc.devRef main_arg15)) (m (c, Proc.tc.devRef main_arg16))

/-- The rows in a state's arrays. -/
def row (c : Dev nD) : Fin 8 → Fin 8448 → Row :=
  rowOf (m (c, Proc.tc.devRef main_arg0)) (m (c, Proc.tc.devRef main_arg1)) (m (c, Proc.tc.devRef main_arg2)) (m (c, Proc.tc.devRef main_arg17))

/-- The hidden row of a position of a state's arrays. -/
def hidden (c : Dev nD) (b : Fin 8) (p : Fin 8448) : Fin 1024 → EReal :=
  hid (fun b t e => (m (c, Proc.tc.devRef main_arg0) : S8x8448x1024.Idx → EReal) (ix3 b t e))
    (fun b p e => (m (c, Proc.tc.devRef main_arg1) : S8x2x1x3072.Idx → EReal) (ix4 b p 0 e))
    (fun e => (m (c, Proc.tc.devRef main_arg2) : S1024.Idx → EReal) (ix1 e)) b p

theorem modulated_same {x x' g g' s s' h h' : Fin 1024 → EReal} (hx : ∀ e, x e = x' e) (hg : ∀ e, g e = g' e) (hs : ∀ e, s e = s' e)
    (hh : ∀ e, h e = h' e) (e : Fin 1024) : modulated x g s h e = modulated x' g' s' h' e := by
  obtain rfl : x = x' := funext hx
  obtain rfl : g = g' := funext hg
  obtain rfl : s = s' := funext hs
  obtain rfl : h = h' := funext hh
  rfl

theorem part_late (p : Fin 8448) (h : 256 ≤ p.val) : (part p).val = 1 := by
  unfold part
  rw [if_neg (by omega)]
  rfl

section Blocks

variable (c : Dev nD) (t : Fin cfg0.N)

/-- A row with the launch's gain and a tile's modulation is the hidden row of a position of the tile's part. -/
theorem hidden_of (p : Fin 8448) (hp : (part p).val = min (grid0.coords t 1).val 1) (x : Fin 1024 → EReal)
    (hx : ∀ e, x e = (m (c, Proc.tc.devRef main_arg0) : S8x8448x1024.Idx → EReal) (ix3 (grid0.coords t 0) p e)) (e : Fin 1024) :
    modulated x (fun e => View.ld (iblk m c 4 t) r0_2 (ix2 0 e)) (fun e => View.ld (iblk m c 3 t) r0_1 (ix4 0 0 0 e))
      (fun e => View.ld (iblk m c 3 t) r0_0 (ix4 0 0 0 e)) e = hidden m c (grid0.coords t 0) p e := by
  unfold hidden hid
  refine modulated_same hx (fun e => ?_) (fun e => ?_) (fun e => ?_) e
  · exact (ld_vec t (V m c main_v49) 0 (by decide) _ e).trans (vec0 m c e)
  · exact (ld_scale t (V m c main_arg1) (part p) hp e).trans (congrFun (V_main_arg1 m c) _)
  · exact (ld_shift t (V m c main_arg1) (part p) hp e).trans (congrFun (V_main_arg1 m c) _)

theorem own_at (r : Fin 256) (e : Fin 1024) :
    k0_pay53 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t)
      (iblk m c 17 t) (ix2 r e) = hidden m c (grid0.coords t 0) (pos (grid0.coords t 1) r) e := by
  refine (hidden_at _ _ _ _ r e).trans (hidden_of m c t _ ?_ _ (fun e => ?_) e)
  · exact part_of _ _ (Nat.le_add_right _ _) fun h => by
      show 256 * (grid0.coords t 1).val + r.val < 256
      have := r.isLt
      omega
  · exact (ld_x t (V m c main_arg0) r e).trans (congrFun (V_main_arg0 m c) _)

theorem before_row (r : Fin 256) (hr : r.val = 0) (e : Fin 1024) :
    k0_pay55 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t)
      (iblk m c 17 t) (ix2 0 e) = (row m c (grid0.coords t 0) (pos (grid0.coords t 1) r)).before e := by
  refine (before_at (grid0.coords t 1) _ _ _ _ e).trans ?_
  show _ = if (pos (grid0.coords t 1) r).val = 0 ∨ (pos (grid0.coords t 1) r).val = 256 then 0 else
    hidden m c (grid0.coords t 0) ⟨(pos (grid0.coords t 1) r).val - 1, by omega⟩ e
  have hv : (pos (grid0.coords t 1) r).val = 256 * (grid0.coords t 1).val + r.val := rfl
  by_cases h : 2 ≤ (grid0.coords t 1).val
  · rw [if_pos h, if_neg (by omega)]
    refine hidden_of m c t _ ?_ _ (fun e => ?_) e
    · exact (part_late _ (by show 256 ≤ (pos (grid0.coords t 1) r).val - 1; omega)).trans (by omega)
    · exact (ld_prev t (V m c main_arg0) ⟨(pos (grid0.coords t 1) r).val - 1, by omega⟩ (by
        show (pos (grid0.coords t 1) r).val - 1 = _; omega) e).trans (congrFun (V_main_arg0 m c) _)
  · rw [if_neg h, if_pos (by omega)]

theorem after_row (r : Fin 256) (hr : r.val = 255) (e : Fin 1024) :
    k0_pay56 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t)
      (iblk m c 17 t) (ix2 0 e) = (row m c (grid0.coords t 0) (pos (grid0.coords t 1) r)).after e := by
  refine (after_at (grid0.coords t 1) _ _ _ _ e).trans ?_
  show _ = if (pos (grid0.coords t 1) r).val = 255 ∨ (pos (grid0.coords t 1) r).val = 8447 then 0 else
    hidden m c (grid0.coords t 0) ⟨((pos (grid0.coords t 1) r).val + 1) % 8448, Nat.mod_lt _ (by decide)⟩ e
  have hv : (pos (grid0.coords t 1) r).val = 256 * (grid0.coords t 1).val + r.val := rfl
  have hl : (grid0.coords t 1).val < 33 := (grid0.coords t 1).isLt
  by_cases h : 1 ≤ (grid0.coords t 1).val ∧ (grid0.coords t 1).val < 32
  · rw [if_pos h, if_neg (by omega)]
    refine hidden_of m c t _ ?_ _ (fun e => ?_) e
    · exact (part_late _ (by show 256 ≤ ((pos (grid0.coords t 1) r).val + 1) % 8448; omega)).trans (by omega)
    · exact (ld_next t (V m c main_arg0) ⟨((pos (grid0.coords t 1) r).val + 1) % 8448, Nat.mod_lt _ (by decide)⟩ (by
        show ((pos (grid0.coords t 1) r).val + 1) % 8448 = _; omega) e).trans (congrFun (V_main_arg0 m c) _)
  · rw [if_neg h, if_pos (by omega)]

theorem gap_of (r : Fin 256) (e : Fin 1024) :
    k0_pay59 (grid0.coords t) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) (iblk m c 16 t)
      (iblk m c 17 t) (ix2 r e) = (row m c (grid0.coords t 0) (pos (grid0.coords t 1) r)).gap e := by
  refine (gap_at _ _ _ r e).trans ?_
  have hv : (pos (grid0.coords t 1) r).val = 256 * (grid0.coords t 1).val + r.val := rfl
  have hl : (grid0.coords t 1).val < 33 := (grid0.coords t 1).isLt
  refine congrArg₂ (· - ·) (congrArg (half * ·) (congrArg₂ (· + ·) ?_ ?_)) (own_at m c t r e)
  · by_cases hr : r.val = 0
    · rw [if_pos hr]; exact before_row m c t r hr e
    · rw [if_neg hr]
      refine (own_at m c t _ e).trans ?_
      show _ = if (pos (grid0.coords t 1) r).val = 0 ∨ (pos (grid0.coords t 1) r).val = 256 then 0 else
        hidden m c (grid0.coords t 0) ⟨(pos (grid0.coords t 1) r).val - 1, by omega⟩ e
      rw [if_neg (by omega)]
      refine congrArg (fun p => hidden m c (grid0.coords t 0) p e) (Fin.ext ?_)
      show 256 * (grid0.coords t 1).val + (r.val + 256 - 1) % 256 = (pos (grid0.coords t 1) r).val - 1
      omega
  · by_cases hr : r.val = 255
    · rw [if_pos hr]; exact after_row m c t r hr e
    · rw [if_neg hr]
      refine (own_at m c t _ e).trans ?_
      show _ = if (pos (grid0.coords t 1) r).val = 255 ∨ (pos (grid0.coords t 1) r).val = 8447 then 0 else
        hidden m c (grid0.coords t 0) ⟨((pos (grid0.coords t 1) r).val + 1) % 8448, Nat.mod_lt _ (by decide)⟩ e
      rw [if_neg (by omega)]
      refine congrArg (fun p => hidden m c (grid0.coords t 0) p e) (Fin.ext ?_)
      show 256 * (grid0.coords t 1).val + (r.val + 256 - 255) % 256 = ((pos (grid0.coords t 1) r).val + 1) % 8448
      omega

/-- A sum's column halves: the first direction's columns and the second's. -/
theorem halves {n : Nat} {f : Fin 128 → EReal} {g : Fin 2 → Fin 64 → EReal} (h0 : ∀ j : Fin 64, f ⟨j.val, by omega⟩ = g 0 j)
    (h1 : ∀ j : Fin 64, f ⟨64 + j.val, by omega⟩ = g 1 j) (s : Fin 2) (j : Fin 64) : f ⟨s.val * 64 + j.val, by omega⟩ = g s j := by
  fin_cases s
  · exact (congrArg f (Fin.ext (by show 0 * 64 + j.val = j.val; omega))).trans (h0 j)
  · exact (congrArg f (Fin.ext (by show 1 * 64 + j.val = 64 + j.val; omega))).trans (h1 j)

theorem slab0 {f : Fin 128 → EReal} {g : Fin 64 → EReal} (h0 : ∀ j : Fin 64, f ⟨j.val, by omega⟩ = g j)
    (h1 : ∀ j : Fin 64, f ⟨64 + j.val, by omega⟩ = 0) (j : Fin 128) : f j = if j.val / 64 = 0 then g ⟨j.val % 64, Nat.mod_lt _ (by decide)⟩ else 0 := by
  by_cases hj : j.val / 64 = 0
  · rw [if_pos hj]
    exact (congrArg f (Fin.ext (by show j.val = j.val % 64; omega))).trans (h0 ⟨j.val % 64, Nat.mod_lt _ (by decide)⟩)
  · rw [if_neg hj]
    exact (congrArg f (Fin.ext (by show j.val = 64 + j.val % 64; omega))).trans (h1 ⟨j.val % 64, Nat.mod_lt _ (by decide)⟩)

theorem slab1 {f : Fin 128 → EReal} {g : Fin 64 → EReal} (h0 : ∀ j : Fin 64, f ⟨j.val, by omega⟩ = 0)
    (h1 : ∀ j : Fin 64, f ⟨64 + j.val, by omega⟩ = g j) (j : Fin 128) : f j = if j.val / 64 = 1 then g ⟨j.val % 64, Nat.mod_lt _ (by decide)⟩ else 0 := by
  by_cases hj : j.val / 64 = 1
  · rw [if_pos hj]
    exact (congrArg f (Fin.ext (by show j.val = 64 + j.val % 64; omega))).trans (h1 ⟨j.val % 64, Nat.mod_lt _ (by decide)⟩)
  · rw [if_neg hj]
    exact (congrArg f (Fin.ext (by show j.val = j.val % 64; omega))).trans (h0 ⟨j.val % 64, Nat.mod_lt _ (by decide)⟩)

theorem padded {f : Fin 128 → EReal} {g : Fin 32 → EReal} (h0 : ∀ j : Fin 32, f ⟨j.val, by omega⟩ = g j)
    (h1 : ∀ j : Fin 96, f ⟨32 + j.val, by omega⟩ = 0) (j : Fin 128) : f j = if h : j.val < 32 then g ⟨j.val, h⟩ else 0 := by
  by_cases hj : j.val < 32
  · rw [dif_pos hj]; exact h0 ⟨j.val, hj⟩
  · rw [dif_neg hj]
    exact (congrArg f (Fin.ext (by show j.val = 32 + (j.val - 32); omega))).trans (h1 ⟨j.val - 32, by omega⟩)

/-- What a tile's blocks hold, of a state's arrays. -/
theorem tile : Tile (par m c) (fun r => row m c (grid0.coords t 0) (pos (grid0.coords t 1) r)) (grid0.coords t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) (iblk m c 16 t)
    (iblk m c 17 t) where
  own r e := own_at m c t r e
  gap r e := gap_of m c t r e
  first r e := (ld_first t (V m c main_arg17) r e).trans (congrFun (V_main_arg17 m c) _)
  mu0 e := (ld_vec t (V m c main_v49) 1 (by decide) _ e).trans (vec1 m c e)
  mu1 e := (ld_vec t (V m c main_v49) 2 (by decide) _ e).trans (vec2 m c e)
  mu2 e := (ld_vec t (V m c main_v49) 3 (by decide) _ e).trans (vec3 m c e)
  mu3 e := (ld_vec t (V m c main_v49) 4 (by decide) _ e).trans (vec4 m c e)
  mu4 e := (ld_vec t (V m c main_v49) 5 (by decide) _ e).trans (vec5 m c e)
  mu5 e := (ld_vec t (V m c main_v49) 6 (by decide) _ e).trans (vec6 m c e)
  kk e := (ld_vec t (V m c main_v49) 7 (by decide) _ e).trans (vec7 m c e)
  ka e := (ld_vec t (V m c main_v49) 8 (by decide) _ e).trans (vec8 m c e)
  rk e := (ld_vec t (V m c main_v49) 9 (by decide) _ e).trans (vec9 m c e)
  w00 e := (ld_vec t (V m c main_v49) 10 (by decide) _ e).trans (vec10 m c e)
  w01 e := (ld_vec t (V m c main_v49) 11 (by decide) _ e).trans (vec11 m c e)
  a00 e := (ld_vec t (V m c main_v49) 12 (by decide) _ e).trans (vec12 m c e)
  a01 e := (ld_vec t (V m c main_v49) 13 (by decide) _ e).trans (vec13 m c e)
  v0 e := (ld_vec t (V m c main_v49) 14 (by decide) _ e).trans (vec14 m c e)
  wr e d := (ld5 t (V m c main_v89) e d).trans (weight0 m c e d)
  wk e d := (ld6 t (V m c main_v91) e d).trans (weight1 m c e d)
  wv e d := (ld7 t (V m c main_v93) e d).trans (weight2 m c e d)
  wg e d := (ld8 t (V m c main_v95) e d).trans (weight3 m c e d)
  w1 e s j := (ld9 t (V m c main_v55) e _).trans (halves (n := 0) (f := fun j => (V m c main_v55 : S1024x128.Idx → EReal) (ix2 e j))
    (g := fun s j => (par m c).w1 s e j) (fun j => low_w1_0 m c e j) (fun j => low_w1_1 m c e j) s j)
  w20 j d := (ld10_0 t (V m c main_v72) j d).trans (slab0 (f := fun j => (V m c main_v72 : S2x128x1024.Idx → EReal) (ix3 0 j d))
    (g := fun j => (par m c).w2 0 j d) (fun j => high_w2_0_0 m c j d) (fun j => high_w2_0_1 m c j d) j)
  w21 j d := (ld10_1 t (V m c main_v72) j d).trans (slab1 (f := fun j => (V m c main_v72 : S2x128x1024.Idx → EReal) (ix3 1 j d))
    (g := fun j => (par m c).w2 1 j d) (fun j => high_w2_1_0 m c j d) (fun j => high_w2_1_1 m c j d) j)
  a1 e s j := (ld11 t (V m c main_v61) e _).trans (halves (n := 0) (f := fun j => (V m c main_v61 : S1024x128.Idx → EReal) (ix2 e j))
    (g := fun s j => (par m c).a1 s e j) (fun j => low_a1_0 m c e j) (fun j => low_a1_1 m c e j) s j)
  a20 j d := (ld12_0 t (V m c main_v82) j d).trans (slab0 (f := fun j => (V m c main_v82 : S2x128x1024.Idx → EReal) (ix3 0 j d))
    (g := fun j => (par m c).a2 0 j d) (fun j => high_a2_0_0 m c j d) (fun j => high_a2_0_1 m c j d) j)
  a21 j d := (ld12_1 t (V m c main_v82) j d).trans (slab1 (f := fun j => (V m c main_v82 : S2x128x1024.Idx → EReal) (ix3 1 j d))
    (g := fun j => (par m c).a2 1 j d) (fun j => high_a2_1_0 m c j d) (fun j => high_a2_1_1 m c j d) j)
  gather e j := (ld13 t (V m c main_v8) e j).trans (gather_at m c e j)
  spread j d := (ld14 t (V m c main_v10) j d).trans (spread_at m c j d)
  v1 e j := (ld15 t (V m c main_v84) e _).trans (pad_v1 m c e j)
  v2 j d := (ld16 t (V m c main_v86) j d).trans (padded (f := fun j => (V m c main_v86 : S128x1024.Idx → EReal) (ix2 j d))
    (g := fun j => (par m c).v2 j d) (fun j => pad_v2_low m c j d) (fun j => pad_v2_high m c j d) j)

/-- A place of a block, by its row and column. -/
theorem exists_place (y : S1x256x1024.Idx) : ∃ (r : Fin 256) (d : Fin 1024), y = ix3 0 r d := by
  refine ⟨y 1, y 2, funext fun a => ?_⟩
  match a with
  | ⟨0, _⟩ => exact Fin.ext (by have : (y 0).val < 1 := (y 0).isLt
                                show (y 0).val = 0
                                omega)
  | ⟨1, _⟩ => rfl
  | ⟨2, _⟩ => rfl

theorem index18 (t : Fin cfg0.N) : win0_18.index t = ![(grid0.coords t 0).val, (grid0.coords t 1).val, 0] := transform0 (grid0.coords t)

/-- Where a place of an output's block lies in the array. -/
theorem place18 (r : Fin 256) (d : Fin 1024) : (win0_18.blk t).view.emb (ix3 0 r d) = ix3 (grid0.coords t 0) (pos (grid0.coords t 1) r) d := by
  funext a
  apply Fin.ext
  fin_cases a
  · blk_simp [index18]; try rfl
  · blk_simp [index18]; show (grid0.coords t 1).val * 256 + r.val = 256 * (grid0.coords t 1).val + r.val; omega
  · blk_simp [index18]; try rfl

end Blocks

/-- A tile of the grid for every block of an output. -/
theorem tile_of (i : grid0.Coords → Fin 3 → Nat) (hi : i = cc0_transform_0) (β : Fin 3 → Nat) (h0 : β 0 < 8) (h1 : β 1 < 33) (h2 : β 2 = 0) :
    ∃ k : grid0.Coords, ∀ a, i k a = β a := by
  subst hi
  refine ⟨fun a => match a with
    | ⟨0, _⟩ => ⟨β 0, h0⟩
    | ⟨1, _⟩ => ⟨β 1, h1⟩, fun a => ?_⟩
  rw [transform0]
  match a with
  | ⟨0, _⟩ => rfl
  | ⟨1, _⟩ => rfl
  | ⟨2, _⟩ => exact h2.symm

/-- A function of the position and the place, as an array. -/
def spec (f : Row → Fin 1024 → EReal) (R : Fin 8 → Fin 8448 → Row) : S8x8448x1024.Idx → EReal := fun i => f (R (i 0) (i 1)) (i 2)

theorem covers18 : win0_18.Covers := win0_18.covers_of_indexMap_surj rfl (by decide) fun β =>
  tile_of _ rfl (fun a => (β a).val) (β 0).isLt (β 1).isLt (Nat.lt_one_iff.mp (β 2).isLt)

theorem final18 (c : Dev nD) : (dats m 0 c).arrAt 18 cfg0.N = spec (recep (par m c)) (row m c) := by
  refine (dats m 0 c).arrAt_eq_of_covers 18 _ covers18 fun t hf y => ?_
  blk_simp
  rw [after0_18]
  obtain ⟨r, d, rfl⟩ := exists_place y
  exact ((tile m c t).out18 r d).trans (congrArg (spec (recep (par m c)) (row m c)) (place18 t r d)).symm

theorem covers19 : win0_19.Covers := win0_19.covers_of_indexMap_surj rfl (by decide) fun β =>
  tile_of _ rfl (fun a => (β a).val) (β 0).isLt (β 1).isLt (Nat.lt_one_iff.mp (β 2).isLt)

theorem final19 (c : Dev nD) : (dats m 0 c).arrAt 19 cfg0.N = spec (value (par m c)) (row m c) := by
  refine (dats m 0 c).arrAt_eq_of_covers 19 _ covers19 fun t hf y => ?_
  blk_simp
  rw [after0_19]
  obtain ⟨r, d, rfl⟩ := exists_place y
  exact ((tile m c t).out19 r d).trans (congrArg (spec (value (par m c)) (row m c)) (place18 t r d)).symm

theorem covers20 : win0_20.Covers := win0_20.covers_of_indexMap_surj rfl (by decide) fun β =>
  tile_of _ rfl (fun a => (β a).val) (β 0).isLt (β 1).isLt (Nat.lt_one_iff.mp (β 2).isLt)

theorem final20 (c : Dev nD) (hP : (par m c).Finite) (hR : ∀ b p, (row m c b p).Finite) : (dats m 0 c).arrAt 20 cfg0.N = spec (dir (par m c)) (row m c) := by
  refine (dats m 0 c).arrAt_eq_of_covers 20 _ covers20 fun t hf y => ?_
  blk_simp
  rw [after0_20]
  obtain ⟨r, d, rfl⟩ := exists_place y
  exact ((tile m c t).out20 hP (fun r => hR _ _) r d).trans (congrArg (spec (dir (par m c)) (row m c)) (place18 t r d)).symm

theorem covers21 : win0_21.Covers := win0_21.covers_of_indexMap_surj rfl (by decide) fun β =>
  tile_of _ rfl (fun a => (β a).val) (β 0).isLt (β 1).isLt (Nat.lt_one_iff.mp (β 2).isLt)

theorem final21 (c : Dev nD) : (dats m 0 c).arrAt 21 cfg0.N = spec (gate (par m c)) (row m c) := by
  refine (dats m 0 c).arrAt_eq_of_covers 21 _ covers21 fun t hf y => ?_
  blk_simp
  rw [after0_21]
  obtain ⟨r, d, rfl⟩ := exists_place y
  exact ((tile m c t).out21 r d).trans (congrArg (spec (gate (par m c)) (row m c)) (place18 t r d)).symm

theorem covers22 : win0_22.Covers := win0_22.covers_of_indexMap_surj rfl (by decide) fun β =>
  tile_of _ rfl (fun a => (β a).val) (β 0).isLt (β 1).isLt (Nat.lt_one_iff.mp (β 2).isLt)

theorem final22 (c : Dev nD) (hP : (par m c).Finite) (hR : ∀ b p, (row m c b p).Finite) : (dats m 0 c).arrAt 22 cfg0.N = spec (bonus (par m c)) (row m c) := by
  refine (dats m 0 c).arrAt_eq_of_covers 22 _ covers22 fun t hf y => ?_
  blk_simp
  rw [after0_22]
  obtain ⟨r, d, rfl⟩ := exists_place y
  exact ((tile m c t).out22 hP (fun r => hR _ _) r d).trans (congrArg (spec (bonus (par m c)) (row m c)) (place18 t r d)).symm

theorem covers23 : win0_23.Covers := win0_23.covers_of_indexMap_surj rfl (by decide) fun β =>
  tile_of _ rfl (fun a => (β a).val) (β 0).isLt (β 1).isLt (Nat.lt_one_iff.mp (β 2).isLt)

theorem final23 (c : Dev nD) : (dats m 0 c).arrAt 23 cfg0.N = spec (fun q => kdir (par m c) q 0) (row m c) := by
  refine (dats m 0 c).arrAt_eq_of_covers 23 _ covers23 fun t hf y => ?_
  blk_simp
  rw [after0_23]
  obtain ⟨r, d, rfl⟩ := exists_place y
  exact ((tile m c t).out23 r d).trans (congrArg (spec (fun q => kdir (par m c) q 0) (row m c)) (place18 t r d)).symm

theorem covers24 : win0_24.Covers := win0_24.covers_of_indexMap_surj rfl (by decide) fun β =>
  tile_of _ rfl (fun a => (β a).val) (β 0).isLt (β 1).isLt (Nat.lt_one_iff.mp (β 2).isLt)

theorem final24 (c : Dev nD) : (dats m 0 c).arrAt 24 cfg0.N = spec (fun q => kdir (par m c) q 1) (row m c) := by
  refine (dats m 0 c).arrAt_eq_of_covers 24 _ covers24 fun t hf y => ?_
  blk_simp
  rw [after0_24]
  obtain ⟨r, d, rfl⟩ := exists_place y
  exact ((tile m c t).out24 r d).trans (congrArg (spec (fun q => kdir (par m c) q 1) (row m c)) (place18 t r d)).symm

theorem covers25 : win0_25.Covers := win0_25.covers_of_indexMap_surj rfl (by decide) fun β =>
  tile_of _ rfl (fun a => (β a).val) (β 0).isLt (β 1).isLt (Nat.lt_one_iff.mp (β 2).isLt)

theorem final25 (c : Dev nD) (hP : (par m c).Finite) (hR : ∀ b p, (row m c b p).Finite) : (dats m 0 c).arrAt 25 cfg0.N = spec (fun q => step (par m c) q 0) (row m c) := by
  refine (dats m 0 c).arrAt_eq_of_covers 25 _ covers25 fun t hf y => ?_
  blk_simp
  rw [after0_25]
  obtain ⟨r, d, rfl⟩ := exists_place y
  exact ((tile m c t).out25 hP (fun r => hR _ _) r d).trans (congrArg (spec (fun q => step (par m c) q 0) (row m c)) (place18 t r d)).symm

theorem covers26 : win0_26.Covers := win0_26.covers_of_indexMap_surj rfl (by decide) fun β =>
  tile_of _ rfl (fun a => (β a).val) (β 0).isLt (β 1).isLt (Nat.lt_one_iff.mp (β 2).isLt)

theorem final26 (c : Dev nD) (hP : (par m c).Finite) (hR : ∀ b p, (row m c b p).Finite) : (dats m 0 c).arrAt 26 cfg0.N = spec (fun q => step (par m c) q 1) (row m c) := by
  refine (dats m 0 c).arrAt_eq_of_covers 26 _ covers26 fun t hf y => ?_
  blk_simp
  rw [after0_26]
  obtain ⟨r, d, rfl⟩ := exists_place y
  exact ((tile m c t).out26 hP (fun r => hR _ _) r d).trans (congrArg (spec (fun q => step (par m c) q 1) (row m c)) (place18 t r d)).symm

theorem covers27 : win0_27.Covers := win0_27.covers_of_indexMap_surj rfl (by decide) fun β =>
  tile_of _ rfl (fun a => (β a).val) (β 0).isLt (β 1).isLt (Nat.lt_one_iff.mp (β 2).isLt)

theorem final27 (c : Dev nD) : (dats m 0 c).arrAt 27 cfg0.N = spec (fun q => decay (par m c) q 0) (row m c) := by
  refine (dats m 0 c).arrAt_eq_of_covers 27 _ covers27 fun t hf y => ?_
  blk_simp
  rw [after0_27]
  obtain ⟨r, d, rfl⟩ := exists_place y
  exact ((tile m c t).out27 r d).trans (congrArg (spec (fun q => decay (par m c) q 0) (row m c)) (place18 t r d)).symm

theorem covers28 : win0_28.Covers := win0_28.covers_of_indexMap_surj rfl (by decide) fun β =>
  tile_of _ rfl (fun a => (β a).val) (β 0).isLt (β 1).isLt (Nat.lt_one_iff.mp (β 2).isLt)

theorem final28 (c : Dev nD) : (dats m 0 c).arrAt 28 cfg0.N = spec (fun q => decay (par m c) q 1) (row m c) := by
  refine (dats m 0 c).arrAt_eq_of_covers 28 _ covers28 fun t hf y => ?_
  blk_simp
  rw [after0_28]
  obtain ⟨r, d, rfl⟩ := exists_place y
  exact ((tile m c t).out28 r d).trans (congrArg (spec (fun q => decay (par m c) q 1) (row m c)) (place18 t r d)).symm

end Cert.Kernel4Ideal.Mix

end
-- ==== Proof.MixRef.lean ====
module

public import proofs.«01_k».proof.Proof.Gen.Reference4Ideal.Read
public import proofs.«01_k».proof.Proof.MixRow
public import Idealize.ShloMosaic.Lib.Pointwise
public import Idealize.ShloMosaic.Lib.ValueIdx

@[expose] public section

set_option maxRecDepth 16384

noncomputable section

namespace Cert.Reference4Ideal.Mix

open Cert.Reference4Ideal Cert.Reference4Ideal.Gen Cert.Reference4Ideal.Read Idealize.ShloMosaic Idealize.ShloMosaic.TcCoe
open Idealize.ShloMosaic.Tactic
open Cert.Layer Cert.Mix

/-- A context position among all positions. -/
def early (n : Fin 256) : Fin 8448 := ⟨n.val, by omega⟩

/-- A latent position among all positions: the context's come first. -/
def late (n : Fin 8192) : Fin 8448 := ⟨256 + n.val, by omega⟩

section Stages

variable (x0 : (⟨S8x8448x1024, .f32⟩ : BufTy).Contents (Elt Ideal)) (x1 : (⟨S8x2x1x3072, .f32⟩ : BufTy).Contents (Elt Ideal)) (x2 : (⟨S1024, .f32⟩ : BufTy).Contents (Elt Ideal)) (x3 : (⟨S6x1024, .f32⟩ : BufTy).Contents (Elt Ideal)) (x4 : (⟨S4x1024x1024, .f32⟩ : BufTy).Contents (Elt Ideal)) (x5 : (⟨S2x1024, .f32⟩ : BufTy).Contents (Elt Ideal)) (x6 : (⟨S2x1024x64, .f32⟩ : BufTy).Contents (Elt Ideal)) (x7 : (⟨S2x64x1024, .f32⟩ : BufTy).Contents (Elt Ideal)) (x8 : (⟨S2x1024, .f32⟩ : BufTy).Contents (Elt Ideal)) (x9 : (⟨S2x1024x64, .f32⟩ : BufTy).Contents (Elt Ideal)) (x10 : (⟨S2x64x1024, .f32⟩ : BufTy).Contents (Elt Ideal)) (x11 : (⟨S1024, .f32⟩ : BufTy).Contents (Elt Ideal)) (x12 : (⟨S1024, .f32⟩ : BufTy).Contents (Elt Ideal)) (x13 : (⟨S16x64, .f32⟩ : BufTy).Contents (Elt Ideal)) (x14 : (⟨S1024, .f32⟩ : BufTy).Contents (Elt Ideal)) (x15 : (⟨S1024x32, .f32⟩ : BufTy).Contents (Elt Ideal)) (x16 : (⟨S32x1024, .f32⟩ : BufTy).Contents (Elt Ideal)) (x17 : (⟨S8x8448x1024, .f32⟩ : BufTy).Contents (Elt Ideal)) (b : Fin 8)

/-- The hidden row of a position, of the layer's arguments. -/
def hiddenRow (t : Fin 8448) : Fin 1024 → EReal :=
  hid (fun b t e => x0 (ix3 b t e)) (fun b p e => x1 (ix4 b p 0 e)) (fun e => x2 (ix1 e)) b t

theorem early_hidden (n : Fin 256) (e : Fin 1024) : val_main_v26 x0 x1 x2 (ix3 b n e) = hiddenRow x0 x1 x2 b (early n) e := by
  have hp : part (early n) = 0 := if_pos n.isLt
  unfold hiddenRow hid
  rw [hp]
  pointwise [val_main_v26, val_main_v25, val_main_v24, val_main_v23, val_main_v22, val_main_v21, val_main_v20, val_main_cst_2, val_main_v19, val_main_v18, val_main_v17, val_main_v16, val_main_v15, val_main_v14, val_main_v13, val_main_v12, val_main_v11, val_main_cst_1, val_main_v10, val_main_v9, val_main_cst_0, val_main_v8, val_main_v7, val_main_cst, val_main_v6, val_main_v4, val_main_v3, val_main_v2, val_main_v1, val_main_v0]
  rfl

theorem late_hidden (n : Fin 8192) (e : Fin 1024) : val_main_v53 x0 x1 x2 (ix3 b n e) = hiddenRow x0 x1 x2 b (late n) e := by
  have hp : part (late n) = 1 := if_neg (by show ¬ 256 + n.val < 256; omega)
  unfold hiddenRow hid
  rw [hp]
  pointwise [val_main_v53, val_main_v52, val_main_v51, val_main_v50, val_main_v49, val_main_v48, val_main_v47, val_main_cst_6, val_main_v46, val_main_v45, val_main_v44, val_main_v43, val_main_v42, val_main_v41, val_main_v40, val_main_v39, val_main_v38, val_main_cst_5, val_main_v37, val_main_v36, val_main_cst_4, val_main_v35, val_main_v34, val_main_cst_3, val_main_v33, val_main_v31, val_main_v30, val_main_v29, val_main_v28, val_main_v27]
  rfl

theorem cat_early (X : S8x256x1024.Idx → EReal) (Y : S8x8192x1024.Idx → EReal) (n : Fin 256) (e : Fin 1024) :
    concatenate S8x8448x1024 1 [⟨S8x256x1024, X⟩, ⟨S8x8192x1024, Y⟩] concatenates_S8x256x1024_S8x8192x1024_S8x8448x1024_d1
      (ix3 b (early n) e) = X (ix3 b n e) :=
  concatenate_pair_apply_left (t := S8x8448x1024) (s₁ := S8x256x1024) (s₂ := S8x8192x1024) 1 X Y
    concatenates_S8x256x1024_S8x8192x1024_S8x8448x1024_d1 _ rfl (ix3 b n e) (by intro a; fin_cases a <;> rfl)

theorem cat_late (X : S8x256x1024.Idx → EReal) (Y : S8x8192x1024.Idx → EReal) (n : Fin 8192) (e : Fin 1024) :
    concatenate S8x8448x1024 1 [⟨S8x256x1024, X⟩, ⟨S8x8192x1024, Y⟩] concatenates_S8x256x1024_S8x8192x1024_S8x8448x1024_d1
      (ix3 b (late n) e) = Y (ix3 b n e) :=
  concatenate_pair_apply_right (t := S8x8448x1024) (s₁ := S8x256x1024) (s₂ := S8x8192x1024) 1 X Y
    concatenates_S8x256x1024_S8x8192x1024_S8x8448x1024_d1 _ rfl rfl (ix3 b n e)
    (by intro a ha; fin_cases a <;> first | rfl | exact absurd rfl ha) (by show n.val + 256 = 256 + n.val; omega)

theorem all_hidden (t : Fin 8448) (e : Fin 1024) : val_main_v54 x0 x1 x2 (ix3 b t e) = hiddenRow x0 x1 x2 b t e := by
  unfold val_main_v54
  by_cases ht : t.val < 256
  · obtain ⟨n, rfl⟩ : ∃ n : Fin 256, t = early n := ⟨⟨t.val, ht⟩, rfl⟩
    rw [cat_early, early_hidden]
  · obtain ⟨n, rfl⟩ : ∃ n : Fin 8192, t = late n := ⟨⟨t.val - 256, by omega⟩, Fin.ext (by show t.val = 256 + (t.val - 256); omega)⟩
    rw [cat_late, late_hidden]

theorem zero_word : (FloatOps.sitofp (F := Ideal) FTy.f32 0#32 : EReal) = 0 := by
  show ((BitVec.toInt 0#32 : ℝ) : EReal) = 0
  simp

theorem early_front (e : Fin 1024) : @Eq EReal (val_main_v55 x0 x1 x2 (ix3 b 0 e)) 0 := by
  unfold val_main_v55
  generalize val_main_v26 x0 x1 x2 = y
  pointwise [val_main_call0_v0, val_main_c]
  exact zero_word

theorem early_back (e : Fin 1024) : @Eq EReal (val_main_v55 x0 x1 x2 (ix3 b 257 e)) 0 := by
  unfold val_main_v55
  generalize val_main_v26 x0 x1 x2 = y
  pointwise [val_main_call0_v0, val_main_c]
  exact zero_word

theorem early_mid (n : Fin 256) (e : Fin 1024) : val_main_v55 x0 x1 x2 (ix3 b ⟨1 + n.val, by omega⟩ e) = val_main_v26 x0 x1 x2 (ix3 b n e) := by
  unfold val_main_v55
  generalize val_main_v26 x0 x1 x2 = y
  pointwise []

theorem early_gap (n : Fin 256) (e : Fin 1024) : val_main_v61 x0 x1 x2 (ix3 b n e)
    = half * (val_main_v55 x0 x1 x2 (ix3 b ⟨n.val, by omega⟩ e) + val_main_v55 x0 x1 x2 (ix3 b ⟨2 + n.val, by omega⟩ e)) - val_main_v26 x0 x1 x2 (ix3 b n e) := by
  unfold val_main_v61 val_main_v60 val_main_v58 val_main_v57 val_main_v56
  generalize val_main_v55 x0 x1 x2 = z
  generalize val_main_v26 x0 x1 x2 = y
  pointwise [val_main_v59, val_main_cst_7]
  rfl

theorem late_front (e : Fin 1024) : @Eq EReal (val_main_v62 x0 x1 x2 (ix3 b 0 e)) 0 := by
  unfold val_main_v62
  generalize val_main_v53 x0 x1 x2 = y
  pointwise [val_main_call1_v0, val_main_c_8]
  exact zero_word

theorem late_back (e : Fin 1024) : @Eq EReal (val_main_v62 x0 x1 x2 (ix3 b 8193 e)) 0 := by
  unfold val_main_v62
  generalize val_main_v53 x0 x1 x2 = y
  pointwise [val_main_call1_v0, val_main_c_8]
  exact zero_word

theorem late_mid (n : Fin 8192) (e : Fin 1024) : val_main_v62 x0 x1 x2 (ix3 b ⟨1 + n.val, by omega⟩ e) = val_main_v53 x0 x1 x2 (ix3 b n e) := by
  unfold val_main_v62
  generalize val_main_v53 x0 x1 x2 = y
  pointwise []

theorem late_gap (n : Fin 8192) (e : Fin 1024) : val_main_v68 x0 x1 x2 (ix3 b n e)
    = half * (val_main_v62 x0 x1 x2 (ix3 b ⟨n.val, by omega⟩ e) + val_main_v62 x0 x1 x2 (ix3 b ⟨2 + n.val, by omega⟩ e)) - val_main_v53 x0 x1 x2 (ix3 b n e) := by
  unfold val_main_v68 val_main_v67 val_main_v65 val_main_v64 val_main_v63
  generalize val_main_v62 x0 x1 x2 = z
  generalize val_main_v53 x0 x1 x2 = y
  pointwise [val_main_v66, val_main_cst_9]
  rfl

theorem all_gap (t : Fin 8448) (e : Fin 1024) : val_main_v69 x0 x1 x2 (ix3 b t e) = (rowOf x0 x1 x2 x17 b t).gap e := by
  unfold val_main_v69
  by_cases ht : t.val < 256
  · obtain ⟨n, rfl⟩ : ∃ n : Fin 256, t = early n := ⟨⟨t.val, ht⟩, rfl⟩
    rw [cat_early, early_gap]
    refine congrArg₂ (· - ·) (congrArg (half * ·) (congrArg₂ (· + ·) ?_ ?_)) (early_hidden x0 x1 x2 b n e)
    · show _ = if (early n).val = 0 ∨ (early n).val = 256 then 0 else hiddenRow x0 x1 x2 b ⟨(early n).val - 1, by omega⟩ e
      have hv : (early n).val = n.val := rfl
      by_cases hn : n.val = 0
      · rw [if_pos (by omega)]
        exact (congrArg (fun p => val_main_v55 x0 x1 x2 (ix3 b p e)) (Fin.ext hn)).trans (early_front x0 x1 x2 b e)
      · rw [if_neg (by have := n.isLt; omega)]
        exact (congrArg (fun p => val_main_v55 x0 x1 x2 (ix3 b p e)) (Fin.ext (by show n.val = 1 + (n.val - 1); omega))).trans
          ((early_mid x0 x1 x2 b ⟨n.val - 1, by omega⟩ e).trans (early_hidden x0 x1 x2 b _ e))
    · show _ = if (early n).val = 255 ∨ (early n).val = 8447 then 0 else hiddenRow x0 x1 x2 b ⟨((early n).val + 1) % 8448, Nat.mod_lt _ (by decide)⟩ e
      have hv : (early n).val = n.val := rfl
      by_cases hn : n.val = 255
      · rw [if_pos (by omega)]
        exact (congrArg (fun p => val_main_v55 x0 x1 x2 (ix3 b p e)) (Fin.ext (by show 2 + n.val = 257; omega))).trans (early_back x0 x1 x2 b e)
      · rw [if_neg (by have := n.isLt; omega)]
        exact (congrArg (fun p => val_main_v55 x0 x1 x2 (ix3 b p e)) (Fin.ext (by show 2 + n.val = 1 + (n.val + 1); omega))).trans
          ((early_mid x0 x1 x2 b ⟨n.val + 1, by omega⟩ e).trans ((early_hidden x0 x1 x2 b _ e).trans
            (congrArg (fun p => hiddenRow x0 x1 x2 b p e) (Fin.ext (by show n.val + 1 = (n.val + 1) % 8448; omega)))))
  · obtain ⟨n, rfl⟩ : ∃ n : Fin 8192, t = late n := ⟨⟨t.val - 256, by omega⟩, Fin.ext (by show t.val = 256 + (t.val - 256); omega)⟩
    rw [cat_late, late_gap]
    refine congrArg₂ (· - ·) (congrArg (half * ·) (congrArg₂ (· + ·) ?_ ?_)) (late_hidden x0 x1 x2 b n e)
    · show _ = if (late n).val = 0 ∨ (late n).val = 256 then 0 else hiddenRow x0 x1 x2 b ⟨(late n).val - 1, by omega⟩ e
      have hv : (late n).val = 256 + n.val := rfl
      by_cases hn : n.val = 0
      · rw [if_pos (by omega)]
        exact (congrArg (fun p => val_main_v62 x0 x1 x2 (ix3 b p e)) (Fin.ext hn)).trans (late_front x0 x1 x2 b e)
      · rw [if_neg (by omega)]
        exact (congrArg (fun p => val_main_v62 x0 x1 x2 (ix3 b p e)) (Fin.ext (by show n.val = 1 + (n.val - 1); omega))).trans
          ((late_mid x0 x1 x2 b ⟨n.val - 1, by omega⟩ e).trans ((late_hidden x0 x1 x2 b _ e).trans
            (congrArg (fun p => hiddenRow x0 x1 x2 b p e) (Fin.ext (by show 256 + (n.val - 1) = 256 + n.val - 1; omega)))))
    · show _ = if (late n).val = 255 ∨ (late n).val = 8447 then 0 else hiddenRow x0 x1 x2 b ⟨((late n).val + 1) % 8448, Nat.mod_lt _ (by decide)⟩ e
      have hv : (late n).val = 256 + n.val := rfl
      by_cases hn : n.val = 8191
      · rw [if_pos (by omega)]
        exact (congrArg (fun p => val_main_v62 x0 x1 x2 (ix3 b p e)) (Fin.ext (by show 2 + n.val = 8193; omega))).trans (late_back x0 x1 x2 b e)
      · rw [if_neg (by have := n.isLt; omega)]
        exact (congrArg (fun p => val_main_v62 x0 x1 x2 (ix3 b p e)) (Fin.ext (by show 2 + n.val = 1 + (n.val + 1); omega))).trans
          ((late_mid x0 x1 x2 b ⟨n.val + 1, by omega⟩ e).trans ((late_hidden x0 x1 x2 b _ e).trans
            (congrArg (fun p => hiddenRow x0 x1 x2 b p e) (Fin.ext (by show 256 + (n.val + 1) = (256 + n.val + 1) % 8448; omega)))))

variable (t : Fin 8448)

theorem mix0 (e : Fin 1024) : val_main_v75 x0 x1 x2 x3 (ix3 b t e) = (rowOf x0 x1 x2 x17 b t).mix ((parOf x3 x4 x5 x6 x7 x8 x9 x10 x11 x12 x13 x14 x15 x16).mu 0) e := by
  have h : ∀ y z : S8x8448x1024.Idx → EReal, val_main_v54 x0 x1 x2 = y → val_main_v69 x0 x1 x2 = z →
      val_main_v75 x0 x1 x2 x3 (ix3 b t e) = y (ix3 b t e) + z (ix3 b t e) * x3 (ix2 0 e) := by
    rintro y z hy hz
    unfold val_main_v75 val_main_v74
    rw [hy, hz]
    pointwise [val_main_v73, val_main_v72, val_main_v71, val_main_v70]
  rw [h _ _ rfl rfl, all_hidden, all_gap x0 x1 x2 x17]
  rfl

theorem mix1 (e : Fin 1024) : val_main_v81 x0 x1 x2 x3 (ix3 b t e) = (rowOf x0 x1 x2 x17 b t).mix ((parOf x3 x4 x5 x6 x7 x8 x9 x10 x11 x12 x13 x14 x15 x16).mu 1) e := by
  have h : ∀ y z : S8x8448x1024.Idx → EReal, val_main_v54 x0 x1 x2 = y → val_main_v69 x0 x1 x2 = z →
      val_main_v81 x0 x1 x2 x3 (ix3 b t e) = y (ix3 b t e) + z (ix3 b t e) * x3 (ix2 1 e) := by
    rintro y z hy hz
    unfold val_main_v81 val_main_v80
    rw [hy, hz]
    pointwise [val_main_v79, val_main_v78, val_main_v77, val_main_v76]
  rw [h _ _ rfl rfl, all_hidden, all_gap x0 x1 x2 x17]
  rfl

theorem mix2 (e : Fin 1024) : val_main_v87 x0 x1 x2 x3 (ix3 b t e) = (rowOf x0 x1 x2 x17 b t).mix ((parOf x3 x4 x5 x6 x7 x8 x9 x10 x11 x12 x13 x14 x15 x16).mu 2) e := by
  have h : ∀ y z : S8x8448x1024.Idx → EReal, val_main_v54 x0 x1 x2 = y → val_main_v69 x0 x1 x2 = z →
      val_main_v87 x0 x1 x2 x3 (ix3 b t e) = y (ix3 b t e) + z (ix3 b t e) * x3 (ix2 2 e) := by
    rintro y z hy hz
    unfold val_main_v87 val_main_v86
    rw [hy, hz]
    pointwise [val_main_v85, val_main_v84, val_main_v83, val_main_v82]
  rw [h _ _ rfl rfl, all_hidden, all_gap x0 x1 x2 x17]
  rfl

theorem mix3 (e : Fin 1024) : val_main_v93 x0 x1 x2 x3 (ix3 b t e) = (rowOf x0 x1 x2 x17 b t).mix ((parOf x3 x4 x5 x6 x7 x8 x9 x10 x11 x12 x13 x14 x15 x16).mu 3) e := by
  have h : ∀ y z : S8x8448x1024.Idx → EReal, val_main_v54 x0 x1 x2 = y → val_main_v69 x0 x1 x2 = z →
      val_main_v93 x0 x1 x2 x3 (ix3 b t e) = y (ix3 b t e) + z (ix3 b t e) * x3 (ix2 3 e) := by
    rintro y z hy hz
    unfold val_main_v93 val_main_v92
    rw [hy, hz]
    pointwise [val_main_v91, val_main_v90, val_main_v89, val_main_v88]
  rw [h _ _ rfl rfl, all_hidden, all_gap x0 x1 x2 x17]
  rfl

theorem mix4 (e : Fin 1024) : val_main_v99 x0 x1 x2 x3 (ix3 b t e) = (rowOf x0 x1 x2 x17 b t).mix ((parOf x3 x4 x5 x6 x7 x8 x9 x10 x11 x12 x13 x14 x15 x16).mu 4) e := by
  have h : ∀ y z : S8x8448x1024.Idx → EReal, val_main_v54 x0 x1 x2 = y → val_main_v69 x0 x1 x2 = z →
      val_main_v99 x0 x1 x2 x3 (ix3 b t e) = y (ix3 b t e) + z (ix3 b t e) * x3 (ix2 4 e) := by
    rintro y z hy hz
    unfold val_main_v99 val_main_v98
    rw [hy, hz]
    pointwise [val_main_v97, val_main_v96, val_main_v95, val_main_v94]
  rw [h _ _ rfl rfl, all_hidden, all_gap x0 x1 x2 x17]
  rfl

theorem mix5 (e : Fin 1024) : val_main_v105 x0 x1 x2 x3 (ix3 b t e) = (rowOf x0 x1 x2 x17 b t).mix ((parOf x3 x4 x5 x6 x7 x8 x9 x10 x11 x12 x13 x14 x15 x16).mu 5) e := by
  have h : ∀ y z : S8x8448x1024.Idx → EReal, val_main_v54 x0 x1 x2 = y → val_main_v69 x0 x1 x2 = z →
      val_main_v105 x0 x1 x2 x3 (ix3 b t e) = y (ix3 b t e) + z (ix3 b t e) * x3 (ix2 5 e) := by
    rintro y z hy hz
    unfold val_main_v105 val_main_v104
    rw [hy, hz]
    pointwise [val_main_v103, val_main_v102, val_main_v101, val_main_v100]
  rw [h _ _ rfl rfl, all_hidden, all_gap x0 x1 x2 x17]
  rfl

theorem recep_at (d : Fin 1024) : val_main_v108 x0 x1 x2 x3 x4 (ix3 b t d) = recep (parOf x3 x4 x5 x6 x7 x8 x9 x10 x11 x12 x13 x14 x15 x16) (rowOf x0 x1 x2 x17 b t) d := by
  have h : ∀ y : S8x8448x1024.Idx → EReal, val_main_v75 x0 x1 x2 x3 = y → val_main_v108 x0 x1 x2 x3 x4 (ix3 b t d) = ∑ e, y (ix3 b t e) * x4 (ix3 0 e d) := by
    rintro y hy
    unfold val_main_v108
    rw [hy]
    pointwise [val_main_v107, val_main_v106]
  rw [h _ rfl]
  refine Finset.sum_congr rfl fun e _ => ?_
  rw [mix0 x0 x1 x2 x3 x4 x5 x6 x7 x8 x9 x10 x11 x12 x13 x14 x15 x16 x17 b t e]
  rfl

theorem key_at (d : Fin 1024) : val_main_v111 x0 x1 x2 x3 x4 (ix3 b t d) = key (parOf x3 x4 x5 x6 x7 x8 x9 x10 x11 x12 x13 x14 x15 x16) (rowOf x0 x1 x2 x17 b t) d := by
  have h : ∀ y : S8x8448x1024.Idx → EReal, val_main_v87 x0 x1 x2 x3 = y → val_main_v111 x0 x1 x2 x3 x4 (ix3 b t d) = ∑ e, y (ix3 b t e) * x4 (ix3 1 e d) := by
    rintro y hy
    unfold val_main_v111
    rw [hy]
    pointwise [val_main_v110, val_main_v109]
  rw [h _ rfl]
  refine Finset.sum_congr rfl fun e _ => ?_
  rw [mix2 x0 x1 x2 x3 x4 x5 x6 x7 x8 x9 x10 x11 x12 x13 x14 x15 x16 x17 b t e]
  rfl

theorem raw_at (d : Fin 1024) : val_main_v114 x0 x1 x2 x3 x4 (ix3 b t d) = raw (parOf x3 x4 x5 x6 x7 x8 x9 x10 x11 x12 x13 x14 x15 x16) (rowOf x0 x1 x2 x17 b t) d := by
  have h : ∀ y : S8x8448x1024.Idx → EReal, val_main_v93 x0 x1 x2 x3 = y → val_main_v114 x0 x1 x2 x3 x4 (ix3 b t d) = ∑ e, y (ix3 b t e) * x4 (ix3 2 e d) := by
    rintro y hy
    unfold val_main_v114
    rw [hy]
    pointwise [val_main_v113, val_main_v112]
  rw [h _ rfl]
  refine Finset.sum_congr rfl fun e _ => ?_
  rw [mix3 x0 x1 x2 x3 x4 x5 x6 x7 x8 x9 x10 x11 x12 x13 x14 x15 x16 x17 b t e]
  rfl

theorem opened_at (d : Fin 1024) : val_main_v117 x0 x1 x2 x3 x4 (ix3 b t d) = ∑ e, (rowOf x0 x1 x2 x17 b t).mix ((parOf x3 x4 x5 x6 x7 x8 x9 x10 x11 x12 x13 x14 x15 x16).mu 5) e * (parOf x3 x4 x5 x6 x7 x8 x9 x10 x11 x12 x13 x14 x15 x16).w 3 e d := by
  have h : ∀ y : S8x8448x1024.Idx → EReal, val_main_v105 x0 x1 x2 x3 = y → val_main_v117 x0 x1 x2 x3 x4 (ix3 b t d) = ∑ e, y (ix3 b t e) * x4 (ix3 3 e d) := by
    rintro y hy
    unfold val_main_v117
    rw [hy]
    pointwise [val_main_v116, val_main_v115]
  rw [h _ rfl]
  refine Finset.sum_congr rfl fun e _ => ?_
  rw [mix5 x0 x1 x2 x3 x4 x5 x6 x7 x8 x9 x10 x11 x12 x13 x14 x15 x16 x17 b t e]
  rfl

theorem gate_at (d : Fin 1024) : val_main_v118 x0 x1 x2 x3 x4 (ix3 b t d) = gate (parOf x3 x4 x5 x6 x7 x8 x9 x10 x11 x12 x13 x14 x15 x16) (rowOf x0 x1 x2 x17 b t) d := by
  have h : ∀ y : S8x8448x1024.Idx → EReal, val_main_v117 x0 x1 x2 x3 x4 = y → val_main_v118 x0 x1 x2 x3 x4 (ix3 b t d) = silu (y (ix3 b t d)) := by
    rintro y hy
    unfold val_main_v118 val_main_call2_v5 val_main_call2_v3 val_main_call2_v1 val_main_call2_v0
    rw [hy]
    pointwise [val_main_call2_cst, val_main_call2_v2, val_main_call2_cst_0, val_main_call2_v4]
    rfl
  rw [h _ rfl, opened_at x0 x1 x2 x3 x4 x5 x6 x7 x8 x9 x10 x11 x12 x13 x14 x15 x16 x17 b t d]
  rfl

theorem trust_low (j : Fin 32) : val_main_v120 x0 x1 x2 x3 x15 (ix3 b t j) = ∑ e, (rowOf x0 x1 x2 x17 b t).mix ((parOf x3 x4 x5 x6 x7 x8 x9 x10 x11 x12 x13 x14 x15 x16).mu 3) e * (parOf x3 x4 x5 x6 x7 x8 x9 x10 x11 x12 x13 x14 x15 x16).v1 e j := by
  have h : ∀ y : S8x8448x1024.Idx → EReal, val_main_v93 x0 x1 x2 x3 = y → val_main_v120 x0 x1 x2 x3 x15 (ix3 b t j) = ∑ e, y (ix3 b t e) * x15 (ix2 e j) := by
    rintro y hy
    unfold val_main_v120
    rw [hy]
    pointwise []
  rw [h _ rfl]
  refine Finset.sum_congr rfl fun e _ => ?_
  rw [mix3 x0 x1 x2 x3 x4 x5 x6 x7 x8 x9 x10 x11 x12 x13 x14 x15 x16 x17 b t e]
  rfl

theorem trust_at (d : Fin 1024) : val_main_v130 x0 x1 x2 x3 x14 x15 x16 (ix3 b t d) = trust (parOf x3 x4 x5 x6 x7 x8 x9 x10 x11 x12 x13 x14 x15 x16) (rowOf x0 x1 x2 x17 b t) d := by
  have h : ∀ y : S8x8448x32.Idx → EReal, val_main_v120 x0 x1 x2 x3 x15 = y → val_main_v130 x0 x1 x2 x3 x14 x15 x16 (ix3 b t d) = logi (x14 (ix1 d) + ∑ j, y (ix3 b t j) * x16 (ix2 j d)) := by
    rintro y hy
    unfold val_main_v130 val_main_v128 val_main_v126 val_main_v125 val_main_v124 val_main_v121
    rw [hy]
    pointwise [val_main_cst_10, val_main_v127, val_main_cst_11, val_main_v129, val_main_v123, val_main_v122]
    rfl
  rw [h _ rfl]
  refine congrArg (fun z => logi (_ + z)) (Finset.sum_congr rfl fun j _ => ?_)
  rw [trust_low x0 x1 x2 x3 x4 x5 x6 x7 x8 x9 x10 x11 x12 x13 x14 x15 x16 x17 b t j]
  rfl

theorem value_at (d : Fin 1024) : val_main_v132 x0 x1 x2 x3 x4 x14 x15 x16 x17 (ix3 b t d) = value (parOf x3 x4 x5 x6 x7 x8 x9 x10 x11 x12 x13 x14 x15 x16) (rowOf x0 x1 x2 x17 b t) d := by
  have h : ∀ y z : S8x8448x1024.Idx → EReal, val_main_v114 x0 x1 x2 x3 x4 = y → val_main_v130 x0 x1 x2 x3 x14 x15 x16 = z →
      val_main_v132 x0 x1 x2 x3 x4 x14 x15 x16 x17 (ix3 b t d) = y (ix3 b t d) + (x17 (ix3 b t d) - y (ix3 b t d)) * z (ix3 b t d) := by
    rintro y z hy hz
    unfold val_main_v132 val_main_v131 val_main_v119
    rw [hy, hz]
    pointwise []
  rw [h _ _ rfl rfl, raw_at x0 x1 x2 x3 x4 x5 x6 x7 x8 x9 x10 x11 x12 x13 x14 x15 x16 x17 b t d, trust_at x0 x1 x2 x3 x4 x5 x6 x7 x8 x9 x10 x11 x12 x13 x14 x15 x16 x17 b t d]
  rfl

theorem level_low (s : Fin 2) (j : Fin 64) : val_main_v135 x0 x1 x2 x3 x6 (ix4 s b t j) = Ideal.tanh (∑ e, (rowOf x0 x1 x2 x17 b t).mix ((parOf x3 x4 x5 x6 x7 x8 x9 x10 x11 x12 x13 x14 x15 x16).mu 1) e * (parOf x3 x4 x5 x6 x7 x8 x9 x10 x11 x12 x13 x14 x15 x16).w1 s e j) := by
  have h : ∀ y : S8x8448x1024.Idx → EReal, val_main_v81 x0 x1 x2 x3 = y → val_main_v135 x0 x1 x2 x3 x6 (ix4 s b t j) = Ideal.tanh (∑ e, x6 (ix3 s e j) * y (ix3 b t e)) := by
    rintro y hy
    unfold val_main_v135 val_main_v134 val_main_v133
    rw [hy]
    pointwise []
  rw [h _ rfl]
  refine congrArg Ideal.tanh (Finset.sum_congr rfl fun e _ => ?_)
  rw [mix1 x0 x1 x2 x3 x4 x5 x6 x7 x8 x9 x10 x11 x12 x13 x14 x15 x16 x17 b t e]
  exact mul_comm _ _

theorem level_at (s : Fin 2) (d : Fin 1024) : val_main_v139 x0 x1 x2 x3 x5 x6 x7 (ix4 s b t d) = level (parOf x3 x4 x5 x6 x7 x8 x9 x10 x11 x12 x13 x14 x15 x16) (rowOf x0 x1 x2 x17 b t) s d := by
  have h : ∀ y : S2x8x8448x64.Idx → EReal, val_main_v135 x0 x1 x2 x3 x6 = y → val_main_v139 x0 x1 x2 x3 x5 x6 x7 (ix4 s b t d) = x5 (ix2 s d) + ∑ j, y (ix4 s b t j) * x7 (ix3 s j d) := by
    rintro y hy
    unfold val_main_v139 val_main_v136
    rw [hy]
    pointwise [val_main_v138, val_main_v137]
  rw [h _ rfl]
  refine congrArg (_ + ·) (Finset.sum_congr rfl fun j _ => ?_)
  rw [level_low x0 x1 x2 x3 x4 x5 x6 x7 x8 x9 x10 x11 x12 x13 x14 x15 x16 x17 b t s j]
  rfl

theorem decay_at (s : Fin 2) (d : Fin 1024) : val_main_v146 x0 x1 x2 x3 x5 x6 x7 (ix4 s b t d) = decay (parOf x3 x4 x5 x6 x7 x8 x9 x10 x11 x12 x13 x14 x15 x16) (rowOf x0 x1 x2 x17 b t) s d := by
  have h : ∀ y : S2x8x8448x1024.Idx → EReal, val_main_v139 x0 x1 x2 x3 x5 x6 x7 = y →
      val_main_v146 x0 x1 x2 x3 x5 x6 x7 (ix4 s b t d) = -Ideal.exp (-softplus (-y (ix4 s b t d)) - half) := by
    rintro y hy
    unfold val_main_v146 val_main_v145 val_main_v144 val_main_v142 val_main_v141 val_main_call3_v11 val_main_call3_v10 val_main_call3_v9 val_main_call3_v8 val_main_call3_v7 val_main_call3_v6 val_main_call3_v4 val_main_call3_v3 val_main_call3_v1 val_main_v140
    rw [hy]
    pointwise [val_main_cst_12, val_main_v143, val_main_call3_cst, val_main_call3_v0, val_main_call3_v2, val_main_call3_v5]
    rw [if_neg (fun h => h rfl)]
    rfl
  rw [h _ rfl, level_at x0 x1 x2 x3 x4 x5 x6 x7 x8 x9 x10 x11 x12 x13 x14 x15 x16 x17 b t s d]
  rfl

theorem rate_low (s : Fin 2) (j : Fin 64) : val_main_v148 x0 x1 x2 x3 x9 (ix4 s b t j) = ∑ e, (rowOf x0 x1 x2 x17 b t).mix ((parOf x3 x4 x5 x6 x7 x8 x9 x10 x11 x12 x13 x14 x15 x16).mu 4) e * (parOf x3 x4 x5 x6 x7 x8 x9 x10 x11 x12 x13 x14 x15 x16).a1 s e j := by
  have h : ∀ y : S8x8448x1024.Idx → EReal, val_main_v99 x0 x1 x2 x3 = y → val_main_v148 x0 x1 x2 x3 x9 (ix4 s b t j) = ∑ e, x9 (ix3 s e j) * y (ix3 b t e) := by
    rintro y hy
    unfold val_main_v148 val_main_v147
    rw [hy]
    pointwise []
  rw [h _ rfl]
  refine Finset.sum_congr rfl fun e _ => ?_
  rw [mix4 x0 x1 x2 x3 x4 x5 x6 x7 x8 x9 x10 x11 x12 x13 x14 x15 x16 x17 b t e]
  exact mul_comm _ _

theorem rate_at (s : Fin 2) (d : Fin 1024) : val_main_v158 x0 x1 x2 x3 x8 x9 x10 (ix4 s b t d) = rate (parOf x3 x4 x5 x6 x7 x8 x9 x10 x11 x12 x13 x14 x15 x16) (rowOf x0 x1 x2 x17 b t) s d := by
  have h : ∀ y : S2x8x8448x64.Idx → EReal, val_main_v148 x0 x1 x2 x3 x9 = y →
      val_main_v158 x0 x1 x2 x3 x8 x9 x10 (ix4 s b t d) = logi (x8 (ix2 s d) + ∑ j, y (ix4 s b t j) * x10 (ix3 s j d)) := by
    rintro y hy
    unfold val_main_v158 val_main_v156 val_main_v154 val_main_v153 val_main_v152 val_main_v149
    rw [hy]
    pointwise [val_main_cst_13, val_main_v155, val_main_cst_14, val_main_v157, val_main_v151, val_main_v150]
    rfl
  rw [h _ rfl]
  refine congrArg (fun z => logi (_ + z)) (Finset.sum_congr rfl fun j _ => ?_)
  rw [rate_low x0 x1 x2 x3 x4 x5 x6 x7 x8 x9 x10 x11 x12 x13 x14 x15 x16 x17 b t s j]
  rfl

theorem long_at (d : Fin 1024) : val_main_v161 x0 x1 x2 x3 x4 x11 (ix3 b t d) = long (parOf x3 x4 x5 x6 x7 x8 x9 x10 x11 x12 x13 x14 x15 x16) (rowOf x0 x1 x2 x17 b t) d := by
  have h : ∀ y : S8x8448x1024.Idx → EReal, val_main_v111 x0 x1 x2 x3 x4 = y → val_main_v161 x0 x1 x2 x3 x4 x11 (ix3 b t d) = y (ix3 b t d) * x11 (ix1 d) := by
    rintro y hy
    unfold val_main_v161
    rw [hy]
    pointwise [val_main_v160, val_main_v159]
  rw [h _ rfl, key_at x0 x1 x2 x3 x4 x5 x6 x7 x8 x9 x10 x11 x12 x13 x14 x15 x16 x17 b t d]
  rfl

theorem dir_at (d : Fin 1024) : val_main_v195 x0 x1 x2 x3 x4 x11 (ix3 b t d) = dir (parOf x3 x4 x5 x6 x7 x8 x9 x10 x11 x12 x13 x14 x15 x16) (rowOf x0 x1 x2 x17 b t) d := by
  have h : ∀ y : S8x8448x1024.Idx → EReal, val_main_v161 x0 x1 x2 x3 x4 x11 = y →
      val_main_v195 x0 x1 x2 x3 x4 x11 (ix3 b t d) = Ideal.div (y (ix3 b t d)) (max (Ideal.sqrt (headSum (fun e => y (ix3 b t e) * y (ix3 b t e)) d)) tiny) := by
    rintro y hy
    unfold val_main_v195 val_main_v170 val_main_v169 val_main_v168 val_main_v166 val_main_v165 val_main_v164 val_main_v163 val_main_v162
    rw [hy]
    pointwise [val_main_cst_15, val_main_cst_16, val_main_v167]
    rfl
  rw [h _ rfl, long_at x0 x1 x2 x3 x4 x5 x6 x7 x8 x9 x10 x11 x12 x13 x14 x15 x16 x17 b t d]
  unfold dir
  exact congrArg (fun f => Ideal.div _ (max (Ideal.sqrt (headSum f d)) tiny)) (funext fun e => by rw [long_at x0 x1 x2 x3 x4 x5 x6 x7 x8 x9 x10 x11 x12 x13 x14 x15 x16 x17 b t e])

theorem kdir_at (s : Fin 2) (d : Fin 1024) : val_main_v180 x0 x1 x2 x3 x4 x8 x9 x10 x12 (ix4 s b t d) = kdir (parOf x3 x4 x5 x6 x7 x8 x9 x10 x11 x12 x13 x14 x15 x16) (rowOf x0 x1 x2 x17 b t) s d := by
  have h : ∀ (y : S8x8448x1024.Idx → EReal) (z : S2x8x8448x1024.Idx → EReal), val_main_v111 x0 x1 x2 x3 x4 = y → val_main_v158 x0 x1 x2 x3 x8 x9 x10 = z →
      val_main_v180 x0 x1 x2 x3 x4 x8 x9 x10 x12 (ix4 s b t d) = y (ix3 b t d) * (1 + (z (ix4 s b t d) - 1) * x12 (ix1 d)) := by
    rintro y z hy hz
    unfold val_main_v180 val_main_v179 val_main_v178 val_main_v176 val_main_v173 val_main_v171
    rw [hy, hz]
    pointwise [val_main_cst_17, val_main_v172, val_main_cst_18, val_main_v177, val_main_v175, val_main_v174]
  rw [h _ _ rfl rfl, key_at x0 x1 x2 x3 x4 x5 x6 x7 x8 x9 x10 x11 x12 x13 x14 x15 x16 x17 b t d, rate_at x0 x1 x2 x3 x4 x5 x6 x7 x8 x9 x10 x11 x12 x13 x14 x15 x16 x17 b t s d]
  rfl

theorem step_at (s : Fin 2) (d : Fin 1024) : val_main_v199 x0 x1 x2 x3 x4 x8 x9 x10 x11 (ix4 s b t d) = step (parOf x3 x4 x5 x6 x7 x8 x9 x10 x11 x12 x13 x14 x15 x16) (rowOf x0 x1 x2 x17 b t) s d := by
  have h : ∀ (y : S8x8448x1024.Idx → EReal) (z : S2x8x8448x1024.Idx → EReal), val_main_v195 x0 x1 x2 x3 x4 x11 = y → val_main_v158 x0 x1 x2 x3 x8 x9 x10 = z →
      val_main_v199 x0 x1 x2 x3 x4 x8 x9 x10 x11 (ix4 s b t d) = y (ix3 b t d) * z (ix4 s b t d) := by
    rintro y z hy hz
    unfold val_main_v199 val_main_v198 val_main_v197
    rw [hy, hz]
    pointwise []
  rw [h _ _ rfl rfl, dir_at x0 x1 x2 x3 x4 x5 x6 x7 x8 x9 x10 x11 x12 x13 x14 x15 x16 x17 b t d, rate_at x0 x1 x2 x3 x4 x5 x6 x7 x8 x9 x10 x11 x12 x13 x14 x15 x16 x17 b t s d]
  rfl

theorem weighed_at (s : Fin 2) (g : Fin 16) (j : Fin 64) : val_main_v188 x0 x1 x2 x3 x4 x8 x9 x10 x12 x13 (ix5 s b t g j)
    = recep (parOf x3 x4 x5 x6 x7 x8 x9 x10 x11 x12 x13 x14 x15 x16) (rowOf x0 x1 x2 x17 b t) ⟨g.val * 64 + j.val, by omega⟩ * kdir (parOf x3 x4 x5 x6 x7 x8 x9 x10 x11 x12 x13 x14 x15 x16) (rowOf x0 x1 x2 x17 b t) s ⟨g.val * 64 + j.val, by omega⟩ * x13 (ix2 g j) := by
  have h : ∀ (y : S8x8448x1024.Idx → EReal) (z : S2x8x8448x1024.Idx → EReal), val_main_v108 x0 x1 x2 x3 x4 = y → val_main_v180 x0 x1 x2 x3 x4 x8 x9 x10 x12 = z →
      val_main_v188 x0 x1 x2 x3 x4 x8 x9 x10 x12 x13 (ix5 s b t g j) = y (ix3 b t ⟨g.val * 64 + j.val, by omega⟩) * z (ix4 s b t ⟨g.val * 64 + j.val, by omega⟩) * x13 (ix2 g j) := by
    rintro y z hy hz
    unfold val_main_v188 val_main_v185 val_main_v184 val_main_v183 val_main_v182 val_main_v181
    rw [hy, hz]
    pointwise [val_main_v187, val_main_v186]
  rw [h _ _ rfl rfl, recep_at x0 x1 x2 x3 x4 x5 x6 x7 x8 x9 x10 x11 x12 x13 x14 x15 x16 x17 b t _, kdir_at x0 x1 x2 x3 x4 x5 x6 x7 x8 x9 x10 x11 x12 x13 x14 x15 x16 x17 b t s _]

theorem sums_at (g : Fin 16) : val_main_v191 x0 x1 x2 x3 x4 x8 x9 x10 x12 x13 (ix4 b t g 0) = ∑ s : Fin 2, ∑ j, val_main_v188 x0 x1 x2 x3 x4 x8 x9 x10 x12 x13 (ix5 s b t g j) := by
  unfold val_main_v191 val_main_v190 val_main_v189
  generalize val_main_v188 x0 x1 x2 x3 x4 x8 x9 x10 x12 x13 = y
  pointwise [val_main_cst_19, val_main_cst_20]

theorem spread (a : S16x64.Idx → EReal) (d : Fin 1024) (j : Fin 64) : a (ix2 ⟨d.val / 64, by omega⟩ j)
    = a (ix2 ⟨(inHead d j).val / 64, by omega⟩ ⟨(inHead d j).val % 64, by omega⟩) := by
  have hv : (inHead d j).val = d.val / 64 * 64 + j.val := rfl
  have h1 : (⟨d.val / 64, by omega⟩ : Fin 16) = ⟨(inHead d j).val / 64, by omega⟩ := Fin.ext (by show d.val / 64 = (inHead d j).val / 64; omega)
  have h2 : j = ⟨(inHead d j).val % 64, by omega⟩ := Fin.ext (by show j.val = (inHead d j).val % 64; omega)
  exact congrArg₂ (fun p q => a (ix2 p q)) h1 h2

theorem bonus_at (d : Fin 1024) : val_main_v196 x0 x1 x2 x3 x4 x8 x9 x10 x12 x13 x14 x15 x16 x17 (ix3 b t d) = bonus (parOf x3 x4 x5 x6 x7 x8 x9 x10 x11 x12 x13 x14 x15 x16) (rowOf x0 x1 x2 x17 b t) d := by
  have h : ∀ (y : S8x8448x16x1.Idx → EReal) (z : S8x8448x1024.Idx → EReal), val_main_v191 x0 x1 x2 x3 x4 x8 x9 x10 x12 x13 = y → val_main_v132 x0 x1 x2 x3 x4 x14 x15 x16 x17 = z →
      val_main_v196 x0 x1 x2 x3 x4 x8 x9 x10 x12 x13 x14 x15 x16 x17 (ix3 b t d) = y (ix4 b t ⟨d.val / 64, by omega⟩ 0) * z (ix3 b t d) := by
    rintro y z hy hz
    unfold val_main_v196 val_main_v194 val_main_v193 val_main_v192
    rw [hy, hz]
    pointwise []
  rw [h _ _ rfl rfl, value_at x0 x1 x2 x3 x4 x5 x6 x7 x8 x9 x10 x11 x12 x13 x14 x15 x16 x17 b t d, sums_at]
  unfold bonus
  refine congrArg (· * _) ?_
  rw [Fin.sum_univ_two]
  refine congrArg₂ (· + ·) (Finset.sum_congr rfl fun j _ => ?_) (Finset.sum_congr rfl fun j _ => ?_)
  · rw [weighed_at x0 x1 x2 x3 x4 x5 x6 x7 x8 x9 x10 x11 x12 x13 x14 x15 x16 x17 b t 0 _ j]
    exact congrArg (_ * ·) (spread x13 d j)
  · rw [weighed_at x0 x1 x2 x3 x4 x5 x6 x7 x8 x9 x10 x11 x12 x13 x14 x15 x16 x17 b t 1 _ j]
    exact congrArg (_ * ·) (spread x13 d j)

theorem kdir_0 (d : Fin 1024) : val_main_v201 x0 x1 x2 x3 x4 x8 x9 x10 x12 (ix3 b t d) = kdir (parOf x3 x4 x5 x6 x7 x8 x9 x10 x11 x12 x13 x14 x15 x16) (rowOf x0 x1 x2 x17 b t) 0 d := by
  refine Eq.trans ?_ (kdir_at x0 x1 x2 x3 x4 x5 x6 x7 x8 x9 x10 x11 x12 x13 x14 x15 x16 x17 b t 0 d)
  unfold val_main_v201 val_main_v200
  generalize val_main_v180 x0 x1 x2 x3 x4 x8 x9 x10 x12 = y
  pointwise []

theorem kdir_1 (d : Fin 1024) : val_main_v203 x0 x1 x2 x3 x4 x8 x9 x10 x12 (ix3 b t d) = kdir (parOf x3 x4 x5 x6 x7 x8 x9 x10 x11 x12 x13 x14 x15 x16) (rowOf x0 x1 x2 x17 b t) 1 d := by
  refine Eq.trans ?_ (kdir_at x0 x1 x2 x3 x4 x5 x6 x7 x8 x9 x10 x11 x12 x13 x14 x15 x16 x17 b t 1 d)
  unfold val_main_v203 val_main_v202
  generalize val_main_v180 x0 x1 x2 x3 x4 x8 x9 x10 x12 = y
  pointwise []

theorem step_0 (d : Fin 1024) : val_main_v205 x0 x1 x2 x3 x4 x8 x9 x10 x11 (ix3 b t d) = step (parOf x3 x4 x5 x6 x7 x8 x9 x10 x11 x12 x13 x14 x15 x16) (rowOf x0 x1 x2 x17 b t) 0 d := by
  refine Eq.trans ?_ (step_at x0 x1 x2 x3 x4 x5 x6 x7 x8 x9 x10 x11 x12 x13 x14 x15 x16 x17 b t 0 d)
  unfold val_main_v205 val_main_v204
  generalize val_main_v199 x0 x1 x2 x3 x4 x8 x9 x10 x11 = y
  pointwise []

theorem step_1 (d : Fin 1024) : val_main_v207 x0 x1 x2 x3 x4 x8 x9 x10 x11 (ix3 b t d) = step (parOf x3 x4 x5 x6 x7 x8 x9 x10 x11 x12 x13 x14 x15 x16) (rowOf x0 x1 x2 x17 b t) 1 d := by
  refine Eq.trans ?_ (step_at x0 x1 x2 x3 x4 x5 x6 x7 x8 x9 x10 x11 x12 x13 x14 x15 x16 x17 b t 1 d)
  unfold val_main_v207 val_main_v206
  generalize val_main_v199 x0 x1 x2 x3 x4 x8 x9 x10 x11 = y
  pointwise []

theorem decay_0 (d : Fin 1024) : val_main_v209 x0 x1 x2 x3 x5 x6 x7 (ix3 b t d) = decay (parOf x3 x4 x5 x6 x7 x8 x9 x10 x11 x12 x13 x14 x15 x16) (rowOf x0 x1 x2 x17 b t) 0 d := by
  refine Eq.trans ?_ (decay_at x0 x1 x2 x3 x4 x5 x6 x7 x8 x9 x10 x11 x12 x13 x14 x15 x16 x17 b t 0 d)
  unfold val_main_v209 val_main_v208
  generalize val_main_v146 x0 x1 x2 x3 x5 x6 x7 = y
  pointwise []

theorem decay_1 (d : Fin 1024) : val_main_v211 x0 x1 x2 x3 x5 x6 x7 (ix3 b t d) = decay (parOf x3 x4 x5 x6 x7 x8 x9 x10 x11 x12 x13 x14 x15 x16) (rowOf x0 x1 x2 x17 b t) 1 d := by
  refine Eq.trans ?_ (decay_at x0 x1 x2 x3 x4 x5 x6 x7 x8 x9 x10 x11 x12 x13 x14 x15 x16 x17 b t 1 d)
  unfold val_main_v211 val_main_v210
  generalize val_main_v146 x0 x1 x2 x3 x5 x6 x7 = y
  pointwise []

end Stages

end Cert.Reference4Ideal.Mix

end
-- ==== Proof.MixSame.lean ====
module

public import proofs.«01_k».proof.Defs
public import proofs.«01_k».proof.Proof.Finite
public import proofs.«01_k».proof.Proof.ProjSame
public import proofs.«01_k».proof.Proof.MixValue
public import proofs.«01_k».proof.Proof.MixRef
public import proofs.«01_k».proof.Proof.Gen.Reference4Ideal.Run
public import Idealize.ShloMosaic.Lib.Pointwise
public import Idealize.ShloMosaic.Adequacy
public import Idealize.ShloMosaic.Init

@[expose] public section

set_option maxRecDepth 16384

noncomputable section

namespace Cert.Pre_finite_mix

open Idealize.ShloMosaic Idealize.ShloMosaic.Tactic

/-- The shape facts of the precondition. -/
theorem facts : Cert.Pre_finite_mix.Facts := ⟨by decide, by decide, by decide, by decide, by decide, by decide, by decide, by decide, by decide⟩

attribute [local instance] facts

/-- A number whose absolute value compares less than infinity is a real number. -/
theorem real_of_lt (x w : EReal) (hw : w = ⊤) (h : Ideal.cmp .olt (max x (-x)) w = 1#1) : Cert.Mix.Real' x := by
  obtain ⟨hb, ht⟩ := Cert.Pre_finite_scores.finite_of_lt x w hw h
  exact ⟨x.toReal, (EReal.coe_toReal ht hb).symm⟩

section

variable (x0 : FVec Ideal S8x8448x1024 .f32) (x1 : FVec Ideal S8x2x1x3072 .f32) (x2 : FVec Ideal S1024 .f32) (x3 : FVec Ideal S6x1024 .f32) (x4 : FVec Ideal S4x1024x1024 .f32) (x5 : FVec Ideal S2x1024 .f32) (x6 : FVec Ideal S2x1024x64 .f32) (x7 : FVec Ideal S2x64x1024 .f32) (x8 : FVec Ideal S2x1024 .f32) (x9 : FVec Ideal S2x1024x64 .f32) (x10 : FVec Ideal S2x64x1024 .f32) (x11 : FVec Ideal S1024 .f32) (x12 : FVec Ideal S1024 .f32) (x13 : FVec Ideal S16x64 .f32) (x14 : FVec Ideal S1024 .f32) (x15 : FVec Ideal S1024x32 .f32) (x16 : FVec Ideal S32x1024 .f32) (x17 : FVec Ideal S8x8448x1024 .f32)

theorem real_mod (h : (fn x0 x1 x2 x3 x4 x5 x6 x7 x8 x9 x10 x11 x12 x13 x14 x15 x16 x17).1 = fun _ => 1#1) (b : Fin 8) (p : Fin 2) (e : Fin 2048) : Cert.Mix.Real' (x1 (ix4 b p 0 ⟨e.val, by omega⟩)) := by
  have hv : extractStridedSlice S8x2x1x2048 ![0, 0, 0, 0] x1 Facts.slices_S8x2x1x3072_S8x2x1x2048_0_0_0_0 (ix4 b p 0 e) = x1 (ix4 b p 0 ⟨e.val, by omega⟩) := by pointwise []
  rw [← hv]
  refine real_of_lt _ _ Cert.Pre_finite_scores.inf_f32 ?_
  exact congrFun h (ix4 b p 0 e)

theorem real_gain (h : (fn x0 x1 x2 x3 x4 x5 x6 x7 x8 x9 x10 x11 x12 x13 x14 x15 x16 x17).2.1 = fun _ => 1#1) (e : Fin 1024) : Cert.Mix.Real' (x2 (ix1 e)) :=
  real_of_lt (x2 (ix1 e)) _ Cert.Pre_finite_scores.inf_f32 (congrFun h (ix1 e))

theorem real_first (h : (fn x0 x1 x2 x3 x4 x5 x6 x7 x8 x9 x10 x11 x12 x13 x14 x15 x16 x17).2.2.1 = fun _ => 1#1) (e : Fin 1024) : Cert.Mix.Real' (x3 (ix2 0 e)) := by
  have hv : extractStridedSlice S1x1024 ![0, 0] x3 Facts.slices_S6x1024_S1x1024_0_0 (ix2 0 e) = x3 (ix2 0 e) := by pointwise []
  rw [← hv]
  refine real_of_lt _ _ Cert.Pre_finite_scores.inf_f32 ?_
  exact congrFun h (ix2 0 e)

theorem real_third (h : (fn x0 x1 x2 x3 x4 x5 x6 x7 x8 x9 x10 x11 x12 x13 x14 x15 x16 x17).2.2.2.1 = fun _ => 1#1) (e : Fin 1024) : Cert.Mix.Real' (x3 (ix2 2 e)) := by
  have hv : extractStridedSlice S1x1024 ![2, 0] x3 Facts.slices_S6x1024_S1x1024_2_0 (ix2 0 e) = x3 (ix2 2 e) := by pointwise []
  rw [← hv]
  refine real_of_lt _ _ Cert.Pre_finite_scores.inf_f32 ?_
  exact congrFun h (ix2 0 e)

theorem real_weight (h : (fn x0 x1 x2 x3 x4 x5 x6 x7 x8 x9 x10 x11 x12 x13 x14 x15 x16 x17).2.2.2.2.1 = fun _ => 1#1) (s : Fin 2) (e d : Fin 1024) : Cert.Mix.Real' (x4 (ix3 ⟨s.val, by omega⟩ e d)) := by
  have hv : extractStridedSlice S2x1024x1024 ![0, 0, 0] x4 Facts.slices_S4x1024x1024_S2x1024x1024_0_0_0 (ix3 s e d) = x4 (ix3 ⟨s.val, by omega⟩ e d) := by pointwise []
  rw [← hv]
  refine real_of_lt _ _ Cert.Pre_finite_scores.inf_f32 ?_
  exact congrFun h (ix3 s e d)

theorem real_kk (h : (fn x0 x1 x2 x3 x4 x5 x6 x7 x8 x9 x10 x11 x12 x13 x14 x15 x16 x17).2.2.2.2.2.1 = fun _ => 1#1) (d : Fin 1024) : Cert.Mix.Real' (x11 (ix1 d)) :=
  real_of_lt (x11 (ix1 d)) _ Cert.Pre_finite_scores.inf_f32 (congrFun h (ix1 d))

theorem real_ka (h : (fn x0 x1 x2 x3 x4 x5 x6 x7 x8 x9 x10 x11 x12 x13 x14 x15 x16 x17).2.2.2.2.2.2.1 = fun _ => 1#1) (d : Fin 1024) : Cert.Mix.Real' (x12 (ix1 d)) :=
  real_of_lt (x12 (ix1 d)) _ Cert.Pre_finite_scores.inf_f32 (congrFun h (ix1 d))

theorem real_rk (h : (fn x0 x1 x2 x3 x4 x5 x6 x7 x8 x9 x10 x11 x12 x13 x14 x15 x16 x17).2.2.2.2.2.2.2 = fun _ => 1#1) (g : Fin 16) (j : Fin 64) : Cert.Mix.Real' (x13 (ix2 g j)) :=
  real_of_lt (x13 (ix2 g j)) _ Cert.Pre_finite_scores.inf_f32 (congrFun h (ix2 g j))

end

end Cert.Pre_finite_mix

namespace Cert.Proof

open Idealize.ShloMosaic Idealize.SL.Sem Idealize.ShloMosaic.TcCoe Idealize.ShloMosaic.Tactic Cert.Layer Cert.Mix
open Cert.Kernel4Ideal (main_arg0 main_arg1 main_arg2 main_arg3 main_arg4 main_arg5 main_arg6 main_arg7 main_arg8 main_arg9 main_arg10 main_arg11
  main_arg12 main_arg13 main_arg14 main_arg15 main_arg16 main_arg17 S1024 S1024x32 S16x64 S2x1024 S2x1024x64 S2x64x1024 S32x1024 S4x1024x1024 S6x1024 S8x2x1x3072 S8x8448x1024)
open Cert.Kernel4Ideal.Mix (spec par row)
open Cert.Reference4Ideal.Read

/-- What an argument's buffer holds before the launch. -/
abbrev argOf (m : (ℓ : Loc Cert.Kernel4Ideal.nD Cert.Kernel4Ideal.τ Cert.Kernel4Ideal.sig) → Buf (Elt Ideal) ℓ) (c : Dev Cert.Kernel4Ideal.nD)
    (r : Ref Cert.Kernel4Ideal.sig .tc) := m ((c.tc : Thread Cert.Kernel4Ideal.nD Cert.Kernel4Ideal.τ).loc r)

section Same

variable (x0 : S8x8448x1024.Idx → EReal) (x1 : S8x2x1x3072.Idx → EReal) (x2 : S1024.Idx → EReal) (x3 : S6x1024.Idx → EReal) (x4 : S4x1024x1024.Idx → EReal) (x5 : S2x1024.Idx → EReal) (x6 : S2x1024x64.Idx → EReal) (x7 : S2x64x1024.Idx → EReal) (x8 : S2x1024.Idx → EReal) (x9 : S2x1024x64.Idx → EReal) (x10 : S2x64x1024.Idx → EReal) (x11 : S1024.Idx → EReal) (x12 : S1024.Idx → EReal) (x13 : S16x64.Idx → EReal) (x14 : S1024.Idx → EReal) (x15 : S1024x32.Idx → EReal) (x16 : S32x1024.Idx → EReal) (x17 : S8x8448x1024.Idx → EReal)

theorem mix_recep : val_main_v108 (F := Ideal) x0 x1 x2 x3 x4 = spec (recep (parOf x3 x4 x5 x6 x7 x8 x9 x10 x11 x12 x13 x14 x15 x16)) (rowOf x0 x1 x2 x17) :=
  place_ext fun b t d => Cert.Reference4Ideal.Mix.recep_at x0 x1 x2 x3 x4 x5 x6 x7 x8 x9 x10 x11 x12 x13 x14 x15 x16 x17 b t d

theorem mix_value : val_main_v132 (F := Ideal) x0 x1 x2 x3 x4 x14 x15 x16 x17 = spec (value (parOf x3 x4 x5 x6 x7 x8 x9 x10 x11 x12 x13 x14 x15 x16)) (rowOf x0 x1 x2 x17) :=
  place_ext fun b t d => Cert.Reference4Ideal.Mix.value_at x0 x1 x2 x3 x4 x5 x6 x7 x8 x9 x10 x11 x12 x13 x14 x15 x16 x17 b t d

theorem mix_dir : val_main_v195 (F := Ideal) x0 x1 x2 x3 x4 x11 = spec (dir (parOf x3 x4 x5 x6 x7 x8 x9 x10 x11 x12 x13 x14 x15 x16)) (rowOf x0 x1 x2 x17) :=
  place_ext fun b t d => Cert.Reference4Ideal.Mix.dir_at x0 x1 x2 x3 x4 x5 x6 x7 x8 x9 x10 x11 x12 x13 x14 x15 x16 x17 b t d

theorem mix_gate : val_main_v118 (F := Ideal) x0 x1 x2 x3 x4 = spec (gate (parOf x3 x4 x5 x6 x7 x8 x9 x10 x11 x12 x13 x14 x15 x16)) (rowOf x0 x1 x2 x17) :=
  place_ext fun b t d => Cert.Reference4Ideal.Mix.gate_at x0 x1 x2 x3 x4 x5 x6 x7 x8 x9 x10 x11 x12 x13 x14 x15 x16 x17 b t d

theorem mix_bonus : val_main_v196 (F := Ideal) x0 x1 x2 x3 x4 x8 x9 x10 x12 x13 x14 x15 x16 x17 = spec (bonus (parOf x3 x4 x5 x6 x7 x8 x9 x10 x11 x12 x13 x14 x15 x16)) (rowOf x0 x1 x2 x17) :=
  place_ext fun b t d => Cert.Reference4Ideal.Mix.bonus_at x0 x1 x2 x3 x4 x5 x6 x7 x8 x9 x10 x11 x12 x13 x14 x15 x16 x17 b t d

theorem mix_kdir0 : val_main_v201 (F := Ideal) x0 x1 x2 x3 x4 x8 x9 x10 x12 = spec (fun q => kdir (parOf x3 x4 x5 x6 x7 x8 x9 x10 x11 x12 x13 x14 x15 x16) q 0) (rowOf x0 x1 x2 x17) :=
  place_ext fun b t d => Cert.Reference4Ideal.Mix.kdir_0 x0 x1 x2 x3 x4 x5 x6 x7 x8 x9 x10 x11 x12 x13 x14 x15 x16 x17 b t d

theorem mix_kdir1 : val_main_v203 (F := Ideal) x0 x1 x2 x3 x4 x8 x9 x10 x12 = spec (fun q => kdir (parOf x3 x4 x5 x6 x7 x8 x9 x10 x11 x12 x13 x14 x15 x16) q 1) (rowOf x0 x1 x2 x17) :=
  place_ext fun b t d => Cert.Reference4Ideal.Mix.kdir_1 x0 x1 x2 x3 x4 x5 x6 x7 x8 x9 x10 x11 x12 x13 x14 x15 x16 x17 b t d

theorem mix_step0 : val_main_v205 (F := Ideal) x0 x1 x2 x3 x4 x8 x9 x10 x11 = spec (fun q => step (parOf x3 x4 x5 x6 x7 x8 x9 x10 x11 x12 x13 x14 x15 x16) q 0) (rowOf x0 x1 x2 x17) :=
  place_ext fun b t d => Cert.Reference4Ideal.Mix.step_0 x0 x1 x2 x3 x4 x5 x6 x7 x8 x9 x10 x11 x12 x13 x14 x15 x16 x17 b t d

theorem mix_step1 : val_main_v207 (F := Ideal) x0 x1 x2 x3 x4 x8 x9 x10 x11 = spec (fun q => step (parOf x3 x4 x5 x6 x7 x8 x9 x10 x11 x12 x13 x14 x15 x16) q 1) (rowOf x0 x1 x2 x17) :=
  place_ext fun b t d => Cert.Reference4Ideal.Mix.step_1 x0 x1 x2 x3 x4 x5 x6 x7 x8 x9 x10 x11 x12 x13 x14 x15 x16 x17 b t d

theorem mix_decay0 : val_main_v209 (F := Ideal) x0 x1 x2 x3 x5 x6 x7 = spec (fun q => decay (parOf x3 x4 x5 x6 x7 x8 x9 x10 x11 x12 x13 x14 x15 x16) q 0) (rowOf x0 x1 x2 x17) :=
  place_ext fun b t d => Cert.Reference4Ideal.Mix.decay_0 x0 x1 x2 x3 x4 x5 x6 x7 x8 x9 x10 x11 x12 x13 x14 x15 x16 x17 b t d

theorem mix_decay1 : val_main_v211 (F := Ideal) x0 x1 x2 x3 x5 x6 x7 = spec (fun q => decay (parOf x3 x4 x5 x6 x7 x8 x9 x10 x11 x12 x13 x14 x15 x16) q 1) (rowOf x0 x1 x2 x17) :=
  place_ext fun b t d => Cert.Reference4Ideal.Mix.decay_1 x0 x1 x2 x3 x4 x5 x6 x7 x8 x9 x10 x11 x12 x13 x14 x15 x16 x17 b t d

end Same

attribute [local instance] Cert.Pre_finite_mix.facts

/-- The recurrence's projection and its reference end with equal results. -/
theorem algebraic_mix : Cert.algebraic_Kernel4Ideal_Reference4Ideal_pre_finite_mix (hKernel4Ideal := Cert.Kernel4Ideal.Gen.facts)
    (hReference4Ideal := Cert.Reference4Ideal.Gen.facts) (hPre_finite_mix := Cert.Pre_finite_mix.facts) := by
  intro m g m' g' hpre hargs
  have hP : ∀ c, (par m c).Finite := fun c => by
    obtain ⟨pm, pg, p0, p2, pw, pk, pa, pr⟩ := hpre c
    exact
      { mu0 := fun e => Cert.Pre_finite_mix.real_first _ _ _ _ _ _ _ _ _ _ _ _ _ _ _ _ _ _ p0 e
        mu2 := fun e => Cert.Pre_finite_mix.real_third _ _ _ _ _ _ _ _ _ _ _ _ _ _ _ _ _ _ p2 e
        w0 := fun e d => Cert.Pre_finite_mix.real_weight _ _ _ _ _ _ _ _ _ _ _ _ _ _ _ _ _ _ pw 0 e d
        w1 := fun e d => Cert.Pre_finite_mix.real_weight _ _ _ _ _ _ _ _ _ _ _ _ _ _ _ _ _ _ pw 1 e d
        kk := fun d => Cert.Pre_finite_mix.real_kk _ _ _ _ _ _ _ _ _ _ _ _ _ _ _ _ _ _ pk d
        ka := fun d => Cert.Pre_finite_mix.real_ka _ _ _ _ _ _ _ _ _ _ _ _ _ _ _ _ _ _ pa d
        rk := fun d => Cert.Pre_finite_mix.real_rk _ _ _ _ _ _ _ _ _ _ _ _ _ _ _ _ _ _ pr _ _ }
  have hR : ∀ c b p, (row m c b p).Finite := fun c b p => by
    obtain ⟨pm, pg, p0, p2, pw, pk, pa, pr⟩ := hpre c
    exact rowAt_finite (fun b t e => (argOf m c main_arg0) (ix3 b t e)) _ _
      (fun b t e => (argOf m c main_arg17) (ix3 b t e))
      (fun b p e => Cert.Pre_finite_mix.real_mod _ _ _ _ _ _ _ _ _ _ _ _ _ _ _ _ _ _ pm b p e)
      (fun e => Cert.Pre_finite_mix.real_gain _ _ _ _ _ _ _ _ _ _ _ _ _ _ _ _ _ _ pg e) b p
  refine ⟨fun c => spec (recep (par m c)) (row m c),
    fun c => spec (value (par m c)) (row m c),
    fun c => spec (dir (par m c)) (row m c),
    fun c => spec (gate (par m c)) (row m c),
    fun c => spec (bonus (par m c)) (row m c),
    fun c => spec (fun q => kdir (par m c) q 0) (row m c),
    fun c => spec (fun q => kdir (par m c) q 1) (row m c),
    fun c => spec (fun q => step (par m c) q 0) (row m c),
    fun c => spec (fun q => step (par m c) q 1) (row m c),
    fun c => spec (fun q => decay (par m c) q 0) (row m c),
    fun c => spec (fun q => decay (par m c) q 1) (row m c), ?_, ?_⟩
  · refine (θ_run Cert.Kernel4Ideal.defs _ _).mono (fun r h c => ?_) (Cert.Kernel4Ideal.Value.run_blocks m g)
    obtain ⟨h18, h19, h20, h21, h22, h23, h24, h25, h26, h27, h28, hk⟩ := h c
    exact ⟨h18.trans (Cert.Kernel4Ideal.Mix.final18 m c),
      h19.trans (Cert.Kernel4Ideal.Mix.final19 m c),
      h20.trans (Cert.Kernel4Ideal.Mix.final20 m c (hP c) (hR c)),
      h21.trans (Cert.Kernel4Ideal.Mix.final21 m c),
      h22.trans (Cert.Kernel4Ideal.Mix.final22 m c (hP c) (hR c)),
      h23.trans (Cert.Kernel4Ideal.Mix.final23 m c),
      h24.trans (Cert.Kernel4Ideal.Mix.final24 m c),
      h25.trans (Cert.Kernel4Ideal.Mix.final25 m c (hP c) (hR c)),
      h26.trans (Cert.Kernel4Ideal.Mix.final26 m c (hP c) (hR c)),
      h27.trans (Cert.Kernel4Ideal.Mix.final27 m c),
      h28.trans (Cert.Kernel4Ideal.Mix.final28 m c), hk⟩
  · refine (θ_run Cert.Reference4Ideal.defs _ _).mono (fun r h c => ?_) (Cert.Reference4Ideal.Value.run m' g')
    obtain ⟨h18, h19, h20, h21, h22, h23, h24, h25, h26, h27, h28, hk⟩ := h c
    obtain ⟨a0, a1, a2, a3, a4, a5, a6, a7, a8, a9, a10, a11, a12, a13, a14, a15, a16, a17⟩ := hargs c
    have e0 : StableHlo.launchContents m' c (Proc.devRef .tc Cert.Reference4Ideal.main_arg0) = argOf m c main_arg0 := a0
    have e1 : StableHlo.launchContents m' c (Proc.devRef .tc Cert.Reference4Ideal.main_arg1) = argOf m c main_arg1 := a1
    have e2 : StableHlo.launchContents m' c (Proc.devRef .tc Cert.Reference4Ideal.main_arg2) = argOf m c main_arg2 := a2
    have e3 : StableHlo.launchContents m' c (Proc.devRef .tc Cert.Reference4Ideal.main_arg3) = argOf m c main_arg3 := a3
    have e4 : StableHlo.launchContents m' c (Proc.devRef .tc Cert.Reference4Ideal.main_arg4) = argOf m c main_arg4 := a4
    have e5 : StableHlo.launchContents m' c (Proc.devRef .tc Cert.Reference4Ideal.main_arg5) = argOf m c main_arg5 := a5
    have e6 : StableHlo.launchContents m' c (Proc.devRef .tc Cert.Reference4Ideal.main_arg6) = argOf m c main_arg6 := a6
    have e7 : StableHlo.launchContents m' c (Proc.devRef .tc Cert.Reference4Ideal.main_arg7) = argOf m c main_arg7 := a7
    have e8 : StableHlo.launchContents m' c (Proc.devRef .tc Cert.Reference4Ideal.main_arg8) = argOf m c main_arg8 := a8
    have e9 : StableHlo.launchContents m' c (Proc.devRef .tc Cert.Reference4Ideal.main_arg9) = argOf m c main_arg9 := a9
    have e10 : StableHlo.launchContents m' c (Proc.devRef .tc Cert.Reference4Ideal.main_arg10) = argOf m c main_arg10 := a10
    have e11 : StableHlo.launchContents m' c (Proc.devRef .tc Cert.Reference4Ideal.main_arg11) = argOf m c main_arg11 := a11
    have e12 : StableHlo.launchContents m' c (Proc.devRef .tc Cert.Reference4Ideal.main_arg12) = argOf m c main_arg12 := a12
    have e13 : StableHlo.launchContents m' c (Proc.devRef .tc Cert.Reference4Ideal.main_arg13) = argOf m c main_arg13 := a13
    have e14 : StableHlo.launchContents m' c (Proc.devRef .tc Cert.Reference4Ideal.main_arg14) = argOf m c main_arg14 := a14
    have e15 : StableHlo.launchContents m' c (Proc.devRef .tc Cert.Reference4Ideal.main_arg15) = argOf m c main_arg15 := a15
    have e16 : StableHlo.launchContents m' c (Proc.devRef .tc Cert.Reference4Ideal.main_arg16) = argOf m c main_arg16 := a16
    have e17 : StableHlo.launchContents m' c (Proc.devRef .tc Cert.Reference4Ideal.main_arg17) = argOf m c main_arg17 := a17
    refine ⟨h18.trans ((val_main_v108_eq (StableHlo.launchContents m' c)).trans ?_),
      h19.trans ((val_main_v132_eq (StableHlo.launchContents m' c)).trans ?_),
      h20.trans ((val_main_v195_eq (StableHlo.launchContents m' c)).trans ?_),
      h21.trans ((val_main_v118_eq (StableHlo.launchContents m' c)).trans ?_),
      h22.trans ((val_main_v196_eq (StableHlo.launchContents m' c)).trans ?_),
      h23.trans ((val_main_v201_eq (StableHlo.launchContents m' c)).trans ?_),
      h24.trans ((val_main_v203_eq (StableHlo.launchContents m' c)).trans ?_),
      h25.trans ((val_main_v205_eq (StableHlo.launchContents m' c)).trans ?_),
      h26.trans ((val_main_v207_eq (StableHlo.launchContents m' c)).trans ?_),
      h27.trans ((val_main_v209_eq (StableHlo.launchContents m' c)).trans ?_),
      h28.trans ((val_main_v211_eq (StableHlo.launchContents m' c)).trans ?_), hk⟩
    · rw [e0, e1, e2, e3, e4]
      exact mix_recep (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e14, e15, e16, e17]
      exact mix_value (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e11]
      exact mix_dir (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4]
      exact mix_gate (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e8, e9, e10, e12, e13, e14, e15, e16, e17]
      exact mix_bonus (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e8, e9, e10, e12]
      exact mix_kdir0 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e8, e9, e10, e12]
      exact mix_kdir1 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e8, e9, e10, e11]
      exact mix_step0 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e4, e8, e9, e10, e11]
      exact mix_step1 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e5, e6, e7]
      exact mix_decay0 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)
    · rw [e0, e1, e2, e3, e5, e6, e7]
      exact mix_decay1 (argOf m c main_arg0) (argOf m c main_arg1) (argOf m c main_arg2) (argOf m c main_arg3) (argOf m c main_arg4) (argOf m c main_arg5) (argOf m c main_arg6) (argOf m c main_arg7) (argOf m c main_arg8) (argOf m c main_arg9) (argOf m c main_arg10) (argOf m c main_arg11) (argOf m c main_arg12) (argOf m c main_arg13) (argOf m c main_arg14) (argOf m c main_arg15) (argOf m c main_arg16) (argOf m c main_arg17)

/-- The reference of the recurrence's projection runs and leaves its arguments unchanged; it declares no semaphore. -/
theorem frame_mix_ref : Cert.quiescent_Reference4Ideal (hReference4Ideal := Cert.Reference4Ideal.Gen.facts) := fun m g _ =>
  (θ_run (Cert.Reference4Ideal.defs (F := Ideal)) _ _).mono
    (fun r h => And.intro (fun c => (h c).2.2.2.2.2.2.2.2.2.2.2) (sem_eq_zero_of_no_sems (by decide) r.2)) (Cert.Reference4Ideal.Value.run m g)

end Cert.Proof

end
-- ==== Proof.Fuse.lean ====
module

public import proofs.«01_k».proof.Proof.MixReal

@[expose] public section

noncomputable section

namespace Cert.Fuse

open Idealize.ShloMosaic
open Cert.Layer Cert.Mix

/-- The small number that keeps a head's norm finite. -/
def least : EReal := Ideal.ofBits FTy.f32 0x3A27C5AC#32

/-- The mean over the head that a place belongs to. -/
def headMean (f : Fin 1024 → EReal) (d : Fin 1024) : EReal := Ideal.div (headSum f d) (Ideal.ofBits FTy.f32 0x42800000#32)

/-- A row less its heads' means. -/
def centred (y : Fin 1024 → EReal) (d : Fin 1024) : EReal := y d - headMean y d

/-- A row with every head normalised, then weighted and shifted. -/
def normed (y w c : Fin 1024 → EReal) (d : Fin 1024) : EReal :=
  centred y d * Ideal.rsqrt (headMean (fun e => centred y e * centred y e) d + least) * w d + c d

/-- The product of the normalised row, its bonus added and its gate taken, with the output's weights. -/
def fused (y w c p g : Fin 1024 → EReal) (W : Fin 1024 → Fin 1024 → EReal) (d : Fin 1024) : EReal :=
  ∑ e, (normed y w c e + p e) * g e * W e d

theorem sixtyfour : Ideal.ofBits FTy.f32 0x42800000#32 = ((64 : ℝ) : EReal) := by
  simp [Ideal.ofBits, Ideal.ieee]
  try rw [← EReal.coe_mul]
  try norm_num

theorem sixtyfourth : Ideal.ofBits FTy.f32 0x3C800000#32 = ((1 / 64 : ℝ) : EReal) := by
  simp [Ideal.ofBits, Ideal.ieee]
  try rw [← EReal.coe_mul]
  try norm_num

/-- The mean is the sum times a power of two. -/
theorem headMean_eq (f : Fin 1024 → EReal) (d : Fin 1024) : headSum f d * Ideal.ofBits FTy.f32 0x3C800000#32 = headMean f d := by
  unfold headMean
  rw [sixtyfour, sixtyfourth, Ideal.div_coe (by norm_num)]

theorem real_mean {f : Fin 1024 → EReal} (h : ∀ e, Real' (f e)) (d : Fin 1024) : Real' (headMean f d) := by
  rw [← headMean_eq, sixtyfourth]
  exact (Real'.sum _ fun j => h (inHead d j)).mul ⟨_, rfl⟩

theorem real_centred {f : Fin 1024 → EReal} (h : ∀ e, Real' (f e)) (d : Fin 1024) : Real' (centred f d) := (h d).sub (real_mean h d)

/-- The places of a head have one head. -/
theorem headMean_inHead (f : Fin 1024 → EReal) (d : Fin 1024) (j : Fin 64) : headMean f (inHead d j) = headMean f d := by
  have h : inHead (inHead d j) = inHead d := funext fun i => Fin.ext (by
    show (d.val / 64 * 64 + j.val) / 64 * 64 + i.val = d.val / 64 * 64 + i.val
    omega)
  unfold headMean headSum
  rw [h]

theorem inHead_own (d : Fin 1024) : inHead d ⟨d.val % 64, by omega⟩ = d := Fin.ext (by show d.val / 64 * 64 + d.val % 64 = d.val; omega)

end Cert.Fuse

end
-- ==== Proof.FuseBlock.lean ====
module

public import proofs.«01_k».proof.Proof.Gen.Kernel5Ideal.Value
public import proofs.«01_k».proof.Proof.Fuse
public import proofs.«01_k».proof.Proof.OutBlock
public import proofs.«01_k».proof.Proof.MixHost
public import Idealize.ShloMosaic.Lib.Pointwise
public import Idealize.ShloMosaic.Lib.Pipeline.Value
public import Idealize.ShloMosaic.Lib.Pipeline.ValueKit
public import Idealize.ShloMosaic.Lib.Pipeline.Covers
public import Idealize.ShloMosaic.Lib.StableHlo.ReadAt
public import Idealize.ShloMosaic.Lib.Claim

@[expose] public section

set_option maxRecDepth 16384

noncomputable section

namespace Cert.Kernel5Ideal.Fuse

open Cert.Kernel5Ideal Cert.Kernel5Ideal.Gen Idealize.ShloMosaic Idealize.ShloMosaic.TcCoe Idealize.ShloMosaic.Tactic Idealize.SL.Sem
open Idealize.ShloMosaic.Pipeline (Dat)
open Cert.Layer Cert.Mix Cert.Fuse
open Cert.Kernel3Ideal.Out (word_val word_part pos part_pos exists_place)

section Values

variable (E : Vec Ideal S1024x128 .bf16) (T : Vec Ideal S128x1024 .bf16) (u v : Vec Ideal S1x256x1024 .f32) (r : Fin 256)

/-- The sum over a head as the body takes it, in parts. -/
def partSum (x : Fin 1024 → EReal) (d : Fin 1024) : EReal :=
  (∑ j, (∑ e, x e * E (ix2 e j) + ∑ e, (x e - x e) * E (ix2 e j)) * T (ix2 j d)
    + ∑ j, ((∑ e, x e * E (ix2 e j) + ∑ e, (x e - x e) * E (ix2 e j))
      - (∑ e, x e * E (ix2 e j) + ∑ e, (x e - x e) * E (ix2 e j))) * T (ix2 j d) : EReal)

theorem centred_part (y : Fin 1024 → EReal) (hy : ∀ e, u (ix3 0 r e) + v (ix3 0 r e) = y e) (d : Fin 1024) :
    k0_pay4 E T u v (ix2 r d) = y d - partSum E T y d * Ideal.ofBits FTy.f32 0x3C800000#32 := by
  pointwise [k0_pay4, k0_pay2, k0_pay3]
  simp only [hy]
  rfl

theorem fused_part (w c : Vec Ideal S1x1024 .f32) (p g : Vec Ideal S1x256x1024 .f32) (W : Vec Ideal S1024x1024 .bf16) (x : Fin 1024 → EReal)
    (hx : ∀ e, k0_pay4 E T u v (ix2 r e) = x e) (d : Fin 1024) :
    k0_pay12 (k0_pay3 T) (k0_pay4 E T u v) (k0_pay7 E T u v) (k0_pay8 E T u v) (constant S256x1024 .f32 0x00000000#32) w c p g W (ix2 r d)
      = ∑ e, (x e * Ideal.rsqrt (partSum E T (fun e => x e * x e) e * Ideal.ofBits FTy.f32 0x3C800000#32 + least) * w (ix2 0 e) + c (ix2 0 e)
          + p (ix3 0 r e)) * g (ix3 0 r e) * W (ix2 e d) := by
  unfold k0_pay12 k0_pay7 k0_pay8 k0_pay6 k0_pay5
  generalize k0_pay4 E T u v = z at hx
  pointwise [k0_pay2, k0_pay3]
  simp only [hx]
  rfl

theorem out_part (q : Vec Ideal S1x1024 .f32) (s : Vec Ideal S1x1x1x1024 .f32) (x : Vec Ideal S1x256x1024 .f32) (a : FVec Ideal S128x1024 .bf16)
    (f h n : FVec Ideal S256x1024 .f32) (k : FVec Ideal S256x128 .bf16) (w c : Vec Ideal S1x1024 .f32) (p g : Vec Ideal S1x256x1024 .f32)
    (W : Vec Ideal S1024x1024 .bf16) (d : Fin 1024) :
    k0_pay1 (k0_pay9 q) (k0_pay10 s) (k0_pay11 x) (k0_pay12 a f k h n w c p g W) (k0_pay13 a f k h n w c p g W) (ix3 0 r d)
      = gated (fun d => x (ix3 0 r d)) (fun d => k0_pay12 a f k h n w c p g W (ix2 r d)) (fun d => q (ix2 0 d)) (fun d => s (ix4 0 0 0 d)) d := by
  unfold k0_pay13
  generalize k0_pay12 a f k h n w c p g W = y
  pointwise [k0_pay1, k0_pay9, k0_pay10, k0_pay11]
  rfl

variable (hE : ∀ e j, @Eq EReal (E (ix2 e j)) (if e.val / 64 = j.val then 1 else 0))
    (hT : ∀ j d, @Eq EReal (T (ix2 j d)) (if d.val / 64 = j.val then 1 else 0))

include hE hT

theorem mean_part {x : Fin 1024 → EReal} (hx : ∀ e, Real' (x e)) (d : Fin 1024) :
    partSum E T x d * Ideal.ofBits FTy.f32 0x3C800000#32 = headMean x d := by
  rw [← headMean_eq]
  exact congrArg (· * _) (headSum_eq x hx (fun e j => E (ix2 e j)) (fun j d => T (ix2 j d)) hE hT d)

/-- The body's product, of real rows. -/
theorem fused_row (w c : Vec Ideal S1x1024 .f32) (p g : Vec Ideal S1x256x1024 .f32) (W : Vec Ideal S1024x1024 .bf16) (y : Fin 1024 → EReal)
    (hy : ∀ e, u (ix3 0 r e) + v (ix3 0 r e) = y e) (hr : ∀ e, Real' (y e)) (d : Fin 1024) :
    k0_pay12 (k0_pay3 T) (k0_pay4 E T u v) (k0_pay7 E T u v) (k0_pay8 E T u v) (constant S256x1024 .f32 0x00000000#32) w c p g W (ix2 r d)
      = fused y (fun e => w (ix2 0 e)) (fun e => c (ix2 0 e)) (fun e => p (ix3 0 r e)) (fun e => g (ix3 0 r e)) (fun e d => W (ix2 e d)) d := by
  rw [fused_part E T u v r w c p g W (centred y) (fun e => by rw [centred_part E T u v r y hy e, mean_part E T hE hT hr]; rfl) d]
  unfold fused normed
  exact Finset.sum_congr rfl fun e _ => by rw [mean_part E T hE hT fun e => (real_centred hr e).mul (real_centred hr e)]

end Values

/-- A block index that is the point's own tile. -/
theorem transform0 (i : grid0.Coords) : cc0_transform_0 i = ![(i 0).val, (i 1).val, 0] := by
  funext a
  match a with
  | ⟨0, _⟩ => exact word_val (i 0).isLt (by decide)
  | ⟨1, _⟩ => exact word_val (i 1).isLt (by decide)
  | ⟨2, _⟩ => rfl

theorem index0 (t : Fin cfg0.N) : win0_0.index t = ![(grid0.coords t 0).val, (grid0.coords t 1).val, 0] := transform0 (grid0.coords t)
theorem index1 (t : Fin cfg0.N) : win0_1.index t = ![(grid0.coords t 0).val, (grid0.coords t 1).val, 0] := transform0 (grid0.coords t)
theorem index2 (t : Fin cfg0.N) : win0_2.index t = ![(grid0.coords t 0).val, (grid0.coords t 1).val, 0] := transform0 (grid0.coords t)
theorem index3 (t : Fin cfg0.N) : win0_3.index t = ![(grid0.coords t 0).val, (grid0.coords t 1).val, 0] := transform0 (grid0.coords t)
theorem index4 (t : Fin cfg0.N) : win0_4.index t = ![(grid0.coords t 0).val, (grid0.coords t 1).val, 0] := transform0 (grid0.coords t)
theorem index10 (t : Fin cfg0.N) : win0_10.index t = ![(grid0.coords t 0).val, (grid0.coords t 1).val, 0] := transform0 (grid0.coords t)

/-- Window 5's block index: the context's for the first tile, else the latents'. -/
theorem transform5 (i : grid0.Coords) : cc0_transform_5 i = ![(i 0).val, min (i 1).val 1, 0, 0] := by
  funext a
  match a with
  | ⟨0, _⟩ => exact word_val (i 0).isLt (by decide)
  | ⟨1, _⟩ => exact word_part (i 1)
  | ⟨2, _⟩ => rfl
  | ⟨3, _⟩ => rfl

theorem index5 (t : Fin cfg0.N) : win0_5.index t = ![(grid0.coords t 0).val, min (grid0.coords t 1).val 1, 0, 0] := transform5 (grid0.coords t)

theorem index6 (t : Fin cfg0.N) : win0_6.index t = ![0, 0] := by
  show cc0_transform_6 (grid0.coords t) = _
  funext a; fin_cases a <;> rfl

theorem index7 (t : Fin cfg0.N) : win0_7.index t = ![0, 0] := by
  show cc0_transform_7 (grid0.coords t) = _
  funext a; fin_cases a <;> rfl

theorem index8 (t : Fin cfg0.N) : win0_8.index t = ![0, 0] := by
  show cc0_transform_8 (grid0.coords t) = _
  funext a; fin_cases a <;> rfl

theorem index9 (t : Fin cfg0.N) : win0_9.index t = ![0, 0] := by
  show cc0_transform_9 (grid0.coords t) = _
  funext a; fin_cases a <;> rfl

section Loads

variable (t : Fin cfg0.N)

theorem ld_0 (X : Vec Ideal S8x8448x1024 .f32) (r : Fin 256) (e : Fin 1024) :
    View.ld (((cfg0.win 0).blk t).view.read (Elt Ideal) X) r0_2 (ix3 0 r e) = X (ix3 (grid0.coords t 0) (pos (grid0.coords t 1) r) e) := by
  refine congrArg X (?_ : (win0_0.blk t).view.emb (r0_2.emb (ix3 0 r e)) = _)
  funext a
  apply Fin.ext
  fin_cases a
  · blk_simp [index0]; try rfl
  · blk_simp [index0]; show (grid0.coords t 1).val * 256 + r.val = 256 * (grid0.coords t 1).val + r.val; omega
  · blk_simp [index0]; try rfl

theorem ld_1 (X : Vec Ideal S8x8448x1024 .f32) (r : Fin 256) (e : Fin 1024) :
    View.ld (((cfg0.win 1).blk t).view.read (Elt Ideal) X) r0_2 (ix3 0 r e) = X (ix3 (grid0.coords t 0) (pos (grid0.coords t 1) r) e) := by
  refine congrArg X (?_ : (win0_1.blk t).view.emb (r0_2.emb (ix3 0 r e)) = _)
  funext a
  apply Fin.ext
  fin_cases a
  · blk_simp [index1]; try rfl
  · blk_simp [index1]; show (grid0.coords t 1).val * 256 + r.val = 256 * (grid0.coords t 1).val + r.val; omega
  · blk_simp [index1]; try rfl

theorem ld_2 (X : Vec Ideal S8x8448x1024 .f32) (r : Fin 256) (e : Fin 1024) :
    View.ld (((cfg0.win 2).blk t).view.read (Elt Ideal) X) r0_2 (ix3 0 r e) = X (ix3 (grid0.coords t 0) (pos (grid0.coords t 1) r) e) := by
  refine congrArg X (?_ : (win0_2.blk t).view.emb (r0_2.emb (ix3 0 r e)) = _)
  funext a
  apply Fin.ext
  fin_cases a
  · blk_simp [index2]; try rfl
  · blk_simp [index2]; show (grid0.coords t 1).val * 256 + r.val = 256 * (grid0.coords t 1).val + r.val; omega
  · blk_simp [index2]; try rfl

theorem ld_3 (X : Vec Ideal S8x8448x1024 .f32) (r : Fin 256) (e : Fin 1024) :
    View.ld (((cfg0.win 3).blk t).view.read (Elt Ideal) X) r0_2 (ix3 0 r e) = X (ix3 (grid0.coords t 0) (pos (grid0.coords t 1) r) e) := by
  refine congrArg X (?_ : (win0_3.blk t).view.emb (r0_2.emb (ix3 0 r e)) = _)
  funext a
  apply Fin.ext
  fin_cases a
  · blk_simp [index3]; try rfl
  · blk_simp [index3]; show (grid0.coords t 1).val * 256 + r.val = 256 * (grid0.coords t 1).val + r.val; omega
  · blk_simp [index3]; try rfl

theorem ld_4 (X : Vec Ideal S8x8448x1024 .f32) (r : Fin 256) (e : Fin 1024) :
    View.ld (((cfg0.win 4).blk t).view.read (Elt Ideal) X) r0_2 (ix3 0 r e) = X (ix3 (grid0.coords t 0) (pos (grid0.coords t 1) r) e) := by
  refine congrArg X (?_ : (win0_4.blk t).view.emb (r0_2.emb (ix3 0 r e)) = _)
  funext a
  apply Fin.ext
  fin_cases a
  · blk_simp [index4]; try rfl
  · blk_simp [index4]; show (grid0.coords t 1).val * 256 + r.val = 256 * (grid0.coords t 1).val + r.val; omega
  · blk_simp [index4]; try rfl

theorem ld_gate (X : Vec Ideal S8x2x1x3072 .f32) (r : Fin 256) (e : Fin 1024) :
    View.ld (((cfg0.win 5).blk t).view.read (Elt Ideal) X) r0_6 (ix4 0 0 0 e)
      = X (ix4 (grid0.coords t 0) (part (pos (grid0.coords t 1) r)) 0 ⟨2048 + e.val, by omega⟩) := by
  refine congrArg X (?_ : (win0_5.blk t).view.emb (r0_6.emb (ix4 0 0 0 e)) = _)
  funext a
  apply Fin.ext
  fin_cases a
  · blk_simp [index5]; try rfl
  · refine Eq.trans ?_ (part_pos _ r).symm
    blk_simp [index5]; try rfl
  · blk_simp [index5]; try rfl
  · blk_simp [index5]; try rfl

theorem ld_vec0 (X : Vec Ideal S8x1024 .f32) (e : Fin 1024) :
    View.ld (((cfg0.win 6).blk t).view.read (Elt Ideal) X) r0_3 (ix2 0 e) = X (ix2 0 e) := by
  refine congrArg X (?_ : (win0_6.blk t).view.emb (r0_3.emb (ix2 0 e)) = _)
  funext a
  apply Fin.ext
  fin_cases a
  · blk_simp [index6]; try rfl
  · blk_simp [index6]; try rfl

theorem ld_vec1 (X : Vec Ideal S8x1024 .f32) (e : Fin 1024) :
    View.ld (((cfg0.win 6).blk t).view.read (Elt Ideal) X) r0_4 (ix2 0 e) = X (ix2 1 e) := by
  refine congrArg X (?_ : (win0_6.blk t).view.emb (r0_4.emb (ix2 0 e)) = _)
  funext a
  apply Fin.ext
  fin_cases a
  · blk_simp [index6]; try rfl
  · blk_simp [index6]; try rfl

theorem ld_vec2 (X : Vec Ideal S8x1024 .f32) (e : Fin 1024) :
    View.ld (((cfg0.win 6).blk t).view.read (Elt Ideal) X) r0_5 (ix2 0 e) = X (ix2 2 e) := by
  refine congrArg X (?_ : (win0_6.blk t).view.emb (r0_5.emb (ix2 0 e)) = _)
  funext a
  apply Fin.ext
  fin_cases a
  · blk_simp [index6]; try rfl
  · blk_simp [index6]; try rfl

theorem ld_7 (X : Vec Ideal S1024x1024 .bf16) (e : Fin 1024) (d : Fin 1024) :
    View.ld (((cfg0.win 7).blk t).view.read (Elt Ideal) X) r0_7 (ix2 e d) = X (ix2 e d) := by
  refine congrArg X (?_ : (win0_7.blk t).view.emb (r0_7.emb (ix2 e d)) = _)
  funext a
  apply Fin.ext
  fin_cases a
  · blk_simp [index7]; try rfl
  · blk_simp [index7]; try rfl

theorem ld_8 (X : Vec Ideal S1024x128 .bf16) (e : Fin 1024) (d : Fin 128) :
    View.ld (((cfg0.win 8).blk t).view.read (Elt Ideal) X) r0_0 (ix2 e d) = X (ix2 e d) := by
  refine congrArg X (?_ : (win0_8.blk t).view.emb (r0_0.emb (ix2 e d)) = _)
  funext a
  apply Fin.ext
  fin_cases a
  · blk_simp [index8]; try rfl
  · blk_simp [index8]; try rfl

theorem ld_9 (X : Vec Ideal S128x1024 .bf16) (e : Fin 128) (d : Fin 1024) :
    View.ld (((cfg0.win 9).blk t).view.read (Elt Ideal) X) r0_1 (ix2 e d) = X (ix2 e d) := by
  refine congrArg X (?_ : (win0_9.blk t).view.emb (r0_1.emb (ix2 e d)) = _)
  funext a
  apply Fin.ext
  fin_cases a
  · blk_simp [index9]; try rfl
  · blk_simp [index9]; try rfl

end Loads

section Blocks

variable (Y Z B G X : Vec Ideal S8x8448x1024 .f32) (M : Vec Ideal S8x2x1x3072 .f32) (Q : Vec Ideal S8x1024 .f32) (W : Vec Ideal S1024x1024 .bf16)
    (E : Vec Ideal S1024x128 .bf16) (T : Vec Ideal S128x1024 .bf16)

/-- The launch's result at every position. -/
def outY : S8x8448x1024.Idx → EReal := fun i =>
  gated (fun d => X (ix3 (i 0) (i 1) d)) (fused (fun e => Y (ix3 (i 0) (i 1) e) + Z (ix3 (i 0) (i 1) e)) (fun e => Q (ix2 0 e)) (fun e => Q (ix2 1 e))
    (fun e => B (ix3 (i 0) (i 1) e)) (fun e => G (ix3 (i 0) (i 1) e)) (fun e d => W (ix2 e d)))
    (fun d => Q (ix2 2 d)) (fun d => M (ix4 (i 0) (part (i 1)) 0 ⟨2048 + d.val, by omega⟩)) (i 2)

theorem fused_congr {y y' w w' c c' p p' g g' : Fin 1024 → EReal} {W W' : Fin 1024 → Fin 1024 → EReal} (hy : ∀ e, y e = y' e) (hw : ∀ e, w e = w' e)
    (hc : ∀ e, c e = c' e) (hp : ∀ e, p e = p' e) (hg : ∀ e, g e = g' e) (hW : ∀ e d, W e d = W' e d) (d : Fin 1024) :
    fused y w c p g W d = fused y' w' c' p' g' W' d := by
  rw [funext hy, funext hw, funext hc, funext hp, funext hg, funext fun e => funext (hW e)]

variable (hY : ∀ i, Real' (Y i)) (hZ : ∀ i, Real' (Z i)) (hE : ∀ e j, @Eq EReal (E (ix2 e j)) (if e.val / 64 = j.val then 1 else 0))
    (hT : ∀ j d, @Eq EReal (T (ix2 j d)) (if d.val / 64 = j.val then 1 else 0)) (t : Fin cfg0.N)

/-- Where a place of the output's block lies in the array. -/
theorem place10 (r : Fin 256) (d : Fin 1024) :
    (win0_10.blk t).view.emb (ix3 0 r d : S1x256x1024.Idx) = ix3 (grid0.coords t 0) (pos (grid0.coords t 1) r) d := by
  funext a
  apply Fin.ext
  fin_cases a
  · blk_simp [index10]; try rfl
  · blk_simp [index10]; show (grid0.coords t 1).val * 256 + r.val = 256 * (grid0.coords t 1).val + r.val; omega
  · blk_simp [index10]; try rfl

/-- A store of the whole block leaves what it stores. -/
theorem whole (p : Vec Ideal S1x256x1024 .f32) (y : S1x256x1024.Idx) : View.canon (Val := Elt Ideal) [⟨r0_2, p⟩] y = p y :=
  Cert.Kernel3Ideal.Out.whole p y

include hY hZ hE hT in
theorem block10 (y : S1x256x1024.Idx) :
    out0_10 (((cfg0.win 0).blk t).view.read (Elt Ideal) Y) (((cfg0.win 1).blk t).view.read (Elt Ideal) Z)
      (((cfg0.win 2).blk t).view.read (Elt Ideal) B) (((cfg0.win 3).blk t).view.read (Elt Ideal) G)
      (((cfg0.win 4).blk t).view.read (Elt Ideal) X) (((cfg0.win 5).blk t).view.read (Elt Ideal) M)
      (((cfg0.win 6).blk t).view.read (Elt Ideal) Q) (((cfg0.win 7).blk t).view.read (Elt Ideal) W)
      (((cfg0.win 8).blk t).view.read (Elt Ideal) E) (((cfg0.win 9).blk t).view.read (Elt Ideal) T) y
    = outY Y Z B G X M Q W ((win0_10.blk t).view.emb y) := by
  unfold out0_10 k0_pay14 k0_pay15 k0_pay16 k0_pay17 k0_pay18
  rw [whole]
  obtain ⟨r, d, rfl⟩ := exists_place y
  rw [place10, out_part]
  refine gated_congr (fun e => ld_4 t X r e) (fun d => ?_) (fun e => ld_vec2 t Q e) (fun e => ld_gate t M r e) d
  refine (fused_row _ _ _ _ r (fun e j => (ld_8 t E e j).trans (hE e j)) (fun j d => (ld_9 t T j d).trans (hT j d)) _ _ _ _ _
    (fun e => Y (ix3 (grid0.coords t 0) (pos (grid0.coords t 1) r) e) + Z (ix3 (grid0.coords t 0) (pos (grid0.coords t 1) r) e))
    (fun e => congrArg₂ (fun a b : EReal => a + b) (ld_0 t Y r e) (ld_1 t Z r e)) (fun e => (hY _).add (hZ _)) d).trans ?_
  exact fused_congr (fun e => rfl) (fun e => ld_vec0 t Q e) (fun e => ld_vec1 t Q e) (fun e => ld_2 t B r e) (fun e => ld_3 t G r e)
    (fun e d => ld_7 t W e d) d

end Blocks

theorem covers10 : win0_10.Covers := win0_10.covers_of_indexMap_surj rfl (by decide) fun β => by
  refine ⟨fun a => match a with
    | ⟨0, _⟩ => ⟨(β 0).val, (β 0).isLt⟩
    | ⟨1, _⟩ => ⟨(β 1).val, (β 1).isLt⟩, fun a => ?_⟩
  have h := transform0 (fun a => match a with
    | ⟨0, _⟩ => ⟨(β 0).val, (β 0).isLt⟩
    | ⟨1, _⟩ => ⟨(β 1).val, (β 1).isLt⟩)
  refine (congrFun h a).trans ?_
  match a with
  | ⟨0, _⟩ => rfl
  | ⟨1, _⟩ => rfl
  | ⟨2, _⟩ => exact (Nat.lt_one_iff.mp (β 2).isLt).symm

variable (m : (ℓ : Loc nD τ sig) → Buf (Elt Ideal) ℓ)

theorem vec0 (c : Dev nD) (e : Fin 1024) :
    (V m c main_v15 : S8x1024.Idx → EReal) (ix2 0 e) = (m (c, Proc.tc.devRef main_arg7) : S1024.Idx → EReal) (ix1 e) := by
  unfold V
  iterate 4 (try after_reads_at; try pointwise [])

theorem vec1 (c : Dev nD) (e : Fin 1024) :
    (V m c main_v15 : S8x1024.Idx → EReal) (ix2 1 e) = (m (c, Proc.tc.devRef main_arg8) : S1024.Idx → EReal) (ix1 e) := by
  unfold V
  iterate 4 (try after_reads_at; try pointwise [])

theorem vec2 (c : Dev nD) (e : Fin 1024) :
    (V m c main_v15 : S8x1024.Idx → EReal) (ix2 2 e) = (m (c, Proc.tc.devRef main_arg6) : S1024.Idx → EReal) (ix1 e) := by
  unfold V
  iterate 4 (try after_reads_at; try pointwise [])

theorem weight_at (c : Dev nD) : (V m c main_v16 : S1024x1024.Idx → EReal) = (m (c, Proc.tc.devRef main_arg9) : S1024x1024.Idx → EReal) := by
  unfold V
  after_reads_at
  rfl

theorem gather_at (c : Dev nD) (e : Fin 1024) (j : Fin 128) :
    @Eq EReal ((V m c main_v8 : S1024x128.Idx → EReal) (ix2 e j)) (if e.val / 64 = j.val then 1 else 0) := by
  unfold V
  after_reads_at
  pointwise []
  exact Cert.Kernel4Ideal.Mix.head_bit e j

theorem spread_at (c : Dev nD) (j : Fin 128) (d : Fin 1024) :
    @Eq EReal ((V m c main_v10 : S128x1024.Idx → EReal) (ix2 j d)) (if d.val / 64 = j.val then 1 else 0) := by
  unfold V
  after_reads_at
  pointwise []
  exact Cert.Kernel4Ideal.Mix.head_bit d j

/-- The result's array after the run, of real outputs of the recurrence. -/
theorem final10 (c : Dev nD) (hY : ∀ i, Real' ((V m c main_arg0 : S8x8448x1024.Idx → EReal) i))
    (hZ : ∀ i, Real' ((V m c main_arg1 : S8x8448x1024.Idx → EReal) i)) : (dats m 0 c).arrAt 10 cfg0.N
    = outY (V m c main_arg0) (V m c main_arg1) (V m c main_arg2) (V m c main_arg3) (V m c main_arg4) (V m c main_arg5) (V m c main_v15)
        (V m c main_v16) := by
  refine (dats m 0 c).arrAt_eq_of_covers 10 _ covers10 fun t hf y => ?_
  blk_simp
  rw [after0_10]
  exact block10 (V m c main_arg0) (V m c main_arg1) (V m c main_arg2) (V m c main_arg3) (V m c main_arg4) (V m c main_arg5) (V m c main_v15)
    (V m c main_v16) (V m c main_v8) (V m c main_v10) hY hZ (gather_at m c) (spread_at m c) t _

end Cert.Kernel5Ideal.Fuse

end
-- ==== Proof.FuseRef.lean ====
module

public import proofs.«01_k».proof.Proof.Gen.Reference5Ideal.Read
public import proofs.«01_k».proof.Proof.Fuse
public import proofs.«01_k».proof.Proof.OutRef
public import Idealize.ShloMosaic.Lib.Pointwise
public import Idealize.ShloMosaic.Lib.ValueIdx

@[expose] public section

set_option maxRecDepth 16384

noncomputable section

namespace Cert.Reference5Ideal.Fuse

open Cert.Reference5Ideal Cert.Reference5Ideal.Gen Cert.Reference5Ideal.Read Idealize.ShloMosaic Idealize.ShloMosaic.TcCoe
open Idealize.ShloMosaic.Tactic
open Cert.Layer Cert.Mix Cert.Fuse
open Cert.Reference3Ideal.Out (early late)

variable (x0 x1 x2 x3 x4 : (⟨S8x8448x1024, .f32⟩ : BufTy).Contents (Elt Ideal)) (x5 : (⟨S8x2x1x3072, .f32⟩ : BufTy).Contents (Elt Ideal))
    (x6 x7 x8 : (⟨S1024, .f32⟩ : BufTy).Contents (Elt Ideal)) (x9 : (⟨S1024x1024, .f32⟩ : BufTy).Contents (Elt Ideal)) (b : Fin 8)

/-- The two directions' row. -/
def both (t : Fin 8448) (e : Fin 1024) : EReal := x0 (ix3 b t e) + x1 (ix3 b t e)

theorem less_mean (t : Fin 8448) (d : Fin 1024) (j : Fin 64) :
    val_main_v7 x0 x1 (ix4 b t ⟨d.val / 64, by omega⟩ j) = centred (both x0 x1 b t) (inHead d j) := by
  unfold centred
  rw [headMean_inHead]
  have h : ∀ y : S8x8448x1024.Idx → EReal, val_main_v0 x0 x1 = y → val_main_v7 x0 x1 (ix4 b t ⟨d.val / 64, by omega⟩ j)
      = y (ix3 b t (inHead d j)) - headMean (fun e => y (ix3 b t e)) d := by
    rintro y hy
    unfold val_main_v7 val_main_v6 val_main_v5 val_main_v3 val_main_v2 val_main_v1
    rw [hy]
    pointwise [val_main_cst, val_main_v4, val_main_cst_0]
    rfl
  exact h _ rfl

theorem less_mean' (t : Fin 8448) (d : Fin 1024) :
    val_main_v14 x0 x1 (ix4 b t ⟨d.val / 64, by omega⟩ ⟨d.val % 64, by omega⟩) = centred (both x0 x1 b t) d := by
  have h : val_main_v14 x0 x1 (ix4 b t ⟨d.val / 64, by omega⟩ ⟨d.val % 64, by omega⟩)
      = val_main_v7 x0 x1 (ix4 b t ⟨d.val / 64, by omega⟩ ⟨d.val % 64, by omega⟩) := by
    unfold val_main_v14 val_main_v13 val_main_v7 val_main_v6
    generalize val_main_v5 x0 x1 = y
    generalize val_main_v1 x0 x1 = z
    pointwise []
  rw [h, less_mean, inHead_own]

theorem normed_at (t : Fin 8448) (d : Fin 1024) :
    val_main_v26 x0 x1 x7 x8 (ix3 b t d) = normed (both x0 x1 b t) (fun e => x7 (ix1 e)) (fun e => x8 (ix1 e)) d := by
  have h : ∀ y z : S8x8448x16x64.Idx → EReal, val_main_v7 x0 x1 = y → val_main_v14 x0 x1 = z → val_main_v26 x0 x1 x7 x8 (ix3 b t d)
      = z (ix4 b t ⟨d.val / 64, by omega⟩ ⟨d.val % 64, by omega⟩)
        * Ideal.rsqrt (Ideal.div (∑ j, y (ix4 b t ⟨d.val / 64, by omega⟩ j) * y (ix4 b t ⟨d.val / 64, by omega⟩ j))
            (Ideal.ofBits FTy.f32 0x42800000#32) + least) * x7 (ix1 d) + x8 (ix1 d) := by
    rintro y z hy hz
    unfold val_main_v26 val_main_v23 val_main_v20 val_main_v19 val_main_v18 val_main_v17 val_main_v16 val_main_v12 val_main_v10 val_main_v9 val_main_v8
    rw [hy, hz]
    pointwise [val_main_cst_1, val_main_cst_2, val_main_cst_3, val_main_v11, val_main_v15, val_main_v21, val_main_v22, val_main_v24, val_main_v25]
    rfl
  rw [h _ _ rfl rfl, less_mean']
  unfold normed headMean headSum
  rw [Finset.sum_congr rfl fun j _ => by rw [less_mean]]

theorem fused_at (t : Fin 8448) (d : Fin 1024) : val_main_v29 x0 x1 x2 x3 x7 x8 x9 (ix3 b t d)
    = fused (both x0 x1 b t) (fun e => x7 (ix1 e)) (fun e => x8 (ix1 e)) (fun e => x2 (ix3 b t e)) (fun e => x3 (ix3 b t e))
        (fun e d => x9 (ix2 e d)) d := by
  have h : ∀ y : S8x8448x1024.Idx → EReal, val_main_v26 x0 x1 x7 x8 = y → val_main_v29 x0 x1 x2 x3 x7 x8 x9 (ix3 b t d)
      = ∑ e, (y (ix3 b t e) + x2 (ix3 b t e)) * x3 (ix3 b t e) * x9 (ix2 e d) := by
    rintro y hy
    unfold val_main_v29 val_main_v28 val_main_v27
    rw [hy]
    pointwise []
    try rfl
  rw [h _ rfl]
  exact Finset.sum_congr rfl fun e _ => by rw [normed_at]

theorem scaled_at (t : Fin 8448) (d : Fin 1024) : val_main_v42 x0 x1 x2 x3 x6 x7 x8 x9 (ix3 b t d)
    = val_main_v29 x0 x1 x2 x3 x7 x8 x9 (ix3 b t d) * rms (fun e => val_main_v29 x0 x1 x2 x3 x7 x8 x9 (ix3 b t e)) * x6 (ix1 d) := by
  unfold val_main_v42 val_main_v39 val_main_v38 val_main_v37 val_main_v36 val_main_v34 val_main_v32 val_main_v31 val_main_v30
  generalize val_main_v29 x0 x1 x2 x3 x7 x8 x9 = y
  pointwise [val_main_v41, val_main_v40, val_main_v35, val_main_v33, val_main_cst_4, val_main_cst_5, val_main_cst_6]
  rfl

theorem early_value (n : Fin 256) (d : Fin 1024) : val_main_v59 x0 x1 x2 x3 x4 x5 x6 x7 x8 x9 (ix3 b n d)
    = x4 (ix3 b (early n) d) + x5 (ix4 b 0 0 ⟨2048 + d.val, by omega⟩) * val_main_v42 x0 x1 x2 x3 x6 x7 x8 x9 (ix3 b (early n) d) := by
  unfold val_main_v59 val_main_v58 val_main_v56
  generalize val_main_v42 x0 x1 x2 x3 x6 x7 x8 x9 = y
  pointwise [val_main_v55, val_main_v57, val_main_v48, val_main_v47, val_main_v44, val_main_v43]
  rfl

theorem late_value (n : Fin 8192) (d : Fin 1024) : val_main_v64 x0 x1 x2 x3 x4 x5 x6 x7 x8 x9 (ix3 b n d)
    = x4 (ix3 b (late n) d) + x5 (ix4 b 1 0 ⟨2048 + d.val, by omega⟩) * val_main_v42 x0 x1 x2 x3 x6 x7 x8 x9 (ix3 b (late n) d) := by
  unfold val_main_v64 val_main_v63 val_main_v61
  generalize val_main_v42 x0 x1 x2 x3 x6 x7 x8 x9 = y
  pointwise [val_main_v60, val_main_v62, val_main_v54, val_main_v53, val_main_v50, val_main_v49]
  rfl

/-- The reference's result at a position. -/
theorem value_at (t : Fin 8448) (d : Fin 1024) : val_main_v65 x0 x1 x2 x3 x4 x5 x6 x7 x8 x9 (ix3 b t d)
    = gated (fun d => x4 (ix3 b t d)) (fused (both x0 x1 b t) (fun e => x7 (ix1 e)) (fun e => x8 (ix1 e)) (fun e => x2 (ix3 b t e))
        (fun e => x3 (ix3 b t e)) (fun e d => x9 (ix2 e d))) (fun d => x6 (ix1 d)) (fun d => x5 (ix4 b (part t) 0 ⟨2048 + d.val, by omega⟩)) d := by
  have h : val_main_v65 x0 x1 x2 x3 x4 x5 x6 x7 x8 x9 (ix3 b t d)
      = x4 (ix3 b t d) + x5 (ix4 b (part t) 0 ⟨2048 + d.val, by omega⟩) * val_main_v42 x0 x1 x2 x3 x6 x7 x8 x9 (ix3 b t d) := by
    by_cases ht : t.val < 256
    · obtain ⟨n, rfl⟩ : ∃ n : Fin 256, t = early n := ⟨⟨t.val, ht⟩, rfl⟩
      have hp : part (early n) = 0 := if_pos ht
      rw [hp, ← early_value]
      exact Cert.Reference3Ideal.Out.cat_early b _ _ n d
    · obtain ⟨n, rfl⟩ : ∃ n : Fin 8192, t = late n := ⟨⟨t.val - 256, by omega⟩, Fin.ext (by show t.val = 256 + (t.val - 256); omega)⟩
      have hp : part (late n) = 1 := if_neg ht
      rw [hp, ← late_value]
      exact Cert.Reference3Ideal.Out.cat_late b _ _ n d
  rw [h, scaled_at]
  refine Eq.trans (b := gated (fun d => x4 (ix3 b t d)) (fun e => val_main_v29 x0 x1 x2 x3 x7 x8 x9 (ix3 b t e)) (fun d => x6 (ix1 d))
    (fun d => x5 (ix4 b (part t) 0 ⟨2048 + d.val, by omega⟩)) d) rfl ?_
  exact gated_congr (fun _ => rfl) (fun e => fused_at x0 x1 x2 x3 x7 x8 x9 b t e) (fun _ => rfl) (fun _ => rfl) d

end Cert.Reference5Ideal.Fuse

end
-- ==== Proof.FuseSame.lean ====
module

public import proofs.«01_k».proof.Defs
public import proofs.«01_k».proof.Proof.MixSame
public import proofs.«01_k».proof.Proof.FuseBlock
public import proofs.«01_k».proof.Proof.FuseRef
public import proofs.«01_k».proof.Proof.Gen.Reference5Ideal.Run
public import Idealize.ShloMosaic.Adequacy
public import Idealize.ShloMosaic.Init

@[expose] public section

set_option maxRecDepth 16384

noncomputable section

namespace Cert.Pre_finite_scan

open Idealize.ShloMosaic

/-- The shape fact of the precondition. -/
theorem facts : Cert.Pre_finite_scan.Facts := ⟨by decide⟩

attribute [local instance] facts

section

variable (x0 x1 x2 x3 x4 : FVec Ideal S8x8448x1024 .f32) (x5 : FVec Ideal S8x2x1x3072 .f32) (x6 x7 x8 : FVec Ideal S1024 .f32)
    (x9 : FVec Ideal S1024x1024 .f32)

theorem real_first (h : (fn x0 x1 x2 x3 x4 x5 x6 x7 x8 x9).1 = fun _ => 1#1) (i : S8x8448x1024.Idx) : Cert.Mix.Real' (x0 i) :=
  Cert.Pre_finite_mix.real_of_lt (x0 i) _ Cert.Pre_finite_scores.inf_f32 (congrFun h i)

theorem real_second (h : (fn x0 x1 x2 x3 x4 x5 x6 x7 x8 x9).2 = fun _ => 1#1) (i : S8x8448x1024.Idx) : Cert.Mix.Real' (x1 i) :=
  Cert.Pre_finite_mix.real_of_lt (x1 i) _ Cert.Pre_finite_scores.inf_f32 (congrFun h i)

end

end Cert.Pre_finite_scan

namespace Cert.Proof

open Idealize.ShloMosaic Idealize.SL.Sem Idealize.ShloMosaic.TcCoe Cert.Layer Cert.Fuse
open Cert.Kernel5Ideal (S8x8448x1024 S8x2x1x3072 S8x1024 S1024x1024 S1024)
open Cert.Kernel5Ideal.Fuse Cert.Reference5Ideal.Read

/-- The launch of the recurrence's output leaves the reference's array. -/
theorem same_fuse (Y Z B G X : S8x8448x1024.Idx → EReal) (M : S8x2x1x3072.Idx → EReal) (Q : S8x1024.Idx → EReal) (W : S1024x1024.Idx → EReal)
    (q w c : S1024.Idx → EReal) (h0 : ∀ e, Q (ix2 0 e) = w (ix1 e)) (h1 : ∀ e, Q (ix2 1 e) = c (ix1 e)) (h2 : ∀ e, Q (ix2 2 e) = q (ix1 e)) :
    outY Y Z B G X M Q W = val_main_v65 (F := Ideal) Y Z B G X M q w c W := by
  have h : ∀ (b : Fin 8) (t : Fin 8448) (d : Fin 1024), outY Y Z B G X M Q W (ix3 b t d)
      = val_main_v65 (F := Ideal) Y Z B G X M q w c W (ix3 b t d) := fun b t d => by
    rw [Cert.Reference5Ideal.Fuse.value_at]
    exact gated_congr (fun _ => rfl) (fun d => fused_congr (fun _ => rfl) h0 h1 (fun _ => rfl) (fun _ => rfl) (fun _ _ => rfl) d) h2 (fun _ => rfl) d
  funext i
  have hi : i = ix3 (i 0) (i 1) (i 2) := by
    funext a
    match a with
    | ⟨0, _⟩ => rfl
    | ⟨1, _⟩ => rfl
    | ⟨2, _⟩ => rfl
  rw [hi]
  exact h _ _ _

/-- The launch of the recurrence's output and its reference end with equal results, of finite outputs of the recurrence. -/
theorem algebraic_fuse : Cert.algebraic_Kernel5Ideal_Reference5Ideal_pre_finite_scan (hKernel5Ideal := Cert.Kernel5Ideal.Gen.facts)
    (hReference5Ideal := Cert.Reference5Ideal.Gen.facts) (hPre_finite_scan := Cert.Pre_finite_scan.facts) := by
  intro m g m' g' hpre hargs
  refine ⟨fun c => Cert.Reference5Ideal.Value.res_main_v65 m' c, ?_, ?_⟩
  · refine (θ_run Cert.Kernel5Ideal.defs _ _).mono (fun r h c => ?_) (Cert.Kernel5Ideal.Value.run_blocks m g)
    obtain ⟨h10, hk⟩ := h c
    obtain ⟨p0, p1⟩ := hpre c
    obtain ⟨a0, a1, a2, a3, a4, a5, a6, a7, a8, a9⟩ := hargs c
    refine ⟨h10.trans ((Cert.Kernel5Ideal.Fuse.final10 m c (fun i => ?_) (fun i => ?_)).trans ?_), hk⟩
    · rw [Cert.Kernel5Ideal.Gen.V_main_arg0]
      exact Cert.Pre_finite_scan.real_first _ _ _ _ _ _ _ _ _ _ p0 i
    · rw [Cert.Kernel5Ideal.Gen.V_main_arg1]
      exact Cert.Pre_finite_scan.real_second _ _ _ _ _ _ _ _ _ _ p1 i
    rw [Cert.Kernel5Ideal.Gen.V_main_arg0, Cert.Kernel5Ideal.Gen.V_main_arg1, Cert.Kernel5Ideal.Gen.V_main_arg2,
      Cert.Kernel5Ideal.Gen.V_main_arg3, Cert.Kernel5Ideal.Gen.V_main_arg4, Cert.Kernel5Ideal.Gen.V_main_arg5, Cert.Kernel5Ideal.Fuse.weight_at]
    show _ = Cert.Reference5Ideal.Value.res_main_v65 m' c
    rw [Cert.Reference5Ideal.Read.val_main_v65_eq, a0, a1, a2, a3, a4, a5, a6, a7, a8, a9]
    exact same_fuse _ _ _ _ _ _ _ _ _ _ _ (vec0 m c) (vec1 m c) (vec2 m c)
  · exact (θ_run Cert.Reference5Ideal.defs _ _).mono (fun r h c => h c) (Cert.Reference5Ideal.Value.run m' g')

/-- The reference of the recurrence's output runs and leaves its arguments unchanged; it declares no semaphore. -/
theorem frame_fuse_ref : Cert.quiescent_Reference5Ideal (hReference5Ideal := Cert.Reference5Ideal.Gen.facts) := fun m g _ =>
  (θ_run (Cert.Reference5Ideal.defs (F := Ideal)) _ _).mono
    (fun r h => And.intro (fun c => (h c).2) (sem_eq_zero_of_no_sems (by decide) r.2)) (Cert.Reference5Ideal.Value.run m g)

end Cert.Proof

end
-- ==== Proof.CtxBlock.lean ====
module

public import proofs.«01_k».proof.Proof.Gen.Kernel6Ideal.Value
public import proofs.«01_k».proof.Proof.NaValue
public import Idealize.ShloMosaic.Lib.Pipeline.ValueKit
public import Idealize.ShloMosaic.Lib.Pipeline.Covers

@[expose] public section

set_option maxRecDepth 16384

noncomputable section

namespace Cert.Attn

open Idealize.ShloMosaic

variable {ι : Type} [Fintype ι]

/-- Attention over one family of keys, normalised at the end. -/
def lateOne (S V : ι → EReal) : EReal := Ideal.div (∑ n, Ideal.exp (S n - top S) * V n) (mass (top S) S)

/-- Attention over one family of keys, normalised first. -/
def earlyOne (S V : ι → EReal) : EReal := ∑ n, Ideal.div (Ideal.exp (S n - top S)) (mass (top S) S) * V n

/-- Of finite scores, normalising at the end is normalising first, also over one family. -/
theorem lateOne_eq [Nonempty ι] (S V : ι → EReal) (hS : ∀ n, S n ≠ ⊥ ∧ S n ≠ ⊤) : lateOne S V = earlyOne S V := by
  obtain ⟨n, hn⟩ := exists_top S
  have h1 : 1 ≤ mass (top S) S := one_le_mass n hn (hn ▸ (hS n).1) (hn ▸ (hS n).2)
  have hD : mass (top S) S ≠ 0 := (lt_of_lt_of_le zero_lt_one h1).ne'
  have hp := mass_nonneg (top S) S
  unfold lateOne earlyOne Ideal.div
  generalize mass (top S) S = D at hD hp
  simp only [if_neg hD]
  rw [sum_mul _ (EReal.inv_nonneg_of_nonneg hp) (inv_ne_top D)]
  simp only [mul_right_comm]

end Cert.Attn

namespace Cert.Kernel6Ideal.Ctx

open Cert.Kernel6Ideal Cert.Kernel6Ideal.Gen Idealize.ShloMosaic Idealize.ShloMosaic.TcCoe Idealize.ShloMosaic.Tactic Idealize.SL.Sem
open Idealize.ShloMosaic.Pipeline (Dat)
open Cert.KernelIdeal.Na (lane lane_slt head word_val ofBits_negInf)
open Cert.ReferenceIdeal.Na (col ctxRow)

/-- Row `j` of head `h` among the rows of a pair's two heads, one head after the other. -/
def row (h : Fin 2) (j : Fin 256) : Fin 512 := ⟨256 * h.val + j.val, by omega⟩

/-- The lanes of a pair's first head. -/
def first : IVec S256x128 1 := broadcastTo S256x128 (shapeCast S1x128 (cmpi .slt (iota .tc S1x128 32 [1] iota_S1x128_d1_w32)
  (broadcast S1x128 64#32)) shapeCasts_S1x128_S1x128) broadcasts_S1x128_S256x128

/-- The queries of a pair's two heads, each with zeros at the other head's lanes. -/
def stack (q : Vec Ideal S1x256x128 .bf16) : FVec Ideal S512x128 .bf16 :=
  concatenate S512x128 0
    [⟨S256x128, select first (shapeCast S256x128 q shapeCasts_S1x256x128_S256x128 : FVec Ideal S256x128 .bf16) (broadcast S256x128 (Scalar.ofBits (F := Ideal) .bf16 0x0000#16))⟩,
     ⟨S256x128, select first (broadcast S256x128 (Scalar.ofBits (F := Ideal) .bf16 0x0000#16)) (shapeCast S256x128 q shapeCasts_S1x256x128_S256x128 : FVec Ideal S256x128 .bf16)⟩]
    concatenates_S256x128_S256x128_S512x128_d0

theorem stack_at (q : Vec Ideal S1x256x128 .bf16) (h : Fin 2) (j : Fin 256) (l : Fin 128) :
    stack q (ix2 (row h j) l) = if l.val / 64 = h.val then q (ix3 0 j l) else (0 : EReal) := by
  pointwise [stack, first]
  rw [lane_slt]
  match h with
  | 0 =>
    have e : (row 0 j).val = j.val := by simp [row]
    rw [dif_pos (by omega)]
    by_cases hl' : l.val < 64
    · rw [if_pos hl', if_pos (by show l.val / 64 = 0; omega), Scalar.select]
      exact congrArg (fun i => q (ix3 0 i l)) (Fin.ext e)
    · rw [if_neg hl', if_neg (by show ¬ l.val / 64 = 0; omega)]; rfl
  | 1 =>
    have e' : (row 1 j).val = 256 + j.val := by simp [row]
    rw [dif_neg (by omega)]
    refine (congrArg (fun a => Scalar.select (if l.val < 64 then 1#1 else 0#1) 0 (q (ix3 0 a l)))
      (Fin.ext (by show (row 1 j).val - 256 = j.val; omega) : (⟨(row 1 j).val - 256, by omega⟩ : Fin 256) = j)).trans ?_
    show Scalar.select (if l.val < 64 then 1#1 else 0#1) 0 (q (ix3 0 j l)) = if l.val / 64 = 1 then q (ix3 0 j l) else 0
    by_cases hl' : l.val < 64
    · rw [if_pos hl', if_neg (by omega)]; rfl
    · rw [if_neg hl', if_pos (by omega)]; rfl

theorem stack_dot (q : Vec Ideal S1x256x128 .bf16) (h : Fin 2) (j : Fin 256) (g : Fin 128 → EReal) :
    ∑ l, stack q (ix2 (row h j) l) * g l = ∑ e, q (ix3 0 j (lane h e)) * g (lane h e) := by
  simp only [stack_at]
  rw [Attn.sum_of_image (lane h)]
  · refine Finset.sum_congr rfl fun e _ => ?_
    rw [if_pos]
    show (64 * h.val + e.val) / 64 = h.val
    omega
  · intro a b hab
    have := congrArg Fin.val hab
    simp only [lane] at this
    exact Fin.ext (by omega)
  · intro l hl
    rw [if_neg, zero_mul]
    intro hd
    exact hl ⟨l.val % 64, by omega⟩ (Fin.ext (by simp only [lane]; omega))

/-- What the body stores, at row `j` and a lane of head `h`: that head's attention over the block's keys. -/
theorem pay_at (q k v : Vec Ideal S1x256x128 .bf16) (h : Fin 2) (j : Fin 256) (d : Fin 64) :
    k0_pay1 q k v (ix3 0 j (lane h d)) = Attn.lateOne (fun n : Fin 256 => ∑ e, q (ix3 0 j (lane h e)) * k (ix3 0 n (lane h e)))
      (fun n => v (ix3 0 n (lane h d))) := by
  have hy : ∀ y : FVec Ideal S512x256 .f32, y = matmul dot_S512x128_S256x128_S512x256_1_1_0_0_n_n none (stack q)
      (shapeCast S256x128 k shapeCasts_S1x256x128_S256x128 : FVec Ideal S256x128 .bf16) (constant S512x256 .f32 0x00000000#32) →
      k0_pay1 q k v (ix3 0 j (lane h d)) = Attn.lateOne (fun n : Fin 256 => y (ix2 (row h j) n)) (fun n => v (ix3 0 n (lane h d))) := by
    rintro y hy
    unfold stack first at hy
    unfold k0_pay1
    dsimp only
    rw [← hy]
    pointwise []
    rw [lane_slt, ofBits_negInf]
    match h with
    | 0 =>
      have e : (⟨j.val, by omega⟩ : Fin 512) = row 0 j := Fin.ext (by simp [row])
      rw [if_pos (by have : (lane 0 d).val = d.val := by simp [lane]
                     omega)]
      simp only [e]
      rfl
    | 1 =>
      rw [if_neg (by show ¬ 64 * 1 + d.val < 64; omega)]
      rfl
  rw [hy _ rfl]
  refine congrArg (Attn.lateOne · _) (funext fun n => ?_)
  generalize hst : stack q = s
  pointwise []
  subst hst
  exact stack_dot q h j fun l => k (ix3 0 n l)

/-- One query's attention over the context's keys, in one head, of whole arrays. -/
def seen (Q K W : S8x8448x1024.Idx → EReal) (b : Fin 8) (j : Fin 256) (h : Fin 16) (d : Fin 64) : EReal :=
  Attn.lateOne (fun n : Fin 256 => ∑ e, Q (ix3 b (ctxRow j) (col h e)) * K (ix3 b (ctxRow n) (col h e))) (fun n => W (ix3 b (ctxRow n) (col h d)))

/-- What the kernel leaves in its result array, of its arrays. -/
def outC (Q K W : S8x8448x1024.Idx → EReal) : S8x256x1024.Idx → EReal := fun i =>
  seen Q K W (i 0) (i 1) ⟨(i 2).val / 64, by have : (i 2).val < 1024 := (i 2).isLt; omega⟩ ⟨(i 2).val % 64, by omega⟩

theorem outC_at (Q K W : S8x8448x1024.Idx → EReal) (b : Fin 8) (j : Fin 256) (h : Fin 16) (d : Fin 64) :
    outC Q K W (ix3 b j (col h d)) = seen Q K W b j h d := by
  have e1 : (⟨(col h d).val / 64, by omega⟩ : Fin 16) = h := Fin.ext (by show (64 * h.val + d.val) / 64 = _; omega)
  have e2 : (⟨(col h d).val % 64, by omega⟩ : Fin 64) = d := Fin.ext (by show (64 * h.val + d.val) % 64 = _; omega)
  show seen Q K W b j ⟨(col h d).val / 64, _⟩ ⟨(col h d).val % 64, _⟩ = _
  rw [e1, e2]

/-- A window's block index at a setting of the grid's coordinates. -/
theorem transform (i : grid0.Coords) : cc0_transform_0 i = ![(i 0).val, 0, (i 1).val] := by
  funext a
  match a with
  | ⟨0, _⟩ => exact word_val (i 0).isLt (by decide)
  | ⟨1, _⟩ => exact rfl
  | ⟨2, _⟩ => exact word_val (i 1).isLt (by decide)

theorem index0 (t : Fin cfg0.N) : win0_0.index t = ![(grid0.coords t 0).val, 0, (grid0.coords t 1).val] := transform (grid0.coords t)

theorem index1 (t : Fin cfg0.N) : win0_1.index t = ![(grid0.coords t 0).val, 0, (grid0.coords t 1).val] := transform (grid0.coords t)

theorem index2 (t : Fin cfg0.N) : win0_2.index t = ![(grid0.coords t 0).val, 0, (grid0.coords t 1).val] := transform (grid0.coords t)

theorem index3 (t : Fin cfg0.N) : win0_3.index t = ![(grid0.coords t 0).val, 0, (grid0.coords t 1).val] := transform (grid0.coords t)

section Blocks

variable (t : Fin cfg0.N) (X : Vec Ideal S8x8448x1024 .bf16) (h : Fin 2) (n : Fin 256) (e : Fin 64)

theorem ld_q : View.ld (((cfg0.win 0).blk t).view.read (Elt Ideal) X) r0_0 (ix3 0 n (lane h e))
    = X (ix3 (grid0.coords t 0) (ctxRow n) (col (head (grid0.coords t 1) h) e)) := by
  refine congrArg X (?_ : (win0_0.blk t).view.emb (r0_0.emb (ix3 0 n (lane h e))) = _)
  funext a
  apply Fin.ext
  fin_cases a
  · blk_simp [index0]; try rfl
  · blk_simp [index0]; try rfl
  · blk_simp [index0]; show (grid0.coords t 1).val * 128 + (64 * h.val + e.val) = 64 * (2 * (grid0.coords t 1).val + h.val) + e.val; omega

theorem ld_k : View.ld (((cfg0.win 1).blk t).view.read (Elt Ideal) X) r0_0 (ix3 0 n (lane h e))
    = X (ix3 (grid0.coords t 0) (ctxRow n) (col (head (grid0.coords t 1) h) e)) := by
  refine congrArg X (?_ : (win0_1.blk t).view.emb (r0_0.emb (ix3 0 n (lane h e))) = _)
  funext a
  apply Fin.ext
  fin_cases a
  · blk_simp [index1]; try rfl
  · blk_simp [index1]; try rfl
  · blk_simp [index1]; show (grid0.coords t 1).val * 128 + (64 * h.val + e.val) = 64 * (2 * (grid0.coords t 1).val + h.val) + e.val; omega

theorem ld_v : View.ld (((cfg0.win 2).blk t).view.read (Elt Ideal) X) r0_0 (ix3 0 n (lane h e))
    = X (ix3 (grid0.coords t 0) (ctxRow n) (col (head (grid0.coords t 1) h) e)) := by
  refine congrArg X (?_ : (win0_2.blk t).view.emb (r0_0.emb (ix3 0 n (lane h e))) = _)
  funext a
  apply Fin.ext
  fin_cases a
  · blk_simp [index2]; try rfl
  · blk_simp [index2]; try rfl
  · blk_simp [index2]; show (grid0.coords t 1).val * 128 + (64 * h.val + e.val) = 64 * (2 * (grid0.coords t 1).val + h.val) + e.val; omega

/-- Where a place of the result's block lies in the array. -/
theorem place3 : (win0_3.blk t).view.emb (ix3 0 n (lane h e) : S1x256x128.Idx)
    = (ix3 (grid0.coords t 0) n (col (head (grid0.coords t 1) h) e) : S8x256x1024.Idx) := by
  funext a
  apply Fin.ext
  fin_cases a
  · blk_simp [index3]; try rfl
  · blk_simp [index3]; try rfl
  · blk_simp [index3]; show (grid0.coords t 1).val * 128 + (64 * h.val + e.val) = 64 * (2 * (grid0.coords t 1).val + h.val) + e.val; omega

/-- What a point leaves in its block of the result. -/
theorem block3 (Q K W : Vec Ideal S8x8448x1024 .bf16) (y : S1x256x128.Idx) :
    out0_3 (((cfg0.win 0).blk t).view.read (Elt Ideal) Q) (((cfg0.win 1).blk t).view.read (Elt Ideal) K)
      (((cfg0.win 2).blk t).view.read (Elt Ideal) W) y = outC Q K W ((win0_3.blk t).view.emb y) := by
  obtain ⟨j, h, d, rfl⟩ : ∃ (j : Fin 256) (h : Fin 2) (d : Fin 64), y = ix3 0 j (lane h d) := by
    have h0 : (y 0).val < 1 := (y 0).isLt
    have h2 : (y 2).val < 128 := (y 2).isLt
    refine ⟨y 1, ⟨(y 2).val / 64, by omega⟩, ⟨(y 2).val % 64, by omega⟩, ?_⟩
    funext a
    fin_cases a <;> refine Fin.ext ?_
    · show (y 0).val = 0; omega
    · rfl
    · show (y 2).val = 64 * ((y 2).val / 64) + (y 2).val % 64; omega
  have hw : ∀ (p : Vec Ideal S1x256x128 .bf16) (y : S1x256x128.Idx), View.canon (Val := Elt Ideal) [⟨r0_0, p⟩] y = p y := fun p y => by
    have hy : r0_0.emb y = y := by
      funext a
      apply Fin.ext
      fin_cases a
      · show 0 + 1 * (y 0).val = (y 0).val; omega
      · show 0 + 1 * (y 1).val = (y 1).val; omega
      · show 0 + 1 * (y 2).val = (y 2).val; omega
    have h := View.canon_cons_emb (Val := Elt Ideal) r0_0 p [] y
    rw [hy] at h
    exact h
  unfold out0_3
  rw [hw, pay_at, place3]
  refine Eq.trans ?_ (outC_at Q K W (grid0.coords t 0) j (head (grid0.coords t 1) h) d).symm
  exact congrArg₂ Attn.lateOne (funext fun n => Finset.sum_congr rfl fun e _ => congrArg₂ (· * ·) (ld_q t Q h j e) (ld_k t K h n e))
    (funext fun n => ld_v t W h n d)

end Blocks

theorem covers3 : win0_3.Covers := win0_3.covers_of_indexMap_surj rfl (by decide) fun β => by
  refine ⟨fun a => match a with
    | ⟨0, _⟩ => ⟨(β 0).val, (β 0).isLt⟩
    | ⟨1, _⟩ => ⟨(β 2).val, (β 2).isLt⟩, fun a => ?_⟩
  refine (congrFun (transform (fun a => match a with
    | ⟨0, _⟩ => ⟨(β 0).val, (β 0).isLt⟩
    | ⟨1, _⟩ => ⟨(β 2).val, (β 2).isLt⟩)) a).trans ?_
  match a with
  | ⟨0, _⟩ => rfl
  | ⟨1, _⟩ => exact (Nat.lt_one_iff.mp (β 1).isLt).symm
  | ⟨2, _⟩ => rfl

/-- The result array after the run. -/
theorem final3 (m : (ℓ : Loc nD τ sig) → Buf (Elt Ideal) ℓ) (c : Dev nD) : (dats m 0 c).arrAt 3 cfg0.N
    = outC (V m c main_arg0) (V m c main_arg1) (V m c main_arg2) := by
  refine (dats m 0 c).arrAt_eq_of_covers 3 _ covers3 fun t hf y => ?_
  blk_simp
  rw [after0_3]
  exact block3 t (V m c main_arg0) (V m c main_arg1) (V m c main_arg2) _

end Cert.Kernel6Ideal.Ctx

end
-- ==== Proof.CtxSame.lean ====
module

public import proofs.«01_k».proof.Defs
public import proofs.«01_k».proof.Proof.CtxBlock
public import proofs.«01_k».proof.Proof.Finite
public import proofs.«01_k».proof.Proof.Gen.Reference6Ideal.Read
public import proofs.«01_k».proof.Proof.Gen.Reference6Ideal.Run
public import Idealize.ShloMosaic.Adequacy
public import Idealize.ShloMosaic.Init

@[expose] public section

set_option maxRecDepth 16384

noncomputable section

namespace Cert.Reference6Ideal.Ctx

open Cert.Reference6Ideal Cert.Reference6Ideal.Gen Cert.Reference6Ideal.Read Idealize.ShloMosaic Idealize.ShloMosaic.TcCoe
open Cert.ReferenceIdeal.Na (col ctxRow)

variable (x0 x1 x2 : (⟨S8x8448x1024, .bf16⟩ : BufTy).Contents (Elt Ideal)) (b : Fin 8) (j n : Fin 256) (h : Fin 16)

theorem split (e : Fin 64) : idx_main_v3 (idx_main_v4 (ix4 b n h e)) = ix3 b (ctxRow n) (col h e) := by
  funext a
  fin_cases a <;> refine Fin.ext ?_
  · show ((((b.val * 256 + n.val) * 16 + h.val) * 64 + e.val) / 262144) = b.val; omega
  · show ((((b.val * 256 + n.val) * 16 + h.val) * 64 + e.val) / 1024 % 256) = n.val; omega
  · show ((((b.val * 256 + n.val) * 16 + h.val) * 64 + e.val) % 1024) = 64 * h.val + e.val; omega

theorem q_at (e : Fin 64) : val_main_v4 x0 (ix4 b n h e) = x0 (ix3 b (ctxRow n) (col h e)) := by
  rw [val_main_v4_apply, val_main_v3_apply, split]; rfl

theorem k_at (e : Fin 64) : val_main_v6 x1 (ix4 b n h e) = x1 (ix3 b (ctxRow n) (col h e)) := q_at x1 b n h e

theorem v_at (e : Fin 64) : val_main_v8 x2 (ix4 b n h e) = x2 (ix3 b (ctxRow n) (col h e)) := q_at x2 b n h e

/-- The score of a context row's key against a context row's query. -/
def score (n : Fin 256) : EReal := ∑ e : Fin 64, x0 (ix3 b (ctxRow j) (col h e)) * x1 (ix3 b (ctxRow n) (col h e))

theorem score_at : val_main_v9 x0 x1 (ix4 b h j n) = score x0 x1 b j h n := by
  have el : ∀ e : Fin 64, lidx_main_v9 (ix4 b h j n) e = ix4 b j h e := by intro e; funext a; fin_cases a <;> rfl
  have er : ∀ e : Fin 64, ridx_main_v9 (ix4 b h j n) e = ix4 b n h e := by intro e; funext a; fin_cases a <;> rfl
  rw [val_main_v9_apply]
  simp only [el, er, q_at, k_at]
  rfl

theorem top_at (X : S8x16x256x256.Idx → EReal) (c : S_.Idx → EReal) :
    Host.reduce (FloatOps.maximumf (F := Ideal) (φ := .f32)) X c reducesTo_S8x16x256x256_S8x16x256_d3 h_S_ (ix3 b h j)
      = Finset.univ.fold max (c (Shape.Idx.first h_S_)) fun n : Fin 256 => X (ix4 b h j n) := by
  pointwise

theorem max_score : val_main_v12 x0 x1 (ix3 b h j) = Attn.top (score x0 x1 b j h) := by
  have hbot : Ideal.ofBits FTy.f32 4286578688#32 = ⊥ := by simp [Ideal.ofBits, Ideal.ieee]
  rw [val_main_v12_apply, val_main_v11_apply, val_main_cst_0_apply]
  unfold val_main_v10
  rw [top_at, val_main_cst_apply]
  show max (Ideal.ofBits FTy.f32 4286578688#32) (Finset.fold max (Ideal.ofBits FTy.f32 4286578688#32) _ _) = _
  rw [hbot, max_eq_right bot_le]
  simp only [score_at]
  rfl

theorem exp_at : val_main_v16 x0 x1 (ix4 b h j n) = Ideal.exp (score x0 x1 b j h n - Attn.top (score x0 x1 b j h)) := by
  have e1 : idx_main_v13 (idx_main_v14 (ix4 b h j n)) = ix3 b h j := by funext a; fin_cases a <;> rfl
  rw [val_main_v16_apply, val_main_v15_apply, val_main_v14_apply, val_main_v13_apply, e1, max_score, score_at]
  rfl

theorem mass_at : val_main_v17 x0 x1 (ix3 b h j) = Attn.mass (Attn.top (score x0 x1 b j h)) (score x0 x1 b j h) := by
  have e1 : ∀ n : Fin 256, idx_main_v17 (ix3 b h j) n = ix4 b h j n := by intro n; funext a; fin_cases a <;> rfl
  have h0 : FloatOps.ofBits (F := Ideal) FTy.f32 0x00000000#32 = (0 : EReal) := by
    show Ideal.ofBits FTy.f32 0#32 = 0
    simp [Ideal.ofBits, Ideal.ieee]
  rw [val_main_v17_apply, val_main_cst_1_apply, h0, zero_add]
  simp only [e1, exp_at]
  rfl

theorem weight_at : val_main_v20 x0 x1 (ix4 b h j n) = Ideal.div (Ideal.exp (score x0 x1 b j h n - Attn.top (score x0 x1 b j h)))
    (Attn.mass (Attn.top (score x0 x1 b j h)) (score x0 x1 b j h)) := by
  have e1 : idx_main_v18 (idx_main_v19 (ix4 b h j n)) = ix3 b h j := by funext a; fin_cases a <;> rfl
  rw [val_main_v20_apply, val_main_v19_apply, val_main_v18_apply, e1, mass_at, exp_at]
  rfl

theorem out_split (d : Fin 64) : idx_main_v23 (ix3 b j (col h d)) = ix4 b j h d := by
  funext a
  fin_cases a <;> refine Fin.ext ?_
  · show ((b.val * 256 + j.val) * 1024 + (64 * h.val + d.val)) / 262144 = b.val; omega
  · show ((b.val * 256 + j.val) * 1024 + (64 * h.val + d.val)) / 1024 % 256 = j.val; omega
  · show ((b.val * 256 + j.val) * 1024 + (64 * h.val + d.val)) / 64 % 16 = h.val; omega
  · show ((b.val * 256 + j.val) * 1024 + (64 * h.val + d.val)) % 64 = d.val; omega

/-- The reference at a context row, a head and a column: attention over the context, normalised first. -/
theorem value_at (d : Fin 64) : val_main_v24 x0 x1 x2 (ix3 b j (col h d))
    = Attn.earlyOne (score x0 x1 b j h) (fun n => x2 (ix3 b (ctxRow n) (col h d))) := by
  have cl : ∀ n : Fin 256, lidx_main_v21 (idx_main_v22 (ix4 b j h d)) n = ix4 b n h d := by intro n; funext a; fin_cases a <;> rfl
  have cr : ∀ n : Fin 256, ridx_main_v21 (idx_main_v22 (ix4 b j h d)) n = ix4 b h j n := by intro n; funext a; fin_cases a <;> rfl
  show val_main_v23 x0 x1 x2 (ix3 b j (col h d)) = _
  rw [val_main_v23_apply, out_split, val_main_v22_apply, val_main_v21_apply]
  simp only [cl, cr, v_at, weight_at]
  exact Finset.sum_congr rfl fun n _ => mul_comm _ _

end Cert.Reference6Ideal.Ctx

namespace Cert.Pre_finite_ctx

open Idealize.ShloMosaic

/-- The shape fact of the precondition. -/
theorem facts : Cert.Pre_finite_ctx.Facts := ⟨by decide⟩

attribute [local instance] facts

/-- Where the precondition holds the queries are finite. -/
theorem finite_q (q k v : FVec Ideal S8x8448x1024 .bf16) (h : (fn q k v).1 = fun _ => 1#1) (i : S8x8448x1024.Idx) :
    (q i : EReal) ≠ ⊥ ∧ (q i : EReal) ≠ ⊤ :=
  Cert.Pre_finite_scores.finite_of_lt (q i) _ Cert.Pre_finite_scores.inf_bf16 (congrFun h i)

/-- Where the precondition holds the keys are finite. -/
theorem finite_k (q k v : FVec Ideal S8x8448x1024 .bf16) (h : (fn q k v).2 = fun _ => 1#1) (i : S8x8448x1024.Idx) :
    (k i : EReal) ≠ ⊥ ∧ (k i : EReal) ≠ ⊤ :=
  Cert.Pre_finite_scores.finite_of_lt (k i) _ Cert.Pre_finite_scores.inf_bf16 (congrFun h i)

end Cert.Pre_finite_ctx

namespace Cert.Proof

open Idealize.ShloMosaic Idealize.SL.Sem Idealize.ShloMosaic.TcCoe
open Cert.Kernel6Ideal (S8x8448x1024 S8x256x1024)
open Cert.Kernel6Ideal.Ctx Cert.Reference6Ideal.Read
open Cert.ReferenceIdeal.Na (col ctxRow)

/-- The context attention's launch leaves the reference's array, of finite queries and keys. -/
theorem same_ctx (Q K W : S8x8448x1024.Idx → EReal) (hQ : ∀ i, Q i ≠ ⊥ ∧ Q i ≠ ⊤) (hK : ∀ i, K i ≠ ⊥ ∧ K i ≠ ⊤) :
    outC Q K W = val_main_v24 (F := Ideal) Q K W := by
  have h : ∀ (b : Fin 8) (j : Fin 256) (h : Fin 16) (d : Fin 64), outC Q K W (ix3 b j (col h d))
      = val_main_v24 (F := Ideal) Q K W (ix3 b j (col h d)) := fun b j h d => by
    rw [outC_at, Cert.Reference6Ideal.Ctx.value_at]
    refine Attn.lateOne_eq _ _ fun n => ?_
    obtain ⟨s, hs⟩ := Attn.finite_sum_mul (fun e : Fin 64 => Q (ix3 b (ctxRow j) (col h e))) (fun e => K (ix3 b (ctxRow n) (col h e)))
      (fun _ => hQ _) (fun _ => hK _)
    rw [hs]
    exact ⟨EReal.coe_ne_bot _, EReal.coe_ne_top _⟩
  funext i
  have i2 : (i 2).val < 1024 := (i 2).isLt
  have hi : i = ix3 (i 0) (i 1) (col ⟨(i 2).val / 64, by omega⟩ ⟨(i 2).val % 64, by omega⟩) := by
    funext a
    fin_cases a <;> refine Fin.ext ?_
    · rfl
    · rfl
    · show (i 2).val = 64 * ((i 2).val / 64) + (i 2).val % 64; omega
  rw [hi]
  exact h _ _ _ _

/-- The context attention's launch and its reference end with equal results, of finite queries and keys. -/
theorem algebraic_ctx : Cert.algebraic_Kernel6Ideal_Reference6Ideal_pre_finite_ctx (hKernel6Ideal := Cert.Kernel6Ideal.Gen.facts)
    (hReference6Ideal := Cert.Reference6Ideal.Gen.facts) (hPre_finite_ctx := Cert.Pre_finite_ctx.facts) := by
  intro m g m' g' hpre hargs
  refine ⟨fun c => val_main_v24 (F := Ideal) (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2)), ?_, ?_⟩
  · refine (θ_run Cert.Kernel6Ideal.defs _ _).mono (fun r h c => ?_) (Cert.Kernel6Ideal.Value.run_blocks m g)
    obtain ⟨h3, hk⟩ := h c
    obtain ⟨pq, pk⟩ := hpre c
    obtain ⟨a0, a1, a2⟩ := hargs c
    refine ⟨h3.trans ((Cert.Kernel6Ideal.Ctx.final3 m c).trans ?_), hk⟩
    rw [Cert.Kernel6Ideal.Gen.V_main_arg0, Cert.Kernel6Ideal.Gen.V_main_arg1, Cert.Kernel6Ideal.Gen.V_main_arg2]
    beta_reduce
    rw [a0, a1, a2]
    exact same_ctx _ _ _ (Cert.Pre_finite_ctx.finite_q _ _ _ pq) (Cert.Pre_finite_ctx.finite_k _ _ _ pk)
  · exact (θ_run Cert.Reference6Ideal.defs _ _).mono (fun r h c => ⟨(h c).1.trans (val_main_v24_eq _ _ _), (h c).2⟩) (Cert.Reference6Ideal.Value.run m' g')

/-- The context attention's reference runs and leaves its arguments unchanged; it declares no semaphore. -/
theorem frame_ctx_ref : Cert.quiescent_Reference6Ideal (hReference6Ideal := Cert.Reference6Ideal.Gen.facts) := fun m g _ =>
  (θ_run (Cert.Reference6Ideal.defs (F := Ideal)) _ _).mono
    (fun r h => And.intro (fun c => (h c).2) (sem_eq_zero_of_no_sems (by decide) r.2)) (Cert.Reference6Ideal.Value.run m g)

end Cert.Proof

end
-- ==== Proof.AdaSame.lean ====
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import proofs.«01_k».proof.Proof.FuseSame
public import proofs.«01_k».proof.Proof.NaBlock
public import Idealize.ShloMosaic.Lib.Pointwise
public import Idealize.ShloMosaic.Lib.Pipeline.ValueKit
public import Idealize.ShloMosaic.Lib.Pipeline.Covers
public import Idealize.ShloMosaic.Adequacy
public import Idealize.ShloMosaic.Init

@[expose] public section

set_option maxRecDepth 16384

noncomputable section

namespace Cert.Kernel7Ideal.Ada

open Cert.Kernel7Ideal Cert.Kernel7Ideal.Gen Idealize.ShloMosaic Idealize.ShloMosaic.TcCoe Idealize.ShloMosaic.Tactic Idealize.SL.Sem
open Idealize.ShloMosaic.Pipeline (Dat)
open Cert.KernelIdeal.Na (word_val)
open Cert.Mix (Real')

/-- The body's block, of finite rows and weights: the remainders are zero, and of the three products one is left. -/
theorem pay_at (s : Vec Ideal S16x1024 .f32) (w : Vec Ideal S1x1024x1024 .f32) (b : Vec Ideal S1x1x1024 .f32) (hs : ∀ i, Real' (s i))
    (hw : ∀ i, Real' (w i)) (r : Fin 16) (d : Fin 1024) :
    k0_pay1 s w b (ix3 0 r d) = ∑ e, s (ix2 r e) * w (ix3 0 e d) + b (ix3 0 0 d) := by
  pointwise [k0_pay1]
  have h1 : ∀ e : Fin 1024, s (ix2 r e) - s (ix2 r e) = 0 := fun e => (hs _).self_sub
  have h2 : ∀ e : Fin 1024, w (ix3 0 e d) - w (ix3 0 e d) = 0 := fun e => (hw _).self_sub
  simp only [h1, h2, zero_mul, mul_zero, Finset.sum_const_zero, add_zero]

/-- Column `d` of part `j` of a layer's modulation: its shift, its scale or its gate. -/
def third (j : Fin 3) (d : Fin 1024) : Fin 3072 := ⟨1024 * j.val + d.val, by omega⟩

/-- A layer's modulation of every conditioning row. -/
def outM (S : S16x1024.Idx → EReal) (W : S4x1024x3072.Idx → EReal) (B : S4x1x3072.Idx → EReal) : S4x16x3072.Idx → EReal := fun i =>
  ∑ e, S (ix2 (i 1) e) * W (ix3 (i 0) e (i 2)) + B (ix3 (i 0) 0 (i 2))

theorem transform0 (i : grid0.Coords) : cc0_transform_0 i = ![0, 0] := by
  funext a; fin_cases a <;> rfl

/-- The weights' block index at a setting of the grid's coordinates; the bias's and the result's are the same. -/
theorem transform1 (i : grid0.Coords) : cc0_transform_1 i = ![(i 0).val, 0, (i 1).val] := by
  funext a
  match a with
  | ⟨0, _⟩ => exact word_val (i 0).isLt (by decide)
  | ⟨1, _⟩ => exact rfl
  | ⟨2, _⟩ => exact word_val (i 1).isLt (by decide)

theorem index0 (t : Fin cfg0.N) : win0_0.index t = ![0, 0] := transform0 (grid0.coords t)
theorem index1 (t : Fin cfg0.N) : win0_1.index t = ![(grid0.coords t 0).val, 0, (grid0.coords t 1).val] := transform1 (grid0.coords t)
theorem index2 (t : Fin cfg0.N) : win0_2.index t = ![(grid0.coords t 0).val, 0, (grid0.coords t 1).val] := transform1 (grid0.coords t)
theorem index3 (t : Fin cfg0.N) : win0_3.index t = ![(grid0.coords t 0).val, 0, (grid0.coords t 1).val] := transform1 (grid0.coords t)

section Blocks

variable (t : Fin cfg0.N) (r : Fin 16) (e d : Fin 1024)

theorem ld_s (X : Vec Ideal S16x1024 .f32) : View.ld (((cfg0.win 0).blk t).view.read (Elt Ideal) X) r0_0 (ix2 r e) = X (ix2 r e) := by
  refine congrArg X (?_ : (win0_0.blk t).view.emb (r0_0.emb (ix2 r e)) = _)
  funext a
  apply Fin.ext
  fin_cases a
  · blk_simp [index0]; try rfl
  · blk_simp [index0]; try rfl

theorem ld_w (X : Vec Ideal S4x1024x3072 .f32) : View.ld (((cfg0.win 1).blk t).view.read (Elt Ideal) X) r0_1 (ix3 0 e d)
    = X (ix3 (grid0.coords t 0) e (third (grid0.coords t 1) d)) := by
  refine congrArg X (?_ : (win0_1.blk t).view.emb (r0_1.emb (ix3 0 e d)) = _)
  funext a
  apply Fin.ext
  fin_cases a
  · blk_simp [index1]; try rfl
  · blk_simp [index1]; try rfl
  · blk_simp [index1]; show (grid0.coords t 1).val * 1024 + d.val = 1024 * (grid0.coords t 1).val + d.val; omega

theorem ld_b (X : Vec Ideal S4x1x3072 .f32) : View.ld (((cfg0.win 2).blk t).view.read (Elt Ideal) X) r0_2 (ix3 0 0 d)
    = X (ix3 (grid0.coords t 0) 0 (third (grid0.coords t 1) d)) := by
  refine congrArg X (?_ : (win0_2.blk t).view.emb (r0_2.emb (ix3 0 0 d)) = _)
  funext a
  apply Fin.ext
  fin_cases a
  · blk_simp [index2]; try rfl
  · blk_simp [index2]; try rfl
  · blk_simp [index2]; show (grid0.coords t 1).val * 1024 + d.val = 1024 * (grid0.coords t 1).val + d.val; omega

theorem place3 : (win0_3.blk t).view.emb (ix3 0 r d : S1x16x1024.Idx)
    = (ix3 (grid0.coords t 0) r (third (grid0.coords t 1) d) : S4x16x3072.Idx) := by
  funext a
  apply Fin.ext
  fin_cases a
  · blk_simp [index3]; try rfl
  · blk_simp [index3]; try rfl
  · blk_simp [index3]; show (grid0.coords t 1).val * 1024 + d.val = 1024 * (grid0.coords t 1).val + d.val; omega

/-- What a point leaves in its block of the result. -/
theorem block3 (S : Vec Ideal S16x1024 .f32) (W : Vec Ideal S4x1024x3072 .f32) (B : Vec Ideal S4x1x3072 .f32) (hS : ∀ i, Real' (S i))
    (hW : ∀ i, Real' (W i)) (y : S1x16x1024.Idx) :
    out0_3 (((cfg0.win 0).blk t).view.read (Elt Ideal) S) (((cfg0.win 1).blk t).view.read (Elt Ideal) W)
      (((cfg0.win 2).blk t).view.read (Elt Ideal) B) y = outM S W B ((win0_3.blk t).view.emb y) := by
  obtain ⟨r, d, rfl⟩ : ∃ (r : Fin 16) (d : Fin 1024), y = ix3 0 r d := by
    have h0 : (y 0).val < 1 := (y 0).isLt
    refine ⟨y 1, y 2, ?_⟩
    funext a
    fin_cases a
    · exact Fin.ext (by show (y 0).val = 0; omega)
    · rfl
    · rfl
  have hw : ∀ (p : Vec Ideal S1x16x1024 .f32) (y : S1x16x1024.Idx), View.canon (Val := Elt Ideal) [⟨r0_3, p⟩] y = p y := fun p y => by
    have hy : r0_3.emb y = y := by
      funext a
      apply Fin.ext
      fin_cases a
      · show 0 + 1 * (y 0).val = (y 0).val; omega
      · show 0 + 1 * (y 1).val = (y 1).val; omega
      · show 0 + 1 * (y 2).val = (y 2).val; omega
    have h := View.canon_cons_emb (Val := Elt Ideal) r0_3 p [] y
    rw [hy] at h
    exact h
  unfold out0_3
  rw [hw, place3]
  refine (pay_at (View.ld (((cfg0.win 0).blk t).view.read (Elt Ideal) S) r0_0) (View.ld (((cfg0.win 1).blk t).view.read (Elt Ideal) W) r0_1) _
    (fun i => hS _) (fun i => hW _) r d).trans ?_
  exact congrArg₂ (· + ·) (Finset.sum_congr rfl fun e _ => congrArg₂ (· * ·) (ld_s t r e S) (ld_w t e d W)) (ld_b t d B)

end Blocks

theorem covers3 : win0_3.Covers := win0_3.covers_of_indexMap_surj rfl (by decide) fun β => by
  refine ⟨fun a => match a with
    | ⟨0, _⟩ => ⟨(β 0).val, (β 0).isLt⟩
    | ⟨1, _⟩ => ⟨(β 2).val, (β 2).isLt⟩, fun a => ?_⟩
  refine (congrFun (transform1 (fun a => match a with
    | ⟨0, _⟩ => ⟨(β 0).val, (β 0).isLt⟩
    | ⟨1, _⟩ => ⟨(β 2).val, (β 2).isLt⟩)) a).trans ?_
  match a with
  | ⟨0, _⟩ => rfl
  | ⟨1, _⟩ => exact (Nat.lt_one_iff.mp (β 1).isLt).symm
  | ⟨2, _⟩ => rfl

variable (m : (ℓ : Loc nD τ sig) → Buf (Elt Ideal) ℓ) (c : Dev nD)

/-- The result array after the run, of finite rows and weights. -/
theorem final3 (hS : ∀ i, Real' ((V m c main_arg0 : S16x1024.Idx → EReal) i)) (hW : ∀ i, Real' ((V m c main_arg1 : S4x1024x3072.Idx → EReal) i)) :
    (dats m 0 c).arrAt 3 cfg0.N = outM (V m c main_arg0) (V m c main_arg1) (V m c main_v0) := by
  refine (dats m 0 c).arrAt_eq_of_covers 3 _ covers3 fun t hf y => ?_
  blk_simp
  rw [after0_3]
  exact block3 t (V m c main_arg0) (V m c main_arg1) (V m c main_v0) hS hW _

theorem bias_row (x : S4x3072.Idx → EReal) (i : Fin 4) (d : Fin 3072) : shapeCast S4x1x3072 x shapeCasts_S4x3072_S4x1x3072 (ix3 i 0 d) = x (ix2 i d) := by
  pointwise []

theorem bias_at (i : Fin 4) (d : Fin 3072) :
    (V m c main_v0 : S4x1x3072.Idx → EReal) (ix3 i 0 d) = (m (c, Proc.tc.devRef main_arg2) : S4x3072.Idx → EReal) (ix2 i d) := by
  refine Eq.trans ?_ (bias_row _ i d)
  unfold V
  after_reads_at

end Cert.Kernel7Ideal.Ada

namespace Cert.Pre_finite_ada

open Idealize.ShloMosaic

/-- The shape facts of the precondition. -/
theorem facts : Cert.Pre_finite_ada.Facts := ⟨by decide, by decide⟩

attribute [local instance] facts

variable (s : FVec Ideal S16x1024 .f32) (w : FVec Ideal S4x1024x3072 .f32) (b : FVec Ideal S4x3072 .f32)

theorem real_rows (h : (fn s w b).1 = fun _ => 1#1) (i : S16x1024.Idx) : Cert.Mix.Real' (s i) :=
  Cert.Pre_finite_mix.real_of_lt (s i) _ Cert.Pre_finite_scores.inf_f32 (congrFun h i)

theorem real_weights (h : (fn s w b).2 = fun _ => 1#1) (i : S4x1024x3072.Idx) : Cert.Mix.Real' (w i) :=
  Cert.Pre_finite_mix.real_of_lt (w i) _ Cert.Pre_finite_scores.inf_f32 (congrFun h i)

end Cert.Pre_finite_ada

namespace Cert.Proof

open Idealize.ShloMosaic Idealize.SL.Sem Idealize.ShloMosaic.TcCoe
open Cert.Kernel7Ideal (S16x1024 S4x1024x3072 S4x3072 S4x1x3072)
open Cert.Kernel7Ideal.Ada Cert.Reference7Ideal.Read

/-- The modulation's launch leaves the reference's array. -/
theorem same_ada (S : S16x1024.Idx → EReal) (W : S4x1024x3072.Idx → EReal) (B : S4x1x3072.Idx → EReal) (b : S4x3072.Idx → EReal)
    (hB : ∀ i d, B (ix3 i 0 d) = b (ix2 i d)) : outM S W B = val_main_v4 (F := Ideal) S W b := by
  have h : ∀ (i : Fin 4) (r : Fin 16) (d : Fin 3072), outM S W B (ix3 i r d) = val_main_v4 (F := Ideal) S W b (ix3 i r d) := fun i r d => by
    have e : val_main_v4 (F := Ideal) S W b (ix3 i r d) = ∑ e, W (ix3 i e d) * S (ix2 r e) + b (ix2 i d) := by
      pointwise [val_main_v4, val_main_v3, val_main_v2, val_main_v1, val_main_v0]
    rw [e]
    exact congrArg₂ (· + ·) (Finset.sum_congr rfl fun e _ => mul_comm _ _) (hB i d)
  funext i
  have hi : i = ix3 (i 0) (i 1) (i 2) := by
    funext a
    match a with
    | ⟨0, _⟩ => rfl
    | ⟨1, _⟩ => rfl
    | ⟨2, _⟩ => rfl
  rw [hi]
  exact h _ _ _

/-- The modulation's launch and its reference end with equal results, of finite rows and weights. -/
theorem algebraic_ada : Cert.algebraic_Kernel7Ideal_Reference7Ideal_pre_finite_ada (hKernel7Ideal := Cert.Kernel7Ideal.Gen.facts)
    (hReference7Ideal := Cert.Reference7Ideal.Gen.facts) (hPre_finite_ada := Cert.Pre_finite_ada.facts) := by
  intro m g m' g' hpre hargs
  refine ⟨fun c => val_main_v4 (F := Ideal) (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2)), ?_, ?_⟩
  · refine (θ_run Cert.Kernel7Ideal.defs _ _).mono (fun r h c => ?_) (Cert.Kernel7Ideal.Value.run_blocks m g)
    obtain ⟨h3, hk⟩ := h c
    obtain ⟨p0, p1⟩ := hpre c
    obtain ⟨a0, a1, a2⟩ := hargs c
    refine ⟨h3.trans ((Cert.Kernel7Ideal.Ada.final3 m c (fun i => ?_) (fun i => ?_)).trans ?_), hk⟩
    · rw [Cert.Kernel7Ideal.Gen.V_main_arg0]
      exact Cert.Pre_finite_ada.real_rows _ _ _ p0 i
    · rw [Cert.Kernel7Ideal.Gen.V_main_arg1]
      exact Cert.Pre_finite_ada.real_weights _ _ _ p1 i
    rw [Cert.Kernel7Ideal.Gen.V_main_arg0, Cert.Kernel7Ideal.Gen.V_main_arg1]
    beta_reduce
    rw [a0, a1, a2]
    exact same_ada _ _ _ _ (Cert.Kernel7Ideal.Ada.bias_at m c)
  · exact (θ_run Cert.Reference7Ideal.defs _ _).mono (fun r h c => ⟨(h c).1.trans (val_main_v4_eq _ _ _), (h c).2⟩) (Cert.Reference7Ideal.Value.run m' g')

/-- The modulation's reference runs and leaves its arguments unchanged; it declares no semaphore. -/
theorem frame_ada_ref : Cert.quiescent_Reference7Ideal (hReference7Ideal := Cert.Reference7Ideal.Gen.facts) := fun m g _ =>
  (θ_run (Cert.Reference7Ideal.defs (F := Ideal)) _ _).mono
    (fun r h => And.intro (fun c => (h c).2) (sem_eq_zero_of_no_sems (by decide) r.2)) (Cert.Reference7Ideal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.MixFrame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.MixFrameIdeal
public import proofs.«01_k».proof.Proof.MixRun
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import proofs.«01_k».proof.Proof.Finite
public import proofs.«01_k».proof.Proof.NaBias
public import proofs.«01_k».proof.Proof.NaValue
public import proofs.«01_k».proof.Proof.ProjSame
public import proofs.«01_k».proof.Proof.OutSame
public import proofs.«01_k».proof.Proof.MixSame
public import proofs.«01_k».proof.Proof.FuseSame
public import proofs.«01_k».proof.Proof.CtxSame
public import proofs.«01_k».proof.Proof.AdaSame

@[expose] public section

noncomputable section

namespace Cert.Proof

open Idealize.ShloMosaic Idealize.SL.Sem Idealize.ShloMosaic.TcCoe

/-- The kernel's launch and the reference end with equal results, of finite queries, keys and biases: both are the
    neighbourhood attention, the one normalised at the end and the other first. -/
theorem algebraic_na : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hargs
  refine ⟨fun c => Cert.ReferenceIdeal.Value.res_main_v105 m' c, ?_, ?_⟩
  · refine (θ_run Cert.KernelIdeal.defs _ _).mono (fun r h c => ?_) (Cert.KernelIdeal.Value.run_blocks m g)
    obtain ⟨hv, h0, h1, h2, h3⟩ := h c
    refine ⟨?_, h0, h1, h2, h3⟩
    refine hv.trans ((Cert.KernelIdeal.Na.final m c).trans ?_)
    obtain ⟨pq, pk, pr⟩ := hpre c
    obtain ⟨a0, a1, a2, a3⟩ := hargs c
    rw [Cert.KernelIdeal.Gen.V_main_arg0, Cert.KernelIdeal.Gen.V_main_arg1, Cert.KernelIdeal.Gen.V_main_arg2]
    show _ = Cert.ReferenceIdeal.Value.res_main_v105 m' c
    rw [Cert.ReferenceIdeal.Read.val_main_v105_eq, a0, a1, a2, a3]
    exact Cert.KernelIdeal.Na.same _ _ _ _ _ (Cert.KernelIdeal.Na.bias_at m c) (Cert.Pre_finite_scores.finite_q _ _ _ _ pq)
      (Cert.Pre_finite_scores.finite_k _ _ _ _ pk) (Cert.Pre_finite_scores.finite_r _ _ _ _ pr)
  · exact (θ_run Cert.ReferenceIdeal.defs _ _).mono (fun r h c => h c) (Cert.ReferenceIdeal.Value.run m' g')

/-- The reference runs and leaves its arguments unchanged; it declares no semaphore. -/
theorem frame_ref : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2)) (Cert.ReferenceIdeal.Value.run m g)

/-- Every claim of the certificate. -/
theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Pre_finite_scores.facts, Cert.Pre_finite_mix.facts, Cert.Pre_finite_scan.facts,
    Cert.Pre_finite_ctx.facts, Cert.Pre_finite_ada.facts, ?_⟩
  refine ⟨?_, ?_, ?_, ?_, ?_, ?_, ?_, frame_proj_ref, ?_, ?_, frame_out_ref, ?_, ?_, ?_, frame_mix_ref, ?_, ?_, ?_, ?_,
    frame_fuse_ref, ?_, ?_, ?_, ?_, frame_ctx_ref, ?_, ?_, ?_, ?_, frame_ada_ref, ?_, trivial, algebraic_na, trivial,
    algebraic_proj, trivial, algebraic_out, trivial, algebraic_mix, trivial, algebraic_fuse, trivial, algebraic_ctx, trivial,
    algebraic_ada⟩
  · exact fun m ρ _ => Cert.Kernel.Gen.frame m ρ
  · exact fun m ρ _ => Cert.KernelIdeal.Gen.frame m ρ
  · exact fun m ρ _ => Cert.KernelIdeal.Gen.frame m ρ
  · exact frame_ref
  · exact fun m ρ _ => frame_ref m ρ trivial
  · exact fun m ρ _ => Cert.Kernel2.Gen.frame m ρ
  · exact fun m ρ _ => Cert.Kernel2Ideal.Gen.frame m ρ
  · exact fun m ρ _ => Cert.Kernel3.Gen.frame m ρ
  · exact fun m ρ _ => Cert.Kernel3Ideal.Gen.frame m ρ
  · exact fun m ρ _ => Cert.Kernel4.Gen.frame m ρ
  · exact fun m ρ _ => Cert.Kernel4Ideal.Gen.frame m ρ
  · exact fun m ρ _ => Cert.Kernel4Ideal.Gen.frame m ρ
  · exact fun m ρ _ => frame_mix_ref m ρ trivial
  · exact fun m ρ _ => Cert.Kernel5.Gen.frame m ρ
  · exact fun m ρ _ => Cert.Kernel5Ideal.Gen.frame m ρ
  · exact fun m ρ _ => Cert.Kernel5Ideal.Gen.frame m ρ
  · exact fun m ρ _ => frame_fuse_ref m ρ trivial
  · exact fun m ρ _ => Cert.Kernel6.Gen.frame m ρ
  · exact fun m ρ _ => Cert.Kernel6Ideal.Gen.frame m ρ
  · exact fun m ρ _ => Cert.Kernel6Ideal.Gen.frame m ρ
  · exact fun m ρ _ => frame_ctx_ref m ρ trivial
  · exact fun m ρ _ => Cert.Kernel7.Gen.frame m ρ
  · exact fun m ρ _ => Cert.Kernel7Ideal.Gen.frame m ρ
  · exact fun m ρ _ => Cert.Kernel7Ideal.Gen.frame m ρ
  · exact fun m ρ _ => frame_ada_ref m ρ trivial

end Cert.Proof

end
